-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12)
      ∧ r.2.mem ((c.tc : Thread Cert.Kernel6.nD Cert.Kernel6.τ).loc Cert.Kernel6.main_arg13) = m ((c.tc : Thread Cert.Kernel6.nD Cert.Kernel6.τ).loc Cert.Kernel6.main_arg13))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
      ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12)
      ∧ r.2.mem ((c.tc : Thread Cert.Reference6Ideal.nD Cert.Reference6Ideal.τ).loc Cert.Reference6Ideal.main_arg13) = m ((c.tc : Thread Cert.Reference6Ideal.nD Cert.Reference6Ideal.τ).loc Cert.Reference6Ideal.main_arg13))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v129)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v129) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v37) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v20) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v11)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v11) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v24) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)) (v2 : (c : Dev Cert.Kernel5Ideal.nD) → Buf (Elt Ideal) ((c.tc : Thread Cert.Kernel5Ideal.nD Cert.Kernel5Ideal.τ).loc Cert.Kernel5Ideal.main_v2_2)) (v3 : (c : Dev Cert.Kernel5Ideal.nD) → Buf (Elt Ideal) ((c.tc : Thread Cert.Kernel5Ideal.nD Cert.Kernel5Ideal.τ).loc Cert.Kernel5Ideal.main_v2_3)) (v4 : (c : Dev Cert.Kernel5Ideal.nD) → Buf (Elt Ideal) ((c.tc : Thread Cert.Kernel5Ideal.nD Cert.Kernel5Ideal.τ).loc Cert.Kernel5Ideal.main_v2_4)) (v5 : (c : Dev Cert.Kernel5Ideal.nD) → Buf (Elt Ideal) ((c.tc : Thread Cert.Kernel5Ideal.nD Cert.Kernel5Ideal.τ).loc Cert.Kernel5Ideal.main_v2_5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_v2_2) = v2 c
          ∧ r.2.mem ((c.tc : Thread Cert.Kernel5Ideal.nD Cert.Kernel5Ideal.τ).loc Cert.Kernel5Ideal.main_v2_3) = v3 c
          ∧ r.2.mem ((c.tc : Thread Cert.Kernel5Ideal.nD Cert.Kernel5Ideal.τ).loc Cert.Kernel5Ideal.main_v2_4) = v4 c
          ∧ r.2.mem ((c.tc : Thread Cert.Kernel5Ideal.nD Cert.Kernel5Ideal.τ).loc Cert.Kernel5Ideal.main_v2_5) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_v15) = v1 c
          ∧ r.2.mem ((c.tc : Thread Cert.Reference5Ideal.nD Cert.Reference5Ideal.τ).loc Cert.Reference5Ideal.main_v16) = v2 c
          ∧ r.2.mem ((c.tc : Thread Cert.Reference5Ideal.nD Cert.Reference5Ideal.τ).loc Cert.Reference5Ideal.main_v17) = v3 c
          ∧ r.2.mem ((c.tc : Thread Cert.Reference5Ideal.nD Cert.Reference5Ideal.τ).loc Cert.Reference5Ideal.main_v18) = v4 c
          ∧ r.2.mem ((c.tc : Thread Cert.Reference5Ideal.nD Cert.Reference5Ideal.τ).loc Cert.Reference5Ideal.main_v19) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)
      ∧ m' ((c.tc : Thread Cert.Reference6Ideal.nD Cert.Reference6Ideal.τ).loc Cert.Reference6Ideal.main_arg13) = m ((c.tc : Thread Cert.Kernel6Ideal.nD Cert.Kernel6Ideal.τ).loc Cert.Kernel6Ideal.main_arg13)) →
    ∃ (v0 : (c : Dev Cert.Kernel6Ideal.nD) → Buf (Elt Ideal) ((c.tc : Thread Cert.Kernel6Ideal.nD Cert.Kernel6Ideal.τ).loc Cert.Kernel6Ideal.main_v36_0)) (v1 : (c : Dev Cert.Kernel6Ideal.nD) → Buf (Elt Ideal) ((c.tc : Thread Cert.Kernel6Ideal.nD Cert.Kernel6Ideal.τ).loc Cert.Kernel6Ideal.main_v36_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v36_0) = v0 c
          ∧ r.2.mem ((c.tc : Thread Cert.Kernel6Ideal.nD Cert.Kernel6Ideal.τ).loc Cert.Kernel6Ideal.main_v36_2) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
          ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
          ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v39) = v0 c
          ∧ r.2.mem ((c.tc : Thread Cert.Reference6Ideal.nD Cert.Reference6Ideal.τ).loc Cert.Reference6Ideal.main_v40) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11)
          ∧ r.2.mem ((c.tc : Thread Cert.Reference6Ideal.nD Cert.Reference6Ideal.τ).loc Cert.Reference6Ideal.main_arg12) = m' ((c.tc : Thread Cert.Reference6Ideal.nD Cert.Reference6Ideal.τ).loc Cert.Reference6Ideal.main_arg12)
          ∧ r.2.mem ((c.tc : Thread Cert.Reference6Ideal.nD Cert.Reference6Ideal.τ).loc Cert.Reference6Ideal.main_arg13) = m' ((c.tc : Thread Cert.Reference6Ideal.nD Cert.Reference6Ideal.τ).loc Cert.Reference6Ideal.main_arg13))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S16384x1024 : Shape := ⟨2, ![16384, 1024]⟩
abbrev S16384x768 : Shape := ⟨2, ![16384, 768]⟩
abbrev S_ : Shape := ⟨0, ![]⟩

class Facts : Prop where
  slices_S16384x1024_S16384x768_0_0 : S16384x1024.Slices ![0, 0] S16384x768
  bcast_S_S16384x768 : S_.BroadcastsInDim S16384x768 (![] : Fin 0 → Fin S16384x768.rank)

variable [Facts]

def fn {F : FTy → Type} [FloatOps F] (main_arg0 : FVec F S16384x1024 .f32) : IVec S16384x768 1 :=
  let main_v0 : FVec F S16384x768 .f32 := (extractStridedSlice S16384x768 ![0, 0] · slices_S16384x1024_S16384x768_0_0) main_arg0
  let main_v1 : FVec F S16384x768 .f32 := Host.absf main_v0
  let main_cst : FVec F S_ .f32 := constant S_ .f32 0x7F800000#32
  let main_v2 : FVec F S16384x768 .f32 := broadcastInDim S16384x768 ![] bcast_S_S16384x768 main_cst
  let main_v3 : IVec S16384x768 1 := cmpf .olt main_v1 main_v2
  main_v3
-- ==== Kernel.lean ====
abbrev S16384x1024 : Shape := ⟨2, ![16384, 1024]⟩
abbrev S128 : Shape := ⟨1, ![128]⟩
abbrev S128x1 : Shape := ⟨2, ![128, 1]⟩
abbrev S_ : Shape := ⟨0, ![]⟩
abbrev S1x128 : Shape := ⟨2, ![1, 128]⟩
abbrev S128x128 : Shape := ⟨2, ![128, 128]⟩
abbrev S31 : Shape := ⟨1, ![31]⟩
abbrev S1 : Shape := ⟨1, ![1]⟩
abbrev S32 : Shape := ⟨1, ![32]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x2048x1x64 : Shape := ⟨4, ![1, 2048, 1, 64]⟩
abbrev S1x2048x4x64 : Shape := ⟨4, ![1, 2048, 4, 64]⟩
abbrev S2048x256 : Shape := ⟨2, ![2048, 256]⟩
abbrev S4 : Shape := ⟨1, ![4]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S1x64x64 : Shape := ⟨3, ![1, 64, 64]⟩
abbrev S4x1x1 : Shape := ⟨3, ![4, 1, 1]⟩
abbrev S4x64x64 : Shape := ⟨3, ![4, 64, 64]⟩
abbrev S2 : Shape := ⟨1, ![2]⟩
abbrev S1x128x128 : Shape := ⟨3, ![1, 128, 128]⟩
abbrev S2x128x128 : Shape := ⟨3, ![2, 128, 128]⟩
abbrev S4x64 : Shape := ⟨2, ![4, 64]⟩
abbrev S256 : Shape := ⟨1, ![256]⟩
abbrev S1x4 : Shape := ⟨2, ![1, 4]⟩
abbrev S64x4 : Shape := ⟨2, ![64, 4]⟩
abbrev S256x1 : Shape := ⟨2, ![256, 1]⟩
abbrev S64x256 : Shape := ⟨2, ![64, 256]⟩
abbrev S1x256 : Shape := ⟨2, ![1, 256]⟩
abbrev S16384x256 : Shape := ⟨2, ![16384, 256]⟩
abbrev S512x1024 : Shape := ⟨2, ![512, 1024]⟩
abbrev S512x256 : Shape := ⟨2, ![512, 256]⟩
abbrev S64x128 : Shape := ⟨2, ![64, 128]⟩

abbrev nBuf : Space → Nat
  | .hbm => 216
  | .vmem => 14
  | .smem => 0
  | _ => 0

abbrev hbmTy0_0 (i : Nat) : BufTy := match i % 128 with
  | 0 => ⟨S16384x1024, .f32⟩
  | 1 => ⟨S128, .i32⟩
  | 2 => ⟨S128x1, .i32⟩
  | 3 => ⟨S_, .i32⟩
  | 4 => ⟨S_, .i32⟩
  | 5 => ⟨S128x1, .i32⟩
  | 6 => ⟨S128x1, .i32⟩
  | 7 => ⟨S128x1, .i32⟩
  | 8 => ⟨S_, .i32⟩
  | 9 => ⟨S128x1, .i32⟩
  | 10 => ⟨S128x1, .i1⟩
  | 11 => ⟨S128x1, .i32⟩
  | 12 => ⟨S128x1, .i32⟩
  | 13 => ⟨S_, .i32⟩
  | 14 => ⟨S128x1, .i32⟩
  | 15 => ⟨S128x1, .i1⟩
  | 16 => ⟨S128x1, .i1⟩
  | 17 => ⟨S_, .i32⟩
  | 18 => ⟨S128x1, .i32⟩
  | 19 => ⟨S128x1, .i32⟩
  | 20 => ⟨S128x1, .i32⟩
  | 21 => ⟨S1x128, .i32⟩
  | 22 => ⟨S_, .i32⟩
  | 23 => ⟨S_, .i32⟩
  | 24 => ⟨S1x128, .i32⟩
  | 25 => ⟨S1x128, .i32⟩
  | 26 => ⟨S1x128, .i32⟩
  | 27 => ⟨S_, .i32⟩
  | 28 => ⟨S1x128, .i32⟩
  | 29 => ⟨S1x128, .i1⟩
  | 30 => ⟨S1x128, .i32⟩
  | 31 => ⟨S1x128, .i32⟩
  | 32 => ⟨S_, .i32⟩
  | 33 => ⟨S1x128, .i32⟩
  | 34 => ⟨S1x128, .i1⟩
  | 35 => ⟨S1x128, .i1⟩
  | 36 => ⟨S_, .i32⟩
  | 37 => ⟨S1x128, .i32⟩
  | 38 => ⟨S1x128, .i32⟩
  | 39 => ⟨S1x128, .i32⟩
  | 40 => ⟨S128x128, .i32⟩
  | 41 => ⟨S128x128, .i32⟩
  | 42 => ⟨S128x128, .i1⟩
  | 43 => ⟨S128x128, .bf16⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S31, .f32⟩
  | 52 => ⟨S_, .f32⟩
  | 53 => ⟨S31, .f32⟩
  | 54 => ⟨S31, .f32⟩
  | 55 => ⟨S1, .f32⟩
  | 56 => ⟨S_, .f32⟩
  | 57 => ⟨S31, .f32⟩
  | 58 => ⟨S31, .f32⟩
  | 59 => ⟨S31, .f32⟩
  | 60 => ⟨S31, .f32⟩
  | 61 => ⟨S1, .f32⟩
  | 62 => ⟨S31, .f32⟩
  | 63 => ⟨S31, .f32⟩
  | 64 => ⟨S31, .f32⟩
  | 65 => ⟨S1, .f32⟩
  | 66 => ⟨S32, .f32⟩
  | 67 => ⟨S32, .f32⟩
  | 68 => ⟨S_, .f32⟩
  | 69 => ⟨S32, .f32⟩
  | 70 => ⟨S32, .f32⟩
  | 71 => ⟨S2048, .f32⟩
  | 72 => ⟨S2048x1, .f32⟩
  | 73 => ⟨S1x32, .f32⟩
  | 74 => ⟨S2048x32, .f32⟩
  | 75 => ⟨S2048x32, .f32⟩
  | 76 => ⟨S2048x32, .f32⟩
  | 77 => ⟨S2048x32, .f32⟩
  | 78 => ⟨S2048x32, .f32⟩
  | 79 => ⟨S2048x64, .f32⟩
  | 80 => ⟨S1x2048x1x64, .f32⟩
  | 81 => ⟨S1x2048x4x64, .f32⟩
  | 82 => ⟨S2048x256, .f32⟩
  | 83 => ⟨S2048x32, .f32⟩
  | 84 => ⟨S2048x64, .f32⟩
  | 85 => ⟨S1x2048x1x64, .f32⟩
  | 86 => ⟨S1x2048x4x64, .f32⟩
  | 87 => ⟨S2048x256, .f32⟩
  | 88 => ⟨S4, .f32⟩
  | 89 => ⟨S_, .f32⟩
  | 90 => ⟨S4, .f32⟩
  | 91 => ⟨S4, .f32⟩
  | 92 => ⟨S_, .f32⟩
  | 93 => ⟨S4, .f32⟩
  | 94 => ⟨S4, .f32⟩
  | 95 => ⟨S_, .f32⟩
  | 96 => ⟨S4, .f32⟩
  | 97 => ⟨S4, .f32⟩
  | 98 => ⟨S4, .f32⟩
  | 99 => ⟨S64, .f32⟩
  | 100 => ⟨S64x1, .f32⟩
  | 101 => ⟨S1x64, .f32⟩
  | 102 => ⟨S64x64, .f32⟩
  | 103 => ⟨S64x64, .f32⟩
  | 104 => ⟨S64x64, .f32⟩
  | 105 => ⟨S1x64x64, .f32⟩
  | 106 => ⟨S_, .f32⟩
  | 107 => ⟨S1x64x64, .f32⟩
  | 108 => ⟨S1x64x64, .i1⟩
  | 109 => ⟨S_, .f32⟩
  | 110 => ⟨S64x64, .f32⟩
  | 111 => ⟨S64x64, .f32⟩
  | 112 => ⟨S1x64x64, .f32⟩
  | 113 => ⟨S4x1x1, .f32⟩
  | 114 => ⟨S4x64x64, .f32⟩
  | 115 => ⟨S4x64x64, .f32⟩
  | 116 => ⟨S4x64x64, .f32⟩
  | 117 => ⟨S4x64x64, .f32⟩
  | 118 => ⟨S_, .f32⟩
  | 119 => ⟨S_, .f32⟩
  | 120 => ⟨S4x64x64, .i1⟩
  | 121 => ⟨S4x64x64, .f32⟩
  | 122 => ⟨S4x64x64, .f32⟩
  | 123 => ⟨S1x64x64, .f32⟩
  | 124 => ⟨S64x64, .f32⟩
  | 125 => ⟨S1x64x64, .f32⟩
  | 126 => ⟨S64x64, .f32⟩
  | 127 => ⟨S_, .f32⟩
  | _ => ⟨S16384x1024, .f32⟩

abbrev hbmTy0_1 (i : Nat) : BufTy := match i % 128 with
  | 0 => ⟨S128x128, .f32⟩
  | 1 => ⟨S_, .i32⟩
  | 2 => ⟨S1, .i32⟩
  | 3 => ⟨S_, .i32⟩
  | 4 => ⟨S1, .i32⟩
  | 5 => ⟨S2, .i32⟩
  | 6 => ⟨S128x128, .f32⟩
  | 7 => ⟨S_, .i32⟩
  | 8 => ⟨S1, .i32⟩
  | 9 => ⟨S_, .i32⟩
  | 10 => ⟨S1, .i32⟩
  | 11 => ⟨S2, .i32⟩
  | 12 => ⟨S128x128, .f32⟩
  | 13 => ⟨S1x64x64, .f32⟩
  | 14 => ⟨S64x64, .f32⟩
  | 15 => ⟨S1x64x64, .f32⟩
  | 16 => ⟨S64x64, .f32⟩
  | 17 => ⟨S_, .f32⟩
  | 18 => ⟨S128x128, .f32⟩
  | 19 => ⟨S_, .i32⟩
  | 20 => ⟨S1, .i32⟩
  | 21 => ⟨S_, .i32⟩
  | 22 => ⟨S1, .i32⟩
  | 23 => ⟨S2, .i32⟩
  | 24 => ⟨S128x128, .f32⟩
  | 25 => ⟨S_, .i32⟩
  | 26 => ⟨S1, .i32⟩
  | 27 => ⟨S_, .i32⟩
  | 28 => ⟨S1, .i32⟩
  | 29 => ⟨S2, .i32⟩
  | 30 => ⟨S128x128, .f32⟩
  | 31 => ⟨S1x128x128, .f32⟩
  | 32 => ⟨S1x128x128, .f32⟩
  | 33 => ⟨S2x128x128, .f32⟩
  | 34 => ⟨S4, .i32⟩
  | 35 => ⟨S4x64, .i32⟩
  | 36 => ⟨S256, .i32⟩
  | 37 => ⟨S64x1, .f32⟩
  | 38 => ⟨S_, .f32⟩
  | 39 => ⟨S64x1, .f32⟩
  | 40 => ⟨S64x1, .f32⟩
  | 41 => ⟨S1x4, .f32⟩
  | 42 => ⟨S64x4, .f32⟩
  | 43 => ⟨S64x4, .f32⟩
  | 44 => ⟨S64x4, .f32⟩
  | 45 => ⟨S64x4, .f32⟩
  | 46 => ⟨S_, .i32⟩
  | 47 => ⟨S256, .i32⟩
  | 48 => ⟨S256, .i1⟩
  | 49 => ⟨S_, .i32⟩
  | 50 => ⟨S256, .i32⟩
  | 51 => ⟨S256, .i32⟩
  | 52 => ⟨S256, .i32⟩
  | 53 => ⟨S256x1, .i32⟩
  | 54 => ⟨S64x256, .f32⟩
  | 55 => ⟨S_, .f32⟩
  | 56 => ⟨S64, .f32⟩
  | 57 => ⟨S64, .f32⟩
  | 58 => ⟨S64x1, .f32⟩
  | 59 => ⟨S1x4, .f32⟩
  | 60 => ⟨S64x4, .f32⟩
  | 61 => ⟨S64x4, .f32⟩
  | 62 => ⟨S64x4, .f32⟩
  | 63 => ⟨S64x4, .f32⟩
  | 64 => ⟨S_, .i32⟩
  | 65 => ⟨S256, .i32⟩
  | 66 => ⟨S256, .i1⟩
  | 67 => ⟨S_, .i32⟩
  | 68 => ⟨S256, .i32⟩
  | 69 => ⟨S256, .i32⟩
  | 70 => ⟨S256, .i32⟩
  | 71 => ⟨S256x1, .i32⟩
  | 72 => ⟨S64x256, .f32⟩
  | 73 => ⟨S_, .f32⟩
  | 74 => ⟨S4, .f32⟩
  | 75 => ⟨S4, .f32⟩
  | 76 => ⟨S4, .f32⟩
  | 77 => ⟨S_, .i32⟩
  | 78 => ⟨S256, .i32⟩
  | 79 => ⟨S256, .i1⟩
  | 80 => ⟨S_, .i32⟩
  | 81 => ⟨S256, .i32⟩
  | 82 => ⟨S256, .i32⟩
  | 83 => ⟨S256, .i32⟩
  | 84 => ⟨S256x1, .i32⟩
  | 85 => ⟨S256, .f32⟩
  | 86 => ⟨S1x256, .f32⟩
  | 87 => ⟨S16384x256, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S2x128x128, .f32⟩
  | .local _ .vmem, ⟨7, _⟩ => ⟨S64x256, .f32⟩
  | .local _ .vmem, ⟨8, _⟩ => ⟨S64x256, .f32⟩
  | .local _ .vmem, ⟨9, _⟩ => ⟨S1x256, .f32⟩
  | .local _ .vmem, ⟨10, _⟩ => ⟨S128x128, .bf16⟩
  | .local _ .vmem, ⟨11, _⟩ => ⟨S512x256, .bf16⟩
  | .local _ .vmem, ⟨12, _⟩ => ⟨S512x256, .bf16⟩
  | .local _ .vmem, ⟨13, _⟩ => ⟨S2x128x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_c : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_call0_c_0 : Ref sig .tc := ⟨.hbm, 17, rfl⟩
abbrev main_call0_v12 : Ref sig .tc := ⟨.hbm, 18, rfl⟩
abbrev main_call0_v13 : Ref sig .tc := ⟨.hbm, 19, rfl⟩
abbrev main_v2 : Ref sig .tc := ⟨.hbm, 20, rfl⟩
abbrev main_v3 : Ref sig .tc := ⟨.hbm, 21, rfl⟩
abbrev main_c_0 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_v5 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_c : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_0 : Ref sig .tc := ⟨.hbm, 36, rfl⟩
abbrev main_call1_v12 : Ref sig .tc := ⟨.hbm, 37, rfl⟩
abbrev main_call1_v13 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_cst : Ref sig .tc := ⟨.hbm, 44, rfl⟩
abbrev main_cst_1 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_call2_cst : Ref sig .tc := ⟨.hbm, 49, rfl⟩
abbrev main_call2_v3 : Ref sig .tc := ⟨.hbm, 50, rfl⟩
abbrev main_call2_v4 : Ref sig .tc := ⟨.hbm, 51, rfl⟩
abbrev main_call2_cst_0 : Ref sig .tc := ⟨.hbm, 52, rfl⟩
abbrev main_call2_v5 : Ref sig .tc := ⟨.hbm, 53, rfl⟩
abbrev main_call2_v6 : Ref sig .tc := ⟨.hbm, 54, rfl⟩
abbrev main_call2_v7 : Ref sig .tc := ⟨.hbm, 55, rfl⟩
abbrev main_call2_cst_1 : Ref sig .tc := ⟨.hbm, 56, rfl⟩
abbrev main_call2_v8 : Ref sig .tc := ⟨.hbm, 57, rfl⟩
abbrev main_call2_v9 : Ref sig .tc := ⟨.hbm, 58, rfl⟩
abbrev main_call2_v10 : Ref sig .tc := ⟨.hbm, 59, rfl⟩
abbrev main_call2_v11 : Ref sig .tc := ⟨.hbm, 60, rfl⟩
abbrev main_call2_v12 : Ref sig .tc := ⟨.hbm, 61, rfl⟩
abbrev main_call2_v13 : Ref sig .tc := ⟨.hbm, 62, rfl⟩
abbrev main_call2_v14 : Ref sig .tc := ⟨.hbm, 63, rfl⟩
abbrev main_call2_v15 : Ref sig .tc := ⟨.hbm, 64, rfl⟩
abbrev main_call2_v16 : Ref sig .tc := ⟨.hbm, 65, rfl⟩
abbrev main_v9 : Ref sig .tc := ⟨.hbm, 66, rfl⟩
abbrev main_v10 : Ref sig .tc := ⟨.hbm, 67, rfl⟩
abbrev main_cst_2 : Ref sig .tc := ⟨.hbm, 68, rfl⟩
abbrev main_v11 : Ref sig .tc := ⟨.hbm, 69, rfl⟩
abbrev main_v12 : Ref sig .tc := ⟨.hbm, 70, rfl⟩
abbrev main_v13 : Ref sig .tc := ⟨.hbm, 71, rfl⟩
abbrev main_v14 : Ref sig .tc := ⟨.hbm, 72, rfl⟩
abbrev main_v15 : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩
abbrev main_v19 : Ref sig .tc := ⟨.hbm, 77, rfl⟩
abbrev main_v20 : Ref sig .tc := ⟨.hbm, 78, rfl⟩
abbrev main_v21 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_v27 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_cst_3 : Ref sig .tc := ⟨.hbm, 89, rfl⟩
abbrev main_v31 : Ref sig .tc := ⟨.hbm, 90, rfl⟩
abbrev main_v32 : Ref sig .tc := ⟨.hbm, 91, rfl⟩
abbrev main_cst_4 : Ref sig .tc := ⟨.hbm, 92, rfl⟩
abbrev main_v33 : Ref sig .tc := ⟨.hbm, 93, rfl⟩
abbrev main_v34 : Ref sig .tc := ⟨.hbm, 94, rfl⟩
abbrev main_cst_5 : Ref sig .tc := ⟨.hbm, 95, rfl⟩
abbrev main_v35 : Ref sig .tc := ⟨.hbm, 96, rfl⟩
abbrev main_v36 : Ref sig .tc := ⟨.hbm, 97, rfl⟩
abbrev main_v37 : Ref sig .tc := ⟨.hbm, 98, rfl⟩
abbrev main_v38 : Ref sig .tc := ⟨.hbm, 99, rfl⟩
abbrev main_v39 : Ref sig .tc := ⟨.hbm, 100, rfl⟩
abbrev main_v40 : Ref sig .tc := ⟨.hbm, 101, rfl⟩
abbrev main_v41 : Ref sig .tc := ⟨.hbm, 102, rfl⟩
abbrev main_v42 : Ref sig .tc := ⟨.hbm, 103, rfl⟩
abbrev main_v43 : Ref sig .tc := ⟨.hbm, 104, rfl⟩
abbrev main_v44 : Ref sig .tc := ⟨.hbm, 105, rfl⟩
abbrev main_cst_6 : Ref sig .tc := ⟨.hbm, 106, rfl⟩
abbrev main_v45 : Ref sig .tc := ⟨.hbm, 107, rfl⟩
abbrev main_v46 : Ref sig .tc := ⟨.hbm, 108, rfl⟩
abbrev main_cst_7 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_v50 : Ref sig .tc := ⟨.hbm, 113, rfl⟩
abbrev main_v51 : Ref sig .tc := ⟨.hbm, 114, rfl⟩
abbrev main_v52 : Ref sig .tc := ⟨.hbm, 115, rfl⟩
abbrev main_v53 : Ref sig .tc := ⟨.hbm, 116, rfl⟩
abbrev main_v54 : Ref sig .tc := ⟨.hbm, 117, rfl⟩
abbrev main_cst_8 : Ref sig .tc := ⟨.hbm, 118, rfl⟩
abbrev main_call3_v0 : Ref sig .tc := ⟨.hbm, 119, rfl⟩
abbrev main_call3_v1 : Ref sig .tc := ⟨.hbm, 120, rfl⟩
abbrev main_call3_v2 : Ref sig .tc := ⟨.hbm, 121, rfl⟩
abbrev main_v55 : Ref sig .tc := ⟨.hbm, 122, rfl⟩
abbrev main_v56 : Ref sig .tc := ⟨.hbm, 123, rfl⟩
abbrev main_v57 : Ref sig .tc := ⟨.hbm, 124, rfl⟩
abbrev main_v58 : Ref sig .tc := ⟨.hbm, 125, rfl⟩
abbrev main_v59 : Ref sig .tc := ⟨.hbm, 126, rfl⟩
abbrev main_cst_9 : Ref sig .tc := ⟨.hbm, 127, rfl⟩
abbrev main_v60 : Ref sig .tc := ⟨.hbm, 128, rfl⟩
abbrev main_c_10 : Ref sig .tc := ⟨.hbm, 129, rfl⟩
abbrev main_v61 : Ref sig .tc := ⟨.hbm, 130, rfl⟩
abbrev main_c_11 : Ref sig .tc := ⟨.hbm, 131, rfl⟩
abbrev main_v62 : Ref sig .tc := ⟨.hbm, 132, rfl⟩
abbrev main_v63 : Ref sig .tc := ⟨.hbm, 133, rfl⟩
abbrev main_v64 : Ref sig .tc := ⟨.hbm, 134, rfl⟩
abbrev main_c_12 : Ref sig .tc := ⟨.hbm, 135, rfl⟩
abbrev main_v65 : Ref sig .tc := ⟨.hbm, 136, rfl⟩
abbrev main_c_13 : Ref sig .tc := ⟨.hbm, 137, rfl⟩
abbrev main_v66 : Ref sig .tc := ⟨.hbm, 138, rfl⟩
abbrev main_v67 : Ref sig .tc := ⟨.hbm, 139, rfl⟩
abbrev main_v68 : Ref sig .tc := ⟨.hbm, 140, rfl⟩
abbrev main_v69 : Ref sig .tc := ⟨.hbm, 141, rfl⟩
abbrev main_v70 : Ref sig .tc := ⟨.hbm, 142, rfl⟩
abbrev main_v71 : Ref sig .tc := ⟨.hbm, 143, rfl⟩
abbrev main_v72 : Ref sig .tc := ⟨.hbm, 144, rfl⟩
abbrev main_cst_14 : Ref sig .tc := ⟨.hbm, 145, rfl⟩
abbrev main_v73 : Ref sig .tc := ⟨.hbm, 146, rfl⟩
abbrev main_c_15 : Ref sig .tc := ⟨.hbm, 147, rfl⟩
abbrev main_v74 : Ref sig .tc := ⟨.hbm, 148, rfl⟩
abbrev main_c_16 : Ref sig .tc := ⟨.hbm, 149, rfl⟩
abbrev main_v75 : Ref sig .tc := ⟨.hbm, 150, rfl⟩
abbrev main_v76 : Ref sig .tc := ⟨.hbm, 151, rfl⟩
abbrev main_v77 : Ref sig .tc := ⟨.hbm, 152, rfl⟩
abbrev main_c_17 : Ref sig .tc := ⟨.hbm, 153, rfl⟩
abbrev main_v78 : Ref sig .tc := ⟨.hbm, 154, rfl⟩
abbrev main_c_18 : Ref sig .tc := ⟨.hbm, 155, rfl⟩
abbrev main_v79 : Ref sig .tc := ⟨.hbm, 156, rfl⟩
abbrev main_v80 : Ref sig .tc := ⟨.hbm, 157, rfl⟩
abbrev main_v81 : Ref sig .tc := ⟨.hbm, 158, rfl⟩
abbrev main_v82 : Ref sig .tc := ⟨.hbm, 159, rfl⟩
abbrev main_v83 : Ref sig .tc := ⟨.hbm, 160, rfl⟩
abbrev main_v84 : Ref sig .tc := ⟨.hbm, 161, rfl⟩
abbrev main_v85 : Ref sig .tc := ⟨.hbm, 162, rfl⟩
abbrev main_v86 : Ref sig .tc := ⟨.hbm, 163, rfl⟩
abbrev main_v87 : Ref sig .tc := ⟨.hbm, 164, rfl⟩
abbrev main_v88 : Ref sig .tc := ⟨.hbm, 165, rfl⟩
abbrev main_cst_19 : Ref sig .tc := ⟨.hbm, 166, rfl⟩
abbrev main_v89 : Ref sig .tc := ⟨.hbm, 167, rfl⟩
abbrev main_v90 : Ref sig .tc := ⟨.hbm, 168, rfl⟩
abbrev main_v91 : Ref sig .tc := ⟨.hbm, 169, rfl⟩
abbrev main_v92 : Ref sig .tc := ⟨.hbm, 170, rfl⟩
abbrev main_v93 : Ref sig .tc := ⟨.hbm, 171, rfl⟩
abbrev main_v94 : Ref sig .tc := ⟨.hbm, 172, rfl⟩
abbrev main_v95 : Ref sig .tc := ⟨.hbm, 173, rfl⟩
abbrev main_c_20 : Ref sig .tc := ⟨.hbm, 174, rfl⟩
abbrev main_v96 : Ref sig .tc := ⟨.hbm, 175, rfl⟩
abbrev main_v97 : Ref sig .tc := ⟨.hbm, 176, rfl⟩
abbrev main_c_21 : Ref sig .tc := ⟨.hbm, 177, rfl⟩
abbrev main_v98 : Ref sig .tc := ⟨.hbm, 178, rfl⟩
abbrev main_v99 : Ref sig .tc := ⟨.hbm, 179, rfl⟩
abbrev main_v100 : Ref sig .tc := ⟨.hbm, 180, rfl⟩
abbrev main_v101 : Ref sig .tc := ⟨.hbm, 181, rfl⟩
abbrev main_v102 : Ref sig .tc := ⟨.hbm, 182, rfl⟩
abbrev main_cst_22 : Ref sig .tc := ⟨.hbm, 183, rfl⟩
abbrev main_v103 : Ref sig .tc := ⟨.hbm, 184, rfl⟩
abbrev main_v104 : Ref sig .tc := ⟨.hbm, 185, rfl⟩
abbrev main_v105 : Ref sig .tc := ⟨.hbm, 186, rfl⟩
abbrev main_v106 : Ref sig .tc := ⟨.hbm, 187, rfl⟩
abbrev main_v107 : Ref sig .tc := ⟨.hbm, 188, rfl⟩
abbrev main_v108 : Ref sig .tc := ⟨.hbm, 189, rfl⟩
abbrev main_v109 : Ref sig .tc := ⟨.hbm, 190, rfl⟩
abbrev main_v110 : Ref sig .tc := ⟨.hbm, 191, rfl⟩
abbrev main_c_23 : Ref sig .tc := ⟨.hbm, 192, rfl⟩
abbrev main_v111 : Ref sig .tc := ⟨.hbm, 193, rfl⟩
abbrev main_v112 : Ref sig .tc := ⟨.hbm, 194, rfl⟩
abbrev main_c_24 : Ref sig .tc := ⟨.hbm, 195, rfl⟩
abbrev main_v113 : Ref sig .tc := ⟨.hbm, 196, rfl⟩
abbrev main_v114 : Ref sig .tc := ⟨.hbm, 197, rfl⟩
abbrev main_v115 : Ref sig .tc := ⟨.hbm, 198, rfl⟩
abbrev main_v116 : Ref sig .tc := ⟨.hbm, 199, rfl⟩
abbrev main_v117 : Ref sig .tc := ⟨.hbm, 200, rfl⟩
abbrev main_cst_25 : Ref sig .tc := ⟨.hbm, 201, rfl⟩
abbrev main_v118 : Ref sig .tc := ⟨.hbm, 202, rfl⟩
abbrev main_v119 : Ref sig .tc := ⟨.hbm, 203, rfl⟩
abbrev main_v120 : Ref sig .tc := ⟨.hbm, 204, rfl⟩
abbrev main_c_26 : Ref sig .tc := ⟨.hbm, 205, rfl⟩
abbrev main_v121 : Ref sig .tc := ⟨.hbm, 206, rfl⟩
abbrev main_v122 : Ref sig .tc := ⟨.hbm, 207, rfl⟩
abbrev main_c_27 : Ref sig .tc := ⟨.hbm, 208, rfl⟩
abbrev main_v123 : Ref sig .tc := ⟨.hbm, 209, rfl⟩
abbrev main_v124 : Ref sig .tc := ⟨.hbm, 210, rfl⟩
abbrev main_v125 : Ref sig .tc := ⟨.hbm, 211, rfl⟩
abbrev main_v126 : Ref sig .tc := ⟨.hbm, 212, rfl⟩
abbrev main_v127 : Ref sig .tc := ⟨.hbm, 213, rfl⟩
abbrev main_v128 : Ref sig .tc := ⟨.hbm, 214, rfl⟩
abbrev main_v129 : Ref sig .tc := ⟨.hbm, 215, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c0_i32_3 : BitVec 32 := 0#32
  let c8_i32 : BitVec 32 := 8#32
  let v12 : BitVec 32 := Scalar.addi c0_i32_3 c8_i32
  let c1_i32 : BitVec 32 := 1#32
  ⟨c0_i32_3, v12, c1_i32⟩
def k0_mult1 (k0_t1 : Fin k0_t1_loop.trips) : BitVec 32 :=
  let c0_i32_3 : BitVec 32 := 0#32
  let c1_i32 : BitVec 32 := 1#32
  let arg12 : BitVec 32 := Scf.iv c0_i32_3 c1_i32 k0_t1
  let c64_i32 : BitVec 32 := 64#32
  let v13 : BitVec 32 := Scalar.muli arg12 c64_i32
  v13
def k0_off1 (k0_t1 : Fin k0_t1_loop.trips) : Fin 2 → Nat :=
  let c0_i32_3 : BitVec 32 := 0#32
  let c1_i32 : BitVec 32 := 1#32
  let arg12 : BitVec 32 := Scf.iv c0_i32_3 c1_i32 k0_t1
  let c64_i32 : BitVec 32 := 64#32
  let v13 : BitVec 32 := Scalar.muli arg12 c64_i32
  let v14 : BitVec 32 := v13
  let v15 : Index := Scalar.indexCast v14
  let c0_5 : Index := 0#32
  ![v15.toNat, 0]
def k0_off2 (k0_t1 : Fin k0_t1_loop.trips) : Fin 2 → Nat :=
  let c0_i32_3 : BitVec 32 := 0#32
  let c1_i32 : BitVec 32 := 1#32
  let arg12 : BitVec 32 := Scf.iv c0_i32_3 c1_i32 k0_t1
  let c64_i32 : BitVec 32 := 64#32
  let v13 : BitVec 32 := Scalar.muli arg12 c64_i32
  let v14 : BitVec 32 := v13
  let v21 : Index := Scalar.indexCast v14
  let c0_7 : Index := 0#32
  ![v21.toNat, 0]
def k0_off3 (k0_t1 : Fin k0_t1_loop.trips) : Fin 2 → Nat :=
  let c0_i32_3 : BitVec 32 := 0#32
  let c1_i32 : BitVec 32 := 1#32
  let arg12 : BitVec 32 := Scf.iv c0_i32_3 c1_i32 k0_t1
  let c64_i32 : BitVec 32 := 64#32
  let v13 : BitVec 32 := Scalar.muli arg12 c64_i32
  let v14 : BitVec 32 := v13
  let v23 : Index := Scalar.indexCast v14
  let c256 : Index := 256#32
  ![v23.toNat, 256]
def k0_off4 (k0_t1 : Fin k0_t1_loop.trips) : Fin 2 → Nat :=
  let c0_i32_3 : BitVec 32 := 0#32
  let c1_i32 : BitVec 32 := 1#32
  let arg12 : BitVec 32 := Scf.iv c0_i32_3 c1_i32 k0_t1
  let c64_i32 : BitVec 32 := 64#32
  let v13 : BitVec 32 := Scalar.muli arg12 c64_i32
  let v14 : BitVec 32 := v13
  let v25 : Index := Scalar.indexCast v14
  let c512 : Index := 512#32
  ![v25.toNat, 512]
def k0_off5 (k0_t1 : Fin k0_t1_loop.trips) : Fin 2 → Nat :=
  let c0_i32_3 : BitVec 32 := 0#32
  let c1_i32 : BitVec 32 := 1#32
  let arg12 : BitVec 32 := Scf.iv c0_i32_3 c1_i32 k0_t1
  let c64_i32 : BitVec 32 := 64#32
  let v13 : BitVec 32 := Scalar.muli arg12 c64_i32
  let v14 : BitVec 32 := v13
  let v27 : Index := Scalar.indexCast v14
  let c768 : Index := 768#32
  ![v27.toNat, 768]
def k0_off6 (k0_t1 : Fin k0_t1_loop.trips) : Fin 2 → Nat :=
  let c0_i32_3 : BitVec 32 := 0#32
  let c1_i32 : BitVec 32 := 1#32
  let arg12 : BitVec 32 := Scf.iv c0_i32_3 c1_i32 k0_t1
  let c64_i32 : BitVec 32 := 64#32
  let v13 : BitVec 32 := Scalar.muli arg12 c64_i32
  let v14 : BitVec 32 := v13
  let v129 : Index := Scalar.indexCast v14
  let c128 : Index := 128#32
  ![v129.toNat, 128]
def k0_off7 (k0_t1 : Fin k0_t1_loop.trips) : Fin 2 → Nat :=
  let c0_i32_3 : BitVec 32 := 0#32
  let c1_i32 : BitVec 32 := 1#32
  let arg12 : BitVec 32 := Scf.iv c0_i32_3 c1_i32 k0_t1
  let c64_i32 : BitVec 32 := 64#32
  let v13 : BitVec 32 := Scalar.muli arg12 c64_i32
  let v14 : BitVec 32 := v13
  let v135 : Index := Scalar.indexCast v14
  let c128_47 : Index := 128#32
  ![v135.toNat, 128]
def k0_off8 (k0_t1 : Fin k0_t1_loop.trips) : Fin 2 → Nat :=
  let c0_i32_3 : BitVec 32 := 0#32
  let c1_i32 : BitVec 32 := 1#32
  let arg12 : BitVec 32 := Scf.iv c0_i32_3 c1_i32 k0_t1
  let c64_i32 : BitVec 32 := 64#32
  let v13 : BitVec 32 := Scalar.muli arg12 c64_i32
  let v14 : BitVec 32 := v13
  let v137 : Index := Scalar.indexCast v14
  let c384 : Index := 384#32
  ![v137.toNat, 384]
def k0_off9 (k0_t1 : Fin k0_t1_loop.trips) : Fin 2 → Nat :=
  let c0_i32_3 : BitVec 32 := 0#32
  let c1_i32 : BitVec 32 := 1#32
  let arg12 : BitVec 32 := Scf.iv c0_i32_3 c1_i32 k0_t1
  let c64_i32 : BitVec 32 := 64#32
  let v13 : BitVec 32 := Scalar.muli arg12 c64_i32
  let v14 : BitVec 32 := v13
  let v139 : Index := Scalar.indexCast v14
  let c640 : Index := 640#32
  ![v139.toNat, 640]
def k0_off10 (k0_t1 : Fin k0_t1_loop.trips) : Fin 2 → Nat :=
  let c0_i32_3 : BitVec 32 := 0#32
  let c1_i32 : BitVec 32 := 1#32
  let arg12 : BitVec 32 := Scf.iv c0_i32_3 c1_i32 k0_t1
  let c64_i32 : BitVec 32 := 64#32
  let v13 : BitVec 32 := Scalar.muli arg12 c64_i32
  let v14 : BitVec 32 := v13
  let v141 : Index := Scalar.indexCast v14
  let c896 : Index := 896#32
  ![v141.toNat, 896]
def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S16384x1024 : Shape := ⟨2, ![16384, 1024]⟩
abbrev S8x2048x1024 : Shape := ⟨3, ![8, 2048, 1024]⟩
abbrev S8x2048x256 : Shape := ⟨3, ![8, 2048, 256]⟩
abbrev S8x2048x4x64 : Shape := ⟨4, ![8, 2048, 4, 64]⟩
abbrev S_ : Shape := ⟨0, ![]⟩
abbrev S31 : Shape := ⟨1, ![31]⟩
abbrev S1 : Shape := ⟨1, ![1]⟩
abbrev S32 : Shape := ⟨1, ![32]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S8x2048x4x32 : Shape := ⟨4, ![8, 2048, 4, 32]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S1x4 : Shape := ⟨2, ![1, 4]⟩
abbrev S128x4 : Shape := ⟨2, ![128, 4]⟩
abbrev S8x4x64x64 : Shape := ⟨4, ![8, 4, 64, 64]⟩
abbrev S8x16x128x4x64 : Shape := ⟨5, ![8, 16, 128, 4, 64]⟩
abbrev S16x8x128x4x64 : Shape := ⟨5, ![16, 8, 128, 4, 64]⟩
abbrev S1x8x128x4x64 : Shape := ⟨5, ![1, 8, 128, 4, 64]⟩
abbrev S8x128x4x64 : Shape := ⟨4, ![8, 128, 4, 64]⟩
abbrev S8x4x128x128 : Shape := ⟨4, ![8, 4, 128, 128]⟩
abbrev S1x4x128x128 : Shape := ⟨4, ![1, 4, 128, 128]⟩
abbrev S8x4x64x128 : Shape := ⟨4, ![8, 4, 64, 128]⟩
abbrev S1x128x4x1 : Shape := ⟨4, ![1, 128, 4, 1]⟩
abbrev S1x4x1x1 : Shape := ⟨4, ![1, 4, 1, 1]⟩
abbrev S8x2048x4 : Shape := ⟨3, ![8, 2048, 4]⟩
abbrev S8x2048x4x1 : Shape := ⟨4, ![8, 2048, 4, 1]⟩
abbrev S16384x256 : Shape := ⟨2, ![16384, 256]⟩

abbrev nBuf : Space → Nat
  | .hbm => 267
  | .vmem => 0
  | .smem => 0
  | _ => 0

abbrev hbmTy0_0 (i : Nat) : BufTy := match i % 128 with
  | 0 => ⟨S16384x1024, .f32⟩
  | 1 => ⟨S8x2048x1024, .f32⟩
  | 2 => ⟨S8x2048x256, .f32⟩
  | 3 => ⟨S8x2048x256, .f32⟩
  | 4 => ⟨S8x2048x256, .f32⟩
  | 5 => ⟨S8x2048x4x64, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S31, .f32⟩
  | 14 => ⟨S_, .f32⟩
  | 15 => ⟨S31, .f32⟩
  | 16 => ⟨S31, .f32⟩
  | 17 => ⟨S1, .f32⟩
  | 18 => ⟨S_, .f32⟩
  | 19 => ⟨S31, .f32⟩
  | 20 => ⟨S31, .f32⟩
  | 21 => ⟨S31, .f32⟩
  | 22 => ⟨S31, .f32⟩
  | 23 => ⟨S1, .f32⟩
  | 24 => ⟨S31, .f32⟩
  | 25 => ⟨S31, .f32⟩
  | 26 => ⟨S31, .f32⟩
  | 27 => ⟨S1, .f32⟩
  | 28 => ⟨S32, .f32⟩
  | 29 => ⟨S32, .f32⟩
  | 30 => ⟨S_, .f32⟩
  | 31 => ⟨S32, .f32⟩
  | 32 => ⟨S32, .f32⟩
  | 33 => ⟨S2048, .f32⟩
  | 34 => ⟨S2048x1, .f32⟩
  | 35 => ⟨S1x32, .f32⟩
  | 36 => ⟨S2048x32, .f32⟩
  | 37 => ⟨S2048x32, .f32⟩
  | 38 => ⟨S2048x32, .f32⟩
  | 39 => ⟨S2048x32, .f32⟩
  | 40 => ⟨S1x2048x1x32, .f32⟩
  | 41 => ⟨S2048x32, .f32⟩
  | 42 => ⟨S1x2048x1x32, .f32⟩
  | 43 => ⟨S8x2048x4x32, .f32⟩
  | 44 => ⟨S8x2048x4x32, .f32⟩
  | 45 => ⟨S8x2048x4x32, .f32⟩
  | 46 => ⟨S8x2048x4x32, .f32⟩
  | 47 => ⟨S8x2048x4x32, .f32⟩
  | 48 => ⟨S8x2048x4x32, .f32⟩
  | 49 => ⟨S8x2048x4x32, .f32⟩
  | 50 => ⟨S8x2048x4x32, .f32⟩
  | 51 => ⟨S8x2048x4x32, .f32⟩
  | 52 => ⟨S8x2048x4x32, .f32⟩
  | 53 => ⟨S8x2048x4x32, .f32⟩
  | 54 => ⟨S8x2048x4x32, .f32⟩
  | 55 => ⟨S8x2048x4x64, .f32⟩
  | 56 => ⟨S8x2048x4x64, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S31, .f32⟩
  | 65 => ⟨S_, .f32⟩
  | 66 => ⟨S31, .f32⟩
  | 67 => ⟨S31, .f32⟩
  | 68 => ⟨S1, .f32⟩
  | 69 => ⟨S_, .f32⟩
  | 70 => ⟨S31, .f32⟩
  | 71 => ⟨S31, .f32⟩
  | 72 => ⟨S31, .f32⟩
  | 73 => ⟨S31, .f32⟩
  | 74 => ⟨S1, .f32⟩
  | 75 => ⟨S31, .f32⟩
  | 76 => ⟨S31, .f32⟩
  | 77 => ⟨S31, .f32⟩
  | 78 => ⟨S1, .f32⟩
  | 79 => ⟨S32, .f32⟩
  | 80 => ⟨S32, .f32⟩
  | 81 => ⟨S_, .f32⟩
  | 82 => ⟨S32, .f32⟩
  | 83 => ⟨S32, .f32⟩
  | 84 => ⟨S2048, .f32⟩
  | 85 => ⟨S2048x1, .f32⟩
  | 86 => ⟨S1x32, .f32⟩
  | 87 => ⟨S2048x32, .f32⟩
  | 88 => ⟨S2048x32, .f32⟩
  | 89 => ⟨S2048x32, .f32⟩
  | 90 => ⟨S2048x32, .f32⟩
  | 91 => ⟨S1x2048x1x32, .f32⟩
  | 92 => ⟨S2048x32, .f32⟩
  | 93 => ⟨S1x2048x1x32, .f32⟩
  | 94 => ⟨S8x2048x4x32, .f32⟩
  | 95 => ⟨S8x2048x4x32, .f32⟩
  | 96 => ⟨S8x2048x4x32, .f32⟩
  | 97 => ⟨S8x2048x4x32, .f32⟩
  | 98 => ⟨S8x2048x4x32, .f32⟩
  | 99 => ⟨S8x2048x4x32, .f32⟩
  | 100 => ⟨S8x2048x4x32, .f32⟩
  | 101 => ⟨S8x2048x4x32, .f32⟩
  | 102 => ⟨S8x2048x4x32, .f32⟩
  | 103 => ⟨S8x2048x4x32, .f32⟩
  | 104 => ⟨S8x2048x4x32, .f32⟩
  | 105 => ⟨S8x2048x4x32, .f32⟩
  | 106 => ⟨S8x2048x4x64, .f32⟩
  | 107 => ⟨S_, .f32⟩
  | 108 => ⟨S8x2048x4x64, .f32⟩
  | 109 => ⟨S8x2048x4x64, .f32⟩
  | 110 => ⟨S8x2048x4x64, .f32⟩
  | 111 => ⟨S4, .f32⟩
  | 112 => ⟨S_, .f32⟩
  | 113 => ⟨S4, .f32⟩
  | 114 => ⟨S4, .f32⟩
  | 115 => ⟨S_, .f32⟩
  | 116 => ⟨S4, .f32⟩
  | 117 => ⟨S4, .f32⟩
  | 118 => ⟨S_, .f32⟩
  | 119 => ⟨S4, .f32⟩
  | 120 => ⟨S4, .f32⟩
  | 121 => ⟨S4, .f32⟩
  | 122 => ⟨S128, .f32⟩
  | 123 => ⟨S128x1, .f32⟩
  | 124 => ⟨S1x128, .f32⟩
  | 125 => ⟨S128x128, .f32⟩
  | 126 => ⟨S128x128, .f32⟩
  | 127 => ⟨S128x128, .f32⟩
  | _ => ⟨S16384x1024, .f32⟩

abbrev hbmTy0_1 (i : Nat) : BufTy := match i % 128 with
  | 0 => ⟨S1x128x128, .f32⟩
  | 1 => ⟨S_, .f32⟩
  | 2 => ⟨S1x128x128, .f32⟩
  | 3 => ⟨S1x128x128, .i1⟩
  | 4 => ⟨S_, .f32⟩
  | 5 => ⟨S128x128, .f32⟩
  | 6 => ⟨S128x128, .f32⟩
  | 7 => ⟨S1x128x128, .f32⟩
  | 8 => ⟨S4x1x1, .f32⟩
  | 9 => ⟨S4x128x128, .f32⟩
  | 10 => ⟨S4x128x128, .f32⟩
  | 11 => ⟨S4x128x128, .f32⟩
  | 12 => ⟨S4x128x128, .f32⟩
  | 13 => ⟨S_, .f32⟩
  | 14 => ⟨S_, .f32⟩
  | 15 => ⟨S4x128x128, .i1⟩
  | 16 => ⟨S4x128x128, .f32⟩
  | 17 => ⟨S4x128x128, .f32⟩
  | 18 => ⟨S128x1, .f32⟩
  | 19 => ⟨S_, .f32⟩
  | 20 => ⟨S128x1, .f32⟩
  | 21 => ⟨S128x1, .f32⟩
  | 22 => ⟨S1x4, .f32⟩
  | 23 => ⟨S128x4, .f32⟩
  | 24 => ⟨S128x4, .f32⟩
  | 25 => ⟨S128x4, .f32⟩
  | 26 => ⟨S128x4, .f32⟩
  | 27 => ⟨S_, .f32⟩
  | 28 => ⟨S128, .f32⟩
  | 29 => ⟨S128, .f32⟩
  | 30 => ⟨S128x1, .f32⟩
  | 31 => ⟨S1x4, .f32⟩
  | 32 => ⟨S128x4, .f32⟩
  | 33 => ⟨S128x4, .f32⟩
  | 34 => ⟨S128x4, .f32⟩
  | 35 => ⟨S128x4, .f32⟩
  | 36 => ⟨S_, .f32⟩
  | 37 => ⟨S4, .f32⟩
  | 38 => ⟨S4, .f32⟩
  | 39 => ⟨S4, .f32⟩
  | 40 => ⟨S_, .f32⟩
  | 41 => ⟨S8x4x64x64, .f32⟩
  | 42 => ⟨S8x16x128x4x64, .f32⟩
  | 43 => ⟨S16x8x128x4x64, .f32⟩
  | 44 => ⟨S8x16x128x4x64, .f32⟩
  | 45 => ⟨S16x8x128x4x64, .f32⟩
  | 46 => ⟨S8x16x128x4x64, .f32⟩
  | 47 => ⟨S16x8x128x4x64, .f32⟩
  | 48 => ⟨S_, .f32⟩
  | 49 => ⟨S16x8x128x4x64, .f32⟩
  | 50 => ⟨S_, .i32⟩
  | 51 => ⟨S16x8x128x4x64, .f32⟩
  | 52 => ⟨S16x8x128x4x64, .f32⟩
  | 53 => ⟨S16x8x128x4x64, .f32⟩
  | 54 => ⟨S4x128x128, .f32⟩
  | 55 => ⟨S128x4, .f32⟩
  | 56 => ⟨S4, .f32⟩
  | 57 => ⟨S128x4, .f32⟩
  | 58 => ⟨S_, .i32⟩
  | 59 => ⟨S8x4x64x64, .f32⟩
  | 60 => ⟨S16x8x128x4x64, .f32⟩
  | 61 => ⟨S_, .i32⟩
  | 62 => ⟨S_, .i1⟩
  | 63 => ⟨S_, .i32⟩
  | 64 => ⟨S_, .i32⟩
  | 65 => ⟨S_, .i32⟩
  | 66 => ⟨S_, .i32⟩
  | 67 => ⟨S1x8x128x4x64, .f32⟩
  | 68 => ⟨S8x128x4x64, .f32⟩
  | 69 => ⟨S_, .i32⟩
  | 70 => ⟨S_, .i32⟩
  | 71 => ⟨S_, .i32⟩
  | 72 => ⟨S_, .i32⟩
  | 73 => ⟨S1x8x128x4x64, .f32⟩
  | 74 => ⟨S8x128x4x64, .f32⟩
  | 75 => ⟨S_, .i32⟩
  | 76 => ⟨S_, .i32⟩
  | 77 => ⟨S_, .i32⟩
  | 78 => ⟨S_, .i32⟩
  | 79 => ⟨S1x8x128x4x64, .f32⟩
  | 80 => ⟨S8x128x4x64, .f32⟩
  | 81 => ⟨S8x4x128x128, .f32⟩
  | 82 => ⟨S1x4x128x128, .f32⟩
  | 83 => ⟨S8x4x128x128, .f32⟩
  | 84 => ⟨S8x4x128x128, .f32⟩
  | 85 => ⟨S8x4x64x128, .f32⟩
  | 86 => ⟨S8x128x4x64, .f32⟩
  | 87 => ⟨S8x4x64x128, .f32⟩
  | 88 => ⟨S8x128x4x64, .f32⟩
  | 89 => ⟨S1x128x4x1, .f32⟩
  | 90 => ⟨S8x128x4x64, .f32⟩
  | 91 => ⟨S8x128x4x64, .f32⟩
  | 92 => ⟨S1x4x1x1, .f32⟩
  | 93 => ⟨S8x4x64x64, .f32⟩
  | 94 => ⟨S8x4x64x64, .f32⟩
  | 95 => ⟨S1x128x4x1, .f32⟩
  | 96 => ⟨S8x128x4x64, .f32⟩
  | 97 => ⟨S8x128x4x64, .f32⟩
  | 98 => ⟨S8x4x64x64, .f32⟩
  | 99 => ⟨S8x4x64x64, .f32⟩
  | 100 => ⟨S8x128x4x64, .f32⟩
  | 101 => ⟨S1x8x128x4x64, .f32⟩
  | 102 => ⟨S_, .i32⟩
  | 103 => ⟨S_, .i32⟩
  | 104 => ⟨S_, .i32⟩
  | 105 => ⟨S_, .i32⟩
  | 106 => ⟨S16x8x128x4x64, .f32⟩
  | 107 => ⟨S_, .i32⟩
  | 108 => ⟨S_, .i32⟩
  | 109 => ⟨S8x16x128x4x64, .f32⟩
  | 110 => ⟨S8x2048x4x64, .f32⟩
  | 111 => ⟨S8x2048x4x64, .f32⟩
  | 112 => ⟨S_, .f32⟩
  | 113 => ⟨S8x2048x4, .f32⟩
  | 114 => ⟨S8x2048x4x1, .f32⟩
  | 115 => ⟨S_, .f32⟩
  | 116 => ⟨S8x2048x4x1, .f32⟩
  | 117 => ⟨S8x2048x4x1, .f32⟩
  | 118 => ⟨S_, .f32⟩
  | 119 => ⟨S8x2048x4x1, .f32⟩
  | 120 => ⟨S8x2048x4x1, .f32⟩
  | 121 => ⟨S8x2048x4x1, .f32⟩
  | 122 => ⟨S8x2048x4x64, .f32⟩
  | 123 => ⟨S8x2048x4x64, .f32⟩
  | 124 => ⟨S8x2048x256, .f32⟩
  | 125 => ⟨S8x2048x1024, .f32⟩
  | 126 => ⟨S8x2048x256, .f32⟩
  | 127 => ⟨S8x2048x256, .f32⟩
  | _ => ⟨S16384x1024, .f32⟩

abbrev hbmTy0_2 (i : Nat) : BufTy := match i % 128 with
  | 0 => ⟨S8x2048x256, .f32⟩
  | 1 => ⟨S_, .f32⟩
  | 2 => ⟨S8x2048x256, .f32⟩
  | 3 => ⟨S8x2048x256, .f32⟩
  | 4 => ⟨S_, .f32⟩
  | 5 => ⟨S8x2048x256, .f32⟩
  | 6 => ⟨S8x2048x256, .f32⟩
  | 7 => ⟨S8x2048x256, .f32⟩
  | 8 => ⟨S8x2048x256, .f32⟩
  | 9 => ⟨S16384x256, .f32⟩
  | 10 => ⟨S16384x256, .bf16⟩
  | _ => ⟨S16384x1024, .f32⟩

abbrev hbmTy (i : Nat) : BufTy := match i / 128 with
  | 0 => hbmTy0_0 i
  | 1 => hbmTy0_1 i
  | 2 => hbmTy0_2 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_cst : Ref sig .tc := ⟨.hbm, 11, rfl⟩
abbrev main_call0_v3 : Ref sig .tc := ⟨.hbm, 12, rfl⟩
abbrev main_call0_v4 : Ref sig .tc := ⟨.hbm, 13, rfl⟩
abbrev main_call0_cst_0 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_cst_1 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_v15 : Ref sig .tc := ⟨.hbm, 26, rfl⟩
abbrev main_call0_v16 : Ref sig .tc := ⟨.hbm, 27, rfl⟩
abbrev main_v5 : Ref sig .tc := ⟨.hbm, 28, rfl⟩
abbrev main_v6 : Ref sig .tc := ⟨.hbm, 29, rfl⟩
abbrev main_cst_1 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_2 : Ref sig .tc := ⟨.hbm, 57, rfl⟩
abbrev main_cst_3 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_call1_cst : Ref sig .tc := ⟨.hbm, 62, rfl⟩
abbrev main_call1_v3 : Ref sig .tc := ⟨.hbm, 63, rfl⟩
abbrev main_call1_v4 : Ref sig .tc := ⟨.hbm, 64, rfl⟩
abbrev main_call1_cst_0 : Ref sig .tc := ⟨.hbm, 65, rfl⟩
abbrev main_call1_v5 : Ref sig .tc := ⟨.hbm, 66, rfl⟩
abbrev main_call1_v6 : Ref sig .tc := ⟨.hbm, 67, rfl⟩
abbrev main_call1_v7 : Ref sig .tc := ⟨.hbm, 68, rfl⟩
abbrev main_call1_cst_1 : Ref sig .tc := ⟨.hbm, 69, rfl⟩
abbrev main_call1_v8 : Ref sig .tc := ⟨.hbm, 70, rfl⟩
abbrev main_call1_v9 : Ref sig .tc := ⟨.hbm, 71, rfl⟩
abbrev main_call1_v10 : Ref sig .tc := ⟨.hbm, 72, rfl⟩
abbrev main_call1_v11 : Ref sig .tc := ⟨.hbm, 73, rfl⟩
abbrev main_call1_v12 : Ref sig .tc := ⟨.hbm, 74, rfl⟩
abbrev main_call1_v13 : Ref sig .tc := ⟨.hbm, 75, rfl⟩
abbrev main_call1_v14 : Ref sig .tc := ⟨.hbm, 76, rfl⟩
abbrev main_call1_v15 : Ref sig .tc := ⟨.hbm, 77, rfl⟩
abbrev main_call1_v16 : Ref sig .tc := ⟨.hbm, 78, rfl⟩
abbrev main_v33 : Ref sig .tc := ⟨.hbm, 79, rfl⟩
abbrev main_v34 : Ref sig .tc := ⟨.hbm, 80, rfl⟩
abbrev main_cst_4 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_cst_5 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_cst_6 : Ref sig .tc := ⟨.hbm, 112, rfl⟩
abbrev main_v64 : Ref sig .tc := ⟨.hbm, 113, rfl⟩
abbrev main_v65 : Ref sig .tc := ⟨.hbm, 114, rfl⟩
abbrev main_cst_7 : Ref sig .tc := ⟨.hbm, 115, rfl⟩
abbrev main_v66 : Ref sig .tc := ⟨.hbm, 116, rfl⟩
abbrev main_v67 : Ref sig .tc := ⟨.hbm, 117, rfl⟩
abbrev main_cst_8 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_cst_9 : Ref sig .tc := ⟨.hbm, 129, rfl⟩
abbrev main_v78 : Ref sig .tc := ⟨.hbm, 130, rfl⟩
abbrev main_v79 : Ref sig .tc := ⟨.hbm, 131, rfl⟩
abbrev main_cst_10 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_cst_11 : Ref sig .tc := ⟨.hbm, 141, rfl⟩
abbrev main_call2_v0 : Ref sig .tc := ⟨.hbm, 142, rfl⟩
abbrev main_call2_v1 : Ref sig .tc := ⟨.hbm, 143, rfl⟩
abbrev main_call2_v2 : Ref sig .tc := ⟨.hbm, 144, rfl⟩
abbrev main_v88 : Ref sig .tc := ⟨.hbm, 145, rfl⟩
abbrev main_v89 : Ref sig .tc := ⟨.hbm, 146, rfl⟩
abbrev main_cst_12 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_cst_13 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_cst_14 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_cst_15 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_cst_16 : Ref sig .tc := ⟨.hbm, 176, rfl⟩
abbrev main_v115 : Ref sig .tc := ⟨.hbm, 177, rfl⟩
abbrev main_c : Ref sig .tc := ⟨.hbm, 178, rfl⟩
abbrev main_v116_0 : Ref sig .tc := ⟨.hbm, 179, rfl⟩
abbrev main_v116_1 : Ref sig .tc := ⟨.hbm, 180, rfl⟩
abbrev main_v116_2 : Ref sig .tc := ⟨.hbm, 181, rfl⟩
abbrev main_v116_3 : Ref sig .tc := ⟨.hbm, 182, rfl⟩
abbrev main_v116_4 : Ref sig .tc := ⟨.hbm, 183, rfl⟩
abbrev main_v116_5 : Ref sig .tc := ⟨.hbm, 184, rfl⟩
abbrev main_v116_6 : Ref sig .tc := ⟨.hbm, 185, rfl⟩
abbrev main_v116_7 : Ref sig .tc := ⟨.hbm, 186, rfl⟩
abbrev main_v116_8 : Ref sig .tc := ⟨.hbm, 187, rfl⟩
abbrev main_v116_9 : Ref sig .tc := ⟨.hbm, 188, rfl⟩
abbrev main_while0c_c_29 : Ref sig .tc := ⟨.hbm, 189, rfl⟩
abbrev main_while0c_v136 : Ref sig .tc := ⟨.hbm, 190, rfl⟩
abbrev main_while0b_call3_c : Ref sig .tc := ⟨.hbm, 191, rfl⟩
abbrev main_while0b_call3_c_0 : Ref sig .tc := ⟨.hbm, 192, rfl⟩
abbrev main_while0b_call3_c_1 : Ref sig .tc := ⟨.hbm, 193, rfl⟩
abbrev main_while0b_call3_c_2 : Ref sig .tc := ⟨.hbm, 194, rfl⟩
abbrev main_while0b_call3_v0 : Ref sig .tc := ⟨.hbm, 195, rfl⟩
abbrev main_while0b_v136 : Ref sig .tc := ⟨.hbm, 196, rfl⟩
abbrev main_while0b_call4_c : Ref sig .tc := ⟨.hbm, 197, rfl⟩
abbrev main_while0b_call4_c_0 : Ref sig .tc := ⟨.hbm, 198, rfl⟩
abbrev main_while0b_call4_c_1 : Ref sig .tc := ⟨.hbm, 199, rfl⟩
abbrev main_while0b_call4_c_2 : Ref sig .tc := ⟨.hbm, 200, rfl⟩
abbrev main_while0b_call4_v0 : Ref sig .tc := ⟨.hbm, 201, rfl⟩
abbrev main_while0b_v137 : Ref sig .tc := ⟨.hbm, 202, rfl⟩
abbrev main_while0b_call5_c : Ref sig .tc := ⟨.hbm, 203, rfl⟩
abbrev main_while0b_call5_c_0 : Ref sig .tc := ⟨.hbm, 204, rfl⟩
abbrev main_while0b_call5_c_1 : Ref sig .tc := ⟨.hbm, 205, rfl⟩
abbrev main_while0b_call5_c_2 : Ref sig .tc := ⟨.hbm, 206, rfl⟩
abbrev main_while0b_call5_v0 : Ref sig .tc := ⟨.hbm, 207, rfl⟩
abbrev main_while0b_v138 : Ref sig .tc := ⟨.hbm, 208, rfl⟩
abbrev main_while0b_v139 : Ref sig .tc := ⟨.hbm, 209, rfl⟩
abbrev main_while0b_v140 : Ref sig .tc := ⟨.hbm, 210, rfl⟩
abbrev main_while0b_v141 : Ref sig .tc := ⟨.hbm, 211, rfl⟩
abbrev main_while0b_v142 : Ref sig .tc := ⟨.hbm, 212, rfl⟩
abbrev main_while0b_v143 : Ref sig .tc := ⟨.hbm, 213, rfl⟩
abbrev main_while0b_v144 : Ref sig .tc := ⟨.hbm, 214, rfl⟩
abbrev main_while0b_v145 : Ref sig .tc := ⟨.hbm, 215, rfl⟩
abbrev main_while0b_v146 : Ref sig .tc := ⟨.hbm, 216, rfl⟩
abbrev main_while0b_v147 : Ref sig .tc := ⟨.hbm, 217, rfl⟩
abbrev main_while0b_v148 : Ref sig .tc := ⟨.hbm, 218, rfl⟩
abbrev main_while0b_v149 : Ref sig .tc := ⟨.hbm, 219, rfl⟩
abbrev main_while0b_v150 : Ref sig .tc := ⟨.hbm, 220, rfl⟩
abbrev main_while0b_v151 : Ref sig .tc := ⟨.hbm, 221, rfl⟩
abbrev main_while0b_v152 : Ref sig .tc := ⟨.hbm, 222, rfl⟩
abbrev main_while0b_v153 : Ref sig .tc := ⟨.hbm, 223, rfl⟩
abbrev main_while0b_v154 : Ref sig .tc := ⟨.hbm, 224, rfl⟩
abbrev main_while0b_v155 : Ref sig .tc := ⟨.hbm, 225, rfl⟩
abbrev main_while0b_v156 : Ref sig .tc := ⟨.hbm, 226, rfl⟩
abbrev main_while0b_v157 : Ref sig .tc := ⟨.hbm, 227, rfl⟩
abbrev main_while0b_v158 : Ref sig .tc := ⟨.hbm, 228, rfl⟩
abbrev main_while0b_call6_v0 : Ref sig .tc := ⟨.hbm, 229, rfl⟩
abbrev main_while0b_call6_c : Ref sig .tc := ⟨.hbm, 230, rfl⟩
abbrev main_while0b_call6_c_0 : Ref sig .tc := ⟨.hbm, 231, rfl⟩
abbrev main_while0b_call6_c_1 : Ref sig .tc := ⟨.hbm, 232, rfl⟩
abbrev main_while0b_call6_c_2 : Ref sig .tc := ⟨.hbm, 233, rfl⟩
abbrev main_while0b_v159 : Ref sig .tc := ⟨.hbm, 234, rfl⟩
abbrev main_while0b_c_29 : Ref sig .tc := ⟨.hbm, 235, rfl⟩
abbrev main_while0b_v160 : Ref sig .tc := ⟨.hbm, 236, rfl⟩
abbrev main_v117 : Ref sig .tc := ⟨.hbm, 237, rfl⟩
abbrev main_v118 : Ref sig .tc := ⟨.hbm, 238, rfl⟩
abbrev main_v119 : Ref sig .tc := ⟨.hbm, 239, rfl⟩
abbrev main_cst_17 : Ref sig .tc := ⟨.hbm, 240, rfl⟩
abbrev main_v120 : Ref sig .tc := ⟨.hbm, 241, rfl⟩
abbrev main_v121 : Ref sig .tc := ⟨.hbm, 242, rfl⟩
abbrev main_cst_18 : Ref sig .tc := ⟨.hbm, 243, rfl⟩
abbrev main_v122 : Ref sig .tc := ⟨.hbm, 244, rfl⟩
abbrev main_v123 : Ref sig .tc := ⟨.hbm, 245, rfl⟩
abbrev main_cst_19 : Ref sig .tc := ⟨.hbm, 246, rfl⟩
abbrev main_v124 : Ref sig .tc := ⟨.hbm, 247, rfl⟩
abbrev main_v125 : Ref sig .tc := ⟨.hbm, 248, rfl⟩
abbrev main_v126 : Ref sig .tc := ⟨.hbm, 249, rfl⟩
abbrev main_v127 : Ref sig .tc := ⟨.hbm, 250, rfl⟩
abbrev main_v128 : Ref sig .tc := ⟨.hbm, 251, rfl⟩
abbrev main_v129 : Ref sig .tc := ⟨.hbm, 252, rfl⟩
abbrev main_v130 : Ref sig .tc := ⟨.hbm, 253, rfl⟩
abbrev main_v131 : Ref sig .tc := ⟨.hbm, 254, rfl⟩
abbrev main_call7_v0 : Ref sig .tc := ⟨.hbm, 255, rfl⟩
abbrev main_call7_v1 : Ref sig .tc := ⟨.hbm, 256, rfl⟩
abbrev main_call7_cst : Ref sig .tc := ⟨.hbm, 257, rfl⟩
abbrev main_call7_v2 : Ref sig .tc := ⟨.hbm, 258, rfl⟩
abbrev main_call7_v3 : Ref sig .tc := ⟨.hbm, 259, rfl⟩
abbrev main_call7_cst_0 : Ref sig .tc := ⟨.hbm, 260, rfl⟩
abbrev main_call7_v4 : Ref sig .tc := ⟨.hbm, 261, rfl⟩
abbrev main_call7_v5 : Ref sig .tc := ⟨.hbm, 262, rfl⟩
abbrev main_v132 : Ref sig .tc := ⟨.hbm, 263, rfl⟩
abbrev main_v133 : Ref sig .tc := ⟨.hbm, 264, rfl⟩
abbrev main_v134 : Ref sig .tc := ⟨.hbm, 265, rfl⟩
abbrev main_v135 : Ref sig .tc := ⟨.hbm, 266, rfl⟩

abbrev nD : Nat := 1
abbrev τ : Topo := Topo.v7x

variable {F : FTy → Type} [FloatOps F]

abbrev main_while0_count : Scf.Loop 32 := ⟨0#32, 16#32, 1#32⟩
-- ==== Kernel2.lean ====
abbrev S16384x1024 : Shape := ⟨2, ![16384, 1024]⟩
abbrev S16384x384 : Shape := ⟨2, ![16384, 384]⟩
abbrev S16384x256 : Shape := ⟨2, ![16384, 256]⟩
abbrev S1024x1024 : Shape := ⟨2, ![1024, 1024]⟩
abbrev S1024 : Shape := ⟨1, ![1024]⟩
abbrev S1024x2752 : Shape := ⟨2, ![1024, 2752]⟩
abbrev S2752x1024 : Shape := ⟨2, ![2752, 1024]⟩
abbrev S384x1024 : Shape := ⟨2, ![384, 1024]⟩
abbrev S256x1024 : Shape := ⟨2, ![256, 1024]⟩
abbrev S1x1024 : Shape := ⟨2, ![1, 1024]⟩
abbrev S_ : Shape := ⟨0, ![]⟩
abbrev S1024x2816 : Shape := ⟨2, ![1024, 2816]⟩
abbrev S2816x1024 : Shape := ⟨2, ![2816, 1024]⟩
abbrev S1024x384 : Shape := ⟨2, ![1024, 384]⟩
abbrev S1024x256 : Shape := ⟨2, ![1024, 256]⟩
abbrev S1024x1 : Shape := ⟨2, ![1024, 1]⟩

abbrev nBuf : Space → Nat
  | .hbm => 29
  | .vmem => 23
  | .smem => 0
  | _ => 0

abbrev bufTy : (tb : Table) → Fin (tcTables nBuf tb) → BufTy
  | .hbm, ⟨0, _⟩ => ⟨S16384x1024, .f32⟩
  | .hbm, ⟨1, _⟩ => ⟨S16384x384, .bf16⟩
  | .hbm, ⟨2, _⟩ => ⟨S16384x384, .bf16⟩
  | .hbm, ⟨3, _⟩ => ⟨S16384x256, .bf16⟩
  | .hbm, ⟨4, _⟩ => ⟨S1024x1024, .f32⟩
  | .hbm, ⟨5, _⟩ => ⟨S1024, .f32⟩
  | .hbm, ⟨6, _⟩ => ⟨S1024x2752, .f32⟩
  | .hbm, ⟨7, _⟩ => ⟨S1024x2752, .f32⟩
  | .hbm, ⟨8, _⟩ => ⟨S2752x1024, .f32⟩
  | .hbm, ⟨9, _⟩ => ⟨S1024, .f32⟩
  | .hbm, ⟨10, _⟩ => ⟨S1024x1024, .bf16⟩
  | .hbm, ⟨11, _⟩ => ⟨S384x1024, .bf16⟩
  | .hbm, ⟨12, _⟩ => ⟨S384x1024, .bf16⟩
  | .hbm, ⟨13, _⟩ => ⟨S256x1024, .bf16⟩
  | .hbm, ⟨14, _⟩ => ⟨S1x1024, .f32⟩
  | .hbm, ⟨15, _⟩ => ⟨S_, .i32⟩
  | .hbm, ⟨16, _⟩ => ⟨S_, .f32⟩
  | .hbm, ⟨17, _⟩ => ⟨S1024x2816, .f32⟩
  | .hbm, ⟨18, _⟩ => ⟨S1024x2816, .bf16⟩
  | .hbm, ⟨19, _⟩ => ⟨S_, .i32⟩
  | .hbm, ⟨20, _⟩ => ⟨S_, .f32⟩
  | .hbm, ⟨21, _⟩ => ⟨S1024x2816, .f32⟩
  | .hbm, ⟨22, _⟩ => ⟨S1024x2816, .bf16⟩
  | .hbm, ⟨23, _⟩ => ⟨S_, .i32⟩
  | .hbm, ⟨24, _⟩ => ⟨S_, .f32⟩
  | .hbm, ⟨25, _⟩ => ⟨S2816x1024, .f32⟩
  | .hbm, ⟨26, _⟩ => ⟨S2816x1024, .bf16⟩
  | .hbm, ⟨27, _⟩ => ⟨S1x1024, .f32⟩
  | .hbm, ⟨28, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x384, .bf16⟩
  | .local _ .vmem, ⟨3, _⟩ => ⟨S1024x384, .bf16⟩
  | .local _ .vmem, ⟨4, _⟩ => ⟨S1024x384, .bf16⟩
  | .local _ .vmem, ⟨5, _⟩ => ⟨S1024x384, .bf16⟩
  | .local _ .vmem, ⟨6, _⟩ => ⟨S1024x256, .bf16⟩
  | .local _ .vmem, ⟨7, _⟩ => ⟨S1024x256, .bf16⟩
  | .local _ .vmem, ⟨8, _⟩ => ⟨S384x1024, .bf16⟩
  | .local _ .vmem, ⟨9, _⟩ => ⟨S384x1024, .bf16⟩
  | .local _ .vmem, ⟨10, _⟩ => ⟨S256x1024, .bf16⟩
  | .local _ .vmem, ⟨11, _⟩ => ⟨S1x1024, .f32⟩
  | .local _ .vmem, ⟨12, _⟩ => ⟨S1024x256, .bf16⟩
  | .local _ .vmem, ⟨13, _⟩ => ⟨S1024x256, .bf16⟩
  | .local _ .vmem, ⟨14, _⟩ => ⟨S1024x256, .bf16⟩
  | .local _ .vmem, ⟨15, _⟩ => ⟨S1024x256, .bf16⟩
  | .local _ .vmem, ⟨16, _⟩ => ⟨S256x1024, .bf16⟩
  | .local _ .vmem, ⟨17, _⟩ => ⟨S256x1024, .bf16⟩
  | .local _ .vmem, ⟨18, _⟩ => ⟨S1x1024, .f32⟩
  | .local _ .vmem, ⟨19, _⟩ => ⟨S1024x1024, .f32⟩
  | .local _ .vmem, ⟨20, _⟩ => ⟨S1024x1024, .f32⟩
  | .local _ .vmem, ⟨21, _⟩ => ⟨S1024x1024, .f32⟩
  | .local _ .vmem, ⟨22, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_call1_v0 : Ref sig .tc := ⟨.hbm, 20, rfl⟩
abbrev main_v7 : Ref sig .tc := ⟨.hbm, 21, rfl⟩
abbrev main_v8 : Ref sig .tc := ⟨.hbm, 22, rfl⟩
abbrev main_c_1 : Ref sig .tc := ⟨.hbm, 23, rfl⟩
abbrev main_call2_v0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S384x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S384x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== Reference2Ideal.lean ====
abbrev S16384x1024 : Shape := ⟨2, ![16384, 1024]⟩
abbrev S16384x384 : Shape := ⟨2, ![16384, 384]⟩
abbrev S16384x256 : Shape := ⟨2, ![16384, 256]⟩
abbrev S1024x1024 : Shape := ⟨2, ![1024, 1024]⟩
abbrev S1024 : Shape := ⟨1, ![1024]⟩
abbrev S1024x2752 : Shape := ⟨2, ![1024, 2752]⟩
abbrev S2752x1024 : Shape := ⟨2, ![2752, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2752 : Shape := ⟨2, ![16384, 2752]⟩

abbrev nBuf : Space → Nat
  | .hbm => 63
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x384, .bf16⟩
  | .hbm, ⟨2, _⟩ => ⟨S16384x384, .bf16⟩
  | .hbm, ⟨3, _⟩ => ⟨S16384x256, .bf16⟩
  | .hbm, ⟨4, _⟩ => ⟨S1024x1024, .f32⟩
  | .hbm, ⟨5, _⟩ => ⟨S1024, .f32⟩
  | .hbm, ⟨6, _⟩ => ⟨S1024x2752, .f32⟩
  | .hbm, ⟨7, _⟩ => ⟨S1024x2752, .f32⟩
  | .hbm, ⟨8, _⟩ => ⟨S2752x1024, .f32⟩
  | .hbm, ⟨9, _⟩ => ⟨S1024, .f32⟩
  | .hbm, ⟨10, _⟩ => ⟨S16384x1024, .bf16⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S1x1024, .f32⟩
  | .hbm, ⟨28, _⟩ => ⟨S16384x1024, .f32⟩
  | .hbm, ⟨29, _⟩ => ⟨S16384x1024, .f32⟩
  | .hbm, ⟨30, _⟩ => ⟨S16384x2752, .f32⟩
  | .hbm, ⟨31, _⟩ => ⟨S16384x2752, .f32⟩
  | .hbm, ⟨32, _⟩ => ⟨S16384x2752, .f32⟩
  | .hbm, ⟨33, _⟩ => ⟨S_, .f32⟩
  | .hbm, ⟨34, _⟩ => ⟨S16384x2752, .f32⟩
  | .hbm, ⟨35, _⟩ => ⟨S16384x2752, .f32⟩
  | .hbm, ⟨36, _⟩ => ⟨S_, .f32⟩
  | .hbm, ⟨37, _⟩ => ⟨S16384x2752, .f32⟩
  | .hbm, ⟨38, _⟩ => ⟨S16384x2752, .f32⟩
  | .hbm, ⟨39, _⟩ => ⟨S16384x2752, .f32⟩
  | .hbm, ⟨40, _⟩ => ⟨S16384x2752, .f32⟩
  | .hbm, ⟨41, _⟩ => ⟨S16384x2752, .f32⟩
  | .hbm, ⟨42, _⟩ => ⟨S16384x1024, .f32⟩
  | .hbm, ⟨43, _⟩ => ⟨S_, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S_, .f32⟩
  | .hbm, ⟨49, _⟩ => ⟨S16384, .f32⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S_, .f32⟩
  | .hbm, ⟨55, _⟩ => ⟨S16384x1, .f32⟩
  | .hbm, ⟨56, _⟩ => ⟨S16384x1, .f32⟩
  | .hbm, ⟨57, _⟩ => ⟨S16384x1, .f32⟩
  | .hbm, ⟨58, _⟩ => ⟨S16384x1024, .f32⟩
  | .hbm, ⟨59, _⟩ => ⟨S16384x1024, .f32⟩
  | .hbm, ⟨60, _⟩ => ⟨S1x1024, .f32⟩
  | .hbm, ⟨61, _⟩ => ⟨S16384x1024, .f32⟩
  | .hbm, ⟨62, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_2 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_3 : Ref sig .tc := ⟨.hbm, 48, rfl⟩
abbrev main_v26 : Ref sig .tc := ⟨.hbm, 49, rfl⟩
abbrev main_v27 : Ref sig .tc := ⟨.hbm, 50, rfl⟩
abbrev main_cst_4 : Ref sig .tc := ⟨.hbm, 51, rfl⟩
abbrev main_v28 : Ref sig .tc := ⟨.hbm, 52, rfl⟩
abbrev main_v29 : Ref sig .tc := ⟨.hbm, 53, rfl⟩
abbrev main_cst_5 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩

abbrev nD : Nat := 1
abbrev τ : Topo := Topo.v7x

variable {F : FTy → Type} [FloatOps F]
-- ==== Kernel3.lean ====
abbrev S16384x1024 : Shape := ⟨2, ![16384, 1024]⟩
abbrev S1024 : Shape := ⟨1, ![1024]⟩
abbrev S1024x2752 : Shape := ⟨2, ![1024, 2752]⟩
abbrev S2752x1024 : Shape := ⟨2, ![2752, 1024]⟩
abbrev S1x1024 : Shape := ⟨2, ![1, 1024]⟩
abbrev S_ : Shape := ⟨0, ![]⟩
abbrev S1024x2816 : Shape := ⟨2, ![1024, 2816]⟩
abbrev S2816x1024 : Shape := ⟨2, ![2816, 1024]⟩
abbrev S1024x1024 : Shape := ⟨2, ![1024, 1024]⟩
abbrev S1024x256 : Shape := ⟨2, ![1024, 256]⟩
abbrev S256x1024 : Shape := ⟨2, ![256, 1024]⟩
abbrev S1024x1 : Shape := ⟨2, ![1024, 1]⟩

abbrev nBuf : Space → Nat
  | .hbm => 19
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2752, .f32⟩
  | .hbm, ⟨3, _⟩ => ⟨S1024x2752, .f32⟩
  | .hbm, ⟨4, _⟩ => ⟨S2752x1024, .f32⟩
  | .hbm, ⟨5, _⟩ => ⟨S1x1024, .f32⟩
  | .hbm, ⟨6, _⟩ => ⟨S_, .i32⟩
  | .hbm, ⟨7, _⟩ => ⟨S_, .f32⟩
  | .hbm, ⟨8, _⟩ => ⟨S1024x2816, .f32⟩
  | .hbm, ⟨9, _⟩ => ⟨S1024x2816, .bf16⟩
  | .hbm, ⟨10, _⟩ => ⟨S_, .i32⟩
  | .hbm, ⟨11, _⟩ => ⟨S_, .f32⟩
  | .hbm, ⟨12, _⟩ => ⟨S1024x2816, .f32⟩
  | .hbm, ⟨13, _⟩ => ⟨S1024x2816, .bf16⟩
  | .hbm, ⟨14, _⟩ => ⟨S_, .i32⟩
  | .hbm, ⟨15, _⟩ => ⟨S_, .f32⟩
  | .hbm, ⟨16, _⟩ => ⟨S2816x1024, .f32⟩
  | .hbm, ⟨17, _⟩ => ⟨S2816x1024, .bf16⟩
  | .hbm, ⟨18, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S256x1024, .bf16⟩
  | .local _ .vmem, ⟨8, _⟩ => ⟨S256x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_call2_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference3Ideal.lean ====
abbrev S16384x1024 : Shape := ⟨2, ![16384, 1024]⟩
abbrev S1024 : Shape := ⟨1, ![1024]⟩
abbrev S1024x2752 : Shape := ⟨2, ![1024, 2752]⟩
abbrev S2752x1024 : Shape := ⟨2, ![2752, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2752 : Shape := ⟨2, ![16384, 2752]⟩

abbrev nBuf : Space → Nat
  | .hbm => 38
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2752, .f32⟩
  | .hbm, ⟨3, _⟩ => ⟨S1024x2752, .f32⟩
  | .hbm, ⟨4, _⟩ => ⟨S2752x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x2752, .f32⟩
  | .hbm, ⟨22, _⟩ => ⟨S16384x2752, .f32⟩
  | .hbm, ⟨23, _⟩ => ⟨S16384x2752, .f32⟩
  | .hbm, ⟨24, _⟩ => ⟨S_, .f32⟩
  | .hbm, ⟨25, _⟩ => ⟨S16384x2752, .f32⟩
  | .hbm, ⟨26, _⟩ => ⟨S16384x2752, .f32⟩
  | .hbm, ⟨27, _⟩ => ⟨S_, .f32⟩
  | .hbm, ⟨28, _⟩ => ⟨S16384x2752, .f32⟩
  | .hbm, ⟨29, _⟩ => ⟨S16384x2752, .f32⟩
  | .hbm, ⟨30, _⟩ => ⟨S16384x2752, .f32⟩
  | .hbm, ⟨31, _⟩ => ⟨S16384x2752, .f32⟩
  | .hbm, ⟨32, _⟩ => ⟨S16384x2752, .f32⟩
  | .hbm, ⟨33, _⟩ => ⟨S16384x1024, .f32⟩
  | .hbm, ⟨34, _⟩ => ⟨S_, .f32⟩
  | .hbm, ⟨35, _⟩ => ⟨S16384x1024, .f32⟩
  | .hbm, ⟨36, _⟩ => ⟨S16384x1024, .f32⟩
  | .hbm, ⟨37, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩

abbrev nD : Nat := 1
abbrev τ : Topo := Topo.v7x

variable {F : FTy → Type} [FloatOps F]
-- ==== Kernel4.lean ====
abbrev S16384x1024 : Shape := ⟨2, ![16384, 1024]⟩
abbrev S16384x384 : Shape := ⟨2, ![16384, 384]⟩
abbrev S16384x256 : Shape := ⟨2, ![16384, 256]⟩
abbrev S1024x1024 : Shape := ⟨2, ![1024, 1024]⟩
abbrev S1024 : Shape := ⟨1, ![1024]⟩
abbrev S1024x2752 : Shape := ⟨2, ![1024, 2752]⟩
abbrev S2752x1024 : Shape := ⟨2, ![2752, 1024]⟩
abbrev S384x1024 : Shape := ⟨2, ![384, 1024]⟩
abbrev S256x1024 : Shape := ⟨2, ![256, 1024]⟩
abbrev S1x1024 : Shape := ⟨2, ![1, 1024]⟩
abbrev S_ : Shape := ⟨0, ![]⟩
abbrev S1024x2816 : Shape := ⟨2, ![1024, 2816]⟩
abbrev S2816x1024 : Shape := ⟨2, ![2816, 1024]⟩
abbrev S1024x384 : Shape := ⟨2, ![1024, 384]⟩
abbrev S1024x256 : Shape := ⟨2, ![1024, 256]⟩
abbrev S1024x1 : Shape := ⟨2, ![1024, 1]⟩

abbrev nBuf : Space → Nat
  | .hbm => 27
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S16384x384, .bf16⟩
  | .hbm, ⟨2, _⟩ => ⟨S16384x384, .bf16⟩
  | .hbm, ⟨3, _⟩ => ⟨S16384x256, .bf16⟩
  | .hbm, ⟨4, _⟩ => ⟨S1024x1024, .f32⟩
  | .hbm, ⟨5, _⟩ => ⟨S1024, .f32⟩
  | .hbm, ⟨6, _⟩ => ⟨S1024x2752, .f32⟩
  | .hbm, ⟨7, _⟩ => ⟨S1024x2752, .f32⟩
  | .hbm, ⟨8, _⟩ => ⟨S2752x1024, .f32⟩
  | .hbm, ⟨9, _⟩ => ⟨S1024x1024, .bf16⟩
  | .hbm, ⟨10, _⟩ => ⟨S384x1024, .bf16⟩
  | .hbm, ⟨11, _⟩ => ⟨S384x1024, .bf16⟩
  | .hbm, ⟨12, _⟩ => ⟨S256x1024, .bf16⟩
  | .hbm, ⟨13, _⟩ => ⟨S1x1024, .f32⟩
  | .hbm, ⟨14, _⟩ => ⟨S_, .i32⟩
  | .hbm, ⟨15, _⟩ => ⟨S_, .f32⟩
  | .hbm, ⟨16, _⟩ => ⟨S1024x2816, .f32⟩
  | .hbm, ⟨17, _⟩ => ⟨S1024x2816, .bf16⟩
  | .hbm, ⟨18, _⟩ => ⟨S_, .i32⟩
  | .hbm, ⟨19, _⟩ => ⟨S_, .f32⟩
  | .hbm, ⟨20, _⟩ => ⟨S1024x2816, .f32⟩
  | .hbm, ⟨21, _⟩ => ⟨S1024x2816, .bf16⟩
  | .hbm, ⟨22, _⟩ => ⟨S_, .i32⟩
  | .hbm, ⟨23, _⟩ => ⟨S_, .f32⟩
  | .hbm, ⟨24, _⟩ => ⟨S2816x1024, .f32⟩
  | .hbm, ⟨25, _⟩ => ⟨S2816x1024, .bf16⟩
  | .hbm, ⟨26, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x384, .bf16⟩
  | .local _ .vmem, ⟨3, _⟩ => ⟨S1024x384, .bf16⟩
  | .local _ .vmem, ⟨4, _⟩ => ⟨S1024x384, .bf16⟩
  | .local _ .vmem, ⟨5, _⟩ => ⟨S1024x384, .bf16⟩
  | .local _ .vmem, ⟨6, _⟩ => ⟨S1024x256, .bf16⟩
  | .local _ .vmem, ⟨7, _⟩ => ⟨S1024x256, .bf16⟩
  | .local _ .vmem, ⟨8, _⟩ => ⟨S384x1024, .bf16⟩
  | .local _ .vmem, ⟨9, _⟩ => ⟨S384x1024, .bf16⟩
  | .local _ .vmem, ⟨10, _⟩ => ⟨S256x1024, .bf16⟩
  | .local _ .vmem, ⟨11, _⟩ => ⟨S1x1024, .f32⟩
  | .local _ .vmem, ⟨12, _⟩ => ⟨S1024x256, .bf16⟩
  | .local _ .vmem, ⟨13, _⟩ => ⟨S1024x256, .bf16⟩
  | .local _ .vmem, ⟨14, _⟩ => ⟨S1024x256, .bf16⟩
  | .local _ .vmem, ⟨15, _⟩ => ⟨S1024x256, .bf16⟩
  | .local _ .vmem, ⟨16, _⟩ => ⟨S256x1024, .bf16⟩
  | .local _ .vmem, ⟨17, _⟩ => ⟨S256x1024, .bf16⟩
  | .local _ .vmem, ⟨18, _⟩ => ⟨S1024x1024, .f32⟩
  | .local _ .vmem, ⟨19, _⟩ => ⟨S1024x1024, .f32⟩
  | .local _ .vmem, ⟨20, _⟩ => ⟨S1024x1024, .f32⟩
  | .local _ .vmem, ⟨21, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_call1_v0 : Ref sig .tc := ⟨.hbm, 19, rfl⟩
abbrev main_v7 : Ref sig .tc := ⟨.hbm, 20, rfl⟩
abbrev main_v8 : Ref sig .tc := ⟨.hbm, 21, rfl⟩
abbrev main_c_1 : Ref sig .tc := ⟨.hbm, 22, rfl⟩
abbrev main_call2_v0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S384x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S384x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Reference4Ideal.lean ====
abbrev S16384x1024 : Shape := ⟨2, ![16384, 1024]⟩
abbrev S16384x384 : Shape := ⟨2, ![16384, 384]⟩
abbrev S16384x256 : Shape := ⟨2, ![16384, 256]⟩
abbrev S1024x1024 : Shape := ⟨2, ![1024, 1024]⟩
abbrev S1024 : Shape := ⟨1, ![1024]⟩
abbrev S1024x2752 : Shape := ⟨2, ![1024, 2752]⟩
abbrev S2752x1024 : Shape := ⟨2, ![2752, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2752 : Shape := ⟨2, ![16384, 2752]⟩

abbrev nBuf : Space → Nat
  | .hbm => 46
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x384, .bf16⟩
  | .hbm, ⟨2, _⟩ => ⟨S16384x384, .bf16⟩
  | .hbm, ⟨3, _⟩ => ⟨S16384x256, .bf16⟩
  | .hbm, ⟨4, _⟩ => ⟨S1024x1024, .f32⟩
  | .hbm, ⟨5, _⟩ => ⟨S1024, .f32⟩
  | .hbm, ⟨6, _⟩ => ⟨S1024x2752, .f32⟩
  | .hbm, ⟨7, _⟩ => ⟨S1024x2752, .f32⟩
  | .hbm, ⟨8, _⟩ => ⟨S2752x1024, .f32⟩
  | .hbm, ⟨9, _⟩ => ⟨S16384x1024, .bf16⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S16384x2752, .f32⟩
  | .hbm, ⟨30, _⟩ => ⟨S16384x2752, .f32⟩
  | .hbm, ⟨31, _⟩ => ⟨S16384x2752, .f32⟩
  | .hbm, ⟨32, _⟩ => ⟨S_, .f32⟩
  | .hbm, ⟨33, _⟩ => ⟨S16384x2752, .f32⟩
  | .hbm, ⟨34, _⟩ => ⟨S16384x2752, .f32⟩
  | .hbm, ⟨35, _⟩ => ⟨S_, .f32⟩
  | .hbm, ⟨36, _⟩ => ⟨S16384x2752, .f32⟩
  | .hbm, ⟨37, _⟩ => ⟨S16384x2752, .f32⟩
  | .hbm, ⟨38, _⟩ => ⟨S16384x2752, .f32⟩
  | .hbm, ⟨39, _⟩ => ⟨S16384x2752, .f32⟩
  | .hbm, ⟨40, _⟩ => ⟨S16384x2752, .f32⟩
  | .hbm, ⟨41, _⟩ => ⟨S16384x1024, .f32⟩
  | .hbm, ⟨42, _⟩ => ⟨S_, .f32⟩
  | .hbm, ⟨43, _⟩ => ⟨S16384x1024, .f32⟩
  | .hbm, ⟨44, _⟩ => ⟨S16384x1024, .f32⟩
  | .hbm, ⟨45, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_2 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩

abbrev nD : Nat := 1
abbrev τ : Topo := Topo.v7x

variable {F : FTy → Type} [FloatOps F]
-- ==== Kernel5.lean ====
abbrev S16384x1024 : Shape := ⟨2, ![16384, 1024]⟩
abbrev S1024 : Shape := ⟨1, ![1024]⟩
abbrev S1024x3712 : Shape := ⟨2, ![1024, 3712]⟩
abbrev S1x1024 : Shape := ⟨2, ![1, 1024]⟩
abbrev S16384x1152 : Shape := ⟨2, ![16384, 1152]⟩
abbrev S16384x256 : Shape := ⟨2, ![16384, 256]⟩
abbrev S16384x384 : Shape := ⟨2, ![16384, 384]⟩
abbrev S16384x512 : Shape := ⟨2, ![16384, 512]⟩
abbrev S512x1024 : Shape := ⟨2, ![512, 1024]⟩
abbrev S512x1152 : Shape := ⟨2, ![512, 1152]⟩
abbrev S512x256 : Shape := ⟨2, ![512, 256]⟩
abbrev S512x384 : Shape := ⟨2, ![512, 384]⟩
abbrev S512x512 : Shape := ⟨2, ![512, 512]⟩
abbrev S512 : Shape := ⟨1, ![512]⟩
abbrev S512x1 : Shape := ⟨2, ![512, 1]⟩
abbrev S1024x384 : Shape := ⟨2, ![1024, 384]⟩
abbrev S1024x256 : Shape := ⟨2, ![1024, 256]⟩

abbrev nBuf : Space → Nat
  | .hbm => 11
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3712, .f32⟩
  | .hbm, ⟨3, _⟩ => ⟨S1x1024, .f32⟩
  | .hbm, ⟨4, _⟩ => ⟨S1024x3712, .bf16⟩
  | .hbm, ⟨5, _⟩ => ⟨S16384x1152, .f32⟩
  | .hbm, ⟨6, _⟩ => ⟨S16384x256, .f32⟩
  | .hbm, ⟨7, _⟩ => ⟨S16384x384, .f32⟩
  | .hbm, ⟨8, _⟩ => ⟨S16384x512, .f32⟩
  | .hbm, ⟨9, _⟩ => ⟨S16384x384, .f32⟩
  | .hbm, ⟨10, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3712, .bf16⟩
  | .local _ .vmem, ⟨4, _⟩ => ⟨S512x1152, .f32⟩
  | .local _ .vmem, ⟨5, _⟩ => ⟨S512x1152, .f32⟩
  | .local _ .vmem, ⟨6, _⟩ => ⟨S512x256, .f32⟩
  | .local _ .vmem, ⟨7, _⟩ => ⟨S512x256, .f32⟩
  | .local _ .vmem, ⟨8, _⟩ => ⟨S512x384, .f32⟩
  | .local _ .vmem, ⟨9, _⟩ => ⟨S512x384, .f32⟩
  | .local _ .vmem, ⟨10, _⟩ => ⟨S512x512, .f32⟩
  | .local _ .vmem, ⟨11, _⟩ => ⟨S512x512, .f32⟩
  | .local _ .vmem, ⟨12, _⟩ => ⟨S512x384, .f32⟩
  | .local _ .vmem, ⟨13, _⟩ => ⟨S512x384, .f32⟩
  | .local _ .vmem, ⟨14, _⟩ => ⟨S512x1024, .f32⟩
  | .local _ .vmem, ⟨15, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev main_v2_5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3712 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference5Ideal.lean ====
abbrev S16384x1024 : Shape := ⟨2, ![16384, 1024]⟩
abbrev S1024 : Shape := ⟨1, ![1024]⟩
abbrev S1024x3712 : Shape := ⟨2, ![1024, 3712]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3712 : Shape := ⟨2, ![16384, 3712]⟩
abbrev S16384x1152 : Shape := ⟨2, ![16384, 1152]⟩
abbrev S16384x256 : Shape := ⟨2, ![16384, 256]⟩
abbrev S16384x384 : Shape := ⟨2, ![16384, 384]⟩
abbrev S16384x512 : Shape := ⟨2, ![16384, 512]⟩

abbrev nBuf : Space → Nat
  | .hbm => 26
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3712, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x3712, .f32⟩
  | .hbm, ⟨20, _⟩ => ⟨S16384x1152, .f32⟩
  | .hbm, ⟨21, _⟩ => ⟨S16384x256, .f32⟩
  | .hbm, ⟨22, _⟩ => ⟨S16384x384, .f32⟩
  | .hbm, ⟨23, _⟩ => ⟨S16384x512, .f32⟩
  | .hbm, ⟨24, _⟩ => ⟨S16384x384, .f32⟩
  | .hbm, ⟨25, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Kernel6.lean ====
abbrev S16384x1152 : Shape := ⟨2, ![16384, 1152]⟩
abbrev S16384x256 : Shape := ⟨2, ![16384, 256]⟩
abbrev S16384x384 : Shape := ⟨2, ![16384, 384]⟩
abbrev S1280 : Shape := ⟨1, ![1280]⟩
abbrev S16 : Shape := ⟨1, ![16]⟩
abbrev S384 : Shape := ⟨1, ![384]⟩
abbrev S32x384 : Shape := ⟨2, ![32, 384]⟩
abbrev S64x384 : Shape := ⟨2, ![64, 384]⟩
abbrev S16x384 : Shape := ⟨2, ![16, 384]⟩
abbrev S_ : Shape := ⟨0, ![]⟩
abbrev S128x1152 : Shape := ⟨2, ![128, 1152]⟩
abbrev S1 : Shape := ⟨1, ![1]⟩
abbrev S2 : Shape := ⟨1, ![2]⟩
abbrev S128 : Shape := ⟨1, ![128]⟩
abbrev S384x1 : Shape := ⟨2, ![384, 1]⟩
abbrev S1x384 : Shape := ⟨2, ![1, 384]⟩
abbrev S384x384 : Shape := ⟨2, ![384, 384]⟩
abbrev S1152 : Shape := ⟨1, ![1152]⟩
abbrev S1x1152 : Shape := ⟨2, ![1, 1152]⟩
abbrev S256 : Shape := ⟨1, ![256]⟩
abbrev S1x256 : Shape := ⟨2, ![1, 256]⟩
abbrev S128x384 : Shape := ⟨2, ![128, 384]⟩
abbrev S256x1152 : Shape := ⟨2, ![256, 1152]⟩
abbrev S256x256 : Shape := ⟨2, ![256, 256]⟩
abbrev S256x384 : Shape := ⟨2, ![256, 384]⟩
abbrev S8x1152 : Shape := ⟨2, ![8, 1152]⟩
abbrev S8x256 : Shape := ⟨2, ![8, 256]⟩
abbrev S256x128 : Shape := ⟨2, ![256, 128]⟩

abbrev nBuf : Space → Nat
  | .hbm => 102
  | .vmem => 32
  | .smem => 0
  | _ => 0

abbrev bufTy : (tb : Table) → Fin (tcTables nBuf tb) → BufTy
  | .hbm, ⟨0, _⟩ => ⟨S16384x1152, .f32⟩
  | .hbm, ⟨1, _⟩ => ⟨S16384x256, .f32⟩
  | .hbm, ⟨2, _⟩ => ⟨S16384x384, .f32⟩
  | .hbm, ⟨3, _⟩ => ⟨S1280, .f32⟩
  | .hbm, ⟨4, _⟩ => ⟨S16, .f32⟩
  | .hbm, ⟨5, _⟩ => ⟨S384, .f32⟩
  | .hbm, ⟨6, _⟩ => ⟨S32x384, .f32⟩
  | .hbm, ⟨7, _⟩ => ⟨S384, .f32⟩
  | .hbm, ⟨8, _⟩ => ⟨S32x384, .f32⟩
  | .hbm, ⟨9, _⟩ => ⟨S64x384, .f32⟩
  | .hbm, ⟨10, _⟩ => ⟨S384, .f32⟩
  | .hbm, ⟨11, _⟩ => ⟨S384, .f32⟩
  | .hbm, ⟨12, _⟩ => ⟨S384, .f32⟩
  | .hbm, ⟨13, _⟩ => ⟨S16x384, .f32⟩
  | .hbm, ⟨14, _⟩ => ⟨S_, .f32⟩
  | .hbm, ⟨15, _⟩ => ⟨S128x1152, .f32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S2, .i32⟩
  | .hbm, ⟨21, _⟩ => ⟨S128x1152, .f32⟩
  | .hbm, ⟨22, _⟩ => ⟨S_, .i32⟩
  | .hbm, ⟨23, _⟩ => ⟨S1, .i32⟩
  | .hbm, ⟨24, _⟩ => ⟨S_, .i32⟩
  | .hbm, ⟨25, _⟩ => ⟨S1, .i32⟩
  | .hbm, ⟨26, _⟩ => ⟨S2, .i32⟩
  | .hbm, ⟨27, _⟩ => ⟨S128x1152, .f32⟩
  | .hbm, ⟨28, _⟩ => ⟨S_, .i32⟩
  | .hbm, ⟨29, _⟩ => ⟨S1, .i32⟩
  | .hbm, ⟨30, _⟩ => ⟨S_, .i32⟩
  | .hbm, ⟨31, _⟩ => ⟨S1, .i32⟩
  | .hbm, ⟨32, _⟩ => ⟨S2, .i32⟩
  | .hbm, ⟨33, _⟩ => ⟨S128x1152, .f32⟩
  | .hbm, ⟨34, _⟩ => ⟨S_, .i32⟩
  | .hbm, ⟨35, _⟩ => ⟨S_, .f32⟩
  | .hbm, ⟨36, _⟩ => ⟨S128, .f32⟩
  | .hbm, ⟨37, _⟩ => ⟨S384, .i32⟩
  | .hbm, ⟨38, _⟩ => ⟨S384x1, .i32⟩
  | .hbm, ⟨39, _⟩ => ⟨S_, .i32⟩
  | .hbm, ⟨40, _⟩ => ⟨S_, .i32⟩
  | .hbm, ⟨41, _⟩ => ⟨S384x1, .i32⟩
  | .hbm, ⟨42, _⟩ => ⟨S384x1, .i32⟩
  | .hbm, ⟨43, _⟩ => ⟨S384x1, .i32⟩
  | .hbm, ⟨44, _⟩ => ⟨S_, .i32⟩
  | .hbm, ⟨45, _⟩ => ⟨S384x1, .i32⟩
  | .hbm, ⟨46, _⟩ => ⟨S384x1, .i1⟩
  | .hbm, ⟨47, _⟩ => ⟨S384x1, .i32⟩
  | .hbm, ⟨48, _⟩ => ⟨S384x1, .i32⟩
  | .hbm, ⟨49, _⟩ => ⟨S_, .i32⟩
  | .hbm, ⟨50, _⟩ => ⟨S384x1, .i32⟩
  | .hbm, ⟨51, _⟩ => ⟨S384x1, .i1⟩
  | .hbm, ⟨52, _⟩ => ⟨S384x1, .i1⟩
  | .hbm, ⟨53, _⟩ => ⟨S_, .i32⟩
  | .hbm, ⟨54, _⟩ => ⟨S384x1, .i32⟩
  | .hbm, ⟨55, _⟩ => ⟨S384x1, .i32⟩
  | .hbm, ⟨56, _⟩ => ⟨S384x1, .i32⟩
  | .hbm, ⟨57, _⟩ => ⟨S1x384, .i32⟩
  | .hbm, ⟨58, _⟩ => ⟨S_, .i32⟩
  | .hbm, ⟨59, _⟩ => ⟨S_, .i32⟩
  | .hbm, ⟨60, _⟩ => ⟨S1x384, .i32⟩
  | .hbm, ⟨61, _⟩ => ⟨S1x384, .i32⟩
  | .hbm, ⟨62, _⟩ => ⟨S1x384, .i32⟩
  | .hbm, ⟨63, _⟩ => ⟨S_, .i32⟩
  | .hbm, ⟨64, _⟩ => ⟨S1x384, .i32⟩
  | .hbm, ⟨65, _⟩ => ⟨S1x384, .i1⟩
  | .hbm, ⟨66, _⟩ => ⟨S1x384, .i32⟩
  | .hbm, ⟨67, _⟩ => ⟨S1x384, .i32⟩
  | .hbm, ⟨68, _⟩ => ⟨S_, .i32⟩
  | .hbm, ⟨69, _⟩ => ⟨S1x384, .i32⟩
  | .hbm, ⟨70, _⟩ => ⟨S1x384, .i1⟩
  | .hbm, ⟨71, _⟩ => ⟨S1x384, .i1⟩
  | .hbm, ⟨72, _⟩ => ⟨S_, .i32⟩
  | .hbm, ⟨73, _⟩ => ⟨S1x384, .i32⟩
  | .hbm, ⟨74, _⟩ => ⟨S1x384, .i32⟩
  | .hbm, ⟨75, _⟩ => ⟨S1x384, .i32⟩
  | .hbm, ⟨76, _⟩ => ⟨S384x384, .i32⟩
  | .hbm, ⟨77, _⟩ => ⟨S384x384, .i32⟩
  | .hbm, ⟨78, _⟩ => ⟨S384x384, .i1⟩
  | .hbm, ⟨79, _⟩ => ⟨S384x384, .bf16⟩
  | .hbm, ⟨80, _⟩ => ⟨S1152, .f32⟩
  | .hbm, ⟨81, _⟩ => ⟨S1x1152, .f32⟩
  | .hbm, ⟨82, _⟩ => ⟨S128, .f32⟩
  | .hbm, ⟨83, _⟩ => ⟨S256, .f32⟩
  | .hbm, ⟨84, _⟩ => ⟨S1x256, .f32⟩
  | .hbm, ⟨85, _⟩ => ⟨S1x384, .f32⟩
  | .hbm, ⟨86, _⟩ => ⟨S1x384, .f32⟩
  | .hbm, ⟨87, _⟩ => ⟨S128x1152, .bf16⟩
  | .hbm, ⟨88, _⟩ => ⟨S1x384, .f32⟩
  | .hbm, ⟨89, _⟩ => ⟨S1x384, .f32⟩
  | .hbm, ⟨90, _⟩ => ⟨S1x384, .f32⟩
  | .hbm, ⟨91, _⟩ => ⟨S_, .i32⟩
  | .hbm, ⟨92, _⟩ => ⟨S_, .f32⟩
  | .hbm, ⟨93, _⟩ => ⟨S128x384, .f32⟩
  | .hbm, ⟨94, _⟩ => ⟨S128x384, .bf16⟩
  | .hbm, ⟨95, _⟩ => ⟨S16384x384, .f32⟩
  | .hbm, ⟨96, _⟩ => ⟨S16384x384, .f32⟩
  | .hbm, ⟨97, _⟩ => ⟨S16384x384, .f32⟩
  | .hbm, ⟨98, _⟩ => ⟨S16384x384, .f32⟩
  | .hbm, ⟨99, _⟩ => ⟨S16384x384, .f32⟩
  | .hbm, ⟨100, _⟩ => ⟨S16384x384, .f32⟩
  | .hbm, ⟨101, _⟩ => ⟨S16384x384, .f32⟩
  | .local _ .vmem, ⟨0, _⟩ => ⟨S256x1152, .f32⟩
  | .local _ .vmem, ⟨1, _⟩ => ⟨S256x1152, .f32⟩
  | .local _ .vmem, ⟨2, _⟩ => ⟨S256x256, .f32⟩
  | .local _ .vmem, ⟨3, _⟩ => ⟨S256x256, .f32⟩
  | .local _ .vmem, ⟨4, _⟩ => ⟨S256x384, .f32⟩
  | .local _ .vmem, ⟨5, _⟩ => ⟨S256x384, .f32⟩
  | .local _ .vmem, ⟨6, _⟩ => ⟨S1x1152, .f32⟩
  | .local _ .vmem, ⟨7, _⟩ => ⟨S1x256, .f32⟩
  | .local _ .vmem, ⟨8, _⟩ => ⟨S1x384, .f32⟩
  | .local _ .vmem, ⟨9, _⟩ => ⟨S1x384, .f32⟩
  | .local _ .vmem, ⟨10, _⟩ => ⟨S128x1152, .bf16⟩
  | .local _ .vmem, ⟨11, _⟩ => ⟨S1x384, .f32⟩
  | .local _ .vmem, ⟨12, _⟩ => ⟨S1x384, .f32⟩
  | .local _ .vmem, ⟨13, _⟩ => ⟨S1x384, .f32⟩
  | .local _ .vmem, ⟨14, _⟩ => ⟨S128x384, .bf16⟩
  | .local _ .vmem, ⟨15, _⟩ => ⟨S384x384, .bf16⟩
  | .local _ .vmem, ⟨16, _⟩ => ⟨S256x384, .f32⟩
  | .local _ .vmem, ⟨17, _⟩ => ⟨S256x384, .f32⟩
  | .local _ .vmem, ⟨18, _⟩ => ⟨S256x384, .f32⟩
  | .local _ .vmem, ⟨19, _⟩ => ⟨S256x384, .f32⟩
  | .local _ .vmem, ⟨20, _⟩ => ⟨S256x384, .f32⟩
  | .local _ .vmem, ⟨21, _⟩ => ⟨S256x384, .f32⟩
  | .local _ .vmem, ⟨22, _⟩ => ⟨S256x384, .f32⟩
  | .local _ .vmem, ⟨23, _⟩ => ⟨S256x384, .f32⟩
  | .local _ .vmem, ⟨24, _⟩ => ⟨S256x384, .f32⟩
  | .local _ .vmem, ⟨25, _⟩ => ⟨S256x384, .f32⟩
  | .local _ .vmem, ⟨26, _⟩ => ⟨S256x384, .f32⟩
  | .local _ .vmem, ⟨27, _⟩ => ⟨S256x384, .f32⟩
  | .local _ .vmem, ⟨28, _⟩ => ⟨S256x384, .f32⟩
  | .local _ .vmem, ⟨29, _⟩ => ⟨S256x384, .f32⟩
  | .local _ .vmem, ⟨30, _⟩ => ⟨S8x1152, .f32⟩
  | .local _ .vmem, ⟨31, _⟩ => ⟨S8x256, .f32⟩
  | _, _ => ⟨S16384x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_c : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_c_1 : Ref sig .tc := ⟨.hbm, 22, rfl⟩
abbrev main_v5 : Ref sig .tc := ⟨.hbm, 23, rfl⟩
abbrev main_c_2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_c_3 : Ref sig .tc := ⟨.hbm, 28, rfl⟩
abbrev main_v9 : Ref sig .tc := ⟨.hbm, 29, rfl⟩
abbrev main_c_4 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_c_5 : Ref sig .tc := ⟨.hbm, 34, rfl⟩
abbrev main_call0_v0 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_c_6 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_c : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_0 : Ref sig .tc := ⟨.hbm, 53, rfl⟩
abbrev main_call1_v12 : Ref sig .tc := ⟨.hbm, 54, rfl⟩
abbrev main_call1_v13 : Ref sig .tc := ⟨.hbm, 55, rfl⟩
abbrev main_v16 : Ref sig .tc := ⟨.hbm, 56, rfl⟩
abbrev main_v17 : Ref sig .tc := ⟨.hbm, 57, rfl⟩
abbrev main_c_7 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_v5 : Ref sig .tc := ⟨.hbm, 64, rfl⟩
abbrev main_call2_v6 : Ref sig .tc := ⟨.hbm, 65, rfl⟩
abbrev main_call2_v7 : Ref sig .tc := ⟨.hbm, 66, rfl⟩
abbrev main_call2_v8 : Ref sig .tc := ⟨.hbm, 67, rfl⟩
abbrev main_call2_c : Ref sig .tc := ⟨.hbm, 68, rfl⟩
abbrev main_call2_v9 : Ref sig .tc := ⟨.hbm, 69, rfl⟩
abbrev main_call2_v10 : Ref sig .tc := ⟨.hbm, 70, rfl⟩
abbrev main_call2_v11 : Ref sig .tc := ⟨.hbm, 71, rfl⟩
abbrev main_call2_c_0 : Ref sig .tc := ⟨.hbm, 72, rfl⟩
abbrev main_call2_v12 : Ref sig .tc := ⟨.hbm, 73, rfl⟩
abbrev main_call2_v13 : Ref sig .tc := ⟨.hbm, 74, rfl⟩
abbrev main_v18 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_c_8 : Ref sig .tc := ⟨.hbm, 91, rfl⟩
abbrev main_call3_v0 : Ref sig .tc := ⟨.hbm, 92, rfl⟩
abbrev main_v34 : Ref sig .tc := ⟨.hbm, 93, rfl⟩
abbrev main_v35 : Ref sig .tc := ⟨.hbm, 94, rfl⟩
abbrev main_v36_0 : Ref sig .tc := ⟨.hbm, 95, rfl⟩
abbrev main_v36_1 : Ref sig .tc := ⟨.hbm, 96, rfl⟩
abbrev main_v36_2 : Ref sig .tc := ⟨.hbm, 97, rfl⟩
abbrev main_v36_3 : Ref sig .tc := ⟨.hbm, 98, rfl⟩
abbrev main_v36_4 : Ref sig .tc := ⟨.hbm, 99, rfl⟩
abbrev main_v36_5 : Ref sig .tc := ⟨.hbm, 100, rfl⟩
abbrev main_v36_6 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_scratch0 : Ref sig .tc := ⟨.vmem, 30, rfl⟩
abbrev cc0_scratch1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_18 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_19 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1152 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x1152 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x384 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S384x384 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S256x384 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S256x384 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S256x384 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S256x384 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S256x384 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S256x384 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S256x384 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== Reference6Ideal.lean ====
abbrev S16384x1152 : Shape := ⟨2, ![16384, 1152]⟩
abbrev S16384x256 : Shape := ⟨2, ![16384, 256]⟩
abbrev S16384x384 : Shape := ⟨2, ![16384, 384]⟩
abbrev S1280 : Shape := ⟨1, ![1280]⟩
abbrev S16 : Shape := ⟨1, ![16]⟩
abbrev S384 : Shape := ⟨1, ![384]⟩
abbrev S32x384 : Shape := ⟨2, ![32, 384]⟩
abbrev S64x384 : Shape := ⟨2, ![64, 384]⟩
abbrev S16x384 : Shape := ⟨2, ![16, 384]⟩
abbrev S16384x128 : Shape := ⟨2, ![16384, 128]⟩
abbrev S16384x1280 : Shape := ⟨2, ![16384, 1280]⟩
abbrev S8x2048x1280 : Shape := ⟨3, ![8, 2048, 1280]⟩
abbrev S16384x16 : Shape := ⟨2, ![16384, 16]⟩
abbrev S8x2048x16 : Shape := ⟨3, ![8, 2048, 16]⟩
abbrev S_ : Shape := ⟨0, ![]⟩
abbrev S8x2049x1280 : Shape := ⟨3, ![8, 2049, 1280]⟩
abbrev S1x1x1280 : Shape := ⟨3, ![1, 1, 1280]⟩
abbrev S8x2048x384 : Shape := ⟨3, ![8, 2048, 384]⟩
abbrev S8x2048x32 : Shape := ⟨3, ![8, 2048, 32]⟩
abbrev S8x2048x64 : Shape := ⟨3, ![8, 2048, 64]⟩
abbrev S8x2049x16 : Shape := ⟨3, ![8, 2049, 16]⟩
abbrev S1x1x16 : Shape := ⟨3, ![1, 1, 16]⟩
abbrev S1x1x384 : Shape := ⟨3, ![1, 1, 384]⟩

abbrev nBuf : Space → Nat
  | .hbm => 61
  | .vmem => 0
  | .smem => 0
  | _ => 0

abbrev bufTy : (tb : Table) → Fin (tcTables nBuf tb) → BufTy
  | .hbm, ⟨0, _⟩ => ⟨S16384x1152, .f32⟩
  | .hbm, ⟨1, _⟩ => ⟨S16384x256, .f32⟩
  | .hbm, ⟨2, _⟩ => ⟨S16384x384, .f32⟩
  | .hbm, ⟨3, _⟩ => ⟨S1280, .f32⟩
  | .hbm, ⟨4, _⟩ => ⟨S16, .f32⟩
  | .hbm, ⟨5, _⟩ => ⟨S384, .f32⟩
  | .hbm, ⟨6, _⟩ => ⟨S32x384, .f32⟩
  | .hbm, ⟨7, _⟩ => ⟨S384, .f32⟩
  | .hbm, ⟨8, _⟩ => ⟨S32x384, .f32⟩
  | .hbm, ⟨9, _⟩ => ⟨S64x384, .f32⟩
  | .hbm, ⟨10, _⟩ => ⟨S384, .f32⟩
  | .hbm, ⟨11, _⟩ => ⟨S384, .f32⟩
  | .hbm, ⟨12, _⟩ => ⟨S384, .f32⟩
  | .hbm, ⟨13, _⟩ => ⟨S16x384, .f32⟩
  | .hbm, ⟨14, _⟩ => ⟨S16384x128, .f32⟩
  | .hbm, ⟨15, _⟩ => ⟨S16384x1280, .f32⟩
  | .hbm, ⟨16, _⟩ => ⟨S8x2048x1280, .f32⟩
  | .hbm, ⟨17, _⟩ => ⟨S16384x16, .f32⟩
  | .hbm, ⟨18, _⟩ => ⟨S8x2048x16, .f32⟩
  | .hbm, ⟨19, _⟩ => ⟨S_, .i32⟩
  | .hbm, ⟨20, _⟩ => ⟨S_, .f32⟩
  | .hbm, ⟨21, _⟩ => ⟨S8x2049x1280, .f32⟩
  | .hbm, ⟨22, _⟩ => ⟨S8x2048x1280, .f32⟩
  | .hbm, ⟨23, _⟩ => ⟨S8x2048x1280, .f32⟩
  | .hbm, ⟨24, _⟩ => ⟨S1x1x1280, .f32⟩
  | .hbm, ⟨25, _⟩ => ⟨S8x2048x1280, .f32⟩
  | .hbm, ⟨26, _⟩ => ⟨S8x2048x1280, .f32⟩
  | .hbm, ⟨27, _⟩ => ⟨S8x2048x1280, .f32⟩
  | .hbm, ⟨28, _⟩ => ⟨S8x2048x384, .f32⟩
  | .hbm, ⟨29, _⟩ => ⟨S8x2048x384, .f32⟩
  | .hbm, ⟨30, _⟩ => ⟨S8x2048x384, .f32⟩
  | .hbm, ⟨31, _⟩ => ⟨S8x2048x32, .f32⟩
  | .hbm, ⟨32, _⟩ => ⟨S8x2048x32, .f32⟩
  | .hbm, ⟨33, _⟩ => ⟨S8x2048x64, .f32⟩
  | .hbm, ⟨34, _⟩ => ⟨S_, .i32⟩
  | .hbm, ⟨35, _⟩ => ⟨S_, .f32⟩
  | .hbm, ⟨36, _⟩ => ⟨S8x2049x16, .f32⟩
  | .hbm, ⟨37, _⟩ => ⟨S8x2048x16, .f32⟩
  | .hbm, ⟨38, _⟩ => ⟨S8x2048x16, .f32⟩
  | .hbm, ⟨39, _⟩ => ⟨S1x1x16, .f32⟩
  | .hbm, ⟨40, _⟩ => ⟨S8x2048x16, .f32⟩
  | .hbm, ⟨41, _⟩ => ⟨S8x2048x16, .f32⟩
  | .hbm, ⟨42, _⟩ => ⟨S8x2048x16, .f32⟩
  | .hbm, ⟨43, _⟩ => ⟨S8x2048x384, .f32⟩
  | .hbm, ⟨44, _⟩ => ⟨S8x2048x384, .f32⟩
  | .hbm, ⟨45, _⟩ => ⟨S8x2048x384, .f32⟩
  | .hbm, ⟨46, _⟩ => ⟨S1x1x384, .f32⟩
  | .hbm, ⟨47, _⟩ => ⟨S8x2048x384, .f32⟩
  | .hbm, ⟨48, _⟩ => ⟨S8x2048x384, .f32⟩
  | .hbm, ⟨49, _⟩ => ⟨S8x2048x384, .f32⟩
  | .hbm, ⟨50, _⟩ => ⟨S8x2048x384, .f32⟩
  | .hbm, ⟨51, _⟩ => ⟨S_, .f32⟩
  | .hbm, ⟨52, _⟩ => ⟨S8x2048x384, .f32⟩
  | .hbm, ⟨53, _⟩ => ⟨S8x2048x384, .f32⟩
  | .hbm, ⟨54, _⟩ => ⟨S_, .f32⟩
  | .hbm, ⟨55, _⟩ => ⟨S8x2048x384, .f32⟩
  | .hbm, ⟨56, _⟩ => ⟨S8x2048x384, .f32⟩
  | .hbm, ⟨57, _⟩ => ⟨S8x2048x384, .f32⟩
  | .hbm, ⟨58, _⟩ => ⟨S8x2048x384, .f32⟩
  | .hbm, ⟨59, _⟩ => ⟨S16384x384, .f32⟩
  | .hbm, ⟨60, _⟩ => ⟨S16384x384, .f32⟩
  | _, _ => ⟨S16384x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c : Ref sig .tc := ⟨.hbm, 19, rfl⟩
abbrev main_call0_v0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_0 : Ref sig .tc := ⟨.hbm, 34, rfl⟩
abbrev main_call1_v0 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst : Ref sig .tc := ⟨.hbm, 51, rfl⟩
abbrev main_v33 : Ref sig .tc := ⟨.hbm, 52, rfl⟩
abbrev main_v34 : Ref sig .tc := ⟨.hbm, 53, rfl⟩
abbrev main_cst_1 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]
-- ==== Proof.RetRunIdeal.lean ====
module

public import proofs.«01_k».proof.Proof.Gen.KernelIdeal.Frame.Runs
public import Idealize.ShloMosaic.Lib.Tactic

@[expose] public section

-- membership in a rectangle of production extents (`View.cover_of_tiled`): the elaborator's structural look
-- recurses once per coordinate of the long axes
set_option maxRecDepth 16384

noncomputable section

namespace Cert.KernelIdeal.Ret

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One trip's pieces do not depend on what the output block held before it. -/
theorem trip_prior (𝒱 : Variants) (c : Dev nD) (bd : Option 𝒱.V) (i : grid0.Coords) (arg2 : Memref sig .tc .vmem S512x1024 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S2x128x128 .f32) (harg5 : arg5.IsWhole) (arg6 : Memref sig .tc .vmem S64x256 .f32) (harg6 : arg6.IsWhole) (arg7 : Memref sig .tc .vmem S64x256 .f32) (harg7 : arg7.IsWhole) (arg8 : Memref sig .tc .vmem S1x256 .f32) (harg8 : arg8.IsWhole) (arg9 : Memref sig .tc .vmem S128x128 .bf16) (harg9 : arg9.IsWhole) (arg10 : Memref sig .tc .vmem S512x256 .bf16) (harg10 : arg10.IsWhole) (arg11 : Memref sig .tc .vmem S2x128x128 .f32) (harg11 : arg11.IsWhole) (v10 : Vec F S128x128 .bf16) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (k : Fin k0_t1_loop.trips) (f f' : BufTy.Contents (Elt F) arg10.view.ty) (g : BufTy.Contents (Elt F) arg11.view.ty) :
    tripL_k0_t1 (F := F) 𝒱 c bd i arg2 harg2 arg3 harg3 arg4 harg4 arg5 harg5 arg6 harg6 arg7 harg7 arg8 harg8 arg9 harg9 arg10 harg10 arg11 harg11 v10 X_arg2 X_arg3 X_arg4 X_arg5 X_arg6 X_arg7 X_arg8 k f g = tripL_k0_t1 (F := F) 𝒱 c bd i arg2 harg2 arg3 harg3 arg4 harg4 arg5 harg5 arg6 harg6 arg7 harg7 arg8 harg8 arg9 harg9 arg10 harg10 arg11 harg11 v10 X_arg2 X_arg3 X_arg4 X_arg5 X_arg6 X_arg7 X_arg8 k f' g := by
  unfold tripL_k0_t1 trip_k0_t1
  rfl

/-- The pieces of the trips before `k` do not depend on what the output block held at first. -/
theorem pb_prior {𝒱 : Variants} {c : Dev nD} {bd : Option 𝒱.V} {i : grid0.Coords} {arg2 : Memref sig .tc .vmem S512x1024 .f32} {harg2 : arg2.IsWhole} {arg3 : Memref sig .tc .vmem S512x256 .f32} {harg3 : arg3.IsWhole} {arg4 : Memref sig .tc .vmem S512x256 .f32} {harg4 : arg4.IsWhole} {arg5 : Memref sig .tc .vmem S2x128x128 .f32} {harg5 : arg5.IsWhole} {arg6 : Memref sig .tc .vmem S64x256 .f32} {harg6 : arg6.IsWhole} {arg7 : Memref sig .tc .vmem S64x256 .f32} {harg7 : arg7.IsWhole} {arg8 : Memref sig .tc .vmem S1x256 .f32} {harg8 : arg8.IsWhole} {arg9 : Memref sig .tc .vmem S128x128 .bf16} {harg9 : arg9.IsWhole} {arg10 : Memref sig .tc .vmem S512x256 .bf16} {harg10 : arg10.IsWhole} {arg11 : Memref sig .tc .vmem S2x128x128 .f32} {harg11 : arg11.IsWhole} {v10 : Vec F S128x128 .bf16} {X_arg2 : BufTy.Contents (Elt F) arg2.view.ty} {X_arg3 : BufTy.Contents (Elt F) arg3.view.ty} {X_arg4 : BufTy.Contents (Elt F) arg4.view.ty} {X_arg5 : BufTy.Contents (Elt F) arg5.view.ty} {X_arg6 : BufTy.Contents (Elt F) arg6.view.ty} {X_arg7 : BufTy.Contents (Elt F) arg7.view.ty} {X_arg8 : BufTy.Contents (Elt F) arg8.view.ty} (f f' : BufTy.Contents (Elt F) arg10.view.ty) {g : BufTy.Contents (Elt F) arg11.view.ty} {k : ℕ} :
    pb_k0_t1 (F := F) 𝒱 c bd i arg2 harg2 arg3 harg3 arg4 harg4 arg5 harg5 arg6 harg6 arg7 harg7 arg8 harg8 arg9 harg9 arg10 harg10 arg11 harg11 v10 X_arg2 X_arg3 X_arg4 X_arg5 X_arg6 X_arg7 X_arg8 f g k = pb_k0_t1 (F := F) 𝒱 c bd i arg2 harg2 arg3 harg3 arg4 harg4 arg5 harg5 arg6 harg6 arg7 harg7 arg8 harg8 arg9 harg9 arg10 harg10 arg11 harg11 v10 X_arg2 X_arg3 X_arg4 X_arg5 X_arg6 X_arg7 X_arg8 f' g k := by
  induction k with
  | zero => rfl
  | succ k ih =>
    rw [pb_k0_t1.eq_2, pb_k0_t1.eq_2, ih]
    unfold pb_k0_t1Step
    split
    · rw [trip_prior _ _ _ _ _ _ _ _ _ _ _ _ _ _ _ _ _ _ _ _ _ _ _ _ _ _ _ _ _ _ _ _ _ (arg10.view.writes (Elt F) f _) (arg10.view.writes (Elt F) f' _)]
    · rfl

set_option maxHeartbeats 1000000 in
/-- What the body leaves in the output block and in the carried state, as pieces, together with the proof that the body runs to them. -/
noncomputable def kernelRun0_A (c : Dev nD) (i : grid0.Coords) (arg2 : Memref sig .tc .vmem S512x1024 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S2x128x128 .f32) (harg5 : arg5.IsWhole) (arg6 : Memref sig .tc .vmem S64x256 .f32) (harg6 : arg6.IsWhole) (arg7 : Memref sig .tc .vmem S64x256 .f32) (harg7 : arg7.IsWhole) (arg8 : Memref sig .tc .vmem S1x256 .f32) (harg8 : arg8.IsWhole) (arg9 : Memref sig .tc .vmem S128x128 .bf16) (harg9 : arg9.IsWhole) (arg10 : Memref sig .tc .vmem S512x256 .bf16) (harg10 : arg10.IsWhole) (arg11 : Memref sig .tc .vmem S2x128x128 .f32) (harg11 : arg11.IsWhole) (hc0 : cond0_0 i)
    (x0 : Vec F S512x1024 .f32) (x1 : Vec F S512x256 .f32) (x2 : Vec F S512x256 .f32) (x3 : Vec F S2x128x128 .f32) (x4 : Vec F S64x256 .f32) (x5 : Vec F S64x256 .f32) (x6 : Vec F S1x256 .f32) (x7 : Vec F S128x128 .bf16) :
    Σ' (L8 : List (View.Piece (Elt F) S512x256 .bf16)), { LS0 : List (View.Piece (Elt F) S2x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0)) -∗ K ⟨⟩))
          ⊢ wp frame (wpE (defs₀ (F := F)) Variants.none c none) E (cc0_retention i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0_retention_eq_skeleton]; unfold cc0_retention_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    rw [pb_prior f8 arg10.view.junk]
    isplitl [H8]; · iexists _; iexact H8
    iexists _; iexact HS0

set_option maxHeartbeats 1000000 in
/-- What the body leaves in the output block and in the carried state, as pieces, together with the proof that the body runs to them. -/
noncomputable def kernelRun0_B (c : Dev nD) (i : grid0.Coords) (arg2 : Memref sig .tc .vmem S512x1024 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S2x128x128 .f32) (harg5 : arg5.IsWhole) (arg6 : Memref sig .tc .vmem S64x256 .f32) (harg6 : arg6.IsWhole) (arg7 : Memref sig .tc .vmem S64x256 .f32) (harg7 : arg7.IsWhole) (arg8 : Memref sig .tc .vmem S1x256 .f32) (harg8 : arg8.IsWhole) (arg9 : Memref sig .tc .vmem S128x128 .bf16) (harg9 : arg9.IsWhole) (arg10 : Memref sig .tc .vmem S512x256 .bf16) (harg10 : arg10.IsWhole) (arg11 : Memref sig .tc .vmem S2x128x128 .f32) (harg11 : arg11.IsWhole) (hc0 : ¬cond0_0 i)
    (x0 : Vec F S512x1024 .f32) (x1 : Vec F S512x256 .f32) (x2 : Vec F S512x256 .f32) (x3 : Vec F S2x128x128 .f32) (x4 : Vec F S64x256 .f32) (x5 : Vec F S64x256 .f32) (x6 : Vec F S1x256 .f32) (x7 : Vec F S128x128 .bf16) (xs0 : Vec F S2x128x128 .f32) :
    Σ' (L8 : List (View.Piece (Elt F) S512x256 .bf16)), { LS0 : List (View.Piece (Elt F) S2x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0)) -∗ K ⟨⟩))
          ⊢ wp frame (wpE (defs₀ (F := F)) Variants.none c none) E (cc0_retention i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0_retention_eq_skeleton]; unfold cc0_retention_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    rw [pb_prior f8 arg10.view.junk]
    isplitl [H8]; · iexists _; iexact H8
    iexists _; iexact HS0

end Cert.KernelIdeal.Ret

end
-- ==== Proof.RetFrameIdeal.lean ====
module

public import proofs.«01_k».proof.Proof.RetRunIdeal
public import Idealize.ShloMosaic.Lib.Claim

@[expose] public section

-- membership in a rectangle of production extents (`View.cover_of_tiled`): the elaborator's structural look
-- recurses once per coordinate of the long axes
set_option maxRecDepth 16384

noncomputable section

namespace Cert.KernelIdeal.Ret

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 8 tile its block (16 stores of `S64x128`, checked by the kernel's evaluation: Lib/Ring.lean `Piece.tiledL`, linear in the pieces, through a loop's `@[irreducible]` trip theorem too), so they cover it. -/
theorem cover0_A_8 (c : Dev nD) (i : grid0.Coords) (arg2 : Memref sig .tc .vmem S512x1024 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S2x128x128 .f32) (harg5 : arg5.IsWhole) (arg6 : Memref sig .tc .vmem S64x256 .f32) (harg6 : arg6.IsWhole) (arg7 : Memref sig .tc .vmem S64x256 .f32) (harg7 : arg7.IsWhole) (arg8 : Memref sig .tc .vmem S1x256 .f32) (harg8 : arg8.IsWhole) (arg9 : Memref sig .tc .vmem S128x128 .bf16) (harg9 : arg9.IsWhole) (arg10 : Memref sig .tc .vmem S512x256 .bf16) (harg10 : arg10.IsWhole) (arg11 : Memref sig .tc .vmem S2x128x128 .f32) (harg11 : arg11.IsWhole) (hc0 : cond0_0 i)
    (x0 : Vec F S512x1024 .f32) (x1 : Vec F S512x256 .f32) (x2 : Vec F S512x256 .f32) (x3 : Vec F S2x128x128 .f32) (x4 : Vec F S64x256 .f32) (x5 : Vec F S64x256 .f32) (x6 : Vec F S1x256 .f32) (x7 : Vec F S128x128 .bf16) (y : S512x256.Idx) :
    ∃ pc ∈ (kernelRun0_A c i arg2 harg2 arg3 harg3 arg4 harg4 arg5 harg5 arg6 harg6 arg7 harg7 arg8 harg8 arg9 harg9 arg10 harg10 arg11 harg11 hc0 x0 x1 x2 x3 x4 x5 x6 x7).1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2 x3 x4 x5 x6 x7).1 S64x128.size (by sl_kernel_rfl) y

/-- What case A leaves in output 8's staging buffer: its pieces read back over junk. -/
def out0_A_8 (c : Dev nD) (i : grid0.Coords) (arg2 : Memref sig .tc .vmem S512x1024 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S2x128x128 .f32) (harg5 : arg5.IsWhole) (arg6 : Memref sig .tc .vmem S64x256 .f32) (harg6 : arg6.IsWhole) (arg7 : Memref sig .tc .vmem S64x256 .f32) (harg7 : arg7.IsWhole) (arg8 : Memref sig .tc .vmem S1x256 .f32) (harg8 : arg8.IsWhole) (arg9 : Memref sig .tc .vmem S128x128 .bf16) (harg9 : arg9.IsWhole) (arg10 : Memref sig .tc .vmem S512x256 .bf16) (harg10 : arg10.IsWhole) (arg11 : Memref sig .tc .vmem S2x128x128 .f32) (harg11 : arg11.IsWhole) (hc0 : cond0_0 i)
    (x0 : Vec F S512x1024 .f32) (x1 : Vec F S512x256 .f32) (x2 : Vec F S512x256 .f32) (x3 : Vec F S2x128x128 .f32) (x4 : Vec F S64x256 .f32) (x5 : Vec F S64x256 .f32) (x6 : Vec F S1x256 .f32) (x7 : Vec F S128x128 .bf16) : Vec F S512x256 .bf16 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 hc0 x0 x1 x2 x3 x4 x5 x6 x7).1)

/-- Case A's pieces for scratch `arg11`, which the kernel carries between points, cover it: one of them a store of the WHOLE buffer (Lib/Ring.lean `sl_whole_mem`). -/
theorem scover0_A_0 (c : Dev nD) (i : grid0.Coords) (arg2 : Memref sig .tc .vmem S512x1024 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S2x128x128 .f32) (harg5 : arg5.IsWhole) (arg6 : Memref sig .tc .vmem S64x256 .f32) (harg6 : arg6.IsWhole) (arg7 : Memref sig .tc .vmem S64x256 .f32) (harg7 : arg7.IsWhole) (arg8 : Memref sig .tc .vmem S1x256 .f32) (harg8 : arg8.IsWhole) (arg9 : Memref sig .tc .vmem S128x128 .bf16) (harg9 : arg9.IsWhole) (arg10 : Memref sig .tc .vmem S512x256 .bf16) (harg10 : arg10.IsWhole) (arg11 : Memref sig .tc .vmem S2x128x128 .f32) (harg11 : arg11.IsWhole) (hc0 : cond0_0 i)
    (x0 : Vec F S512x1024 .f32) (x1 : Vec F S512x256 .f32) (x2 : Vec F S512x256 .f32) (x3 : Vec F S2x128x128 .f32) (x4 : Vec F S64x256 .f32) (x5 : Vec F S64x256 .f32) (x6 : Vec F S1x256 .f32) (x7 : Vec F S128x128 .bf16) (y : S2x128x128.Idx) :
    ∃ pc ∈ (kernelRun0_A c i arg2 harg2 arg3 harg3 arg4 harg4 arg5 harg5 arg6 harg6 arg7 harg7 arg8 harg8 arg9 harg9 arg10 harg10 arg11 harg11 hc0 x0 x1 x2 x3 x4 x5 x6 x7).2.1, y ∈ pc.1.set :=
  View.cover_of_wholeMem (kernelRun0_A c i arg2 harg2 arg3 harg3 arg4 harg4 arg5 harg5 arg6 harg6 arg7 harg7 arg8 harg8 arg9 harg9 arg10 harg10 arg11 harg11 hc0 x0 x1 x2 x3 x4 x5 x6 x7).2.1 (by sl_whole_mem) y

/-- What case A leaves in scratch `arg11`: its pieces read back over junk. -/
def sout0_A_0 (c : Dev nD) (i : grid0.Coords) (arg2 : Memref sig .tc .vmem S512x1024 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S2x128x128 .f32) (harg5 : arg5.IsWhole) (arg6 : Memref sig .tc .vmem S64x256 .f32) (harg6 : arg6.IsWhole) (arg7 : Memref sig .tc .vmem S64x256 .f32) (harg7 : arg7.IsWhole) (arg8 : Memref sig .tc .vmem S1x256 .f32) (harg8 : arg8.IsWhole) (arg9 : Memref sig .tc .vmem S128x128 .bf16) (harg9 : arg9.IsWhole) (arg10 : Memref sig .tc .vmem S512x256 .bf16) (harg10 : arg10.IsWhole) (arg11 : Memref sig .tc .vmem S2x128x128 .f32) (harg11 : arg11.IsWhole) (hc0 : cond0_0 i)
    (x0 : Vec F S512x1024 .f32) (x1 : Vec F S512x256 .f32) (x2 : Vec F S512x256 .f32) (x3 : Vec F S2x128x128 .f32) (x4 : Vec F S64x256 .f32) (x5 : Vec F S64x256 .f32) (x6 : Vec F S1x256 .f32) (x7 : Vec F S128x128 .bf16) : Vec F S2x128x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 x0 x1 x2 x3 x4 x5 x6 x7).2.1)

/-- Case B's pieces for output 8 tile its block (16 stores of `S64x128`, checked by the kernel's evaluation: Lib/Ring.lean `Piece.tiledL`, linear in the pieces, through a loop's `@[irreducible]` trip theorem too), so they cover it. -/
theorem cover0_B_8 (c : Dev nD) (i : grid0.Coords) (arg2 : Memref sig .tc .vmem S512x1024 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S2x128x128 .f32) (harg5 : arg5.IsWhole) (arg6 : Memref sig .tc .vmem S64x256 .f32) (harg6 : arg6.IsWhole) (arg7 : Memref sig .tc .vmem S64x256 .f32) (harg7 : arg7.IsWhole) (arg8 : Memref sig .tc .vmem S1x256 .f32) (harg8 : arg8.IsWhole) (arg9 : Memref sig .tc .vmem S128x128 .bf16) (harg9 : arg9.IsWhole) (arg10 : Memref sig .tc .vmem S512x256 .bf16) (harg10 : arg10.IsWhole) (arg11 : Memref sig .tc .vmem S2x128x128 .f32) (harg11 : arg11.IsWhole) (hc0 : ¬cond0_0 i)
    (x0 : Vec F S512x1024 .f32) (x1 : Vec F S512x256 .f32) (x2 : Vec F S512x256 .f32) (x3 : Vec F S2x128x128 .f32) (x4 : Vec F S64x256 .f32) (x5 : Vec F S64x256 .f32) (x6 : Vec F S1x256 .f32) (x7 : Vec F S128x128 .bf16) (xs0 : Vec F S2x128x128 .f32) (y : S512x256.Idx) :
    ∃ pc ∈ (kernelRun0_B c i arg2 harg2 arg3 harg3 arg4 harg4 arg5 harg5 arg6 harg6 arg7 harg7 arg8 harg8 arg9 harg9 arg10 harg10 arg11 harg11 hc0 x0 x1 x2 x3 x4 x5 x6 x7 xs0).1, y ∈ pc.1.set :=
  View.cover_of_tiledL (kernelRun0_B c i arg2 harg2 arg3 harg3 arg4 harg4 arg5 harg5 arg6 harg6 arg7 harg7 arg8 harg8 arg9 harg9 arg10 harg10 arg11 harg11 hc0 x0 x1 x2 x3 x4 x5 x6 x7 xs0).1 S64x128.size (by sl_kernel_rfl) y

/-- What case B leaves in output 8's staging buffer: its pieces read back over junk. -/
def out0_B_8 (c : Dev nD) (i : grid0.Coords) (arg2 : Memref sig .tc .vmem S512x1024 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S2x128x128 .f32) (harg5 : arg5.IsWhole) (arg6 : Memref sig .tc .vmem S64x256 .f32) (harg6 : arg6.IsWhole) (arg7 : Memref sig .tc .vmem S64x256 .f32) (harg7 : arg7.IsWhole) (arg8 : Memref sig .tc .vmem S1x256 .f32) (harg8 : arg8.IsWhole) (arg9 : Memref sig .tc .vmem S128x128 .bf16) (harg9 : arg9.IsWhole) (arg10 : Memref sig .tc .vmem S512x256 .bf16) (harg10 : arg10.IsWhole) (arg11 : Memref sig .tc .vmem S2x128x128 .f32) (harg11 : arg11.IsWhole) (hc0 : ¬cond0_0 i)
    (x0 : Vec F S512x1024 .f32) (x1 : Vec F S512x256 .f32) (x2 : Vec F S512x256 .f32) (x3 : Vec F S2x128x128 .f32) (x4 : Vec F S64x256 .f32) (x5 : Vec F S64x256 .f32) (x6 : Vec F S1x256 .f32) (x7 : Vec F S128x128 .bf16) (xs0 : Vec F S2x128x128 .f32) : Vec F S512x256 .bf16 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 hc0 x0 x1 x2 x3 x4 x5 x6 x7 xs0).1)

/-- Case B's pieces for scratch `arg11`, which the kernel carries between points, cover it: 16 pieces of `S1x128x128` tiling it (Lib/Ring.lean `Piece.tiledL`). -/
theorem scover0_B_0 (c : Dev nD) (i : grid0.Coords) (arg2 : Memref sig .tc .vmem S512x1024 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S2x128x128 .f32) (harg5 : arg5.IsWhole) (arg6 : Memref sig .tc .vmem S64x256 .f32) (harg6 : arg6.IsWhole) (arg7 : Memref sig .tc .vmem S64x256 .f32) (harg7 : arg7.IsWhole) (arg8 : Memref sig .tc .vmem S1x256 .f32) (harg8 : arg8.IsWhole) (arg9 : Memref sig .tc .vmem S128x128 .bf16) (harg9 : arg9.IsWhole) (arg10 : Memref sig .tc .vmem S512x256 .bf16) (harg10 : arg10.IsWhole) (arg11 : Memref sig .tc .vmem S2x128x128 .f32) (harg11 : arg11.IsWhole) (hc0 : ¬cond0_0 i)
    (x0 : Vec F S512x1024 .f32) (x1 : Vec F S512x256 .f32) (x2 : Vec F S512x256 .f32) (x3 : Vec F S2x128x128 .f32) (x4 : Vec F S64x256 .f32) (x5 : Vec F S64x256 .f32) (x6 : Vec F S1x256 .f32) (x7 : Vec F S128x128 .bf16) (xs0 : Vec F S2x128x128 .f32) (y : S2x128x128.Idx) :
    ∃ pc ∈ (kernelRun0_B c i arg2 harg2 arg3 harg3 arg4 harg4 arg5 harg5 arg6 harg6 arg7 harg7 arg8 harg8 arg9 harg9 arg10 harg10 arg11 harg11 hc0 x0 x1 x2 x3 x4 x5 x6 x7 xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 x0 x1 x2 x3 x4 x5 x6 x7 xs0).2.1 S1x128x128.size (by sl_kernel_rfl) y

/-- What case B leaves in scratch `arg11`: its pieces read back over junk. -/
def sout0_B_0 (c : Dev nD) (i : grid0.Coords) (arg2 : Memref sig .tc .vmem S512x1024 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S2x128x128 .f32) (harg5 : arg5.IsWhole) (arg6 : Memref sig .tc .vmem S64x256 .f32) (harg6 : arg6.IsWhole) (arg7 : Memref sig .tc .vmem S64x256 .f32) (harg7 : arg7.IsWhole) (arg8 : Memref sig .tc .vmem S1x256 .f32) (harg8 : arg8.IsWhole) (arg9 : Memref sig .tc .vmem S128x128 .bf16) (harg9 : arg9.IsWhole) (arg10 : Memref sig .tc .vmem S512x256 .bf16) (harg10 : arg10.IsWhole) (arg11 : Memref sig .tc .vmem S2x128x128 .f32) (harg11 : arg11.IsWhole) (hc0 : ¬cond0_0 i)
    (x0 : Vec F S512x1024 .f32) (x1 : Vec F S512x256 .f32) (x2 : Vec F S512x256 .f32) (x3 : Vec F S2x128x128 .f32) (x4 : Vec F S64x256 .f32) (x5 : Vec F S64x256 .f32) (x6 : Vec F S1x256 .f32) (x7 : Vec F S128x128 .bf16) (xs0 : Vec F S2x128x128 .f32) : Vec F S2x128x128 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 hc0 x0 x1 x2 x3 x4 x5 x6 x7 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S512x256 .bf16 × Vec F S2x128x128 .f32
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 4 = 0 then
      (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
    else
      (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2)

/-- `outsAt0` at a point of case A: that case's contents. -/
theorem outsAt0_A (c : Dev nD) (t : Fin cfg0.N) (h0 : t.val % 4 = 0) :
    outsAt0 m c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 4 = 0) :
    outsAt0 m c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

/-- Before the first point the assertion is the launch's own. -/
theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
/-- The block window 1 holds after a grid point. -/
theorem after0_1 (c : Dev nD) (t : Fin cfg0.N) : (dats m 0 c).after 1 t = iblk m c 1 t := by dsimp only [dats]
/-- The block window 2 holds after a grid point. -/
theorem after0_2 (c : Dev nD) (t : Fin cfg0.N) : (dats m 0 c).after 2 t = iblk m c 2 t := by dsimp only [dats]
/-- The block window 3 holds after a grid point. -/
theorem after0_3 (c : Dev nD) (t : Fin cfg0.N) : (dats m 0 c).after 3 t = iblk m c 3 t := by dsimp only [dats]
/-- The block window 4 holds after a grid point. -/
theorem after0_4 (c : Dev nD) (t : Fin cfg0.N) : (dats m 0 c).after 4 t = iblk m c 4 t := by dsimp only [dats]
/-- The block window 5 holds after a grid point. -/
theorem after0_5 (c : Dev nD) (t : Fin cfg0.N) : (dats m 0 c).after 5 t = iblk m c 5 t := by dsimp only [dats]
/-- The block window 6 holds after a grid point. -/
theorem after0_6 (c : Dev nD) (t : Fin cfg0.N) : (dats m 0 c).after 6 t = iblk m c 6 t := by dsimp only [dats]
/-- The block window 7 holds after a grid point. -/
theorem after0_7 (c : Dev nD) (t : Fin cfg0.N) : (dats m 0 c).after 7 t = iblk m c 7 t := by dsimp only [dats]
/-- The block window 8 holds after a grid point. -/
theorem after0_8 (c : Dev nD) (t : Fin cfg0.N) : (dats m 0 c).after 8 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- The block window 1 holds before a grid point. -/
theorem before0_1 (c : Dev nD) (t : Fin cfg0.N) (d) : (dats m 0 c).before 1 t d = iblk m c 1 t :=
  before0_1_of m (dats m 0 c) (A_eq m c 1) (after0_1 m c) t d
/-- The block window 2 holds before a grid point. -/
theorem before0_2 (c : Dev nD) (t : Fin cfg0.N) (d) : (dats m 0 c).before 2 t d = iblk m c 2 t :=
  before0_2_of m (dats m 0 c) (A_eq m c 2) (after0_2 m c) t d
/-- The block window 3 holds before a grid point. -/
theorem before0_3 (c : Dev nD) (t : Fin cfg0.N) (d) : (dats m 0 c).before 3 t d = iblk m c 3 t :=
  before0_3_of m (dats m 0 c) (A_eq m c 3) (after0_3 m c) t d
/-- The block window 4 holds before a grid point. -/
theorem before0_4 (c : Dev nD) (t : Fin cfg0.N) (d) : (dats m 0 c).before 4 t d = iblk m c 4 t :=
  before0_4_of m (dats m 0 c) (A_eq m c 4) (after0_4 m c) t d
/-- The block window 5 holds before a grid point. -/
theorem before0_5 (c : Dev nD) (t : Fin cfg0.N) (d) : (dats m 0 c).before 5 t d = iblk m c 5 t :=
  before0_5_of m (dats m 0 c) (A_eq m c 5) (after0_5 m c) t d
/-- The block window 6 holds before a grid point. -/
theorem before0_6 (c : Dev nD) (t : Fin cfg0.N) (d) : (dats m 0 c).before 6 t d = iblk m c 6 t :=
  before0_6_of m (dats m 0 c) (A_eq m c 6) (after0_6 m c) t d
/-- The block window 7 holds before a grid point. -/
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7, after0_8]
  rw [show (dats m 0 c).Φ t.succ = PhiS m c (t.val + 1) t.isLt from rfl, PhiS_succ]
  have hN : t.val < 32 := lt_of_lt_of_eq t.isLt (show cfg0.N = 32 from N_0)
  by_cases h0 : t.val % 4 = 0
  · by_cases hz : t.val = 0
    · rw [PhiS_castSucc m c t, PhiS_zero m c _ _ hz, PhiA0_eq]
      rw [outsAt0_A m c t h0]
      unfold out0_A_8 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      iintro ⟨H0, H1, H2, H3, H4, H5, H6, H7, ⟨%e8, H8⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover0_A_8 c _ _ _ _ _ _ _ _ _ _ _ _ _ _ _ _ _ _ _ _ _ _ _ _ _ _ _ _ _ _)
    · rw [PhiS_castSucc m c t, PhiS_pos m c _ _ hz]
      rw [outsAt0_A m c t h0]
      unfold out0_A_8 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexists _; iexact HS0
      iintro ⟨H0, H1, H2, H3, H4, H5, H6, H7, ⟨%e8, H8⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover0_A_8 c _ _ _ _ _ _ _ _ _ _ _ _ _ _ _ _ _ _ _ _ _ _ _ _ _ _ _ _ _ _)
  · by_cases hz : t.val = 0
    · exfalso; have hN : t.val < 32 := lt_of_lt_of_eq t.isLt (show cfg0.N = 32 from N_0); omega
    · rw [PhiS_castSucc m c t, PhiS_pos m c _ _ hz]
      rw [outsAt0_B m c t h0]
      unfold out0_B_8 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      iintro ⟨H0, H1, H2, H3, H4, H5, H6, H7, ⟨%e8, H8⟩, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover0_B_8 c _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

end Cert.KernelIdeal.Ret

end
-- ==== Proof.RetentionFrames.lean ====
module

public import proofs.«01_k».proof.Defs
public import proofs.«01_k».proof.Proof.RetFrameBits
public import proofs.«01_k».proof.Proof.RetFrameIdeal
public import proofs.«01_k».proof.Proof.Gen.ReferenceIdeal.Run
public import Idealize.ShloMosaic.Adequacy
public import Idealize.ShloMosaic.Init

@[expose] public section

noncomputable section

namespace Cert.Retention

open Idealize.ShloMosaic Idealize.SL.Sem

/-- The retention call runs and leaves its argument and every semaphore as they were. -/
theorem kernel : Cert.quiescent_Kernel (hKernel := Cert.Kernel.Gen.facts) :=
  fun m ρ _ => Cert.Kernel.Ret.frame m ρ

/-- So does its idealization. -/
theorem kernelIdeal : Cert.quiescent_KernelIdeal (hKernelIdeal := Cert.KernelIdeal.Gen.facts) :=
  fun m ρ _ => Cert.KernelIdeal.Ret.frame m ρ

/-- The reference runs and leaves its argument and every semaphore as they were. -/
theorem reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Retention

end
-- ==== Proof.RetMath.lean ====
/-
  The retention of one head over the reals, and its evaluation chunk by chunk.
-/
module

public import Mathlib.Analysis.SpecialFunctions.Exp
public import Mathlib.Algebra.BigOperators.Intervals
public import Mathlib.Algebra.BigOperators.Fin

@[expose] public section

noncomputable section

namespace Cert.Retention.Math

open Finset

/-- The state after `n` rows: the outer products of keys and values, decayed by their age. -/
def rZ (lg : ℝ) (k v : ℕ → ℕ → ℝ) (n d e : ℕ) : ℝ :=
  ∑ s ∈ range n, (k s d * Real.exp (((n : ℝ) - 1 - s) * lg)) * v s e

/-- Row `t` of the retention: the earlier rows' values, weighted by the decayed scores. -/
def rY (lg : ℝ) (q k v : ℕ → ℕ → ℝ) (t e : ℕ) : ℝ :=
  ∑ s ∈ range (t + 1), ((∑ d ∈ range 64, q t d * k s d) * Real.exp (((t : ℝ) - s) * lg)) * v s e

/-- No rows, no state. -/
theorem rZ_zero (lg : ℝ) (k v : ℕ → ℕ → ℝ) (d e : ℕ) : rZ lg k v 0 d e = 0 := by
  simp [rZ]

/-- The state after a chunk of `C` more rows. -/
theorem rZ_add (lg : ℝ) (k v : ℕ → ℕ → ℝ) (n C d e : ℕ) :
    rZ lg k v (n + C) d e = rZ lg k v n d e * Real.exp ((C : ℝ) * lg)
      + ∑ m ∈ range C, (k (n + m) d * Real.exp (((C : ℝ) - 1 - m) * lg)) * v (n + m) e := by
  unfold rZ
  rw [sum_range_add, Finset.sum_mul]
  congr 1
  · refine Finset.sum_congr rfl fun s _ => ?_
    have h : Real.exp ((((n + C : ℕ) : ℝ) - 1 - s) * lg)
        = Real.exp (((n : ℝ) - 1 - s) * lg) * Real.exp ((C : ℝ) * lg) := by
      rw [← Real.exp_add]; congr 1; push_cast; ring
    rw [h]; ring
  · refine Finset.sum_congr rfl fun m _ => ?_
    have h : (((n + C : ℕ) : ℝ) - 1 - ((n + m : ℕ) : ℝ)) = (C : ℝ) - 1 - m := by push_cast; ring
    rw [h]

/-- Row `j` of a chunk that begins at row `n`: the part inside the chunk and the part from the state. -/
theorem rY_add (lg : ℝ) (q k v : ℕ → ℕ → ℝ) (n C j e : ℕ) (hj : j < C) :
    rY lg q k v (n + j) e
      = ∑ m ∈ range C, ((∑ d ∈ range 64, q (n + j) d * k (n + m) d)
          * (if m ≤ j then Real.exp (((j : ℝ) - m) * lg) else 0)) * v (n + m) e
        + ∑ d ∈ range 64, (q (n + j) d * Real.exp (((j : ℝ) + 1) * lg)) * rZ lg k v n d e := by
  unfold rY rZ
  rw [add_assoc n j 1, sum_range_add, add_comm]
  congr 1
  · obtain ⟨r, rfl⟩ : ∃ r, C = j + 1 + r := ⟨C - (j + 1), by omega⟩
    rw [sum_range_add _ (j + 1) r]
    have h0 : ∑ m ∈ range r, ((∑ d ∈ range 64, q (n + j) d * k (n + (j + 1 + m)) d)
          * (if j + 1 + m ≤ j then Real.exp (((j : ℝ) - ((j + 1 + m : ℕ) : ℝ)) * lg) else 0)) * v (n + (j + 1 + m)) e = 0 := by
      refine Finset.sum_eq_zero fun m _ => ?_
      rw [if_neg (by omega)]; ring
    rw [h0, add_zero]
    refine Finset.sum_congr rfl fun m hm => ?_
    have hm' := Finset.mem_range.1 hm
    rw [if_pos (by omega)]
    have h : ((n + j : ℕ) : ℝ) - ((n + m : ℕ) : ℝ) = (j : ℝ) - m := by push_cast; ring
    rw [h]
  · simp only [Finset.mul_sum, Finset.sum_mul]
    rw [Finset.sum_comm]
    refine Finset.sum_congr rfl fun d _ => Finset.sum_congr rfl fun s _ => ?_
    have h : Real.exp ((((n + j : ℕ) : ℝ) - s) * lg)
        = Real.exp (((j : ℝ) + 1) * lg) * Real.exp (((n : ℝ) - 1 - s) * lg) := by
      rw [← Real.exp_add]; congr 1; push_cast; ring
    rw [h]; ring

/-- A sum over two blocks of 64, all but one block zero. -/
theorem sum_block (f : ℕ → ℝ) (a : ℕ) (ha : a < 2) :
    ∑ x : Fin 128, (if a = x.val / 64 then f x.val else 0) = ∑ d ∈ range 64, f (64 * a + d) := by
  rw [Fin.sum_univ_eq_sum_range (fun x => if a = x / 64 then f x else 0) 128,
    show 128 = 64 + 64 from rfl, sum_range_add]
  have e0 : ∀ x ∈ range 64, (if a = x / 64 then f x else 0) = if a = 0 then f x else 0 := fun x hx => by
    rw [Nat.div_eq_of_lt (Finset.mem_range.1 hx)]
  have e1 : ∀ x ∈ range 64, (if a = (64 + x) / 64 then f (64 + x) else 0) = if a = 1 then f (64 + x) else 0 := fun x hx => by
    have h := Finset.mem_range.1 hx
    rw [show (64 + x) / 64 = 1 by omega]
  rw [Finset.sum_congr rfl e0, Finset.sum_congr rfl e1]
  rcases (by omega : a = 0 ∨ a = 1) with rfl | rfl
  · simp
  · simp

end Cert.Retention.Math

end
-- ==== Proof.RetSlab.lean ====
/-
  One pair of heads of one chunk of the retention kernel, at real arguments.
-/
module

public import proofs.«01_k».proof.Proof.Gen.KernelIdeal.Skeleton
public import proofs.«01_k».proof.Proof.RetMath
public import Idealize.ShloMosaic.Lib.Tactic
public import Idealize.ShloMosaic.Lib.Pointwise

@[expose] public section

set_option maxRecDepth 16384

noncomputable section

namespace Cert.KernelIdeal.RetSlab

open Cert.KernelIdeal Cert.KernelIdeal.Gen Idealize.ShloMosaic Idealize.ShloMosaic.TcCoe Idealize.SL.Sem
open Finset

/-- A sum of reals, read in the extended reals. -/
theorem coe_sum {n : ℕ} (f : Fin n → ℝ) : ∑ x, ((f x : ℝ) : EReal) = ((∑ x, f x : ℝ) : EReal) :=
  (map_sum (⟨⟨Real.toEReal, EReal.coe_zero⟩, EReal.coe_add⟩ : ℝ →+ EReal) f Finset.univ).symm

/-- A choice between a real and zero is a real. -/
theorem coe_ite0 (p : Prop) [Decidable p] (a : ℝ) : (if p then (a : EReal) else 0) = ((if p then a else 0 : ℝ) : EReal) := by
  split_ifs <;> simp

/-- A choice between two reals is a real. -/
theorem coe_ite (p : Prop) [Decidable p] (a b : ℝ) : (if p then (a : EReal) else (b : EReal)) = ((if p then a else b : ℝ) : EReal) := by
  split_ifs <;> simp

/-- The mask of the two heads' blocks. -/
theorem sel2 {α : Type} (r l : Fin 128) (a b : α) : Scalar.select (k0_pay2 (ix2 r l)) a b = if r.val / 64 = l.val / 64 then a else b := by
  have h : k0_pay2 (ix2 r l) = if r.val / 64 = l.val / 64 then 1#1 else 0#1 := by
    pointwise [k0_pay2]
    have hs : ∀ r : Fin 128, IntOp.shrsi ArithUnit.vector (BitVec.ofNat 32 r.val) 6#32 = BitVec.ofNat 32 (r.val / 64) := by decide +kernel
    rw [hs, hs]
    have hc : ∀ a b : Fin 2, IntOp.cmpi CmpIPredicate.eq (BitVec.ofNat 32 a.val) (BitVec.ofNat 32 b.val) = if a.val = b.val then 1#1 else 0#1 := by decide +kernel
    exact hc ⟨r.val / 64, by omega⟩ ⟨l.val / 64, by omega⟩
  rw [h]
  split_ifs <;> rfl

/-- The two heads' blocks of a chunk on the diagonal. -/
def bd (f : ℕ → ℕ → ℝ) (r l : ℕ) : ℝ := if r / 64 = l / 64 then f (r % 64) l else 0

/-- The block diagonal of a real chunk. -/
theorem pay11_apply (v : Vec Ideal S64x128 .f32) (f : ℕ → ℕ → ℝ) (hv : ∀ (n : Fin 64) (l : Fin 128), v (ix2 n l) = (f n.val l.val : EReal))
    (r l : Fin 128) : (k0_pay11 (F := Ideal) k0_pay2 v : FVec Ideal S128x128 .f32) (ix2 r l) = ((bd f r.val l.val : ℝ) : EReal) := by
  pointwise [k0_pay11]
  rw [sel2]
  unfold bd
  by_cases h : r.val / 64 = l.val / 64
  · rw [if_pos h, if_pos h]
    by_cases h' : r.val < 64
    · rw [dif_pos h', hv]; simp only [Nat.mod_eq_of_lt h']
    · rw [dif_neg h', hv]
      have : r.val % 64 = r.val - 64 := by omega
      rw [this]
  · rw [if_neg h, if_neg h]; rfl

/-- The rotation's partner of a lane. -/
def partner (l : ℕ) : ℕ := if l / 32 % 2 = 0 then l + 32 else l - 32

/-- A rotation by 96 or by 32, chosen by the column, reads the partner column. -/
theorem rot_sel (l : Fin 128) (v : Fin 128 → EReal) (h1 : (l.val + 128 - 96) % 128 < 128) (h2 : (l.val + 128 - 32) % 128 < 128) (h3 : partner l.val < 128) :
    Scalar.select (IntOp.cmpi CmpIPredicate.eq (IntOp.andi (BitVec.ofNat 32 l.val) 32#32) 0#32) (v ⟨(l.val + 128 - 96) % 128, h1⟩) (v ⟨(l.val + 128 - 32) % 128, h2⟩)
      = v ⟨partner l.val, h3⟩ := by
  have hm : ∀ l : Fin 128, IntOp.cmpi CmpIPredicate.eq (IntOp.andi (BitVec.ofNat 32 l.val) 32#32) 0#32 = if l.val / 32 % 2 = 0 then 1#1 else 0#1 := by decide +kernel
  rw [hm l]
  have hl := l.2
  split_ifs with h
  · show v _ = v _
    congr 1; apply Fin.ext
    show (l.val + 128 - 96) % 128 = partner l.val
    unfold partner; rw [if_pos h]; omega
  · show v _ = v _
    congr 1; apply Fin.ext
    show (l.val + 128 - 32) % 128 = partner l.val
    unfold partner; rw [if_neg h]; omega

/-- The partner of a column is a column of the slab. -/
theorem partner_lt (l : Fin 128) : partner l.val < 128 := by
  have := l.2; unfold partner; split_ifs <;> omega

/-- The rotated queries. -/
theorem pay7_apply (v16 v19 v22 : Vec Ideal S64x128 .f32) (c s q : ℕ → ℕ → ℝ)
    (hc : ∀ (n : Fin 64) (l : Fin 128), v16 (ix2 n l) = (c n.val l.val : EReal))
    (hs : ∀ (n : Fin 64) (l : Fin 128), v19 (ix2 n l) = (s n.val l.val : EReal))
    (hq : ∀ (n : Fin 64) (l : Fin 128), v22 (ix2 n l) = (q n.val l.val : EReal)) (n : Fin 64) (l : Fin 128) :
    (k0_pay7 (F := Ideal) v16 v19 v22 : FVec Ideal S64x128 .f32) (ix2 n l)
      = ((q n.val l.val * c n.val l.val + q n.val (partner l.val) * s n.val l.val : ℝ) : EReal) := by
  pointwise [k0_pay7, k0_pay5, k0_pay6]
  rw [rot_sel l (fun x => v22 (ix2 n x)) _ _ (partner_lt l), hc, hs, hq, hq]
  push_cast
  rfl

/-- The rotated and scaled keys. -/
theorem pay8_apply (v16 v19 v24 : Vec Ideal S64x128 .f32) (c s q : ℕ → ℕ → ℝ)
    (hc : ∀ (n : Fin 64) (l : Fin 128), v16 (ix2 n l) = (c n.val l.val : EReal))
    (hs : ∀ (n : Fin 64) (l : Fin 128), v19 (ix2 n l) = (s n.val l.val : EReal))
    (hq : ∀ (n : Fin 64) (l : Fin 128), v24 (ix2 n l) = (q n.val l.val : EReal)) (n : Fin 64) (l : Fin 128) :
    (k0_pay8 (F := Ideal) v16 v19 v24 : FVec Ideal S64x128 .f32) (ix2 n l)
      = (((q n.val l.val * c n.val l.val + q n.val (partner l.val) * s n.val l.val) * (1 / 8) : ℝ) : EReal) := by
  pointwise [k0_pay8, k0_pay5, k0_pay6]
  rw [rot_sel l (fun x => v24 (ix2 n x)) _ _ (partner_lt l), hc, hs, hq, hq]
  have h8 : Ideal.ofBits FTy.f32 1040187392#32 = ((1 / 8 : ℝ) : EReal) := by
    simp [Ideal.ofBits, Ideal.ieee, -EReal.coe_mul]; norm_num
  rw [h8]
  push_cast
  rfl

/-- The new state of a pair of heads. -/
def slabZ (v16 v19 v24 v26 : Vec Ideal S64x128 .f32) (v68 : Vec Ideal S1x128x128 .f32) (v83 : Vec Ideal S1x128 .f32) (v87 : Vec Ideal S64x128 .f32) :
    FVec Ideal S1x128x128 .f32 :=
  k0_pay17 (k0_pay14 v68 v83) (k0_pay15 k0_pay2 (k0_pay8 v16 v19 v24) v87) (k0_pay16 k0_pay2 v26) (constant S128x128 .f32 0x00000000#32)

/-- What a chunk adds to the carried state, at every entry. -/
theorem slabZ_apply (v16 v19 v24 v26 : Vec Ideal S64x128 .f32) (v68 : Vec Ideal S1x128x128 .f32) (v83 : Vec Ideal S1x128 .f32) (v87 : Vec Ideal S64x128 .f32)
    (k v kd : ℕ → ℕ → ℝ) (z : ℕ → ℕ → ℝ) (cd : ℕ → ℝ)
    (hk : ∀ (n : Fin 64) (l : Fin 128), (k0_pay8 (F := Ideal) v16 v19 v24 : FVec Ideal S64x128 .f32) (ix2 n l) = (k n.val l.val : EReal))
    (hv : ∀ (n : Fin 64) (l : Fin 128), v26 (ix2 n l) = (v n.val l.val : EReal))
    (hkd : ∀ (n : Fin 64) (l : Fin 128), v87 (ix2 n l) = (kd n.val l.val : EReal))
    (hz : ∀ (r l : Fin 128), v68 (ix3 0 r l) = (z r.val l.val : EReal))
    (hcd : ∀ (l : Fin 128), v83 (ix2 0 l) = (cd l.val : EReal)) (u : Fin 1) (r l : Fin 128) :
    slabZ v16 v19 v24 v26 v68 v83 v87 (ix3 u r l)
      = ((z r.val l.val * cd l.val + (if r.val / 64 = l.val / 64 then ∑ m ∈ range 64, (k m r.val * kd m r.val) * v m l.val else 0) : ℝ) : EReal) := by
  unfold slabZ
  pointwise [k0_pay17, k0_pay14, k0_pay12, k0_pay16]
  have h15 : ∀ x : Fin 128, (k0_pay15 (F := Ideal) k0_pay2 (k0_pay8 v16 v19 v24) v87 : FVec Ideal S128x128 .bf16) (ix2 x r)
      = ((bd (fun m l => k m l * kd m l) x.val r.val : ℝ) : EReal) := by
    intro x
    pointwise [k0_pay15]
    rw [sel2]
    unfold bd
    by_cases h : x.val / 64 = r.val / 64
    · rw [if_pos h, if_pos h]
      by_cases h' : x.val < 64
      · rw [dif_pos h', hk, hkd]; simp only [Nat.mod_eq_of_lt h']; push_cast; rfl
      · rw [dif_neg h', hk, hkd]
        have : x.val % 64 = x.val - 64 := by omega
        rw [this]; push_cast; rfl
    · rw [if_neg h, if_neg h]; rfl
  simp only [h15, pay11_apply v26 v hv, hz, hcd, ← EReal.coe_mul, coe_sum, ← EReal.coe_add]
  congr 2
  unfold bd
  have hr : r.val / 64 < 2 := by omega
  have hsum : ∀ x : Fin 128, (if x.val / 64 = r.val / 64 then k (x.val % 64) r.val * kd (x.val % 64) r.val else 0) * (if x.val / 64 = l.val / 64 then v (x.val % 64) l.val else 0)
      = if r.val / 64 = x.val / 64 then (if r.val / 64 = l.val / 64 then (k (x.val % 64) r.val * kd (x.val % 64) r.val) * v (x.val % 64) l.val else 0) else 0 := by
    intro x
    split_ifs <;> first | omega | simp
  rw [Finset.sum_congr rfl fun x _ => hsum x,
    Cert.Retention.Math.sum_block (fun x => if r.val / 64 = l.val / 64 then (k (x % 64) r.val * kd (x % 64) r.val) * v (x % 64) l.val else 0) _ hr]
  split_ifs with h
  · refine Finset.sum_congr rfl fun m hm => ?_
    have hm' := Finset.mem_range.1 hm
    have : (64 * (r.val / 64) + m) % 64 = m := by omega
    rw [this]
  · simp

/-- A row of a pair of heads: inside the chunk, and from the state. -/
def yp (q k v qd dm z : ℕ → ℕ → ℝ) (n l : ℕ) : ℝ :=
  ∑ m ∈ range 64, ((∑ d ∈ range 64, q n (64 * (l / 64) + d) * k m (64 * (l / 64) + d)) * dm (64 * (l / 64) + n) (64 * (l / 64) + m)) * v m l
    + ∑ d ∈ range 64, (q n (64 * (l / 64) + d) * qd n (64 * (l / 64) + d)) * z (64 * (l / 64) + d) l

/-- The rows of a pair of heads, one head above the other, before they are folded into one: at every entry. -/
theorem pay13_apply (v16 v19 v22 v26 v73 : Vec Ideal S64x128 .f32) (kk : FVec Ideal S64x128 .f32) (v65 v68 : Vec Ideal S1x128x128 .f32)
    (q k v qd dm z : ℕ → ℕ → ℝ)
    (hq : ∀ (n : Fin 64) (l : Fin 128), (k0_pay7 (F := Ideal) v16 v19 v22 : FVec Ideal S64x128 .f32) (ix2 n l) = (q n.val l.val : EReal))
    (hk : ∀ (n : Fin 64) (l : Fin 128), kk (ix2 n l) = (k n.val l.val : EReal))
    (hv : ∀ (n : Fin 64) (l : Fin 128), v26 (ix2 n l) = (v n.val l.val : EReal))
    (hqd : ∀ (n : Fin 64) (l : Fin 128), v73 (ix2 n l) = (qd n.val l.val : EReal))
    (hdm : ∀ (r l : Fin 128), v65 (ix3 0 r l) = (dm r.val l.val : EReal))
    (hz : ∀ (r l : Fin 128), v68 (ix3 0 r l) = (z r.val l.val : EReal))
    (hz0 : ∀ (r l : ℕ), r / 64 ≠ l / 64 → z r l = 0) (r l : Fin 128) :
    (k0_pay13 (F := Ideal) k0_pay2 v26 (k0_pay7 v16 v19 v22) kk (k0_pay9 v16 v19 v22) k0_pay10 v65 v68 v73 : FVec Ideal S128x128 .f32) (ix2 r l)
      = ((if r.val / 64 = l.val / 64 then yp q k v qd dm z (r.val % 64) l.val else 0 : ℝ) : EReal) := by
  have h9 : ∀ x y : Fin 128, (k0_pay9 (F := Ideal) v16 v19 v22 : FVec Ideal S128x128 .f32) (ix2 x y) = (q (x.val % 64) y.val : EReal) := by
    intro x y
    pointwise [k0_pay9]
    by_cases h' : x.val < 64
    · rw [dif_pos h', hq]; simp only [Nat.mod_eq_of_lt h']
    · rw [dif_neg h', hq]
      have : x.val % 64 = x.val - 64 := by omega
      rw [this]
  have h10 : ∀ x y : Fin 128, (k0_pay10 (F := Ideal) : FVec Ideal S128x128 .f32) (ix2 x y) = 0 := by
    intro x y
    pointwise [k0_pay10]
  pointwise [k0_pay13, k0_pay12]
  simp only [sel2, h9, h10]
  have h3 : ∀ x : Fin 128, (if h : r.val < 64 then (k0_pay7 (F := Ideal) v16 v19 v22 : FVec Ideal S64x128 .f32) (ix2 ⟨r.val, h⟩ x) * v73 (ix2 ⟨r.val, h⟩ x)
      else (k0_pay7 (F := Ideal) v16 v19 v22 : FVec Ideal S64x128 .f32) (ix2 ⟨r.val - 64, by omega⟩ x) * v73 (ix2 ⟨r.val - 64, by omega⟩ x))
      = ((q (r.val % 64) x.val * qd (r.val % 64) x.val : ℝ) : EReal) := by
    intro x
    by_cases h' : r.val < 64
    · rw [dif_pos h', hq, hqd]; simp only [Nat.mod_eq_of_lt h']; push_cast; rfl
    · rw [dif_neg h', hq, hqd]
      have : r.val % 64 = r.val - 64 := by omega
      rw [this]; push_cast; rfl
  simp only [h3, hk, hdm, hz, pay11_apply v26 v hv, coe_ite0, ← EReal.coe_mul, coe_sum, ← EReal.coe_add]
  congr 1
  have hr2 : r.val / 64 < 2 := by omega
  have hl2 : l.val / 64 < 2 := by omega
  have hlo : ∀ x : Fin 64, x.val / 64 = 0 := fun x => by omega
  have hhi : ∀ x : Fin 64, (64 + x.val) / 64 = 1 := fun x => by omega
  have hlm : ∀ x : Fin 64, x.val % 64 = x.val := fun x => by omega
  have hhm : ∀ x : Fin 64, (64 + x.val) % 64 = x.val := fun x => by omega
  have hin : ∀ (b : ℕ) (x : Fin 64), b < 2 →
      (∑ x_1 : Fin 128, if b = x_1.val / 64 then (if r.val / 64 = x_1.val / 64 then q (r.val % 64) x_1.val else 0) * k x.val x_1.val else 0)
        = if r.val / 64 = b then ∑ d ∈ range 64, q (r.val % 64) (64 * b + d) * k x.val (64 * b + d) else 0 := by
    intro b x hb
    rw [Cert.Retention.Math.sum_block (fun y => (if r.val / 64 = y / 64 then q (r.val % 64) y else 0) * k x.val y) b hb]
    by_cases h : r.val / 64 = b
    · rw [if_pos h]
      refine Finset.sum_congr rfl fun d hd => ?_
      have hd' := Finset.mem_range.1 hd
      rw [if_pos (by omega)]
    · rw [if_neg h]
      refine Finset.sum_eq_zero fun d hd => ?_
      have hd' := Finset.mem_range.1 hd
      rw [if_neg (by omega), zero_mul]
  have hst : (∑ x : Fin 128, if r.val / 64 = x.val / 64 then q (r.val % 64) x.val * qd (r.val % 64) x.val * z x.val l.val else 0)
      = ∑ d ∈ range 64, q (r.val % 64) (64 * (r.val / 64) + d) * qd (r.val % 64) (64 * (r.val / 64) + d) * z (64 * (r.val / 64) + d) l.val :=
    Cert.Retention.Math.sum_block (fun y => q (r.val % 64) y * qd (r.val % 64) y * z y l.val) _ hr2
  rw [hst]
  simp only [bd, hlo, hhi, hlm, hhm, hin 0 _ (by norm_num), hin 1 _ (by norm_num)]
  unfold yp
  rw [Fin.sum_univ_eq_sum_range (fun x => (if r.val / 64 = 0 then ∑ d ∈ range 64, q (r.val % 64) (64 * 0 + d) * k x (64 * 0 + d) else 0) * dm r.val x * if 0 = l.val / 64 then v x l.val else 0) 64,
    Fin.sum_univ_eq_sum_range (fun x => (if r.val / 64 = 1 then ∑ d ∈ range 64, q (r.val % 64) (64 * 1 + d) * k x (64 * 1 + d) else 0) * dm r.val (64 + x) * if 1 = l.val / 64 then v x l.val else 0) 64]
  have hrr : 64 * (r.val / 64) + r.val % 64 = r.val := Nat.div_add_mod _ _
  by_cases h : r.val / 64 = l.val / 64
  · rw [if_pos h, ← h]
    rcases (by omega : r.val / 64 = 0 ∨ r.val / 64 = 1) with h0 | h0
    · simp only [h0, Nat.mul_zero, Nat.zero_add] at hrr ⊢
      simp [hrr]
    · simp only [h0, Nat.mul_one] at hrr ⊢
      simp [hrr]
  · rw [if_neg h]
    have hz' : ∑ d ∈ range 64, q (r.val % 64) (64 * (r.val / 64) + d) * qd (r.val % 64) (64 * (r.val / 64) + d) * z (64 * (r.val / 64) + d) l.val = 0 := by
      refine Finset.sum_eq_zero fun d hd => ?_
      have hd' := Finset.mem_range.1 hd
      rw [hz0 _ _ (by omega), mul_zero]
    rw [hz', add_zero]
    rcases (by omega : (r.val / 64 = 0 ∧ l.val / 64 = 1) ∨ (r.val / 64 = 1 ∧ l.val / 64 = 0)) with ⟨h0, h1⟩ | ⟨h0, h1⟩
    · simp [h0, h1]
    · simp [h0, h1]

/-- A row of a pair of heads, normalised and gated. -/
def outRow (g : EReal) (y : ℕ → ℝ) (l : ℕ) : EReal :=
  g * Ideal.div 1 (1 + Ideal.exp (-g))
    * ((y l : EReal) * Ideal.rsqrt ((((∑ e ∈ range 64, y (64 * (l / 64) + e) * y (64 * (l / 64) + e)) / 64 : ℝ) : EReal) + Ideal.ofBits FTy.f32 0x358637BD#32))

/-- The rows a pair of heads writes. -/
def slabY (v10 : Vec Ideal S128x128 .bf16) (v16 v19 v22 v24 v26 v28 : Vec Ideal S64x128 .f32) (v65 v68 : Vec Ideal S1x128x128 .f32) (v73 : Vec Ideal S64x128 .f32) :
    FVec Ideal S64x128 .bf16 :=
  k0_pay18 (k0_pay3 v10) v28 (k0_pay13 k0_pay2 v26 (k0_pay7 v16 v19 v22) (k0_pay8 v16 v19 v24) (k0_pay9 v16 v19 v22) k0_pay10 v65 v68 v73)

/-- The output rows of a chunk, at every entry. -/
theorem slabY_apply (v10 : Vec Ideal S128x128 .bf16) (v16 v19 v22 v24 v26 v28 : Vec Ideal S64x128 .f32) (v65 v68 : Vec Ideal S1x128x128 .f32) (v73 : Vec Ideal S64x128 .f32)
    (q k v qd dm z : ℕ → ℕ → ℝ)
    (h1 : ∀ (r l : Fin 128), v10 (ix2 r l) = if r.val / 64 = l.val / 64 then 1 else 0)
    (hq : ∀ (n : Fin 64) (l : Fin 128), (k0_pay7 (F := Ideal) v16 v19 v22 : FVec Ideal S64x128 .f32) (ix2 n l) = (q n.val l.val : EReal))
    (hk : ∀ (n : Fin 64) (l : Fin 128), (k0_pay8 (F := Ideal) v16 v19 v24 : FVec Ideal S64x128 .f32) (ix2 n l) = (k n.val l.val : EReal))
    (hv : ∀ (n : Fin 64) (l : Fin 128), v26 (ix2 n l) = (v n.val l.val : EReal))
    (hqd : ∀ (n : Fin 64) (l : Fin 128), v73 (ix2 n l) = (qd n.val l.val : EReal))
    (hdm : ∀ (r l : Fin 128), v65 (ix3 0 r l) = (dm r.val l.val : EReal))
    (hz : ∀ (r l : Fin 128), v68 (ix3 0 r l) = (z r.val l.val : EReal))
    (hz0 : ∀ (r l : ℕ), r / 64 ≠ l / 64 → z r l = 0) (n : Fin 64) (l : Fin 128) :
    slabY v10 v16 v19 v22 v24 v26 v28 v65 v68 v73 (ix2 n l) = outRow (v28 (ix2 n l)) (fun e => yp q k v qd dm z n.val e) l.val := by
  unfold slabY
  have hy : ∀ (x : Fin 128) (h : n.val < 128) (h' : 64 + n.val < 128),
      (k0_pay13 (F := Ideal) k0_pay2 v26 (k0_pay7 v16 v19 v22) (k0_pay8 v16 v19 v24) (k0_pay9 v16 v19 v22) k0_pay10 v65 v68 v73 : FVec Ideal S128x128 .f32) (ix2 ⟨n.val, h⟩ x)
        + (k0_pay13 (F := Ideal) k0_pay2 v26 (k0_pay7 v16 v19 v22) (k0_pay8 v16 v19 v24) (k0_pay9 v16 v19 v22) k0_pay10 v65 v68 v73 : FVec Ideal S128x128 .f32) (ix2 ⟨64 + n.val, h'⟩ x)
        = ((yp q k v qd dm z n.val x.val : ℝ) : EReal) := by
    intro x h h'
    rw [pay13_apply v16 v19 v22 v26 v73 _ v65 v68 q k v qd dm z hq hk hv hqd hdm hz hz0,
      pay13_apply v16 v19 v22 v26 v73 _ v65 v68 q k v qd dm z hq hk hv hqd hdm hz hz0, ← EReal.coe_add]
    congr 1
    have e0 : n.val / 64 = 0 := by omega
    have e1 : (64 + n.val) / 64 = 1 := by omega
    have e2 : n.val % 64 = n.val := by omega
    have e3 : (64 + n.val) % 64 = n.val := by omega
    simp only [e0, e1, e2, e3]
    rcases (by omega : x.val / 64 = 0 ∨ x.val / 64 = 1) with hx | hx <;> simp [hx]
  generalize hY : (k0_pay13 (F := Ideal) k0_pay2 v26 (k0_pay7 v16 v19 v22) (k0_pay8 v16 v19 v24) (k0_pay9 v16 v19 v22) k0_pay10 v65 v68 v73 : FVec Ideal S128x128 .f32) = Y at hy ⊢
  clear hY
  pointwise [k0_pay18, k0_pay3]
  have h64 : Ideal.ofBits FTy.f32 1015021568#32 = ((1 / 64 : ℝ) : EReal) := by
    simp [Ideal.ofBits, Ideal.ieee, -EReal.coe_mul]; norm_num
  have hone : ∀ r l : Fin 128, v10 (ix2 r l) = (((if l.val / 64 = r.val / 64 then 1 else 0 : ℝ)) : EReal) := by
    intro r l
    rw [h1]
    by_cases h : r.val / 64 = l.val / 64
    · rw [if_pos h, if_pos h.symm]; rfl
    · rw [if_neg h, if_neg fun e => h e.symm]; rfl
  simp only [hy, hone, h64, ← EReal.coe_mul, ← EReal.coe_sub, coe_sum, ← EReal.coe_add, sub_self, zero_mul, Finset.sum_const_zero, add_zero, zero_sub]
  unfold outRow
  have hl2 : l.val / 64 < 2 := by omega
  have hs : (∑ x : Fin 128, yp q k v qd dm z n.val x.val * yp q k v qd dm z n.val x.val * if l.val / 64 = x.val / 64 then 1 else 0) * (1 / 64)
      = (∑ e ∈ range 64, yp q k v qd dm z n.val (64 * (l.val / 64) + e) * yp q k v qd dm z n.val (64 * (l.val / 64) + e)) / 64 := by
    rw [← Cert.Retention.Math.sum_block (fun x => yp q k v qd dm z n.val x * yp q k v qd dm z n.val x) _ hl2]
    simp only [mul_ite, mul_one, mul_zero]
    ring
  rw [hs]

end Cert.KernelIdeal.RetSlab

end
-- ==== Proof.RetTrip.lean ====
module

public import proofs.«01_k».proof.Proof.Gen.KernelIdeal.Loops
public import proofs.«01_k».proof.Proof.RetSlab

@[expose] public section

set_option maxRecDepth 16384

noncomputable section

namespace Cert.KernelIdeal.RetTrip

open Cert.KernelIdeal Cert.KernelIdeal.Gen Cert.KernelIdeal.RetSlab Idealize.ShloMosaic Idealize.ShloMosaic.TcCoe Idealize.SL.Sem

/-- The second slab's new state is the first slab's function at the second slab's reads. -/
theorem slabZ_one (a b c d : Vec Ideal S64x128 .f32) (e : Vec Ideal S1x128x128 .f32) (f : Vec Ideal S1x128 .f32) (g : Vec Ideal S64x128 .f32) :
    k0_pay26 k0_pay2 (k0_pay22 (k0_pay19 a) (k0_pay20 b) c) (k0_pay23 k0_pay2 d) e f g = slabZ a b c d e f g := rfl

/-- One trip of the loop writes, of the state and of the output rows, the two slabs' functions of what it reads. -/
theorem pieces (arg2 : Memref sig .tc .vmem S512x1024 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S2x128x128 .f32) (harg5 : arg5.IsWhole) (arg6 : Memref sig .tc .vmem S64x256 .f32) (harg6 : arg6.IsWhole) (arg7 : Memref sig .tc .vmem S64x256 .f32) (harg7 : arg7.IsWhole) (arg8 : Memref sig .tc .vmem S1x256 .f32) (harg8 : arg8.IsWhole) (arg9 : Memref sig .tc .vmem S128x128 .bf16) (harg9 : arg9.IsWhole) (arg10 : Memref sig .tc .vmem S512x256 .bf16) (harg10 : arg10.IsWhole) (arg11 : Memref sig .tc .vmem S2x128x128 .f32) (harg11 : arg11.IsWhole) (v10 : Vec Ideal S128x128 .bf16) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (k : Fin k0_t1_loop.trips) (f10 : BufTy.Contents (Elt Ideal) arg10.view.ty) (f11 : BufTy.Contents (Elt Ideal) arg11.view.ty) (c : Dev nD) (i : grid0.Coords) :
    tripL_k0_t1 (F := Ideal) Variants.none c none i arg2 harg2 arg3 harg3 arg4 harg4 arg5 harg5 arg6 harg6 arg7 harg7 arg8 harg8 arg9 harg9 arg10 harg10 arg11 harg11 v10 X2 X3 X4 X5 X6 X7 X8 k f10 f11 =
      ([⟨Rect.unit (s := S512x256) (k0_off6 k) S64x128.size (k0_off6_inb k), slabY v10 (View.readAt (Elt Ideal) arg3.view (Rect.unit (s := S512x256) (k0_off6 k) S64x128.size (k0_off6_inb k)).toLoadRect X3) (View.readAt (Elt Ideal) arg4.view (Rect.unit (s := S512x256) (k0_off6 k) S64x128.size (k0_off6_inb k)).toLoadRect X4) (View.readAt (Elt Ideal) arg2.view (Rect.unit (s := S512x1024) (k0_off7 k) S64x128.size (k0_off7_inb k)).toLoadRect X2) (View.readAt (Elt Ideal) arg2.view (Rect.unit (s := S512x1024) (k0_off8 k) S64x128.size (k0_off8_inb k)).toLoadRect X2) (View.readAt (Elt Ideal) arg2.view (Rect.unit (s := S512x1024) (k0_off9 k) S64x128.size (k0_off9_inb k)).toLoadRect X2) (View.readAt (Elt Ideal) arg2.view (Rect.unit (s := S512x1024) (k0_off10 k) S64x128.size (k0_off10_inb k)).toLoadRect X2) (View.readAt (Elt Ideal) arg5.view (Rect.unit (s := S2x128x128) ![1, 0, 0] S1x128x128.size inb_S2x128x128_S1x128x128_1_0_0).toLoadRect X5) (View.readAt (Elt Ideal) arg11.view (Rect.unit (s := S2x128x128) ![1, 0, 0] S1x128x128.size inb_S2x128x128_S1x128x128_1_0_0).toLoadRect f11) (View.readAt (Elt Ideal) arg6.view (Rect.unit (s := S64x256) ![0, 128] S64x128.size inb_S64x256_S64x128_0_128).toLoadRect X6)⟩, ⟨Rect.unit (s := S512x256) (k0_off1 k) S64x128.size (k0_off1_inb k), slabY v10 (View.readAt (Elt Ideal) arg3.view (Rect.unit (s := S512x256) (k0_off1 k) S64x128.size (k0_off1_inb k)).toLoadRect X3) (View.readAt (Elt Ideal) arg4.view (Rect.unit (s := S512x256) (k0_off1 k) S64x128.size (k0_off1_inb k)).toLoadRect X4) (View.readAt (Elt Ideal) arg2.view (Rect.unit (s := S512x1024) (k0_off2 k) S64x128.size (k0_off2_inb k)).toLoadRect X2) (View.readAt (Elt Ideal) arg2.view (Rect.unit (s := S512x1024) (k0_off3 k) S64x128.size (k0_off3_inb k)).toLoadRect X2) (View.readAt (Elt Ideal) arg2.view (Rect.unit (s := S512x1024) (k0_off4 k) S64x128.size (k0_off4_inb k)).toLoadRect X2) (View.readAt (Elt Ideal) arg2.view (Rect.unit (s := S512x1024) (k0_off5 k) S64x128.size (k0_off5_inb k)).toLoadRect X2) (View.readAt (Elt Ideal) arg5.view (Rect.unit (s := S2x128x128) ![0, 0, 0] S1x128x128.size inb_S2x128x128_S1x128x128_0_0_0).toLoadRect X5) (View.readAt (Elt Ideal) arg11.view (Rect.unit (s := S2x128x128) ![0, 0, 0] S1x128x128.size inb_S2x128x128_S1x128x128_0_0_0).toLoadRect f11) (View.readAt (Elt Ideal) arg6.view (Rect.unit (s := S64x256) ![0, 0] S64x128.size inb_S64x256_S64x128_0_0).toLoadRect X6)⟩],
       [⟨Rect.unit (s := S2x128x128) ![1, 0, 0] S1x128x128.size inb_S2x128x128_S1x128x128_1_0_0, slabZ (View.readAt (Elt Ideal) arg3.view (Rect.unit (s := S512x256) (k0_off6 k) S64x128.size (k0_off6_inb k)).toLoadRect X3) (View.readAt (Elt Ideal) arg4.view (Rect.unit (s := S512x256) (k0_off6 k) S64x128.size (k0_off6_inb k)).toLoadRect X4) (View.readAt (Elt Ideal) arg2.view (Rect.unit (s := S512x1024) (k0_off8 k) S64x128.size (k0_off8_inb k)).toLoadRect X2) (View.readAt (Elt Ideal) arg2.view (Rect.unit (s := S512x1024) (k0_off9 k) S64x128.size (k0_off9_inb k)).toLoadRect X2) (View.readAt (Elt Ideal) arg11.view (Rect.unit (s := S2x128x128) ![1, 0, 0] S1x128x128.size inb_S2x128x128_S1x128x128_1_0_0).toLoadRect f11) (View.readAt (Elt Ideal) arg8.view (Rect.unit (s := S1x256) ![0, 128] S1x128.size inb_S1x256_S1x128_0_128).toLoadRect X8) (View.readAt (Elt Ideal) arg7.view (Rect.unit (s := S64x256) ![0, 128] S64x128.size inb_S64x256_S64x128_0_128).toLoadRect X7)⟩, ⟨Rect.unit (s := S2x128x128) ![0, 0, 0] S1x128x128.size inb_S2x128x128_S1x128x128_0_0_0, slabZ (View.readAt (Elt Ideal) arg3.view (Rect.unit (s := S512x256) (k0_off1 k) S64x128.size (k0_off1_inb k)).toLoadRect X3) (View.readAt (Elt Ideal) arg4.view (Rect.unit (s := S512x256) (k0_off1 k) S64x128.size (k0_off1_inb k)).toLoadRect X4) (View.readAt (Elt Ideal) arg2.view (Rect.unit (s := S512x1024) (k0_off3 k) S64x128.size (k0_off3_inb k)).toLoadRect X2) (View.readAt (Elt Ideal) arg2.view (Rect.unit (s := S512x1024) (k0_off4 k) S64x128.size (k0_off4_inb k)).toLoadRect X2) (View.readAt (Elt Ideal) arg11.view (Rect.unit (s := S2x128x128) ![0, 0, 0] S1x128x128.size inb_S2x128x128_S1x128x128_0_0_0).toLoadRect f11) (View.readAt (Elt Ideal) arg8.view (Rect.unit (s := S1x256) ![0, 0] S1x128.size inb_S1x256_S1x128_0_0).toLoadRect X8) (View.readAt (Elt Ideal) arg7.view (Rect.unit (s := S64x256) ![0, 0] S64x128.size inb_S64x256_S64x128_0_0).toLoadRect X7)⟩]) := by
  unfold tripL_k0_t1 trip_k0_t1
  rfl

end Cert.KernelIdeal.RetTrip

end
-- ==== Proof.RetTile.lean ====
module

public import proofs.«01_k».proof.Proof.RetSlab

@[expose] public section

set_option maxRecDepth 16384

noncomputable section

namespace Cert.KernelIdeal.RetTile

open Cert.KernelIdeal Cert.KernelIdeal.Gen Cert.KernelIdeal.RetSlab Cert.Retention.Math Idealize.ShloMosaic Idealize.ShloMosaic.TcCoe Idealize.SL.Sem
open Finset

variable (lg : ℕ → ℝ) (q k v : ℕ → ℕ → ℕ → ℝ)

/-- The state of a pair of heads after `n` rows: the two heads' states in the diagonal blocks. -/
def zS (n p r l : ℕ) : ℝ :=
  if r / 64 = l / 64 then rZ (lg (2 * p + l / 64)) (k (2 * p + l / 64)) (v (2 * p + l / 64)) n (r % 64) (l % 64) else 0

/-- One entry of an output row, from the gate and the retention's row. -/
def outV (g : EReal) (y : ℕ → ℝ) (d : ℕ) : EReal :=
  g * Ideal.div 1 (1 + Ideal.exp (-g))
    * ((y d : EReal) * Ideal.rsqrt ((((∑ e ∈ range 64, y e * y e) / 64 : ℝ) : EReal) + Ideal.ofBits FTy.f32 0x358637BD#32))

/-- The decay inside a chunk of 64 rows, for a pair of heads. -/
def dmF (p r l : ℕ) : ℝ :=
  if r / 64 = l / 64 then (if l % 64 ≤ r % 64 then Real.exp ((((r % 64 : ℕ) : ℝ) - ((l % 64 : ℕ) : ℝ)) * lg (2 * p + l / 64)) else 0) else 0

/-- A slab's new state holds 64 more rows. -/
theorem slabZ_step (v16 v19 v24 v26 : Vec Ideal S64x128 .f32) (v68 : Vec Ideal S1x128x128 .f32) (v83 : Vec Ideal S1x128 .f32) (v87 : Vec Ideal S64x128 .f32)
    (N p : ℕ)
    (hk : ∀ (n : Fin 64) (l : Fin 128), (k0_pay8 (F := Ideal) v16 v19 v24 : FVec Ideal S64x128 .f32) (ix2 n l) = ((k (2 * p + l.val / 64) (N + n.val) (l.val % 64) : ℝ) : EReal))
    (hv : ∀ (n : Fin 64) (l : Fin 128), v26 (ix2 n l) = ((v (2 * p + l.val / 64) (N + n.val) (l.val % 64) : ℝ) : EReal))
    (hkd : ∀ (n : Fin 64) (l : Fin 128), v87 (ix2 n l) = ((Real.exp ((63 - (n.val : ℝ)) * lg (2 * p + l.val / 64)) : ℝ) : EReal))
    (hz : ∀ (r l : Fin 128), v68 (ix3 0 r l) = ((zS lg k v N p r.val l.val : ℝ) : EReal))
    (hcd : ∀ (l : Fin 128), v83 (ix2 0 l) = ((Real.exp (64 * lg (2 * p + l.val / 64)) : ℝ) : EReal)) (u : Fin 1) (r l : Fin 128) :
    slabZ v16 v19 v24 v26 v68 v83 v87 (ix3 u r l) = ((zS lg k v (N + 64) p r.val l.val : ℝ) : EReal) := by
  rw [slabZ_apply v16 v19 v24 v26 v68 v83 v87 (fun n l => k (2 * p + l / 64) (N + n) (l % 64)) (fun n l => v (2 * p + l / 64) (N + n) (l % 64))
    (fun n l => Real.exp ((63 - (n : ℝ)) * lg (2 * p + l / 64))) (fun r l => zS lg k v N p r l) (fun l => Real.exp (64 * lg (2 * p + l / 64)))
    hk hv hkd hz hcd]
  congr 1
  unfold zS
  by_cases h : r.val / 64 = l.val / 64
  · simp only [h, if_true]
    rw [rZ_add _ _ _ N 64]
    push_cast
    norm_num
  · simp only [h, if_false]
    ring

/-- A slab's output rows are the retention's rows, normalised and gated. -/
theorem slabY_step (v10 : Vec Ideal S128x128 .bf16) (v16 v19 v22 v24 v26 v28 : Vec Ideal S64x128 .f32) (v65 v68 : Vec Ideal S1x128x128 .f32) (v73 : Vec Ideal S64x128 .f32)
    (N p : ℕ)
    (h1 : ∀ (r l : Fin 128), v10 (ix2 r l) = if r.val / 64 = l.val / 64 then 1 else 0)
    (hq : ∀ (n : Fin 64) (l : Fin 128), (k0_pay7 (F := Ideal) v16 v19 v22 : FVec Ideal S64x128 .f32) (ix2 n l) = ((q (2 * p + l.val / 64) (N + n.val) (l.val % 64) : ℝ) : EReal))
    (hk : ∀ (n : Fin 64) (l : Fin 128), (k0_pay8 (F := Ideal) v16 v19 v24 : FVec Ideal S64x128 .f32) (ix2 n l) = ((k (2 * p + l.val / 64) (N + n.val) (l.val % 64) : ℝ) : EReal))
    (hv : ∀ (n : Fin 64) (l : Fin 128), v26 (ix2 n l) = ((v (2 * p + l.val / 64) (N + n.val) (l.val % 64) : ℝ) : EReal))
    (hqd : ∀ (n : Fin 64) (l : Fin 128), v73 (ix2 n l) = ((Real.exp (((n.val : ℝ) + 1) * lg (2 * p + l.val / 64)) : ℝ) : EReal))
    (hdm : ∀ (r l : Fin 128), v65 (ix3 0 r l) = ((dmF lg p r.val l.val : ℝ) : EReal))
    (hz : ∀ (r l : Fin 128), v68 (ix3 0 r l) = ((zS lg k v N p r.val l.val : ℝ) : EReal)) (n : Fin 64) (l : Fin 128) :
    slabY v10 v16 v19 v22 v24 v26 v28 v65 v68 v73 (ix2 n l)
      = outV (v28 (ix2 n l)) (fun e => rY (lg (2 * p + l.val / 64)) (q (2 * p + l.val / 64)) (k (2 * p + l.val / 64)) (v (2 * p + l.val / 64)) (N + n.val) e) (l.val % 64) := by
  rw [slabY_apply v10 v16 v19 v22 v24 v26 v28 v65 v68 v73 (fun n l => q (2 * p + l / 64) (N + n) (l % 64)) (fun n l => k (2 * p + l / 64) (N + n) (l % 64))
    (fun n l => v (2 * p + l / 64) (N + n) (l % 64)) (fun n l => Real.exp (((n : ℝ) + 1) * lg (2 * p + l / 64))) (fun r l => dmF lg p r l) (fun r l => zS lg k v N p r l)
    h1 hq hk hv hqd hdm hz (fun r l h => if_neg h)]
  have hn := n.2
  have hy : ∀ a e, e < 64 → yp (fun n l => q (2 * p + l / 64) (N + n) (l % 64)) (fun n l => k (2 * p + l / 64) (N + n) (l % 64))
      (fun n l => v (2 * p + l / 64) (N + n) (l % 64)) (fun n l => Real.exp (((n : ℝ) + 1) * lg (2 * p + l / 64))) (fun r l => dmF lg p r l) (fun r l => zS lg k v N p r l) n.val (64 * a + e)
      = rY (lg (2 * p + a)) (q (2 * p + a)) (k (2 * p + a)) (v (2 * p + a)) (N + n.val) e := by
    intro a e he
    have d0 : ∀ x, x < 64 → (64 * a + x) / 64 = a := fun x hx => by omega
    have d1 : ∀ x, x < 64 → (64 * a + x) % 64 = x := fun x hx => by omega
    rw [rY_add _ _ _ _ N 64 n.val e hn]
    unfold yp
    dsimp only
    rw [d0 e he, d1 e he]
    congr 1
    · refine Finset.sum_congr rfl fun m hm => ?_
      have hm' := Finset.mem_range.1 hm
      have hs : ∑ d ∈ range 64, q (2 * p + (64 * a + d) / 64) (N + n.val) ((64 * a + d) % 64) * k (2 * p + (64 * a + d) / 64) (N + m) ((64 * a + d) % 64)
          = ∑ d ∈ range 64, q (2 * p + a) (N + n.val) d * k (2 * p + a) (N + m) d :=
        Finset.sum_congr rfl fun d hd => by rw [d0 d (Finset.mem_range.1 hd), d1 d (Finset.mem_range.1 hd)]
      rw [hs]
      unfold dmF
      rw [d0 _ hn, d0 _ hm', d1 _ hn, d1 _ hm', if_pos rfl]
    · refine Finset.sum_congr rfl fun d hd => ?_
      have hd' := Finset.mem_range.1 hd
      unfold zS
      rw [d0 _ hd', d1 _ hd', d0 _ he, d1 _ he, if_pos rfl]
  have hl : l.val = 64 * (l.val / 64) + l.val % 64 := (Nat.div_add_mod _ _).symm
  have hlt : l.val % 64 < 64 := Nat.mod_lt _ (by norm_num)
  unfold outRow outV
  dsimp only
  have hY := hy (l.val / 64) (l.val % 64) hlt
  rw [← hl] at hY
  rw [hY, Finset.sum_congr rfl fun e he => by rw [hy (l.val / 64) e (Finset.mem_range.1 he)]]

end Cert.KernelIdeal.RetTile

end
-- ==== Proof.RetLoop.lean ====
module

public import proofs.«01_k».proof.Proof.RetTrip
public import proofs.«01_k».proof.Proof.RetTile
public import Idealize.ShloMosaic.Lib.WritesUnit
public import Idealize.ShloMosaic.Lib.Pipeline.ValueKit.Tiles

@[expose] public section

set_option maxRecDepth 16384

noncomputable section

namespace Cert.KernelIdeal.RetLoop

open Cert.KernelIdeal Cert.KernelIdeal.Gen Cert.KernelIdeal.RetSlab Cert.KernelIdeal.RetTile Cert.Retention.Math Idealize.ShloMosaic Idealize.ShloMosaic.TcCoe Idealize.SL.Sem
open Finset

/-- What the inputs of one tile hold, as real numbers: the packed rows, the two rotation tables and the four decay
tables; `q`, `k`, `v` by head, row and column. -/
structure Tile (lg : ℕ → ℝ) (q k v : ℕ → ℕ → ℕ → ℝ) (T : ℕ) (X C S : ℕ → ℕ → ℝ) (x0 : Vec Ideal S512x1024 .f32) (x1 x2 : Vec Ideal S512x256 .f32) (x3 : Vec Ideal S2x128x128 .f32) (x4 x5 : Vec Ideal S64x256 .f32) (x6 : Vec Ideal S1x256 .f32) (x7 : Vec Ideal S128x128 .bf16) : Prop where
  h0 : ∀ (n : Fin 512) (j : Fin 1024), j.val < 768 → x0 (ix2 n j) = (X n.val j.val : EReal)
  h1 : ∀ (n : Fin 512) (l : Fin 256), x1 (ix2 n l) = (C n.val l.val : EReal)
  h2 : ∀ (n : Fin 512) (l : Fin 256), x2 (ix2 n l) = (S n.val l.val : EReal)
  hq : ∀ n l, n < 512 → l < 256 → X n l * C n l + X n (partner l) * S n l = q (l / 64) (T + n) (l % 64)
  hk : ∀ n l, n < 512 → l < 256 → (X n (256 + l) * C n l + X n (256 + partner l) * S n l) * (1 / 8) = k (l / 64) (T + n) (l % 64)
  hv : ∀ n l, n < 512 → l < 256 → X n (512 + l) = v (l / 64) (T + n) (l % 64)
  h3 : ∀ (p : Fin 2) (r l : Fin 128), x3 (ix3 p r l) = ((dmF lg p.val r.val l.val : ℝ) : EReal)
  h4 : ∀ (n : Fin 64) (l : Fin 256), x4 (ix2 n l) = ((Real.exp (((n.val : ℝ) + 1) * lg (l.val / 64)) : ℝ) : EReal)
  h5 : ∀ (n : Fin 64) (l : Fin 256), x5 (ix2 n l) = ((Real.exp ((63 - (n.val : ℝ)) * lg (l.val / 64)) : ℝ) : EReal)
  h6 : ∀ (l : Fin 256), x6 (ix2 0 l) = ((Real.exp (64 * lg (l.val / 64)) : ℝ) : EReal)
  h7 : ∀ (r l : Fin 128), x7 (ix2 r l) = if r.val / 64 = l.val / 64 then 1 else 0

variable {lg : ℕ → ℝ} {q k v : ℕ → ℕ → ℕ → ℝ} {T : ℕ} {X C S : ℕ → ℕ → ℝ}
  {x0 : Vec Ideal S512x1024 .f32} {x1 x2 : Vec Ideal S512x256 .f32} {x3 : Vec Ideal S2x128x128 .f32} {x4 x5 : Vec Ideal S64x256 .f32} {x6 : Vec Ideal S1x256 .f32} {x7 : Vec Ideal S128x128 .bf16}

/-- The partner of a column stays in its slab of 128 columns. -/
theorem partner_add (p l : ℕ) : partner (128 * p + l) = 128 * p + partner l := by
  unfold partner
  have : (128 * p + l) / 32 % 2 = l / 32 % 2 := by omega
  rw [this]
  split_ifs <;> omega

/-- One trip on one pair of heads: the state's slab and the output rows. -/
theorem slabs (h : Tile lg q k v T X C S x0 x1 x2 x3 x4 x5 x6 x7) (p kk : ℕ) (hp : p < 2) (hkk : kk < 8)
    (v16 v19 v22 v24 v26 v28 : Vec Ideal S64x128 .f32) (v65 v68 : Vec Ideal S1x128x128 .f32) (v73 : Vec Ideal S64x128 .f32)
    (v83 : Vec Ideal S1x128 .f32) (v87 : Vec Ideal S64x128 .f32)
    (c16 : ∀ (n : Fin 64) (l : Fin 128) (i : Fin 512) (j : Fin 256), i.val = 64 * kk + n.val → j.val = 128 * p + l.val → v16 (ix2 n l) = x1 (ix2 i j))
    (c19 : ∀ (n : Fin 64) (l : Fin 128) (i : Fin 512) (j : Fin 256), i.val = 64 * kk + n.val → j.val = 128 * p + l.val → v19 (ix2 n l) = x2 (ix2 i j))
    (c22 : ∀ (n : Fin 64) (l : Fin 128) (i : Fin 512) (j : Fin 1024), i.val = 64 * kk + n.val → j.val = 128 * p + l.val → v22 (ix2 n l) = x0 (ix2 i j))
    (c24 : ∀ (n : Fin 64) (l : Fin 128) (i : Fin 512) (j : Fin 1024), i.val = 64 * kk + n.val → j.val = (256 + 128 * p) + l.val → v24 (ix2 n l) = x0 (ix2 i j))
    (c26 : ∀ (n : Fin 64) (l : Fin 128) (i : Fin 512) (j : Fin 1024), i.val = 64 * kk + n.val → j.val = (512 + 128 * p) + l.val → v26 (ix2 n l) = x0 (ix2 i j))
    (c28 : ∀ (n : Fin 64) (l : Fin 128) (i : Fin 512) (j : Fin 1024), i.val = 64 * kk + n.val → j.val = (768 + 128 * p) + l.val → v28 (ix2 n l) = x0 (ix2 i j))
    (c65 : ∀ (r l : Fin 128), v65 (ix3 0 r l) = x3 (ix3 ⟨p, hp⟩ r l))
    (c68 : ∀ (r l : Fin 128), v68 (ix3 0 r l) = ((zS lg k v (T + 64 * kk) p r.val l.val : ℝ) : EReal))
    (c73 : ∀ (n : Fin 64) (l : Fin 128) (i : Fin 64) (j : Fin 256), i.val = 0 + n.val → j.val = 128 * p + l.val → v73 (ix2 n l) = x4 (ix2 i j))
    (c87 : ∀ (n : Fin 64) (l : Fin 128) (i : Fin 64) (j : Fin 256), i.val = 0 + n.val → j.val = 128 * p + l.val → v87 (ix2 n l) = x5 (ix2 i j))
    (c83 : ∀ (n : Fin 1) (l : Fin 128) (i : Fin 1) (j : Fin 256), i.val = 0 + n.val → j.val = 128 * p + l.val → v83 (ix2 n l) = x6 (ix2 i j)) :
    (∀ (u : Fin 1) (r l : Fin 128), slabZ v16 v19 v24 v26 v68 v83 v87 (ix3 u r l) = ((zS lg k v (T + 64 * (kk + 1)) p r.val l.val : ℝ) : EReal))
    ∧ ∀ (n : Fin 64) (l : Fin 128) (i : Fin 512) (g : Fin 1024), i.val = 64 * kk + n.val → g.val = 768 + 128 * p + l.val →
      slabY x7 v16 v19 v22 v24 v26 v28 v65 v68 v73 (ix2 n l)
        = outV (x0 (ix2 i g)) (fun e => rY (lg (2 * p + l.val / 64)) (q (2 * p + l.val / 64)) (k (2 * p + l.val / 64)) (v (2 * p + l.val / 64)) (T + i.val) e) (l.val % 64) := by
  have hh : ∀ l : ℕ, (128 * p + l) / 64 = 2 * p + l / 64 := fun l => by omega
  have hm : ∀ l : ℕ, (128 * p + l) % 64 = l % 64 := fun l => by omega
  have k16 : ∀ (n : Fin 64) (l : Fin 128), v16 (ix2 n l) = ((C (64 * kk + n.val) (128 * p + l.val) : ℝ) : EReal) := fun n l => by
    rw [c16 n l ⟨64 * kk + n.val, by omega⟩ ⟨128 * p + l.val, by omega⟩ rfl rfl, h.h1]
  have k19 : ∀ (n : Fin 64) (l : Fin 128), v19 (ix2 n l) = ((S (64 * kk + n.val) (128 * p + l.val) : ℝ) : EReal) := fun n l => by
    rw [c19 n l ⟨64 * kk + n.val, by omega⟩ ⟨128 * p + l.val, by omega⟩ rfl rfl, h.h2]
  have k22 : ∀ (n : Fin 64) (l : Fin 128), v22 (ix2 n l) = ((X (64 * kk + n.val) (128 * p + l.val) : ℝ) : EReal) := fun n l => by
    rw [c22 n l ⟨64 * kk + n.val, by omega⟩ ⟨128 * p + l.val, by omega⟩ rfl rfl, h.h0 _ _ (show 128 * p + l.val < 768 by omega)]
  have k24 : ∀ (n : Fin 64) (l : Fin 128), v24 (ix2 n l) = ((X (64 * kk + n.val) (256 + 128 * p + l.val) : ℝ) : EReal) := fun n l => by
    rw [c24 n l ⟨64 * kk + n.val, by omega⟩ ⟨256 + 128 * p + l.val, by omega⟩ rfl rfl, h.h0 _ _ (show 256 + 128 * p + l.val < 768 by omega)]
  have k26 : ∀ (n : Fin 64) (l : Fin 128), v26 (ix2 n l) = ((v (2 * p + l.val / 64) ((T + 64 * kk) + n.val) (l.val % 64) : ℝ) : EReal) := fun n l => by
    rw [c26 n l ⟨64 * kk + n.val, by omega⟩ ⟨512 + 128 * p + l.val, by omega⟩ rfl rfl, h.h0 _ _ (show 512 + 128 * p + l.val < 768 by omega)]
    have := h.hv (64 * kk + n.val) (128 * p + l.val) (by omega) (by omega)
    rw [hh, hm] at this
    show ((X (64 * kk + n.val) (512 + 128 * p + l.val) : ℝ) : EReal) = _
    rw [show 512 + 128 * p + l.val = 512 + (128 * p + l.val) by omega, this, Nat.add_assoc]
  have hq : ∀ (n : Fin 64) (l : Fin 128), (k0_pay7 (F := Ideal) v16 v19 v22 : FVec Ideal S64x128 .f32) (ix2 n l) = ((q (2 * p + l.val / 64) ((T + 64 * kk) + n.val) (l.val % 64) : ℝ) : EReal) := by
    intro n l
    rw [pay7_apply v16 v19 v22 (fun n l => C (64 * kk + n) (128 * p + l)) (fun n l => S (64 * kk + n) (128 * p + l)) (fun n l => X (64 * kk + n) (128 * p + l)) k16 k19 k22]
    have := h.hq (64 * kk + n.val) (128 * p + l.val) (by omega) (by omega)
    rw [hh, hm, partner_add] at this
    rw [this, Nat.add_assoc]
  have hk : ∀ (n : Fin 64) (l : Fin 128), (k0_pay8 (F := Ideal) v16 v19 v24 : FVec Ideal S64x128 .f32) (ix2 n l) = ((k (2 * p + l.val / 64) ((T + 64 * kk) + n.val) (l.val % 64) : ℝ) : EReal) := by
    intro n l
    rw [pay8_apply v16 v19 v24 (fun n l => C (64 * kk + n) (128 * p + l)) (fun n l => S (64 * kk + n) (128 * p + l)) (fun n l => X (64 * kk + n) (256 + 128 * p + l)) k16 k19 k24]
    have := h.hk (64 * kk + n.val) (128 * p + l.val) (by omega) (by omega)
    rw [hh, hm, partner_add] at this
    rw [show 256 + 128 * p + l.val = 256 + (128 * p + l.val) by omega, show 256 + 128 * p + partner l.val = 256 + (128 * p + partner l.val) by omega, this, Nat.add_assoc]
  have hkd : ∀ (n : Fin 64) (l : Fin 128), v87 (ix2 n l) = ((Real.exp ((63 - (n.val : ℝ)) * lg (2 * p + l.val / 64)) : ℝ) : EReal) := fun n l => by
    rw [c87 n l n ⟨128 * p + l.val, by omega⟩ (by omega) rfl, h.h5, hh]
  have hqd : ∀ (n : Fin 64) (l : Fin 128), v73 (ix2 n l) = ((Real.exp (((n.val : ℝ) + 1) * lg (2 * p + l.val / 64)) : ℝ) : EReal) := fun n l => by
    rw [c73 n l n ⟨128 * p + l.val, by omega⟩ (by omega) rfl, h.h4, hh]
  have hcd : ∀ (l : Fin 128), v83 (ix2 0 l) = ((Real.exp (64 * lg (2 * p + l.val / 64)) : ℝ) : EReal) := fun l => by
    rw [c83 0 l 0 ⟨128 * p + l.val, by omega⟩ rfl rfl, h.h6, hh]
  have hdm : ∀ (r l : Fin 128), v65 (ix3 0 r l) = ((dmF lg p r.val l.val : ℝ) : EReal) := fun r l => by
    rw [c65, h.h3]
  refine ⟨fun u r l => ?_, fun n l i g hi hg => ?_⟩
  · rw [slabZ_step lg k v v16 v19 v24 v26 v68 v83 v87 (T + 64 * kk) p hk k26 hkd c68 hcd u r l]
    congr 2
  · rw [slabY_step lg q k v x7 v16 v19 v22 v24 v26 v28 v65 v68 v73 (T + 64 * kk) p h.h7 hq hk k26 hqd hdm c68 n l, c28 n l i g hi hg, hi, Nat.add_assoc]

/-- A read of a rectangle of a matrix, at an index. -/
theorem readAt2 {κ : Kind} {sp : Space} {R D r d : ℕ} {e : EltTy} (w : View sig κ sp (⟨2, ![R, D]⟩ : Shape) e) (f : w.ty.Contents (Elt Ideal)) (x : Vec Ideal (⟨2, ![R, D]⟩ : Shape) e)
    (hx : w.read (Elt Ideal) f = x) (off : Fin 2 → ℕ) (o0 o1 : ℕ) (hoff : off = ![o0, o1]) (inb : ∀ a, off a + (![r, d] : Fin 2 → ℕ) a ≤ (⟨2, ![R, D]⟩ : Shape).size a)
    (n : Fin r) (l : Fin d) (i : Fin R) (j : Fin D) (hi : i.val = o0 + n.val) (hj : j.val = o1 + l.val) :
    w.readAt (Elt Ideal) (Rect.unit (s := (⟨2, ![R, D]⟩ : Shape)) off ![r, d] inb).toLoadRect f (ix2 n l) = x (ix2 i j) := by
  subst hx hoff
  rw [View.readAt_eq_ld]
  exact View.ld_unit_apply_of (S := (⟨2, ![R, D]⟩ : Shape)) _ _ _ _ (ix2 n l) (ix2 i j) fun a => by
    match a with
    | ⟨0, _⟩ => exact hi
    | ⟨1, _⟩ => exact hj

/-- A read of a slab of a stack of matrices, at an index. -/
theorem readAt3 {κ : Kind} {sp : Space} (w : View sig κ sp S2x128x128 .f32) (f : w.ty.Contents (Elt Ideal))
    (off : Fin 3 → ℕ) (p : Fin 2) (hoff : off = ![p.val, 0, 0]) (inb : ∀ a, off a + S1x128x128.size a ≤ S2x128x128.size a)
    (r l : Fin 128) :
    w.readAt (Elt Ideal) (Rect.unit (s := S2x128x128) off S1x128x128.size inb).toLoadRect f (ix3 0 r l) = w.read (Elt Ideal) f (ix3 p r l) := by
  subst hoff
  rw [View.readAt_eq_ld]
  exact View.ld_unit_apply_of (S := S2x128x128) _ _ _ _ (ix3 0 r l) (ix3 p r l) fun a => by
    match a with
    | ⟨0, _⟩ => exact (Nat.add_zero _).symm
    | ⟨1, _⟩ => exact (Nat.zero_add _).symm
    | ⟨2, _⟩ => exact (Nat.zero_add _).symm

/-- Where access 1 of a trip begins. -/
theorem off1 : ∀ k : Fin k0_t1_loop.trips, k0_off1 k = ![64 * k.val, 128 * 0] := by decide +kernel
/-- Where access 2 of a trip begins. -/
theorem off2 : ∀ k : Fin k0_t1_loop.trips, k0_off2 k = ![64 * k.val, 128 * 0] := by decide +kernel
/-- Where access 3 of a trip begins. -/
theorem off3 : ∀ k : Fin k0_t1_loop.trips, k0_off3 k = ![64 * k.val, 256 + 128 * 0] := by decide +kernel
/-- Where access 4 of a trip begins. -/
theorem off4 : ∀ k : Fin k0_t1_loop.trips, k0_off4 k = ![64 * k.val, 512 + 128 * 0] := by decide +kernel
/-- Where access 5 of a trip begins. -/
theorem off5 : ∀ k : Fin k0_t1_loop.trips, k0_off5 k = ![64 * k.val, 768 + 128 * 0] := by decide +kernel
/-- Where access 6 of a trip begins. -/
theorem off6 : ∀ k : Fin k0_t1_loop.trips, k0_off6 k = ![64 * k.val, 128 * 1] := by decide +kernel
/-- Where access 7 of a trip begins. -/
theorem off7 : ∀ k : Fin k0_t1_loop.trips, k0_off7 k = ![64 * k.val, 128 * 1] := by decide +kernel
/-- Where access 8 of a trip begins. -/
theorem off8 : ∀ k : Fin k0_t1_loop.trips, k0_off8 k = ![64 * k.val, 256 + 128 * 1] := by decide +kernel
/-- Where access 9 of a trip begins. -/
theorem off9 : ∀ k : Fin k0_t1_loop.trips, k0_off9 k = ![64 * k.val, 512 + 128 * 1] := by decide +kernel
/-- Where access 10 of a trip begins. -/
theorem off10 : ∀ k : Fin k0_t1_loop.trips, k0_off10 k = ![64 * k.val, 768 + 128 * 1] := by decide +kernel

/-- The loop's invariant: after `n` trips the state holds `T + 64 n` rows and the first `64 n` output rows are written. -/
theorem inv (h : Tile lg q k v T X C S x0 x1 x2 x3 x4 x5 x6 x7) (arg2 : Memref sig .tc .vmem S512x1024 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S2x128x128 .f32) (harg5 : arg5.IsWhole) (arg6 : Memref sig .tc .vmem S64x256 .f32) (harg6 : arg6.IsWhole) (arg7 : Memref sig .tc .vmem S64x256 .f32) (harg7 : arg7.IsWhole) (arg8 : Memref sig .tc .vmem S1x256 .f32) (harg8 : arg8.IsWhole) (arg9 : Memref sig .tc .vmem S128x128 .bf16) (harg9 : arg9.IsWhole) (arg10 : Memref sig .tc .vmem S512x256 .bf16) (harg10 : arg10.IsWhole) (arg11 : Memref sig .tc .vmem S2x128x128 .f32) (harg11 : arg11.IsWhole) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (r2 : arg2.view.read (Elt Ideal) X2 = x0) (r3 : arg3.view.read (Elt Ideal) X3 = x1) (r4 : arg4.view.read (Elt Ideal) X4 = x2) (r5 : arg5.view.read (Elt Ideal) X5 = x3) (r6 : arg6.view.read (Elt Ideal) X6 = x4) (r7 : arg7.view.read (Elt Ideal) X7 = x5) (r8 : arg8.view.read (Elt Ideal) X8 = x6)
    (c : Dev nD) (i : grid0.Coords) (G10 : BufTy.Contents (Elt Ideal) arg10.view.ty) (G11 : BufTy.Contents (Elt Ideal) arg11.view.ty)
    (hG : ∀ (p : Fin 2) (r l : Fin 128), arg11.view.read (Elt Ideal) G11 (ix3 p r l) = ((zS lg k v T p.val r.val l.val : ℝ) : EReal)) :
    ∀ n : ℕ, n ≤ k0_t1_loop.trips →
      (∀ (p : Fin 2) (r l : Fin 128), arg11.view.read (Elt Ideal) (arg11.view.writes (Elt Ideal) G11 (pb_k0_t1 (F := Ideal) Variants.none c none i arg2 harg2 arg3 harg3 arg4 harg4 arg5 harg5 arg6 harg6 arg7 harg7 arg8 harg8 arg9 harg9 arg10 harg10 arg11 harg11 x7 X2 X3 X4 X5 X6 X7 X8 G10 G11 n).2) (ix3 p r l) = ((zS lg k v (T + 64 * n) p.val r.val l.val : ℝ) : EReal))
      ∧ ∀ (y : Fin 512) (l : Fin 256) (g : Fin 1024), y.val < 64 * n → g.val = 768 + l.val →
        arg10.view.read (Elt Ideal) (arg10.view.writes (Elt Ideal) G10 (pb_k0_t1 (F := Ideal) Variants.none c none i arg2 harg2 arg3 harg3 arg4 harg4 arg5 harg5 arg6 harg6 arg7 harg7 arg8 harg8 arg9 harg9 arg10 harg10 arg11 harg11 x7 X2 X3 X4 X5 X6 X7 X8 G10 G11 n).1) (ix2 y l)
          = outV (x0 (ix2 y g)) (fun e => rY (lg (l.val / 64)) (q (l.val / 64)) (k (l.val / 64)) (v (l.val / 64)) (T + y.val) e) (l.val % 64) := by
  intro n
  induction n with
  | zero => exact fun _ => ⟨fun p r l => hG p r l, fun y l g hy _ => absurd hy (by omega)⟩
  | succ n ih =>
    intro hn
    obtain ⟨ihZ, ihY⟩ := ih (Nat.le_of_succ_le hn)
    have hn8 : n < 8 := Nat.lt_of_lt_of_le hn k0_t1_abs.2.1
    have hs := pb_k0_t1_succ (F := Ideal) Variants.none c none i arg2 harg2 arg3 harg3 arg4 harg4 arg5 harg5 arg6 harg6 arg7 harg7 arg8 harg8 arg9 harg9 arg10 harg10 arg11 harg11 x7 X2 X3 X4 X5 X6 X7 X8 G10 G11 ⟨n, hn⟩
    rw [Cert.KernelIdeal.RetTrip.pieces arg2 harg2 arg3 harg3 arg4 harg4 arg5 harg5 arg6 harg6 arg7 harg7 arg8 harg8 arg9 harg9 arg10 harg10 arg11 harg11 x7 X2 X3 X4 X5 X6 X7 X8 ⟨n, hn⟩ _ _ c i] at hs
    rw [show n + 1 = (⟨n, hn⟩ : Fin k0_t1_loop.trips).val + 1 from rfl, hs]
    generalize hk : (⟨n, hn⟩ : Fin k0_t1_loop.trips) = kf at hs ⊢
    have hkv : kf.val = n := by rw [← hk]
    clear hs hk
    subst hkv
    generalize hP : (pb_k0_t1 (F := Ideal) Variants.none c none i arg2 harg2 arg3 harg3 arg4 harg4 arg5 harg5 arg6 harg6 arg7 harg7 arg8 harg8 arg9 harg9 arg10 harg10 arg11 harg11 x7 X2 X3 X4 X5 X6 X7 X8 G10 G11 kf.val) = P at ihZ ihY ⊢
    clear hP
    have S1 := slabs h 1 kf.val (by norm_num) hn8 (View.readAt (Elt Ideal) arg3.view (Rect.unit (s := S512x256) (k0_off6 kf) S64x128.size (k0_off6_inb kf)).toLoadRect X3) (View.readAt (Elt Ideal) arg4.view (Rect.unit (s := S512x256) (k0_off6 kf) S64x128.size (k0_off6_inb kf)).toLoadRect X4) (View.readAt (Elt Ideal) arg2.view (Rect.unit (s := S512x1024) (k0_off7 kf) S64x128.size (k0_off7_inb kf)).toLoadRect X2) (View.readAt (Elt Ideal) arg2.view (Rect.unit (s := S512x1024) (k0_off8 kf) S64x128.size (k0_off8_inb kf)).toLoadRect X2) (View.readAt (Elt Ideal) arg2.view (Rect.unit (s := S512x1024) (k0_off9 kf) S64x128.size (k0_off9_inb kf)).toLoadRect X2) (View.readAt (Elt Ideal) arg2.view (Rect.unit (s := S512x1024) (k0_off10 kf) S64x128.size (k0_off10_inb kf)).toLoadRect X2) (View.readAt (Elt Ideal) arg5.view (Rect.unit (s := S2x128x128) ![1, 0, 0] S1x128x128.size inb_S2x128x128_S1x128x128_1_0_0).toLoadRect X5) (View.readAt (Elt Ideal) arg11.view (Rect.unit (s := S2x128x128) ![1, 0, 0] S1x128x128.size inb_S2x128x128_S1x128x128_1_0_0).toLoadRect (arg11.view.writes (Elt Ideal) G11 P.2)) (View.readAt (Elt Ideal) arg6.view (Rect.unit (s := S64x256) ![0, 128] S64x128.size inb_S64x256_S64x128_0_128).toLoadRect X6) (View.readAt (Elt Ideal) arg8.view (Rect.unit (s := S1x256) ![0, 128] S1x128.size inb_S1x256_S1x128_0_128).toLoadRect X8) (View.readAt (Elt Ideal) arg7.view (Rect.unit (s := S64x256) ![0, 128] S64x128.size inb_S64x256_S64x128_0_128).toLoadRect X7)
        (fun n l i j hi hj => readAt2 arg3.view X3 x1 r3 _ _ _ (off6 kf) _ n l i j hi hj)
        (fun n l i j hi hj => readAt2 arg4.view X4 x2 r4 _ _ _ (off6 kf) _ n l i j hi hj)
        (fun n l i j hi hj => readAt2 arg2.view X2 x0 r2 _ _ _ (off7 kf) _ n l i j hi hj)
        (fun n l i j hi hj => readAt2 arg2.view X2 x0 r2 _ _ _ (off8 kf) _ n l i j hi hj)
        (fun n l i j hi hj => readAt2 arg2.view X2 x0 r2 _ _ _ (off9 kf) _ n l i j hi hj)
        (fun n l i j hi hj => readAt2 arg2.view X2 x0 r2 _ _ _ (off10 kf) _ n l i j hi hj)
        (fun r l => (readAt3 arg5.view X5 _ 1 rfl _ r l).trans (congrFun r5 _))
        (fun r l => (readAt3 arg11.view _ _ 1 rfl _ r l).trans (ihZ 1 r l))
        (fun n l i j hi hj => readAt2 arg6.view X6 x4 r6 _ 0 _ rfl _ n l i j hi hj)
        (fun n l i j hi hj => readAt2 arg7.view X7 x5 r7 _ 0 _ rfl _ n l i j hi hj)
        (fun n l i j hi hj => readAt2 arg8.view X8 x6 r8 _ 0 _ rfl _ n l i j hi hj)
    have S0 := slabs h 0 kf.val (by norm_num) hn8 (View.readAt (Elt Ideal) arg3.view (Rect.unit (s := S512x256) (k0_off1 kf) S64x128.size (k0_off1_inb kf)).toLoadRect X3) (View.readAt (Elt Ideal) arg4.view (Rect.unit (s := S512x256) (k0_off1 kf) S64x128.size (k0_off1_inb kf)).toLoadRect X4) (View.readAt (Elt Ideal) arg2.view (Rect.unit (s := S512x1024) (k0_off2 kf) S64x128.size (k0_off2_inb kf)).toLoadRect X2) (View.readAt (Elt Ideal) arg2.view (Rect.unit (s := S512x1024) (k0_off3 kf) S64x128.size (k0_off3_inb kf)).toLoadRect X2) (View.readAt (Elt Ideal) arg2.view (Rect.unit (s := S512x1024) (k0_off4 kf) S64x128.size (k0_off4_inb kf)).toLoadRect X2) (View.readAt (Elt Ideal) arg2.view (Rect.unit (s := S512x1024) (k0_off5 kf) S64x128.size (k0_off5_inb kf)).toLoadRect X2) (View.readAt (Elt Ideal) arg5.view (Rect.unit (s := S2x128x128) ![0, 0, 0] S1x128x128.size inb_S2x128x128_S1x128x128_0_0_0).toLoadRect X5) (View.readAt (Elt Ideal) arg11.view (Rect.unit (s := S2x128x128) ![0, 0, 0] S1x128x128.size inb_S2x128x128_S1x128x128_0_0_0).toLoadRect (arg11.view.writes (Elt Ideal) G11 P.2)) (View.readAt (Elt Ideal) arg6.view (Rect.unit (s := S64x256) ![0, 0] S64x128.size inb_S64x256_S64x128_0_0).toLoadRect X6) (View.readAt (Elt Ideal) arg8.view (Rect.unit (s := S1x256) ![0, 0] S1x128.size inb_S1x256_S1x128_0_0).toLoadRect X8) (View.readAt (Elt Ideal) arg7.view (Rect.unit (s := S64x256) ![0, 0] S64x128.size inb_S64x256_S64x128_0_0).toLoadRect X7)
        (fun n l i j hi hj => readAt2 arg3.view X3 x1 r3 _ _ _ (off1 kf) _ n l i j hi hj)
        (fun n l i j hi hj => readAt2 arg4.view X4 x2 r4 _ _ _ (off1 kf) _ n l i j hi hj)
        (fun n l i j hi hj => readAt2 arg2.view X2 x0 r2 _ _ _ (off2 kf) _ n l i j hi hj)
        (fun n l i j hi hj => readAt2 arg2.view X2 x0 r2 _ _ _ (off3 kf) _ n l i j hi hj)
        (fun n l i j hi hj => readAt2 arg2.view X2 x0 r2 _ _ _ (off4 kf) _ n l i j hi hj)
        (fun n l i j hi hj => readAt2 arg2.view X2 x0 r2 _ _ _ (off5 kf) _ n l i j hi hj)
        (fun r l => (readAt3 arg5.view X5 _ 0 rfl _ r l).trans (congrFun r5 _))
        (fun r l => (readAt3 arg11.view _ _ 0 rfl _ r l).trans (ihZ 0 r l))
        (fun n l i j hi hj => readAt2 arg6.view X6 x4 r6 _ 0 _ rfl _ n l i j hi hj)
        (fun n l i j hi hj => readAt2 arg7.view X7 x5 r7 _ 0 _ rfl _ n l i j hi hj)
        (fun n l i j hi hj => readAt2 arg8.view X8 x6 r8 _ 0 _ rfl _ n l i j hi hj)
    constructor
    · intro p r l
      match p with
      | ⟨0, _⟩ =>
        refine (View.read_writes_cons_unit_of_not_mem arg11.view _ _ _ _ (ix3 0 r l) rfl 0 (Or.inl Nat.zero_lt_one)).trans ?_
        refine (View.read_writes_cons_unit_of_mem arg11.view _ _ _ _ (ix3 0 r l) (ix3 0 r l) rfl fun a => ?_).trans (S0.1 0 r l)
        match a with
        | ⟨0, _⟩ => rfl
        | ⟨1, _⟩ => exact (Nat.zero_add _).symm
        | ⟨2, _⟩ => exact (Nat.zero_add _).symm
      | ⟨1, _⟩ =>
        refine (View.read_writes_cons_unit_of_mem arg11.view _ _ _ _ (ix3 1 r l) (ix3 0 r l) rfl fun a => ?_).trans (S1.1 0 r l)
        match a with
        | ⟨0, _⟩ => rfl
        | ⟨1, _⟩ => exact (Nat.zero_add _).symm
        | ⟨2, _⟩ => exact (Nat.zero_add _).symm
    · intro y l g hy hg
      by_cases hold : y.val < 64 * kf.val
      · refine (View.read_writes_cons_unit_of_not_mem arg10.view _ _ _ _ (ix2 y l) (off6 kf) 0 (Or.inl hold)).trans ?_
        refine (View.read_writes_cons_unit_of_not_mem arg10.view _ _ _ _ (ix2 y l) (off1 kf) 0 (Or.inl hold)).trans ?_
        exact ihY y l g hold hg
      · by_cases hl : l.val < 128
        · refine (View.read_writes_cons_unit_of_not_mem arg10.view _ _ _ _ (ix2 y l) (off6 kf) 1 (Or.inl hl)).trans ?_
          refine (View.read_writes_cons_unit_of_mem arg10.view _ _ _ _ (ix2 y l) (ix2 ⟨y.val - 64 * kf.val, by omega⟩ ⟨l.val, hl⟩) (off1 kf) fun a => ?_).trans ?_
          · match a with
            | ⟨0, _⟩ => show y.val = 64 * kf.val + (y.val - 64 * kf.val); omega
            | ⟨1, _⟩ => show l.val = 128 * 0 + l.val; omega
          · refine (S0.2 _ _ y g (by show y.val = 64 * kf.val + (y.val - 64 * kf.val); omega) (by show g.val = 768 + 128 * 0 + l.val; omega)).trans ?_
            simp only [Nat.mul_zero, Nat.zero_add]
        · refine (View.read_writes_cons_unit_of_mem arg10.view _ _ _ _ (ix2 y l) (ix2 ⟨y.val - 64 * kf.val, by omega⟩ ⟨l.val - 128, by omega⟩) (off6 kf) fun a => ?_).trans ?_
          · match a with
            | ⟨0, _⟩ => show y.val = 64 * kf.val + (y.val - 64 * kf.val); omega
            | ⟨1, _⟩ => show l.val = 128 * 1 + (l.val - 128); omega
          · refine (S1.2 _ _ y g (by show y.val = 64 * kf.val + (y.val - 64 * kf.val); omega) (by show g.val = 768 + 128 * 1 + (l.val - 128); omega)).trans ?_
            have e1 : 2 * 1 + (l.val - 128) / 64 = l.val / 64 := by omega
            have e2 : (l.val - 128) % 64 = l.val % 64 := by omega
            show outV (x0 (ix2 y g)) (fun e => rY (lg (2 * 1 + (l.val - 128) / 64)) (q (2 * 1 + (l.val - 128) / 64)) (k (2 * 1 + (l.val - 128) / 64)) (v (2 * 1 + (l.val - 128) / 64)) (T + y.val) e) ((l.val - 128) % 64) = _
            rw [e1, e2]

end Cert.KernelIdeal.RetLoop

end
-- ==== Proof.RetPoint.lean ====
module

public import proofs.«01_k».proof.Proof.RetFrameIdeal
public import proofs.«01_k».proof.Proof.RetLoop
public import Idealize.ShloMosaic.Lib.VecWindow

@[expose] public section

set_option maxRecDepth 16384

noncomputable section

namespace Cert.KernelIdeal.RetPoint

open Cert.KernelIdeal Cert.KernelIdeal.Gen Cert.KernelIdeal.Ret Cert.KernelIdeal.RetTile Cert.KernelIdeal.RetLoop Cert.Retention.Math Idealize.ShloMosaic Idealize.ShloMosaic.TcCoe Idealize.SL.Sem

/-- The offsets of a whole block are zero. -/
theorem hz : (![0, 0] : Fin 2 → ℕ) = fun _ => 0 := by decide

variable {lg : ℕ → ℝ} {q k v : ℕ → ℕ → ℕ → ℝ} {T : ℕ} {X C S : ℕ → ℕ → ℝ} {x0 : Vec Ideal S512x1024 .f32} {x1 x2 : Vec Ideal S512x256 .f32} {x3 : Vec Ideal S2x128x128 .f32} {x4 x5 : Vec Ideal S64x256 .f32} {x6 : Vec Ideal S1x256 .f32} {x7 : Vec Ideal S128x128 .bf16}

/-- What a point of case A leaves: the state with 512 more rows, and the block's output rows. -/
theorem pointA (h : Tile lg q k v 0 X C S x0 x1 x2 x3 x4 x5 x6 x7) (arg2 : Memref sig .tc .vmem S512x1024 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S2x128x128 .f32) (harg5 : arg5.IsWhole) (arg6 : Memref sig .tc .vmem S64x256 .f32) (harg6 : arg6.IsWhole) (arg7 : Memref sig .tc .vmem S64x256 .f32) (harg7 : arg7.IsWhole) (arg8 : Memref sig .tc .vmem S1x256 .f32) (harg8 : arg8.IsWhole) (arg9 : Memref sig .tc .vmem S128x128 .bf16) (harg9 : arg9.IsWhole) (arg10 : Memref sig .tc .vmem S512x256 .bf16) (harg10 : arg10.IsWhole) (arg11 : Memref sig .tc .vmem S2x128x128 .f32) (harg11 : arg11.IsWhole) (c : Dev nD) (i : grid0.Coords) (hc0 : cond0_0 i) :
    (∀ (p : Fin 2) (r l : Fin 128), sout0_A_0 (F := Ideal) c i arg2 harg2 arg3 harg3 arg4 harg4 arg5 harg5 arg6 harg6 arg7 harg7 arg8 harg8 arg9 harg9 arg10 harg10 arg11 harg11 hc0 x0 x1 x2 x3 x4 x5 x6 x7 (ix3 p r l) = ((zS lg k v (0 + 512) p.val r.val l.val : ℝ) : EReal))
    ∧ ∀ (y : Fin 512) (l : Fin 256) (g : Fin 1024), g.val = 768 + l.val → out0_A_8 (F := Ideal) c i arg2 harg2 arg3 harg3 arg4 harg4 arg5 harg5 arg6 harg6 arg7 harg7 arg8 harg8 arg9 harg9 arg10 harg10 arg11 harg11 hc0 x0 x1 x2 x3 x4 x5 x6 x7 (ix2 y l) = outV (x0 (ix2 y g)) (fun e => rY (lg (l.val / 64)) (q (l.val / 64)) (k (l.val / 64)) (v (l.val / 64)) (0 + y.val) e) (l.val % 64) := by
  have e10 : (View.readAt (Elt Ideal) arg9.view (Rect.unit (s := S128x128) ![0, 0] ![128, 128] inb_S128x128_S128x128_0_0).toLoadRect (harg9.unread x7)) = x7 := by
    rw [View.readAt_eq_ld, harg9.read_unread]
    exact View.ld_unit_zero (S := S128x128) hz _ _
  have eY : (kernelRun0_A (F := Ideal) c i arg2 harg2 arg3 harg3 arg4 harg4 arg5 harg5 arg6 harg6 arg7 harg7 arg8 harg8 arg9 harg9 arg10 harg10 arg11 harg11 hc0 x0 x1 x2 x3 x4 x5 x6 x7).1 = (pb_k0_t1 (F := Ideal) Variants.none c none i arg2 harg2 arg3 harg3 arg4 harg4 arg5 harg5 arg6 harg6 arg7 harg7 arg8 harg8 arg9 harg9 arg10 harg10 arg11 harg11 (View.readAt (Elt Ideal) arg9.view (Rect.unit (s := S128x128) ![0, 0] ![128, 128] inb_S128x128_S128x128_0_0).toLoadRect (harg9.unread x7)) (harg2.unread x0) (harg3.unread x1) (harg4.unread x2) (harg5.unread x3) (harg6.unread x4) (harg7.unread x5) (harg8.unread x6) arg10.view.junk (arg11.view.writes (Elt Ideal) arg11.view.junk [(⟨Rect.unit (s := S2x128x128) ![0, 0, 0] S2x128x128.size inb_S2x128x128_S2x128x128_0_0_0, k0_pay1 (F := Ideal)⟩ : View.Piece (Elt Ideal) S2x128x128 .f32)]) k0_t1_loop.trips).1 := by
    unfold kernelRun0_A
    rfl
  have eZ : (kernelRun0_A (F := Ideal) c i arg2 harg2 arg3 harg3 arg4 harg4 arg5 harg5 arg6 harg6 arg7 harg7 arg8 harg8 arg9 harg9 arg10 harg10 arg11 harg11 hc0 x0 x1 x2 x3 x4 x5 x6 x7).2.1 = (pb_k0_t1 (F := Ideal) Variants.none c none i arg2 harg2 arg3 harg3 arg4 harg4 arg5 harg5 arg6 harg6 arg7 harg7 arg8 harg8 arg9 harg9 arg10 harg10 arg11 harg11 (View.readAt (Elt Ideal) arg9.view (Rect.unit (s := S128x128) ![0, 0] ![128, 128] inb_S128x128_S128x128_0_0).toLoadRect (harg9.unread x7)) (harg2.unread x0) (harg3.unread x1) (harg4.unread x2) (harg5.unread x3) (harg6.unread x4) (harg7.unread x5) (harg8.unread x6) arg10.view.junk (arg11.view.writes (Elt Ideal) arg11.view.junk [(⟨Rect.unit (s := S2x128x128) ![0, 0, 0] S2x128x128.size inb_S2x128x128_S2x128x128_0_0_0, k0_pay1 (F := Ideal)⟩ : View.Piece (Elt Ideal) S2x128x128 .f32)]) k0_t1_loop.trips).2 ++ [(⟨Rect.unit (s := S2x128x128) ![0, 0, 0] S2x128x128.size inb_S2x128x128_S2x128x128_0_0_0, k0_pay1 (F := Ideal)⟩ : View.Piece (Elt Ideal) S2x128x128 .f32)] := by
    unfold kernelRun0_A
    rfl
  have hG : ∀ (p : Fin 2) (r l : Fin 128), arg11.view.read (Elt Ideal) (arg11.view.writes (Elt Ideal) arg11.view.junk [(⟨Rect.unit (s := S2x128x128) ![0, 0, 0] S2x128x128.size inb_S2x128x128_S2x128x128_0_0_0, k0_pay1 (F := Ideal)⟩ : View.Piece (Elt Ideal) S2x128x128 .f32)]) (ix3 p r l) = ((zS lg k v (0) p.val r.val l.val : ℝ) : EReal) := by
    intro p r l
    rw [View.read_writes_full]
    have : zS lg k v 0 p.val r.val l.val = 0 := by
      unfold zS
      rw [rZ_zero, ite_self]
    rw [this]
    pointwise [k0_pay1]
    rfl
  have hI := inv h arg2 harg2 arg3 harg3 arg4 harg4 arg5 harg5 arg6 harg6 arg7 harg7 arg8 harg8 arg9 harg9 arg10 harg10 arg11 harg11 _ _ _ _ _ _ _ (harg2.read_unread x0) (harg3.read_unread x1) (harg4.read_unread x2) (harg5.read_unread x3) (harg6.read_unread x4) (harg7.read_unread x5) (harg8.read_unread x6)
    c i arg10.view.junk (arg11.view.writes (Elt Ideal) arg11.view.junk [(⟨Rect.unit (s := S2x128x128) ![0, 0, 0] S2x128x128.size inb_S2x128x128_S2x128x128_0_0_0, k0_pay1 (F := Ideal)⟩ : View.Piece (Elt Ideal) S2x128x128 .f32)]) hG k0_t1_loop.trips le_rfl
  rw [e10] at eY eZ
  have h8 : 64 * k0_t1_loop.trips = 512 := by decide +kernel
  rw [h8] at hI
  refine ⟨fun p r l => ?_, fun y l g hg => ?_⟩
  · refine Eq.trans ?_ (hI.1 p r l)
    have hc := scover0_A_0 (F := Ideal) c i arg2 harg2 arg3 harg3 arg4 harg4 arg5 harg5 arg6 harg6 arg7 harg7 arg8 harg8 arg9 harg9 arg10 harg10 arg11 harg11 hc0 x0 x1 x2 x3 x4 x5 x6 x7 (ix3 p r l)
    unfold sout0_A_0
    rw [View.read_writes_apply_eq_canon _ _ _ _ hc, ← View.writes_append]
    rw [eZ] at hc ⊢
    exact (View.read_writes_apply_eq_canon _ _ _ _ hc).symm
  · refine Eq.trans ?_ (hI.2 y l g y.2 hg)
    have hc := cover0_A_8 (F := Ideal) c i arg2 harg2 arg3 harg3 arg4 harg4 arg5 harg5 arg6 harg6 arg7 harg7 arg8 harg8 arg9 harg9 arg10 harg10 arg11 harg11 hc0 x0 x1 x2 x3 x4 x5 x6 x7 (ix2 y l)
    unfold out0_A_8
    rw [View.read_writes_apply_eq_canon _ _ _ _ hc]
    rw [eY] at hc ⊢
    exact (View.read_writes_apply_eq_canon _ _ _ _ hc).symm

/-- What a point of case B leaves: the state with 512 more rows, and the block's output rows. -/
theorem pointB (h : Tile lg q k v T X C S x0 x1 x2 x3 x4 x5 x6 x7) (arg2 : Memref sig .tc .vmem S512x1024 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S2x128x128 .f32) (harg5 : arg5.IsWhole) (arg6 : Memref sig .tc .vmem S64x256 .f32) (harg6 : arg6.IsWhole) (arg7 : Memref sig .tc .vmem S64x256 .f32) (harg7 : arg7.IsWhole) (arg8 : Memref sig .tc .vmem S1x256 .f32) (harg8 : arg8.IsWhole) (arg9 : Memref sig .tc .vmem S128x128 .bf16) (harg9 : arg9.IsWhole) (arg10 : Memref sig .tc .vmem S512x256 .bf16) (harg10 : arg10.IsWhole) (arg11 : Memref sig .tc .vmem S2x128x128 .f32) (harg11 : arg11.IsWhole) (c : Dev nD) (i : grid0.Coords) (hc0 : ¬cond0_0 i) (xs0 : Vec Ideal S2x128x128 .f32) (hxs : ∀ (p : Fin 2) (r l : Fin 128), xs0 (ix3 p r l) = ((zS lg k v T p.val r.val l.val : ℝ) : EReal)) :
    (∀ (p : Fin 2) (r l : Fin 128), sout0_B_0 (F := Ideal) c i arg2 harg2 arg3 harg3 arg4 harg4 arg5 harg5 arg6 harg6 arg7 harg7 arg8 harg8 arg9 harg9 arg10 harg10 arg11 harg11 hc0 x0 x1 x2 x3 x4 x5 x6 x7 xs0 (ix3 p r l) = ((zS lg k v (T + 512) p.val r.val l.val : ℝ) : EReal))
    ∧ ∀ (y : Fin 512) (l : Fin 256) (g : Fin 1024), g.val = 768 + l.val → out0_B_8 (F := Ideal) c i arg2 harg2 arg3 harg3 arg4 harg4 arg5 harg5 arg6 harg6 arg7 harg7 arg8 harg8 arg9 harg9 arg10 harg10 arg11 harg11 hc0 x0 x1 x2 x3 x4 x5 x6 x7 xs0 (ix2 y l) = outV (x0 (ix2 y g)) (fun e => rY (lg (l.val / 64)) (q (l.val / 64)) (k (l.val / 64)) (v (l.val / 64)) (T + y.val) e) (l.val % 64) := by
  have e10 : (View.readAt (Elt Ideal) arg9.view (Rect.unit (s := S128x128) ![0, 0] ![128, 128] inb_S128x128_S128x128_0_0).toLoadRect (harg9.unread x7)) = x7 := by
    rw [View.readAt_eq_ld, harg9.read_unread]
    exact View.ld_unit_zero (S := S128x128) hz _ _
  have eY : (kernelRun0_B (F := Ideal) c i arg2 harg2 arg3 harg3 arg4 harg4 arg5 harg5 arg6 harg6 arg7 harg7 arg8 harg8 arg9 harg9 arg10 harg10 arg11 harg11 hc0 x0 x1 x2 x3 x4 x5 x6 x7 xs0).1 = (pb_k0_t1 (F := Ideal) Variants.none c none i arg2 harg2 arg3 harg3 arg4 harg4 arg5 harg5 arg6 harg6 arg7 harg7 arg8 harg8 arg9 harg9 arg10 harg10 arg11 harg11 (View.readAt (Elt Ideal) arg9.view (Rect.unit (s := S128x128) ![0, 0] ![128, 128] inb_S128x128_S128x128_0_0).toLoadRect (harg9.unread x7)) (harg2.unread x0) (harg3.unread x1) (harg4.unread x2) (harg5.unread x3) (harg6.unread x4) (harg7.unread x5) (harg8.unread x6) arg10.view.junk (harg11.unread xs0) k0_t1_loop.trips).1 := by
    unfold kernelRun0_B
    rfl
  have eZ : (kernelRun0_B (F := Ideal) c i arg2 harg2 arg3 harg3 arg4 harg4 arg5 harg5 arg6 harg6 arg7 harg7 arg8 harg8 arg9 harg9 arg10 harg10 arg11 harg11 hc0 x0 x1 x2 x3 x4 x5 x6 x7 xs0).2.1 = (pb_k0_t1 (F := Ideal) Variants.none c none i arg2 harg2 arg3 harg3 arg4 harg4 arg5 harg5 arg6 harg6 arg7 harg7 arg8 harg8 arg9 harg9 arg10 harg10 arg11 harg11 (View.readAt (Elt Ideal) arg9.view (Rect.unit (s := S128x128) ![0, 0] ![128, 128] inb_S128x128_S128x128_0_0).toLoadRect (harg9.unread x7)) (harg2.unread x0) (harg3.unread x1) (harg4.unread x2) (harg5.unread x3) (harg6.unread x4) (harg7.unread x5) (harg8.unread x6) arg10.view.junk (harg11.unread xs0) k0_t1_loop.trips).2 := by
    unfold kernelRun0_B
    rfl
  have hG : ∀ (p : Fin 2) (r l : Fin 128), arg11.view.read (Elt Ideal) (harg11.unread xs0) (ix3 p r l) = ((zS lg k v (T) p.val r.val l.val : ℝ) : EReal) := by
    intro p r l
    rw [harg11.read_unread, hxs]
  have hI := inv h arg2 harg2 arg3 harg3 arg4 harg4 arg5 harg5 arg6 harg6 arg7 harg7 arg8 harg8 arg9 harg9 arg10 harg10 arg11 harg11 _ _ _ _ _ _ _ (harg2.read_unread x0) (harg3.read_unread x1) (harg4.read_unread x2) (harg5.read_unread x3) (harg6.read_unread x4) (harg7.read_unread x5) (harg8.read_unread x6)
    c i arg10.view.junk (harg11.unread xs0) hG k0_t1_loop.trips le_rfl
  rw [e10] at eY eZ
  have h8 : 64 * k0_t1_loop.trips = 512 := by decide +kernel
  rw [h8] at hI
  refine ⟨fun p r l => ?_, fun y l g hg => ?_⟩
  · refine Eq.trans ?_ (hI.1 p r l)
    have hc := scover0_B_0 (F := Ideal) c i arg2 harg2 arg3 harg3 arg4 harg4 arg5 harg5 arg6 harg6 arg7 harg7 arg8 harg8 arg9 harg9 arg10 harg10 arg11 harg11 hc0 x0 x1 x2 x3 x4 x5 x6 x7 xs0 (ix3 p r l)
    unfold sout0_B_0
    rw [View.read_writes_apply_eq_canon _ _ _ _ hc]
    rw [eZ] at hc ⊢
    exact (View.read_writes_apply_eq_canon _ _ _ _ hc).symm
  · refine Eq.trans ?_ (hI.2 y l g y.2 hg)
    have hc := cover0_B_8 (F := Ideal) c i arg2 harg2 arg3 harg3 arg4 harg4 arg5 harg5 arg6 harg6 arg7 harg7 arg8 harg8 arg9 harg9 arg10 harg10 arg11 harg11 hc0 x0 x1 x2 x3 x4 x5 x6 x7 xs0 (ix2 y l)
    unfold out0_B_8
    rw [View.read_writes_apply_eq_canon _ _ _ _ hc]
    rw [eY] at hc ⊢
    exact (View.read_writes_apply_eq_canon _ _ _ _ hc).symm

end Cert.KernelIdeal.RetPoint

end
-- ==== Proof.RetTables.lean ====
module

public import proofs.«01_k».proof.Proof.Gen.KernelIdeal.Launch
public import Idealize.ShloMosaic.Lib.Tactic

@[expose] public section

noncomputable section

/-! The tables the retention call is given, each line of the host code a definition. -/

namespace Cert.KernelIdeal.RetHost

open Cert.KernelIdeal Cert.KernelIdeal.Gen Idealize.ShloMosaic Idealize.ShloMosaic.TcCoe Idealize.SL.Sem

variable {F : FTy → Type} [FloatOps F]

def k_v0 : (⟨S128, .i32⟩ : BufTy).Contents (Elt F) := (iotaInDim S128 32 0)
def k_v1 : (⟨S128x1, .i32⟩ : BufTy).Contents (Elt F) := (broadcastInDim S128x1 ![0] bcast_S128_S128x1_0 : (⟨S128, .i32⟩ : BufTy).Contents (Elt F) → (⟨S128x1, .i32⟩ : BufTy).Contents (Elt F)) (k_v0 (F := F))
def k_c : (⟨S_, .i32⟩ : BufTy).Contents (Elt F) := (constantI S_ 32 64#32)
def k_call0_v0 : (⟨S_, .i32⟩ : BufTy).Contents (Elt F) := id (k_c (F := F))
def k_call0_v1 : (⟨S128x1, .i32⟩ : BufTy).Contents (Elt F) := (broadcastInDim S128x1 ![] bcast_S_S128x1) (k_call0_v0 (F := F))
def k_call0_v2 : (⟨S128x1, .i32⟩ : BufTy).Contents (Elt F) := Host.divsi (k_v1 (F := F)) (k_call0_v1 (F := F))
def k_call0_v3 : (⟨S128x1, .i32⟩ : BufTy).Contents (Elt F) := signi (k_v1 (F := F))
def k_call0_v4 : (⟨S_, .i32⟩ : BufTy).Contents (Elt F) := signi (k_call0_v0 (F := F))
def k_call0_v5 : (⟨S128x1, .i32⟩ : BufTy).Contents (Elt F) := (broadcastInDim S128x1 ![] bcast_S_S128x1) (k_call0_v4 (F := F))
def k_call0_v6 : (⟨S128x1, .i1⟩ : BufTy).Contents (Elt F) := (cmpi .ne) (k_call0_v3 (F := F)) (k_call0_v5 (F := F))
def k_call0_v7 : (⟨S128x1, .i32⟩ : BufTy).Contents (Elt F) := (broadcastInDim S128x1 ![] bcast_S_S128x1) (k_call0_v0 (F := F))
def k_call0_v8 : (⟨S128x1, .i32⟩ : BufTy).Contents (Elt F) := Host.remsi (k_v1 (F := F)) (k_call0_v7 (F := F))
def k_call0_c : (⟨S_, .i32⟩ : BufTy).Contents (Elt F) := (constantI S_ 32 0#32)
def k_call0_v9 : (⟨S128x1, .i32⟩ : BufTy).Contents (Elt F) := (broadcastInDim S128x1 ![] bcast_S_S128x1) (k_call0_c (F := F))
def k_call0_v10 : (⟨S128x1, .i1⟩ : BufTy).Contents (Elt F) := (cmpi .ne) (k_call0_v8 (F := F)) (k_call0_v9 (F := F))
def k_call0_v11 : (⟨S128x1, .i1⟩ : BufTy).Contents (Elt F) := andi (k_call0_v6 (F := F)) (k_call0_v10 (F := F))
def k_call0_c_0 : (⟨S_, .i32⟩ : BufTy).Contents (Elt F) := (constantI S_ 32 1#32)
def k_call0_v12 : (⟨S128x1, .i32⟩ : BufTy).Contents (Elt F) := (broadcastInDim S128x1 ![] bcast_S_S128x1) (k_call0_c_0 (F := F))
def k_call0_v13 : (⟨S128x1, .i32⟩ : BufTy).Contents (Elt F) := subi (k_call0_v2 (F := F)) (k_call0_v12 (F := F))
def k_v2 : (⟨S128x1, .i32⟩ : BufTy).Contents (Elt F) := select (k_call0_v11 (F := F)) (k_call0_v13 (F := F)) (k_call0_v2 (F := F))
def k_v3 : (⟨S1x128, .i32⟩ : BufTy).Contents (Elt F) := (broadcastInDim S1x128 ![1] bcast_S128_S1x128_1 : (⟨S128, .i32⟩ : BufTy).Contents (Elt F) → (⟨S1x128, .i32⟩ : BufTy).Contents (Elt F)) (k_v0 (F := F))
def k_c_0 : (⟨S_, .i32⟩ : BufTy).Contents (Elt F) := (constantI S_ 32 64#32)
def k_call1_v0 : (⟨S_, .i32⟩ : BufTy).Contents (Elt F) := id (k_c_0 (F := F))
def k_call1_v1 : (⟨S1x128, .i32⟩ : BufTy).Contents (Elt F) := (broadcastInDim S1x128 ![] bcast_S_S1x128) (k_call1_v0 (F := F))
def k_call1_v2 : (⟨S1x128, .i32⟩ : BufTy).Contents (Elt F) := Host.divsi (k_v3 (F := F)) (k_call1_v1 (F := F))
def k_call1_v3 : (⟨S1x128, .i32⟩ : BufTy).Contents (Elt F) := signi (k_v3 (F := F))
def k_call1_v4 : (⟨S_, .i32⟩ : BufTy).Contents (Elt F) := signi (k_call1_v0 (F := F))
def k_call1_v5 : (⟨S1x128, .i32⟩ : BufTy).Contents (Elt F) := (broadcastInDim S1x128 ![] bcast_S_S1x128) (k_call1_v4 (F := F))
def k_call1_v6 : (⟨S1x128, .i1⟩ : BufTy).Contents (Elt F) := (cmpi .ne) (k_call1_v3 (F := F)) (k_call1_v5 (F := F))
def k_call1_v7 : (⟨S1x128, .i32⟩ : BufTy).Contents (Elt F) := (broadcastInDim S1x128 ![] bcast_S_S1x128) (k_call1_v0 (F := F))
def k_call1_v8 : (⟨S1x128, .i32⟩ : BufTy).Contents (Elt F) := Host.remsi (k_v3 (F := F)) (k_call1_v7 (F := F))
def k_call1_c : (⟨S_, .i32⟩ : BufTy).Contents (Elt F) := (constantI S_ 32 0#32)
def k_call1_v9 : (⟨S1x128, .i32⟩ : BufTy).Contents (Elt F) := (broadcastInDim S1x128 ![] bcast_S_S1x128) (k_call1_c (F := F))
def k_call1_v10 : (⟨S1x128, .i1⟩ : BufTy).Contents (Elt F) := (cmpi .ne) (k_call1_v8 (F := F)) (k_call1_v9 (F := F))
def k_call1_v11 : (⟨S1x128, .i1⟩ : BufTy).Contents (Elt F) := andi (k_call1_v6 (F := F)) (k_call1_v10 (F := F))
def k_call1_c_0 : (⟨S_, .i32⟩ : BufTy).Contents (Elt F) := (constantI S_ 32 1#32)
def k_call1_v12 : (⟨S1x128, .i32⟩ : BufTy).Contents (Elt F) := (broadcastInDim S1x128 ![] bcast_S_S1x128) (k_call1_c_0 (F := F))
def k_call1_v13 : (⟨S1x128, .i32⟩ : BufTy).Contents (Elt F) := subi (k_call1_v2 (F := F)) (k_call1_v12 (F := F))
def k_v4 : (⟨S1x128, .i32⟩ : BufTy).Contents (Elt F) := select (k_call1_v11 (F := F)) (k_call1_v13 (F := F)) (k_call1_v2 (F := F))
def k_v5 : (⟨S128x128, .i32⟩ : BufTy).Contents (Elt F) := (broadcastInDim S128x128 ![0, 1] bcast_S128x1_S128x128_0_1 : (⟨S128x1, .i32⟩ : BufTy).Contents (Elt F) → (⟨S128x128, .i32⟩ : BufTy).Contents (Elt F)) (k_v2 (F := F))
def k_v6 : (⟨S128x128, .i32⟩ : BufTy).Contents (Elt F) := (broadcastInDim S128x128 ![0, 1] bcast_S1x128_S128x128_0_1 : (⟨S1x128, .i32⟩ : BufTy).Contents (Elt F) → (⟨S128x128, .i32⟩ : BufTy).Contents (Elt F)) (k_v4 (F := F))
def k_v7 : (⟨S128x128, .i1⟩ : BufTy).Contents (Elt F) := (cmpi .eq : (⟨S128x128, .i32⟩ : BufTy).Contents (Elt F) → (⟨S128x128, .i32⟩ : BufTy).Contents (Elt F) → (⟨S128x128, .i1⟩ : BufTy).Contents (Elt F)) (k_v5 (F := F)) (k_v6 (F := F))
def k_v8 : (⟨S128x128, .bf16⟩ : BufTy).Contents (Elt F) := (uitofp .bf16 : (⟨S128x128, .i1⟩ : BufTy).Contents (Elt F) → (⟨S128x128, .bf16⟩ : BufTy).Contents (Elt F)) (k_v7 (F := F))
def k_cst : (⟨S_, .f32⟩ : BufTy).Contents (Elt F) := (constant S_ .f32 0x00000000#32)
def k_cst_1 : (⟨S_, .f32⟩ : BufTy).Contents (Elt F) := (constant S_ .f32 0x3F800000#32)
def k_call2_v0 : (⟨S_, .f32⟩ : BufTy).Contents (Elt F) := id (k_cst (F := F))
def k_call2_v1 : (⟨S_, .f32⟩ : BufTy).Contents (Elt F) := id (k_cst_1 (F := F))
def k_call2_v2 : (⟨S_, .f32⟩ : BufTy).Contents (Elt F) := subf (k_call2_v1 (F := F)) (k_call2_v0 (F := F))
def k_call2_cst : (⟨S_, .f32⟩ : BufTy).Contents (Elt F) := (constant S_ .f32 0x41F80000#32)
def k_call2_v3 : (⟨S_, .f32⟩ : BufTy).Contents (Elt F) := Host.divf (k_call2_v2 (F := F)) (k_call2_cst (F := F))
def k_call2_v4 : (⟨S31, .f32⟩ : BufTy).Contents (Elt F) := (sitofp .f32 (iotaInDim S31 32 0))
def k_call2_cst_0 : (⟨S_, .f32⟩ : BufTy).Contents (Elt F) := (constant S_ .f32 0x41F80000#32)
def k_call2_v5 : (⟨S31, .f32⟩ : BufTy).Contents (Elt F) := (broadcastInDim S31 ![] bcast_S_S31) (k_call2_cst_0 (F := F))
def k_call2_v6 : (⟨S31, .f32⟩ : BufTy).Contents (Elt F) := Host.divf (k_call2_v4 (F := F)) (k_call2_v5 (F := F))
def k_call2_v7 : (⟨S1, .f32⟩ : BufTy).Contents (Elt F) := shapeCast _ (k_call2_v0 (F := F)) shapeCasts_S_S1
def k_call2_cst_1 : (⟨S_, .f32⟩ : BufTy).Contents (Elt F) := (constant S_ .f32 0x3F800000#32)
def k_call2_v8 : (⟨S31, .f32⟩ : BufTy).Contents (Elt F) := (broadcastInDim S31 ![] bcast_S_S31) (k_call2_cst_1 (F := F))
def k_call2_v9 : (⟨S31, .f32⟩ : BufTy).Contents (Elt F) := subf (k_call2_v8 (F := F)) (k_call2_v6 (F := F))
def k_call2_v10 : (⟨S31, .f32⟩ : BufTy).Contents (Elt F) := (broadcastInDim S31 ![0] bcast_S1_S31_0) (k_call2_v7 (F := F))
def k_call2_v11 : (⟨S31, .f32⟩ : BufTy).Contents (Elt F) := mulf (k_call2_v10 (F := F)) (k_call2_v9 (F := F))
def k_call2_v12 : (⟨S1, .f32⟩ : BufTy).Contents (Elt F) := shapeCast _ (k_call2_v1 (F := F)) shapeCasts_S_S1
def k_call2_v13 : (⟨S31, .f32⟩ : BufTy).Contents (Elt F) := (broadcastInDim S31 ![0] bcast_S1_S31_0) (k_call2_v12 (F := F))
def k_call2_v14 : (⟨S31, .f32⟩ : BufTy).Contents (Elt F) := mulf (k_call2_v13 (F := F)) (k_call2_v6 (F := F))
def k_call2_v15 : (⟨S31, .f32⟩ : BufTy).Contents (Elt F) := addf (k_call2_v11 (F := F)) (k_call2_v14 (F := F))
def k_call2_v16 : (⟨S1, .f32⟩ : BufTy).Contents (Elt F) := (broadcastInDim S1 ![] bcast_S_S1) (k_call2_v1 (F := F))
def k_v9 : (⟨S32, .f32⟩ : BufTy).Contents (Elt F) := (fun a b => concatenate S32 0 [⟨S31, a⟩, ⟨S1, b⟩] concatenates_S31_S1_S32_d0) (k_call2_v15 (F := F)) (k_call2_v16 (F := F))
def k_v10 : (⟨S32, .f32⟩ : BufTy).Contents (Elt F) := (Host.negf : (⟨S32, .f32⟩ : BufTy).Contents (Elt F) → (⟨S32, .f32⟩ : BufTy).Contents (Elt F)) (k_v9 (F := F))
def k_cst_2 : (⟨S_, .f32⟩ : BufTy).Contents (Elt F) := (constant S_ .f32 0x461C4000#32)
def k_v11 : (⟨S32, .f32⟩ : BufTy).Contents (Elt F) := (broadcastInDim S32 ![] bcast_S_S32 : (⟨S_, .f32⟩ : BufTy).Contents (Elt F) → (⟨S32, .f32⟩ : BufTy).Contents (Elt F)) (k_cst_2 (F := F))
def k_v12 : (⟨S32, .f32⟩ : BufTy).Contents (Elt F) := (Host.powf : (⟨S32, .f32⟩ : BufTy).Contents (Elt F) → (⟨S32, .f32⟩ : BufTy).Contents (Elt F) → (⟨S32, .f32⟩ : BufTy).Contents (Elt F)) (k_v11 (F := F)) (k_v10 (F := F))
def k_v13 : (⟨S2048, .f32⟩ : BufTy).Contents (Elt F) := (sitofp .f32 (iotaInDim S2048 32 0))
def k_v14 : (⟨S2048x1, .f32⟩ : BufTy).Contents (Elt F) := (broadcastInDim S2048x1 ![0] bcast_S2048_S2048x1_0 : (⟨S2048, .f32⟩ : BufTy).Contents (Elt F) → (⟨S2048x1, .f32⟩ : BufTy).Contents (Elt F)) (k_v13 (F := F))
def k_v15 : (⟨S1x32, .f32⟩ : BufTy).Contents (Elt F) := (broadcastInDim S1x32 ![1] bcast_S32_S1x32_1 : (⟨S32, .f32⟩ : BufTy).Contents (Elt F) → (⟨S1x32, .f32⟩ : BufTy).Contents (Elt F)) (k_v12 (F := F))
def k_v16 : (⟨S2048x32, .f32⟩ : BufTy).Contents (Elt F) := (broadcastInDim S2048x32 ![0, 1] bcast_S2048x1_S2048x32_0_1 : (⟨S2048x1, .f32⟩ : BufTy).Contents (Elt F) → (⟨S2048x32, .f32⟩ : BufTy).Contents (Elt F)) (k_v14 (F := F))
def k_v17 : (⟨S2048x32, .f32⟩ : BufTy).Contents (Elt F) := (broadcastInDim S2048x32 ![0, 1] bcast_S1x32_S2048x32_0_1 : (⟨S1x32, .f32⟩ : BufTy).Contents (Elt F) → (⟨S2048x32, .f32⟩ : BufTy).Contents (Elt F)) (k_v15 (F := F))
def k_v18 : (⟨S2048x32, .f32⟩ : BufTy).Contents (Elt F) := (mulf : (⟨S2048x32, .f32⟩ : BufTy).Contents (Elt F) → (⟨S2048x32, .f32⟩ : BufTy).Contents (Elt F) → (⟨S2048x32, .f32⟩ : BufTy).Contents (Elt F)) (k_v16 (F := F)) (k_v17 (F := F))
def k_v19 : (⟨S2048x32, .f32⟩ : BufTy).Contents (Elt F) := (Host.cos : (⟨S2048x32, .f32⟩ : BufTy).Contents (Elt F) → (⟨S2048x32, .f32⟩ : BufTy).Contents (Elt F)) (k_v18 (F := F))
def k_v20 : (⟨S2048x32, .f32⟩ : BufTy).Contents (Elt F) := (Host.sin : (⟨S2048x32, .f32⟩ : BufTy).Contents (Elt F) → (⟨S2048x32, .f32⟩ : BufTy).Contents (Elt F)) (k_v18 (F := F))
def k_v21 : (⟨S2048x64, .f32⟩ : BufTy).Contents (Elt F) := ((fun a b => concatenate S2048x64 1 [⟨S2048x32, a⟩, ⟨S2048x32, b⟩] concatenates_S2048x32_S2048x32_S2048x64_d1) : (⟨S2048x32, .f32⟩ : BufTy).Contents (Elt F) → (⟨S2048x32, .f32⟩ : BufTy).Contents (Elt F) → (⟨S2048x64, .f32⟩ : BufTy).Contents (Elt F)) (k_v19 (F := F)) (k_v19 (F := F))
def k_v22 : (⟨S1x2048x1x64, .f32⟩ : BufTy).Contents (Elt F) := shapeCast _ (k_v21 (F := F)) shapeCasts_S2048x64_S1x2048x1x64
def k_v23 : (⟨S1x2048x4x64, .f32⟩ : BufTy).Contents (Elt F) := (broadcastInDim S1x2048x4x64 ![0, 1, 2, 3] bcast_S1x2048x1x64_S1x2048x4x64_0_1_2_3 : (⟨S1x2048x1x64, .f32⟩ : BufTy).Contents (Elt F) → (⟨S1x2048x4x64, .f32⟩ : BufTy).Contents (Elt F)) (k_v22 (F := F))
def k_v24 : (⟨S2048x256, .f32⟩ : BufTy).Contents (Elt F) := shapeCast _ (k_v23 (F := F)) shapeCasts_S1x2048x4x64_S2048x256
def k_v25 : (⟨S2048x32, .f32⟩ : BufTy).Contents (Elt F) := (Host.negf : (⟨S2048x32, .f32⟩ : BufTy).Contents (Elt F) → (⟨S2048x32, .f32⟩ : BufTy).Contents (Elt F)) (k_v20 (F := F))
def k_v26 : (⟨S2048x64, .f32⟩ : BufTy).Contents (Elt F) := ((fun a b => concatenate S2048x64 1 [⟨S2048x32, a⟩, ⟨S2048x32, b⟩] concatenates_S2048x32_S2048x32_S2048x64_d1) : (⟨S2048x32, .f32⟩ : BufTy).Contents (Elt F) → (⟨S2048x32, .f32⟩ : BufTy).Contents (Elt F) → (⟨S2048x64, .f32⟩ : BufTy).Contents (Elt F)) (k_v25 (F := F)) (k_v20 (F := F))
def k_v27 : (⟨S1x2048x1x64, .f32⟩ : BufTy).Contents (Elt F) := shapeCast _ (k_v26 (F := F)) shapeCasts_S2048x64_S1x2048x1x64
def k_v28 : (⟨S1x2048x4x64, .f32⟩ : BufTy).Contents (Elt F) := (broadcastInDim S1x2048x4x64 ![0, 1, 2, 3] bcast_S1x2048x1x64_S1x2048x4x64_0_1_2_3 : (⟨S1x2048x1x64, .f32⟩ : BufTy).Contents (Elt F) → (⟨S1x2048x4x64, .f32⟩ : BufTy).Contents (Elt F)) (k_v27 (F := F))
def k_v29 : (⟨S2048x256, .f32⟩ : BufTy).Contents (Elt F) := shapeCast _ (k_v28 (F := F)) shapeCasts_S1x2048x4x64_S2048x256
def k_v30 : (⟨S4, .f32⟩ : BufTy).Contents (Elt F) := (sitofp .f32 (iotaInDim S4 32 0))
def k_cst_3 : (⟨S_, .f32⟩ : BufTy).Contents (Elt F) := (constant S_ .f32 0xC0A00000#32)
def k_v31 : (⟨S4, .f32⟩ : BufTy).Contents (Elt F) := (broadcastInDim S4 ![] bcast_S_S4 : (⟨S_, .f32⟩ : BufTy).Contents (Elt F) → (⟨S4, .f32⟩ : BufTy).Contents (Elt F)) (k_cst_3 (F := F))
def k_v32 : (⟨S4, .f32⟩ : BufTy).Contents (Elt F) := (subf : (⟨S4, .f32⟩ : BufTy).Contents (Elt F) → (⟨S4, .f32⟩ : BufTy).Contents (Elt F) → (⟨S4, .f32⟩ : BufTy).Contents (Elt F)) (k_v31 (F := F)) (k_v30 (F := F))
def k_cst_4 : (⟨S_, .f32⟩ : BufTy).Contents (Elt F) := (constant S_ .f32 0x40000000#32)
def k_v33 : (⟨S4, .f32⟩ : BufTy).Contents (Elt F) := (broadcastInDim S4 ![] bcast_S_S4 : (⟨S_, .f32⟩ : BufTy).Contents (Elt F) → (⟨S4, .f32⟩ : BufTy).Contents (Elt F)) (k_cst_4 (F := F))
def k_v34 : (⟨S4, .f32⟩ : BufTy).Contents (Elt F) := (Host.powf : (⟨S4, .f32⟩ : BufTy).Contents (Elt F) → (⟨S4, .f32⟩ : BufTy).Contents (Elt F) → (⟨S4, .f32⟩ : BufTy).Contents (Elt F)) (k_v33 (F := F)) (k_v32 (F := F))
def k_cst_5 : (⟨S_, .f32⟩ : BufTy).Contents (Elt F) := (constant S_ .f32 0x3F800000#32)
def k_v35 : (⟨S4, .f32⟩ : BufTy).Contents (Elt F) := (broadcastInDim S4 ![] bcast_S_S4 : (⟨S_, .f32⟩ : BufTy).Contents (Elt F) → (⟨S4, .f32⟩ : BufTy).Contents (Elt F)) (k_cst_5 (F := F))
def k_v36 : (⟨S4, .f32⟩ : BufTy).Contents (Elt F) := (subf : (⟨S4, .f32⟩ : BufTy).Contents (Elt F) → (⟨S4, .f32⟩ : BufTy).Contents (Elt F) → (⟨S4, .f32⟩ : BufTy).Contents (Elt F)) (k_v35 (F := F)) (k_v34 (F := F))
def k_v37 : (⟨S4, .f32⟩ : BufTy).Contents (Elt F) := (Host.log : (⟨S4, .f32⟩ : BufTy).Contents (Elt F) → (⟨S4, .f32⟩ : BufTy).Contents (Elt F)) (k_v36 (F := F))
def k_v38 : (⟨S64, .f32⟩ : BufTy).Contents (Elt F) := (sitofp .f32 (iotaInDim S64 32 0))
def k_v39 : (⟨S64x1, .f32⟩ : BufTy).Contents (Elt F) := (broadcastInDim S64x1 ![0] bcast_S64_S64x1_0 : (⟨S64, .f32⟩ : BufTy).Contents (Elt F) → (⟨S64x1, .f32⟩ : BufTy).Contents (Elt F)) (k_v38 (F := F))
def k_v40 : (⟨S1x64, .f32⟩ : BufTy).Contents (Elt F) := (broadcastInDim S1x64 ![1] bcast_S64_S1x64_1 : (⟨S64, .f32⟩ : BufTy).Contents (Elt F) → (⟨S1x64, .f32⟩ : BufTy).Contents (Elt F)) (k_v38 (F := F))
def k_v41 : (⟨S64x64, .f32⟩ : BufTy).Contents (Elt F) := (broadcastInDim S64x64 ![0, 1] bcast_S64x1_S64x64_0_1 : (⟨S64x1, .f32⟩ : BufTy).Contents (Elt F) → (⟨S64x64, .f32⟩ : BufTy).Contents (Elt F)) (k_v39 (F := F))
def k_v42 : (⟨S64x64, .f32⟩ : BufTy).Contents (Elt F) := (broadcastInDim S64x64 ![0, 1] bcast_S1x64_S64x64_0_1 : (⟨S1x64, .f32⟩ : BufTy).Contents (Elt F) → (⟨S64x64, .f32⟩ : BufTy).Contents (Elt F)) (k_v40 (F := F))
def k_v43 : (⟨S64x64, .f32⟩ : BufTy).Contents (Elt F) := (subf : (⟨S64x64, .f32⟩ : BufTy).Contents (Elt F) → (⟨S64x64, .f32⟩ : BufTy).Contents (Elt F) → (⟨S64x64, .f32⟩ : BufTy).Contents (Elt F)) (k_v41 (F := F)) (k_v42 (F := F))
def k_v44 : (⟨S1x64x64, .f32⟩ : BufTy).Contents (Elt F) := (broadcastInDim S1x64x64 ![1, 2] bcast_S64x64_S1x64x64_1_2 : (⟨S64x64, .f32⟩ : BufTy).Contents (Elt F) → (⟨S1x64x64, .f32⟩ : BufTy).Contents (Elt F)) (k_v43 (F := F))
def k_cst_6 : (⟨S_, .f32⟩ : BufTy).Contents (Elt F) := (constant S_ .f32 0x00000000#32)
def k_v45 : (⟨S1x64x64, .f32⟩ : BufTy).Contents (Elt F) := (broadcastInDim S1x64x64 ![] bcast_S_S1x64x64 : (⟨S_, .f32⟩ : BufTy).Contents (Elt F) → (⟨S1x64x64, .f32⟩ : BufTy).Contents (Elt F)) (k_cst_6 (F := F))
def k_v46 : (⟨S1x64x64, .i1⟩ : BufTy).Contents (Elt F) := (cmpf .oge : (⟨S1x64x64, .f32⟩ : BufTy).Contents (Elt F) → (⟨S1x64x64, .f32⟩ : BufTy).Contents (Elt F) → (⟨S1x64x64, .i1⟩ : BufTy).Contents (Elt F)) (k_v44 (F := F)) (k_v45 (F := F))
def k_cst_7 : (⟨S_, .f32⟩ : BufTy).Contents (Elt F) := (constant S_ .f32 0x00000000#32)
def k_v47 : (⟨S64x64, .f32⟩ : BufTy).Contents (Elt F) := (broadcastInDim S64x64 ![] bcast_S_S64x64 : (⟨S_, .f32⟩ : BufTy).Contents (Elt F) → (⟨S64x64, .f32⟩ : BufTy).Contents (Elt F)) (k_cst_7 (F := F))
def k_v48 : (⟨S64x64, .f32⟩ : BufTy).Contents (Elt F) := (maximumf : (⟨S64x64, .f32⟩ : BufTy).Contents (Elt F) → (⟨S64x64, .f32⟩ : BufTy).Contents (Elt F) → (⟨S64x64, .f32⟩ : BufTy).Contents (Elt F)) (k_v43 (F := F)) (k_v47 (F := F))
def k_v49 : (⟨S1x64x64, .f32⟩ : BufTy).Contents (Elt F) := (broadcastInDim S1x64x64 ![1, 2] bcast_S64x64_S1x64x64_1_2 : (⟨S64x64, .f32⟩ : BufTy).Contents (Elt F) → (⟨S1x64x64, .f32⟩ : BufTy).Contents (Elt F)) (k_v48 (F := F))
def k_v50 : (⟨S4x1x1, .f32⟩ : BufTy).Contents (Elt F) := (broadcastInDim S4x1x1 ![0] bcast_S4_S4x1x1_0 : (⟨S4, .f32⟩ : BufTy).Contents (Elt F) → (⟨S4x1x1, .f32⟩ : BufTy).Contents (Elt F)) (k_v37 (F := F))
def k_v51 : (⟨S4x64x64, .f32⟩ : BufTy).Contents (Elt F) := (broadcastInDim S4x64x64 ![0, 1, 2] bcast_S1x64x64_S4x64x64_0_1_2 : (⟨S1x64x64, .f32⟩ : BufTy).Contents (Elt F) → (⟨S4x64x64, .f32⟩ : BufTy).Contents (Elt F)) (k_v49 (F := F))
def k_v52 : (⟨S4x64x64, .f32⟩ : BufTy).Contents (Elt F) := (broadcastInDim S4x64x64 ![0, 1, 2] bcast_S4x1x1_S4x64x64_0_1_2 : (⟨S4x1x1, .f32⟩ : BufTy).Contents (Elt F) → (⟨S4x64x64, .f32⟩ : BufTy).Contents (Elt F)) (k_v50 (F := F))
def k_v53 : (⟨S4x64x64, .f32⟩ : BufTy).Contents (Elt F) := (mulf : (⟨S4x64x64, .f32⟩ : BufTy).Contents (Elt F) → (⟨S4x64x64, .f32⟩ : BufTy).Contents (Elt F) → (⟨S4x64x64, .f32⟩ : BufTy).Contents (Elt F)) (k_v51 (F := F)) (k_v52 (F := F))
def k_v54 : (⟨S4x64x64, .f32⟩ : BufTy).Contents (Elt F) := (Host.exp : (⟨S4x64x64, .f32⟩ : BufTy).Contents (Elt F) → (⟨S4x64x64, .f32⟩ : BufTy).Contents (Elt F)) (k_v53 (F := F))
def k_cst_8 : (⟨S_, .f32⟩ : BufTy).Contents (Elt F) := (constant S_ .f32 0x00000000#32)
def k_call3_v0 : (⟨S_, .f32⟩ : BufTy).Contents (Elt F) := id (k_cst_8 (F := F))
def k_call3_v1 : (⟨S4x64x64, .i1⟩ : BufTy).Contents (Elt F) := (broadcastInDim S4x64x64 ![0, 1, 2] bcast_S1x64x64_S4x64x64_0_1_2) (k_v46 (F := F))
def k_call3_v2 : (⟨S4x64x64, .f32⟩ : BufTy).Contents (Elt F) := (broadcastInDim S4x64x64 ![] bcast_S_S4x64x64) (k_call3_v0 (F := F))
def k_v55 : (⟨S4x64x64, .f32⟩ : BufTy).Contents (Elt F) := select (k_call3_v1 (F := F)) (k_v54 (F := F)) (k_call3_v2 (F := F))
def k_v56 : (⟨S1x64x64, .f32⟩ : BufTy).Contents (Elt F) := ((extractStridedSlice S1x64x64 ![0, 0, 0] · slices_S4x64x64_S1x64x64_0_0_0) : (⟨S4x64x64, .f32⟩ : BufTy).Contents (Elt F) → (⟨S1x64x64, .f32⟩ : BufTy).Contents (Elt F)) (k_v55 (F := F))
def k_v57 : (⟨S64x64, .f32⟩ : BufTy).Contents (Elt F) := shapeCast _ (k_v56 (F := F)) shapeCasts_S1x64x64_S64x64
def k_v58 : (⟨S1x64x64, .f32⟩ : BufTy).Contents (Elt F) := ((extractStridedSlice S1x64x64 ![1, 0, 0] · slices_S4x64x64_S1x64x64_1_0_0) : (⟨S4x64x64, .f32⟩ : BufTy).Contents (Elt F) → (⟨S1x64x64, .f32⟩ : BufTy).Contents (Elt F)) (k_v55 (F := F))
def k_v59 : (⟨S64x64, .f32⟩ : BufTy).Contents (Elt F) := shapeCast _ (k_v58 (F := F)) shapeCasts_S1x64x64_S64x64
def k_cst_9 : (⟨S_, .f32⟩ : BufTy).Contents (Elt F) := (constant S_ .f32 0x00000000#32)
def k_v60 : (⟨S128x128, .f32⟩ : BufTy).Contents (Elt F) := (broadcastInDim S128x128 ![] bcast_S_S128x128 : (⟨S_, .f32⟩ : BufTy).Contents (Elt F) → (⟨S128x128, .f32⟩ : BufTy).Contents (Elt F)) (k_cst_9 (F := F))
def k_c_10 : (⟨S_, .i32⟩ : BufTy).Contents (Elt F) := (constantI S_ 32 0#32)
def k_v61 : (⟨S1, .i32⟩ : BufTy).Contents (Elt F) := (broadcastInDim S1 ![] bcast_S_S1 : (⟨S_, .i32⟩ : BufTy).Contents (Elt F) → (⟨S1, .i32⟩ : BufTy).Contents (Elt F)) (k_c_10 (F := F))
def k_c_11 : (⟨S_, .i32⟩ : BufTy).Contents (Elt F) := (constantI S_ 32 0#32)
def k_v62 : (⟨S1, .i32⟩ : BufTy).Contents (Elt F) := (broadcastInDim S1 ![] bcast_S_S1 : (⟨S_, .i32⟩ : BufTy).Contents (Elt F) → (⟨S1, .i32⟩ : BufTy).Contents (Elt F)) (k_c_11 (F := F))
def k_v63 : (⟨S2, .i32⟩ : BufTy).Contents (Elt F) := ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)) (k_v61 (F := F)) (k_v62 (F := F))
def k_v64 : (⟨S128x128, .f32⟩ : BufTy).Contents (Elt F) := ((fun x i u => Host.scatter scatter_S128x128_S2_S64x64_01_n_01_0 (fun _ b => b) x i u) : (⟨S128x128, .f32⟩ : BufTy).Contents (Elt F) → (⟨S2, .i32⟩ : BufTy).Contents (Elt F) → (⟨S64x64, .f32⟩ : BufTy).Contents (Elt F) → (⟨S128x128, .f32⟩ : BufTy).Contents (Elt F)) (k_v60 (F := F)) (k_v63 (F := F)) (k_v57 (F := F))
def k_c_12 : (⟨S_, .i32⟩ : BufTy).Contents (Elt F) := (constantI S_ 32 64#32)
def k_v65 : (⟨S1, .i32⟩ : BufTy).Contents (Elt F) := (broadcastInDim S1 ![] bcast_S_S1 : (⟨S_, .i32⟩ : BufTy).Contents (Elt F) → (⟨S1, .i32⟩ : BufTy).Contents (Elt F)) (k_c_12 (F := F))
def k_c_13 : (⟨S_, .i32⟩ : BufTy).Contents (Elt F) := (constantI S_ 32 64#32)
def k_v66 : (⟨S1, .i32⟩ : BufTy).Contents (Elt F) := (broadcastInDim S1 ![] bcast_S_S1 : (⟨S_, .i32⟩ : BufTy).Contents (Elt F) → (⟨S1, .i32⟩ : BufTy).Contents (Elt F)) (k_c_13 (F := F))
def k_v67 : (⟨S2, .i32⟩ : BufTy).Contents (Elt F) := ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)) (k_v65 (F := F)) (k_v66 (F := F))
def k_v68 : (⟨S128x128, .f32⟩ : BufTy).Contents (Elt F) := ((fun x i u => Host.scatter scatter_S128x128_S2_S64x64_01_n_01_0 (fun _ b => b) x i u) : (⟨S128x128, .f32⟩ : BufTy).Contents (Elt F) → (⟨S2, .i32⟩ : BufTy).Contents (Elt F) → (⟨S64x64, .f32⟩ : BufTy).Contents (Elt F) → (⟨S128x128, .f32⟩ : BufTy).Contents (Elt F)) (k_v64 (F := F)) (k_v67 (F := F)) (k_v59 (F := F))
def k_v69 : (⟨S1x64x64, .f32⟩ : BufTy).Contents (Elt F) := ((extractStridedSlice S1x64x64 ![2, 0, 0] · slices_S4x64x64_S1x64x64_2_0_0) : (⟨S4x64x64, .f32⟩ : BufTy).Contents (Elt F) → (⟨S1x64x64, .f32⟩ : BufTy).Contents (Elt F)) (k_v55 (F := F))
def k_v70 : (⟨S64x64, .f32⟩ : BufTy).Contents (Elt F) := shapeCast _ (k_v69 (F := F)) shapeCasts_S1x64x64_S64x64
def k_v71 : (⟨S1x64x64, .f32⟩ : BufTy).Contents (Elt F) := ((extractStridedSlice S1x64x64 ![3, 0, 0] · slices_S4x64x64_S1x64x64_3_0_0) : (⟨S4x64x64, .f32⟩ : BufTy).Contents (Elt F) → (⟨S1x64x64, .f32⟩ : BufTy).Contents (Elt F)) (k_v55 (F := F))
def k_v72 : (⟨S64x64, .f32⟩ : BufTy).Contents (Elt F) := shapeCast _ (k_v71 (F := F)) shapeCasts_S1x64x64_S64x64
def k_cst_14 : (⟨S_, .f32⟩ : BufTy).Contents (Elt F) := (constant S_ .f32 0x00000000#32)
def k_v73 : (⟨S128x128, .f32⟩ : BufTy).Contents (Elt F) := (broadcastInDim S128x128 ![] bcast_S_S128x128 : (⟨S_, .f32⟩ : BufTy).Contents (Elt F) → (⟨S128x128, .f32⟩ : BufTy).Contents (Elt F)) (k_cst_14 (F := F))
def k_c_15 : (⟨S_, .i32⟩ : BufTy).Contents (Elt F) := (constantI S_ 32 0#32)
def k_v74 : (⟨S1, .i32⟩ : BufTy).Contents (Elt F) := (broadcastInDim S1 ![] bcast_S_S1 : (⟨S_, .i32⟩ : BufTy).Contents (Elt F) → (⟨S1, .i32⟩ : BufTy).Contents (Elt F)) (k_c_15 (F := F))
def k_c_16 : (⟨S_, .i32⟩ : BufTy).Contents (Elt F) := (constantI S_ 32 0#32)
def k_v75 : (⟨S1, .i32⟩ : BufTy).Contents (Elt F) := (broadcastInDim S1 ![] bcast_S_S1 : (⟨S_, .i32⟩ : BufTy).Contents (Elt F) → (⟨S1, .i32⟩ : BufTy).Contents (Elt F)) (k_c_16 (F := F))
def k_v76 : (⟨S2, .i32⟩ : BufTy).Contents (Elt F) := ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)) (k_v74 (F := F)) (k_v75 (F := F))
def k_v77 : (⟨S128x128, .f32⟩ : BufTy).Contents (Elt F) := ((fun x i u => Host.scatter scatter_S128x128_S2_S64x64_01_n_01_0 (fun _ b => b) x i u) : (⟨S128x128, .f32⟩ : BufTy).Contents (Elt F) → (⟨S2, .i32⟩ : BufTy).Contents (Elt F) → (⟨S64x64, .f32⟩ : BufTy).Contents (Elt F) → (⟨S128x128, .f32⟩ : BufTy).Contents (Elt F)) (k_v73 (F := F)) (k_v76 (F := F)) (k_v70 (F := F))
def k_c_17 : (⟨S_, .i32⟩ : BufTy).Contents (Elt F) := (constantI S_ 32 64#32)
def k_v78 : (⟨S1, .i32⟩ : BufTy).Contents (Elt F) := (broadcastInDim S1 ![] bcast_S_S1 : (⟨S_, .i32⟩ : BufTy).Contents (Elt F) → (⟨S1, .i32⟩ : BufTy).Contents (Elt F)) (k_c_17 (F := F))
def k_c_18 : (⟨S_, .i32⟩ : BufTy).Contents (Elt F) := (constantI S_ 32 64#32)
def k_v79 : (⟨S1, .i32⟩ : BufTy).Contents (Elt F) := (broadcastInDim S1 ![] bcast_S_S1 : (⟨S_, .i32⟩ : BufTy).Contents (Elt F) → (⟨S1, .i32⟩ : BufTy).Contents (Elt F)) (k_c_18 (F := F))
def k_v80 : (⟨S2, .i32⟩ : BufTy).Contents (Elt F) := ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)) (k_v78 (F := F)) (k_v79 (F := F))
def k_v81 : (⟨S128x128, .f32⟩ : BufTy).Contents (Elt F) := ((fun x i u => Host.scatter scatter_S128x128_S2_S64x64_01_n_01_0 (fun _ b => b) x i u) : (⟨S128x128, .f32⟩ : BufTy).Contents (Elt F) → (⟨S2, .i32⟩ : BufTy).Contents (Elt F) → (⟨S64x64, .f32⟩ : BufTy).Contents (Elt F) → (⟨S128x128, .f32⟩ : BufTy).Contents (Elt F)) (k_v77 (F := F)) (k_v80 (F := F)) (k_v72 (F := F))
def k_v82 : (⟨S1x128x128, .f32⟩ : BufTy).Contents (Elt F) := (broadcastInDim S1x128x128 ![1, 2] bcast_S128x128_S1x128x128_1_2 : (⟨S128x128, .f32⟩ : BufTy).Contents (Elt F) → (⟨S1x128x128, .f32⟩ : BufTy).Contents (Elt F)) (k_v68 (F := F))
def k_v83 : (⟨S1x128x128, .f32⟩ : BufTy).Contents (Elt F) := (broadcastInDim S1x128x128 ![1, 2] bcast_S128x128_S1x128x128_1_2 : (⟨S128x128, .f32⟩ : BufTy).Contents (Elt F) → (⟨S1x128x128, .f32⟩ : BufTy).Contents (Elt F)) (k_v81 (F := F))
def k_v84 : (⟨S2x128x128, .f32⟩ : BufTy).Contents (Elt F) := ((fun a b => concatenate S2x128x128 0 [⟨S1x128x128, a⟩, ⟨S1x128x128, b⟩] concatenates_S1x128x128_S1x128x128_S2x128x128_d0) : (⟨S1x128x128, .f32⟩ : BufTy).Contents (Elt F) → (⟨S1x128x128, .f32⟩ : BufTy).Contents (Elt F) → (⟨S2x128x128, .f32⟩ : BufTy).Contents (Elt F)) (k_v82 (F := F)) (k_v83 (F := F))
def k_v85 : (⟨S4, .i32⟩ : BufTy).Contents (Elt F) := (iotaInDim S4 32 0)
def k_v86 : (⟨S4x64, .i32⟩ : BufTy).Contents (Elt F) := (broadcastInDim S4x64 ![0] bcast_S4_S4x64_0 : (⟨S4, .i32⟩ : BufTy).Contents (Elt F) → (⟨S4x64, .i32⟩ : BufTy).Contents (Elt F)) (k_v85 (F := F))
def k_v87 : (⟨S256, .i32⟩ : BufTy).Contents (Elt F) := shapeCast _ (k_v86 (F := F)) shapeCasts_S4x64_S256
def k_v88 : (⟨S64x1, .f32⟩ : BufTy).Contents (Elt F) := (broadcastInDim S64x1 ![0] bcast_S64_S64x1_0 : (⟨S64, .f32⟩ : BufTy).Contents (Elt F) → (⟨S64x1, .f32⟩ : BufTy).Contents (Elt F)) (k_v38 (F := F))
def k_cst_19 : (⟨S_, .f32⟩ : BufTy).Contents (Elt F) := (constant S_ .f32 0x3F800000#32)
def k_v89 : (⟨S64x1, .f32⟩ : BufTy).Contents (Elt F) := (broadcastInDim S64x1 ![] bcast_S_S64x1 : (⟨S_, .f32⟩ : BufTy).Contents (Elt F) → (⟨S64x1, .f32⟩ : BufTy).Contents (Elt F)) (k_cst_19 (F := F))
def k_v90 : (⟨S64x1, .f32⟩ : BufTy).Contents (Elt F) := (addf : (⟨S64x1, .f32⟩ : BufTy).Contents (Elt F) → (⟨S64x1, .f32⟩ : BufTy).Contents (Elt F) → (⟨S64x1, .f32⟩ : BufTy).Contents (Elt F)) (k_v88 (F := F)) (k_v89 (F := F))
def k_v91 : (⟨S1x4, .f32⟩ : BufTy).Contents (Elt F) := (broadcastInDim S1x4 ![1] bcast_S4_S1x4_1 : (⟨S4, .f32⟩ : BufTy).Contents (Elt F) → (⟨S1x4, .f32⟩ : BufTy).Contents (Elt F)) (k_v37 (F := F))
def k_v92 : (⟨S64x4, .f32⟩ : BufTy).Contents (Elt F) := (broadcastInDim S64x4 ![0, 1] bcast_S64x1_S64x4_0_1 : (⟨S64x1, .f32⟩ : BufTy).Contents (Elt F) → (⟨S64x4, .f32⟩ : BufTy).Contents (Elt F)) (k_v90 (F := F))
def k_v93 : (⟨S64x4, .f32⟩ : BufTy).Contents (Elt F) := (broadcastInDim S64x4 ![0, 1] bcast_S1x4_S64x4_0_1 : (⟨S1x4, .f32⟩ : BufTy).Contents (Elt F) → (⟨S64x4, .f32⟩ : BufTy).Contents (Elt F)) (k_v91 (F := F))
def k_v94 : (⟨S64x4, .f32⟩ : BufTy).Contents (Elt F) := (mulf : (⟨S64x4, .f32⟩ : BufTy).Contents (Elt F) → (⟨S64x4, .f32⟩ : BufTy).Contents (Elt F) → (⟨S64x4, .f32⟩ : BufTy).Contents (Elt F)) (k_v92 (F := F)) (k_v93 (F := F))
def k_v95 : (⟨S64x4, .f32⟩ : BufTy).Contents (Elt F) := (Host.exp : (⟨S64x4, .f32⟩ : BufTy).Contents (Elt F) → (⟨S64x4, .f32⟩ : BufTy).Contents (Elt F)) (k_v94 (F := F))
def k_c_20 : (⟨S_, .i32⟩ : BufTy).Contents (Elt F) := (constantI S_ 32 0#32)
def k_v96 : (⟨S256, .i32⟩ : BufTy).Contents (Elt F) := (broadcastInDim S256 ![] bcast_S_S256 : (⟨S_, .i32⟩ : BufTy).Contents (Elt F) → (⟨S256, .i32⟩ : BufTy).Contents (Elt F)) (k_c_20 (F := F))
def k_v97 : (⟨S256, .i1⟩ : BufTy).Contents (Elt F) := (cmpi .slt : (⟨S256, .i32⟩ : BufTy).Contents (Elt F) → (⟨S256, .i32⟩ : BufTy).Contents (Elt F) → (⟨S256, .i1⟩ : BufTy).Contents (Elt F)) (k_v87 (F := F)) (k_v96 (F := F))
def k_c_21 : (⟨S_, .i32⟩ : BufTy).Contents (Elt F) := (constantI S_ 32 4#32)
def k_v98 : (⟨S256, .i32⟩ : BufTy).Contents (Elt F) := (broadcastInDim S256 ![] bcast_S_S256 : (⟨S_, .i32⟩ : BufTy).Contents (Elt F) → (⟨S256, .i32⟩ : BufTy).Contents (Elt F)) (k_c_21 (F := F))
def k_v99 : (⟨S256, .i32⟩ : BufTy).Contents (Elt F) := (addi : (⟨S256, .i32⟩ : BufTy).Contents (Elt F) → (⟨S256, .i32⟩ : BufTy).Contents (Elt F) → (⟨S256, .i32⟩ : BufTy).Contents (Elt F)) (k_v87 (F := F)) (k_v98 (F := F))
def k_v100 : (⟨S256, .i32⟩ : BufTy).Contents (Elt F) := (select : (⟨S256, .i1⟩ : BufTy).Contents (Elt F) → (⟨S256, .i32⟩ : BufTy).Contents (Elt F) → (⟨S256, .i32⟩ : BufTy).Contents (Elt F) → (⟨S256, .i32⟩ : BufTy).Contents (Elt F)) (k_v97 (F := F)) (k_v99 (F := F)) (k_v87 (F := F))
def k_v101 : (⟨S256x1, .i32⟩ : BufTy).Contents (Elt F) := (broadcastInDim S256x1 ![0] bcast_S256_S256x1_0 : (⟨S256, .i32⟩ : BufTy).Contents (Elt F) → (⟨S256x1, .i32⟩ : BufTy).Contents (Elt F)) (k_v100 (F := F))
def k_v102 : (⟨S64x256, .f32⟩ : BufTy).Contents (Elt F) := ((fun x i => Host.gather gather_S64x4_S256x1_S64x256_0_1_n_n_1_1_641 x i) : (⟨S64x4, .f32⟩ : BufTy).Contents (Elt F) → (⟨S256x1, .i32⟩ : BufTy).Contents (Elt F) → (⟨S64x256, .f32⟩ : BufTy).Contents (Elt F)) (k_v95 (F := F)) (k_v101 (F := F))
def k_cst_22 : (⟨S_, .f32⟩ : BufTy).Contents (Elt F) := (constant S_ .f32 0x427C0000#32)
def k_v103 : (⟨S64, .f32⟩ : BufTy).Contents (Elt F) := (broadcastInDim S64 ![] bcast_S_S64 : (⟨S_, .f32⟩ : BufTy).Contents (Elt F) → (⟨S64, .f32⟩ : BufTy).Contents (Elt F)) (k_cst_22 (F := F))
def k_v104 : (⟨S64, .f32⟩ : BufTy).Contents (Elt F) := (subf : (⟨S64, .f32⟩ : BufTy).Contents (Elt F) → (⟨S64, .f32⟩ : BufTy).Contents (Elt F) → (⟨S64, .f32⟩ : BufTy).Contents (Elt F)) (k_v103 (F := F)) (k_v38 (F := F))
def k_v105 : (⟨S64x1, .f32⟩ : BufTy).Contents (Elt F) := (broadcastInDim S64x1 ![0] bcast_S64_S64x1_0 : (⟨S64, .f32⟩ : BufTy).Contents (Elt F) → (⟨S64x1, .f32⟩ : BufTy).Contents (Elt F)) (k_v104 (F := F))
def k_v106 : (⟨S1x4, .f32⟩ : BufTy).Contents (Elt F) := (broadcastInDim S1x4 ![1] bcast_S4_S1x4_1 : (⟨S4, .f32⟩ : BufTy).Contents (Elt F) → (⟨S1x4, .f32⟩ : BufTy).Contents (Elt F)) (k_v37 (F := F))
def k_v107 : (⟨S64x4, .f32⟩ : BufTy).Contents (Elt F) := (broadcastInDim S64x4 ![0, 1] bcast_S64x1_S64x4_0_1 : (⟨S64x1, .f32⟩ : BufTy).Contents (Elt F) → (⟨S64x4, .f32⟩ : BufTy).Contents (Elt F)) (k_v105 (F := F))
def k_v108 : (⟨S64x4, .f32⟩ : BufTy).Contents (Elt F) := (broadcastInDim S64x4 ![0, 1] bcast_S1x4_S64x4_0_1 : (⟨S1x4, .f32⟩ : BufTy).Contents (Elt F) → (⟨S64x4, .f32⟩ : BufTy).Contents (Elt F)) (k_v106 (F := F))
def k_v109 : (⟨S64x4, .f32⟩ : BufTy).Contents (Elt F) := (mulf : (⟨S64x4, .f32⟩ : BufTy).Contents (Elt F) → (⟨S64x4, .f32⟩ : BufTy).Contents (Elt F) → (⟨S64x4, .f32⟩ : BufTy).Contents (Elt F)) (k_v107 (F := F)) (k_v108 (F := F))
def k_v110 : (⟨S64x4, .f32⟩ : BufTy).Contents (Elt F) := (Host.exp : (⟨S64x4, .f32⟩ : BufTy).Contents (Elt F) → (⟨S64x4, .f32⟩ : BufTy).Contents (Elt F)) (k_v109 (F := F))
def k_c_23 : (⟨S_, .i32⟩ : BufTy).Contents (Elt F) := (constantI S_ 32 0#32)
def k_v111 : (⟨S256, .i32⟩ : BufTy).Contents (Elt F) := (broadcastInDim S256 ![] bcast_S_S256 : (⟨S_, .i32⟩ : BufTy).Contents (Elt F) → (⟨S256, .i32⟩ : BufTy).Contents (Elt F)) (k_c_23 (F := F))
def k_v112 : (⟨S256, .i1⟩ : BufTy).Contents (Elt F) := (cmpi .slt : (⟨S256, .i32⟩ : BufTy).Contents (Elt F) → (⟨S256, .i32⟩ : BufTy).Contents (Elt F) → (⟨S256, .i1⟩ : BufTy).Contents (Elt F)) (k_v87 (F := F)) (k_v111 (F := F))
def k_c_24 : (⟨S_, .i32⟩ : BufTy).Contents (Elt F) := (constantI S_ 32 4#32)
def k_v113 : (⟨S256, .i32⟩ : BufTy).Contents (Elt F) := (broadcastInDim S256 ![] bcast_S_S256 : (⟨S_, .i32⟩ : BufTy).Contents (Elt F) → (⟨S256, .i32⟩ : BufTy).Contents (Elt F)) (k_c_24 (F := F))
def k_v114 : (⟨S256, .i32⟩ : BufTy).Contents (Elt F) := (addi : (⟨S256, .i32⟩ : BufTy).Contents (Elt F) → (⟨S256, .i32⟩ : BufTy).Contents (Elt F) → (⟨S256, .i32⟩ : BufTy).Contents (Elt F)) (k_v87 (F := F)) (k_v113 (F := F))
def k_v115 : (⟨S256, .i32⟩ : BufTy).Contents (Elt F) := (select : (⟨S256, .i1⟩ : BufTy).Contents (Elt F) → (⟨S256, .i32⟩ : BufTy).Contents (Elt F) → (⟨S256, .i32⟩ : BufTy).Contents (Elt F) → (⟨S256, .i32⟩ : BufTy).Contents (Elt F)) (k_v112 (F := F)) (k_v114 (F := F)) (k_v87 (F := F))
def k_v116 : (⟨S256x1, .i32⟩ : BufTy).Contents (Elt F) := (broadcastInDim S256x1 ![0] bcast_S256_S256x1_0 : (⟨S256, .i32⟩ : BufTy).Contents (Elt F) → (⟨S256x1, .i32⟩ : BufTy).Contents (Elt F)) (k_v115 (F := F))
def k_v117 : (⟨S64x256, .f32⟩ : BufTy).Contents (Elt F) := ((fun x i => Host.gather gather_S64x4_S256x1_S64x256_0_1_n_n_1_1_641 x i) : (⟨S64x4, .f32⟩ : BufTy).Contents (Elt F) → (⟨S256x1, .i32⟩ : BufTy).Contents (Elt F) → (⟨S64x256, .f32⟩ : BufTy).Contents (Elt F)) (k_v110 (F := F)) (k_v116 (F := F))
def k_cst_25 : (⟨S_, .f32⟩ : BufTy).Contents (Elt F) := (constant S_ .f32 0x42800000#32)
def k_v118 : (⟨S4, .f32⟩ : BufTy).Contents (Elt F) := (broadcastInDim S4 ![] bcast_S_S4 : (⟨S_, .f32⟩ : BufTy).Contents (Elt F) → (⟨S4, .f32⟩ : BufTy).Contents (Elt F)) (k_cst_25 (F := F))
def k_v119 : (⟨S4, .f32⟩ : BufTy).Contents (Elt F) := (mulf : (⟨S4, .f32⟩ : BufTy).Contents (Elt F) → (⟨S4, .f32⟩ : BufTy).Contents (Elt F) → (⟨S4, .f32⟩ : BufTy).Contents (Elt F)) (k_v118 (F := F)) (k_v37 (F := F))
def k_v120 : (⟨S4, .f32⟩ : BufTy).Contents (Elt F) := (Host.exp : (⟨S4, .f32⟩ : BufTy).Contents (Elt F) → (⟨S4, .f32⟩ : BufTy).Contents (Elt F)) (k_v119 (F := F))
def k_c_26 : (⟨S_, .i32⟩ : BufTy).Contents (Elt F) := (constantI S_ 32 0#32)
def k_v121 : (⟨S256, .i32⟩ : BufTy).Contents (Elt F) := (broadcastInDim S256 ![] bcast_S_S256 : (⟨S_, .i32⟩ : BufTy).Contents (Elt F) → (⟨S256, .i32⟩ : BufTy).Contents (Elt F)) (k_c_26 (F := F))
def k_v122 : (⟨S256, .i1⟩ : BufTy).Contents (Elt F) := (cmpi .slt : (⟨S256, .i32⟩ : BufTy).Contents (Elt F) → (⟨S256, .i32⟩ : BufTy).Contents (Elt F) → (⟨S256, .i1⟩ : BufTy).Contents (Elt F)) (k_v87 (F := F)) (k_v121 (F := F))
def k_c_27 : (⟨S_, .i32⟩ : BufTy).Contents (Elt F) := (constantI S_ 32 4#32)
def k_v123 : (⟨S256, .i32⟩ : BufTy).Contents (Elt F) := (broadcastInDim S256 ![] bcast_S_S256 : (⟨S_, .i32⟩ : BufTy).Contents (Elt F) → (⟨S256, .i32⟩ : BufTy).Contents (Elt F)) (k_c_27 (F := F))
def k_v124 : (⟨S256, .i32⟩ : BufTy).Contents (Elt F) := (addi : (⟨S256, .i32⟩ : BufTy).Contents (Elt F) → (⟨S256, .i32⟩ : BufTy).Contents (Elt F) → (⟨S256, .i32⟩ : BufTy).Contents (Elt F)) (k_v87 (F := F)) (k_v123 (F := F))
def k_v125 : (⟨S256, .i32⟩ : BufTy).Contents (Elt F) := (select : (⟨S256, .i1⟩ : BufTy).Contents (Elt F) → (⟨S256, .i32⟩ : BufTy).Contents (Elt F) → (⟨S256, .i32⟩ : BufTy).Contents (Elt F) → (⟨S256, .i32⟩ : BufTy).Contents (Elt F)) (k_v122 (F := F)) (k_v124 (F := F)) (k_v87 (F := F))
def k_v126 : (⟨S256x1, .i32⟩ : BufTy).Contents (Elt F) := (broadcastInDim S256x1 ![0] bcast_S256_S256x1_0 : (⟨S256, .i32⟩ : BufTy).Contents (Elt F) → (⟨S256x1, .i32⟩ : BufTy).Contents (Elt F)) (k_v125 (F := F))
def k_v127 : (⟨S256, .f32⟩ : BufTy).Contents (Elt F) := ((fun x i => Host.gather gather_S4_S256x1_S256_n_0_n_n_0_1_1 x i) : (⟨S4, .f32⟩ : BufTy).Contents (Elt F) → (⟨S256x1, .i32⟩ : BufTy).Contents (Elt F) → (⟨S256, .f32⟩ : BufTy).Contents (Elt F)) (k_v120 (F := F)) (k_v126 (F := F))
def k_v128 : (⟨S1x256, .f32⟩ : BufTy).Contents (Elt F) := (broadcastInDim S1x256 ![1] bcast_S256_S1x256_1 : (⟨S256, .f32⟩ : BufTy).Contents (Elt F) → (⟨S1x256, .f32⟩ : BufTy).Contents (Elt F)) (k_v127 (F := F))

end Cert.KernelIdeal.RetHost

end
-- ==== Proof.RetTab.lean ====
/-
  The tables of the retention call, entry by entry, as real numbers.
-/
module
public import proofs.«01_k».proof.Proof.RetTables
public import proofs.«01_k».proof.Proof.RetSlab
public import Idealize.ShloMosaic.Lib.Tactic
public import Idealize.ShloMosaic.Lib.Pointwise
public import Idealize.ShloMosaic.Lib.Routing.OpsSet
public import Idealize.ShloMosaic.Lib.Routing.OpsOne
public import Idealize.ShloMosaic.Lib.Routing.OpsPair
public import proofs.«01_k».proof.Proof.RetTile
@[expose] public section
set_option maxRecDepth 16384
noncomputable section
namespace Cert.KernelIdeal.RetTab
open Cert.KernelIdeal Cert.KernelIdeal.Gen Cert.KernelIdeal.RetHost Idealize.ShloMosaic Idealize.ShloMosaic.TcCoe Idealize.SL.Sem

/-- Row of an update inside the window. -/
theorem win0 (k : S64x64.Idx) : scatter_S128x128_S2_S64x64_01_n_01_0.window k 0 = (k 0).val := rfl
/-- Column of an update inside the window. -/
theorem win1 (k : S64x64.Idx) : scatter_S128x128_S2_S64x64_01_n_01_0.window k 1 = (k 1).val := rfl
/-- Where the window begins. -/
theorem st (k : S64x64.Idx) (idx : IVec S2 32) (q : Fin 2) : scatter_S128x128_S2_S64x64_01_n_01_0.start k idx q = (idx (ix1 q)).toInt :=
  Routing.start_pair (R := 128) (C := 128) scatter_S128x128_S2_S64x64_01_n_01_0 rfl rfl idx k q

/-- Columns taken from a table of four columns. -/
theorem g2 {α : Type} (x : S64x4.Idx → α) (idx : IVec S256x1 32) (n : Fin 64) (l : Fin 256) (h : Fin 4) (hh : (idx (ix2 l 0)).toInt = h.val) :
    Host.gather gather_S64x4_S256x1_S64x256_0_1_n_n_1_1_641 x idx (ix2 n l) = x (ix2 n h) := by
  unfold Host.gather
  congr 1
  funext a
  refine Fin.ext ?_
  match a with
  | ⟨0, _⟩ =>
    show gather_S64x4_S256x1_S64x256_0_1_n_n_1_1_641.start (ix2 n l) idx 0 + gather_S64x4_S256x1_S64x256_0_1_n_n_1_1_641.batchCoord (ix2 n l) 0 + gather_S64x4_S256x1_S64x256_0_1_n_n_1_1_641.offCoord (ix2 n l) 0 = n.val
    have h1 : gather_S64x4_S256x1_S64x256_0_1_n_n_1_1_641.start (ix2 n l) idx 0 = 0 := rfl
    have h2 : gather_S64x4_S256x1_S64x256_0_1_n_n_1_1_641.batchCoord (ix2 n l) 0 = 0 := rfl
    have h3 : gather_S64x4_S256x1_S64x256_0_1_n_n_1_1_641.offCoord (ix2 n l) 0 = n.val := rfl
    omega
  | ⟨1, _⟩ =>
    show gather_S64x4_S256x1_S64x256_0_1_n_n_1_1_641.start (ix2 n l) idx 1 + gather_S64x4_S256x1_S64x256_0_1_n_n_1_1_641.batchCoord (ix2 n l) 1 + gather_S64x4_S256x1_S64x256_0_1_n_n_1_1_641.offCoord (ix2 n l) 1 = h.val
    have h2 : gather_S64x4_S256x1_S64x256_0_1_n_n_1_1_641.batchCoord (ix2 n l) 1 = 0 := rfl
    have h3 : gather_S64x4_S256x1_S64x256_0_1_n_n_1_1_641.offCoord (ix2 n l) 1 = 0 := rfl
    have h1 : gather_S64x4_S256x1_S64x256_0_1_n_n_1_1_641.start (ix2 n l) idx 1 = min (idx (ix2 l 0)).toInt.toNat 3 := by
      unfold GatherDims.start
      rw [dif_pos (by decide)]
      congr 4
      funext b
      refine Fin.ext ?_
      match b with
      | ⟨0, _⟩ => rfl
      | ⟨1, _⟩ => rfl
    rw [h1, h2, h3, hh]
    omega
/-- Entries taken from a table of four. -/
theorem g1 {α : Type} (x : S4.Idx → α) (idx : IVec S256x1 32) (l : Fin 256) (h : Fin 4) (hh : (idx (ix2 l 0)).toInt = h.val) :
    Host.gather gather_S4_S256x1_S256_n_0_n_n_0_1_1 x idx (ix1 l) = x (ix1 h) := by
  unfold Host.gather
  congr 1
  funext a
  refine Fin.ext ?_
  match a with
  | ⟨0, _⟩ =>
    show gather_S4_S256x1_S256_n_0_n_n_0_1_1.start (ix1 l) idx 0 + gather_S4_S256x1_S256_n_0_n_n_0_1_1.batchCoord (ix1 l) 0 + gather_S4_S256x1_S256_n_0_n_n_0_1_1.offCoord (ix1 l) 0 = h.val
    have h2 : gather_S4_S256x1_S256_n_0_n_n_0_1_1.batchCoord (ix1 l) 0 = 0 := rfl
    have h3 : gather_S4_S256x1_S256_n_0_n_n_0_1_1.offCoord (ix1 l) 0 = 0 := rfl
    have h1 : gather_S4_S256x1_S256_n_0_n_n_0_1_1.start (ix1 l) idx 0 = min (idx (ix2 l 0)).toInt.toNat 3 := by
      unfold GatherDims.start
      rw [dif_pos (by decide)]
      congr 4
      funext b
      refine Fin.ext ?_
      match b with
      | ⟨0, _⟩ => rfl
      | ⟨1, _⟩ => rfl
    rw [h1, h2, h3, hh]
    omega

/-- A small number word, read as a real. -/
theorem sit (n : ℕ) (hn : n < 2147483648) : FloatOps.sitofp (F := Ideal) FTy.f32 (BitVec.ofNat 32 n) = ((n : ℝ) : EReal) := by
  show ((((BitVec.ofNat 32 n).toInt : ℝ)) : EReal) = _
  rw [BitVec.toInt_eq_toNat_of_lt (by rw [BitVec.toNat_ofNat]; omega), BitVec.toNat_ofNat, Nat.mod_eq_of_lt (by omega)]
  rfl
/-- A truth value, read as a real. -/
theorem uit (b : BitVec 1) : FloatOps.uitofp (F := Ideal) FTy.bf16 b = if b = 1#1 then 1 else 0 := by
  show ((((b.toNat : ℝ)) : ℝ) : EReal) = _
  revert b; intro b
  have : b = 0#1 ∨ b = 1#1 := by revert b; decide
  rcases this with rfl | rfl <;> simp

/-- The window of 64 by 64 written with its corner at row and column `o`. -/
theorem sc2 (x0 : FVec Ideal S128x128 .f32) (idx : IVec S2 32) (u : FVec Ideal S64x64 .f32) (o : ℕ) (ho : o + 64 ≤ 128)
    (h0 : (idx (ix1 0)).toInt = o) (h1 : (idx (ix1 1)).toInt = o) (r l : Fin 128) :
    Host.scatter scatter_S128x128_S2_S64x64_01_n_01_0 (fun _ b => b) x0 idx u (ix2 r l)
      = if h : o ≤ r.val ∧ r.val < o + 64 ∧ o ≤ l.val ∧ l.val < o + 64 then u (ix2 (⟨r.val - o, by omega⟩ : Fin 64) (⟨l.val - o, by omega⟩ : Fin 64)) else x0 (ix2 r l) := by
  have key : ∀ k : S64x64.Idx, scatter_S128x128_S2_S64x64_01_n_01_0.resultIdx? k idx = some (ix2 r l)
      ↔ (o + (k 0).val = r.val ∧ o + (k 1).val = l.val) := by
    intro k
    rw [Routing.resultIdx?_eq_some]
    constructor
    · intro h
      have a0 := h 0
      have a1 := h 1
      rw [st, win0, h0] at a0
      rw [st, win1, h1] at a1
      have b0 : ((ix2 r l : S128x128.Idx) 0).val = r.val := rfl
      have b1 : ((ix2 r l : S128x128.Idx) 1).val = l.val := rfl
      rw [b0] at a0; rw [b1] at a1
      omega
    · rintro ⟨a0, a1⟩ a
      match a with
      | ⟨0, _⟩ =>
        show scatter_S128x128_S2_S64x64_01_n_01_0.start k idx 0 + (scatter_S128x128_S2_S64x64_01_n_01_0.window k 0 : Int) = (r.val : Int)
        rw [st, win0, h0]; omega
      | ⟨1, _⟩ =>
        show scatter_S128x128_S2_S64x64_01_n_01_0.start k idx 1 + (scatter_S128x128_S2_S64x64_01_n_01_0.window k 1 : Int) = (l.val : Int)
        rw [st, win1, h1]; omega
  by_cases h : o ≤ r.val ∧ r.val < o + 64 ∧ o ≤ l.val ∧ l.val < o + 64
  · rw [dif_pos h]
    refine Routing.scatter_set_hit _ _ _ _ _ _ (fun k hk => ?_) (ix2 (⟨r.val - o, by omega⟩ : Fin 64) (⟨l.val - o, by omega⟩ : Fin 64)) ?_
    · rw [key] at hk
      congr 1
      funext a
      refine Fin.ext ?_
      match a with
      | ⟨0, _⟩ => show (k 0).val = r.val - o; omega
      | ⟨1, _⟩ => show (k 1).val = l.val - o; omega
    · rw [key]
      constructor
      · show o + (r.val - o) = r.val; omega
      · show o + (l.val - o) = l.val; omega
  · rw [dif_neg h]
    refine Routing.scatter_set_miss _ _ _ _ _ fun k hk => h ?_
    rw [key] at hk
    have b0 : (k 0).val < 64 := (k 0).isLt
    have b1 : (k 1).val < 64 := (k 1).isLt
    omega

/-- The first 32 angles' table is real. -/
theorem th_ex (j : Fin 32) : ∃ r : ℝ, (k_v12 (F := Ideal) : FVec Ideal S32 .f32) (ix1 j) = (r : EReal) := by
  have c31 : Ideal.ofBits FTy.f32 1106771968#32 = ((31 : ℝ) : EReal) := by
    simp [Ideal.ofBits, Ideal.ieee, -EReal.coe_mul]; norm_num
  have c1 : Ideal.ofBits FTy.f32 1065353216#32 = ((1 : ℝ) : EReal) := by
    simp [Ideal.ofBits, Ideal.ieee, -EReal.coe_mul]; norm_num
  have c0 : Ideal.ofBits FTy.f32 0#32 = ((0 : ℝ) : EReal) := by
    simp [Ideal.ofBits, Ideal.ieee, -EReal.coe_mul]
  have c4 : Ideal.ofBits FTy.f32 1176256512#32 = ((10000 : ℝ) : EReal) := by
    simp [Ideal.ofBits, Ideal.ieee, -EReal.coe_mul]; norm_num
  have i0 : (id (constant S_ .f32 0#32 : FVec Ideal S_ .f32)) ix0 = ((0 : ℝ) : EReal) := c0
  have i1 : (id (constant S_ .f32 1065353216#32 : FVec Ideal S_ .f32)) ix0 = ((1 : ℝ) : EReal) := c1
  pointwise [k_v12, k_v11, k_cst_2, k_v10, k_v9, k_call2_v16, k_call2_v15, k_call2_v14, k_call2_v13, k_call2_v12, k_call2_v11, k_call2_v10, k_call2_v9,k_call2_v8, k_call2_v7, k_call2_v6, k_call2_v5, k_call2_v4, k_call2_v3, k_call2_v2, k_call2_v1, k_call2_v0, k_call2_cst, k_call2_cst_0, k_call2_cst_1, k_cst, k_cst_1]
  have one : (1 : EReal) = ((1 : ℝ) : EReal) := rfl
  by_cases h : j.val < 31
  · rw [dif_pos h, c31, c4, i0, i1]
    have hs := sit j.val (by omega)
    rw [hs, Ideal.div_coe (by norm_num : (31 : ℝ) ≠ 0), one]
    simp only [← EReal.coe_sub, ← EReal.coe_mul, ← EReal.coe_add, ← EReal.coe_neg, Ideal.pow_coe_coe]
    exact ⟨_, rfl⟩
  · rw [dif_neg h, c4, i1, ← EReal.coe_neg, Ideal.pow_coe_coe]
    exact ⟨_, rfl⟩

/-- The logarithms of the heads' decays are real. -/
theorem lg_ex (j : Fin 4) : ∃ r : ℝ, (k_v37 (F := Ideal) : FVec Ideal S4 .f32) (ix1 j) = (r : EReal) := by
  have c2 : Ideal.ofBits FTy.f32 1073741824#32 = ((2 : ℝ) : EReal) := by
    simp [Ideal.ofBits, Ideal.ieee, -EReal.coe_mul]; try norm_num
  have c5 : Ideal.ofBits FTy.f32 3231711232#32 = ((-5 : ℝ) : EReal) := by
    simp [Ideal.ofBits, Ideal.ieee, -EReal.coe_mul, -EReal.coe_neg]; norm_num
  pointwise [k_v37, k_v36, k_v35, k_v34, k_v33, k_v32, k_v31, k_v30, k_cst_3, k_cst_4, k_cst_5]
  have one : (1 : EReal) = ((1 : ℝ) : EReal) := rfl
  have hs := sit j.val (by omega)
  rw [c2, c5, hs, ← EReal.coe_sub, Ideal.pow_coe_coe, one, ← EReal.coe_sub, Ideal.log_coe]
  have hlt : Real.rpow 2 ((-5 : ℝ) - (j.val : ℝ)) < 1 := by
    refine Real.rpow_lt_one_of_one_lt_of_neg (by norm_num) ?_
    have : (0 : ℝ) ≤ (j.val : ℝ) := Nat.cast_nonneg _
    linarith
  rw [if_neg (by linarith)]
  exact ⟨_, rfl⟩

/-- The angle of column `j` of a rotary half. -/
def th (j : ℕ) : ℝ := if h : j < 32 then ((k_v12 (F := Ideal) : FVec Ideal S32 .f32) (ix1 ⟨j, h⟩) : EReal).toReal else 0
/-- The logarithm of the decay of head `j`. -/
def lg (j : ℕ) : ℝ := if h : j < 4 then ((k_v37 (F := Ideal) : FVec Ideal S4 .f32) (ix1 ⟨j, h⟩) : EReal).toReal else 0

/-- The table of the angles. -/
theorem v12_apply (j : Fin 32) : (k_v12 (F := Ideal) : FVec Ideal S32 .f32) (ix1 j) = (th j.val : EReal) := by
  obtain ⟨r, hr⟩ := th_ex j
  unfold th
  rw [dif_pos j.isLt]
  show _ = (((k_v12 (F := Ideal) : FVec Ideal S32 .f32) (ix1 j) : EReal).toReal : EReal)
  rw [hr, EReal.toReal_coe]
/-- The table of the logarithms of the decays. -/
theorem v37_apply (j : Fin 4) : (k_v37 (F := Ideal) : FVec Ideal S4 .f32) (ix1 j) = (lg j.val : EReal) := by
  obtain ⟨r, hr⟩ := lg_ex j
  unfold lg
  rw [dif_pos j.isLt]
  show _ = (((k_v37 (F := Ideal) : FVec Ideal S4 .f32) (ix1 j) : EReal).toReal : EReal)
  rw [hr, EReal.toReal_coe]

/-- The cosines. -/
theorem v19_apply (t : Fin 2048) (j : Fin 32) : (k_v19 (F := Ideal) : FVec Ideal S2048x32 .f32) (ix2 t j) = (Real.cos ((t.val : ℝ) * th j.val) : EReal) := by
  pointwise [k_v19, k_v18, k_v17, k_v16, k_v15, k_v14, k_v13]
  have hs := sit t.val (by omega)
  rw [hs, v12_apply, ← EReal.coe_mul, Ideal.cos_coe]
/-- The sines. -/
theorem v20_apply (t : Fin 2048) (j : Fin 32) : (k_v20 (F := Ideal) : FVec Ideal S2048x32 .f32) (ix2 t j) = (Real.sin ((t.val : ℝ) * th j.val) : EReal) := by
  pointwise [k_v20, k_v18, k_v17, k_v16, k_v15, k_v14, k_v13]
  have hs := sit t.val (by omega)
  rw [hs, v12_apply, ← EReal.coe_mul, Ideal.sin_coe]

/-- The cosine at row `t`, column `l` of a head. -/
def rc (t l : ℕ) : ℝ := Real.cos ((t : ℝ) * th (l % 32))
/-- The signed sine at row `t`, column `l` of a head: negative in the first half. -/
def rs (t l : ℕ) : ℝ := if l % 64 < 32 then -Real.sin ((t : ℝ) * th (l % 32)) else Real.sin ((t : ℝ) * th (l % 32))

/-- The wide table of cosines. -/
theorem v24_apply (t : Fin 2048) (l : Fin 256) : (k_v24 (F := Ideal) : FVec Ideal S2048x256 .f32) (ix2 t l) = (rc t.val l.val : EReal) := by
  pointwise [k_v24, k_v23, k_v22, k_v21]
  unfold rc
  by_cases h : l.val % 64 < 32
  · rw [dif_pos h, v19_apply]
    have : l.val % 64 = l.val % 32 := by omega
    simp only [this]
  · rw [dif_neg h, v19_apply]
    have : l.val % 64 - 32 = l.val % 32 := by omega
    simp only [this]
/-- The wide table of signed sines. -/
theorem v29_apply (t : Fin 2048) (l : Fin 256) : (k_v29 (F := Ideal) : FVec Ideal S2048x256 .f32) (ix2 t l) = (rs t.val l.val : EReal) := by
  pointwise [k_v29, k_v28, k_v27, k_v26, k_v25]
  unfold rs
  by_cases h : l.val % 64 < 32
  · rw [dif_pos h, v20_apply, if_pos h, ← EReal.coe_neg]
    have : l.val % 64 = l.val % 32 := by omega
    simp only [this]
  · rw [dif_neg h, v20_apply, if_neg h]
    have : l.val % 64 - 32 = l.val % 32 := by omega
    simp only [this]

/-- The decays inside a chunk of 64 rows. -/
def dec (h a b : ℕ) : ℝ := if b ≤ a then Real.exp (((a : ℝ) - (b : ℝ)) * lg h) else 0

/-- The table of the decays inside a chunk. -/
theorem v55_apply (h : Fin 4) (a b : Fin 64) : (k_v55 (F := Ideal) : FVec Ideal S4x64x64 .f32) (ix3 h a b) = (dec h.val a.val b.val : EReal) := by
  have c0 : Ideal.ofBits FTy.f32 0#32 = ((0 : ℝ) : EReal) := by
    simp [Ideal.ofBits, Ideal.ieee, -EReal.coe_mul]
  have i0 : (id (constant S_ .f32 0#32 : FVec Ideal S_ .f32)) ix0 = ((0 : ℝ) : EReal) := c0
  pointwise [k_v55, k_call3_v1, k_call3_v2, k_call3_v0, k_cst_8, k_v54, k_v53, k_v52, k_v51, k_v50, k_v49, k_v48, k_v47, k_v46, k_v45, k_v44, k_v43, k_v42, k_v41, k_v40, k_v39, k_v38, k_cst_6, k_cst_7]
  have ha := sit a.val (by omega)
  have hb := sit b.val (by omega)
  have z : (0 : EReal) = ((0 : ℝ) : EReal) := rfl
  rw [ha, hb, v37_apply, i0, ← EReal.coe_sub, z]
  simp only [EReal.coe_le_coe_iff]
  unfold dec
  by_cases hab : b.val ≤ a.val
  · have hr : (0 : ℝ) ≤ (a.val : ℝ) - (b.val : ℝ) := sub_nonneg.2 (Nat.cast_le.2 hab)
    rw [if_pos hr, if_pos hab, max_eq_left (EReal.coe_le_coe_iff.2 hr), ← EReal.coe_mul, Ideal.exp_coe]
  · have hr : ¬ (0 : ℝ) ≤ (a.val : ℝ) - (b.val : ℝ) := fun h' => hab (Nat.cast_le.1 (sub_nonneg.1 h'))
    rw [if_neg hr, if_neg hab]

/-- The decay from a chunk's state to its row `n`. -/
theorem v95_apply (n : Fin 64) (h : Fin 4) : (k_v95 (F := Ideal) : FVec Ideal S64x4 .f32) (ix2 n h) = (Real.exp (((n.val : ℝ) + 1) * lg h.val) : EReal) := by
  pointwise [k_v95, k_v94, k_v93, k_v92, k_v91, k_v90, k_v89, k_v88, k_v38, k_cst_19]
  have hs := sit n.val (by omega)
  have one : (1 : EReal) = ((1 : ℝ) : EReal) := rfl
  rw [hs, v37_apply, one, ← EReal.coe_add, ← EReal.coe_mul, Ideal.exp_coe]
/-- The decay from a chunk's row `n` to its end. -/
theorem v110_apply (n : Fin 64) (h : Fin 4) : (k_v110 (F := Ideal) : FVec Ideal S64x4 .f32) (ix2 n h) = (Real.exp ((63 - (n.val : ℝ)) * lg h.val) : EReal) := by
  have c63 : Ideal.ofBits FTy.f32 0x427C0000#32 = ((63 : ℝ) : EReal) := by
    simp [Ideal.ofBits, Ideal.ieee, -EReal.coe_mul]; norm_num
  pointwise [k_v110, k_v109, k_v108, k_v107, k_v106, k_v105, k_v104, k_v103, k_v38, k_cst_22]
  have hs := sit n.val (by omega)
  rw [hs, v37_apply, c63, ← EReal.coe_sub, ← EReal.coe_mul, Ideal.exp_coe]
/-- The decay over a whole chunk. -/
theorem v120_apply (h : Fin 4) : (k_v120 (F := Ideal) : FVec Ideal S4 .f32) (ix1 h) = (Real.exp (64 * lg h.val) : EReal) := by
  have c64 : Ideal.ofBits FTy.f32 0x42800000#32 = ((64 : ℝ) : EReal) := by
    simp [Ideal.ofBits, Ideal.ieee, -EReal.coe_mul]; norm_num
  pointwise [k_v120, k_v119, k_v118, k_cst_25]
  rw [v37_apply, c64, ← EReal.coe_mul, Ideal.exp_coe]

/-- The head of a column, as a word. -/
theorem v101_int (l : Fin 256) : ((k_v101 (F := Ideal) : IVec S256x1 32) (ix2 l 0)).toInt = ((l.val / 64 : ℕ) : Int) := by
  pointwise [k_v101, k_v100, k_v99, k_v98, k_v97, k_v96, k_v87, k_v86, k_v85, k_c_20, k_c_21]
  revert l; decide +kernel
/-- The head of a column, as a word. -/
theorem v116_int (l : Fin 256) : ((k_v116 (F := Ideal) : IVec S256x1 32) (ix2 l 0)).toInt = ((l.val / 64 : ℕ) : Int) := by
  pointwise [k_v116, k_v115, k_v114, k_v113, k_v112, k_v111, k_v87, k_v86, k_v85, k_c_23, k_c_24]
  revert l; decide +kernel
/-- The head of a column, as a word. -/
theorem v126_int (l : Fin 256) : ((k_v126 (F := Ideal) : IVec S256x1 32) (ix2 l 0)).toInt = ((l.val / 64 : ℕ) : Int) := by
  pointwise [k_v126, k_v125, k_v124, k_v123, k_v122, k_v121, k_v87, k_v86, k_v85, k_c_26, k_c_27]
  revert l; decide +kernel

/-- The decays from the state, by column. -/
theorem v102_apply (n : Fin 64) (l : Fin 256) : (k_v102 (F := Ideal) : FVec Ideal S64x256 .f32) (ix2 n l) = (Real.exp (((n.val : ℝ) + 1) * lg (l.val / 64)) : EReal) := by
  unfold k_v102
  refine (g2 _ _ n l ⟨l.val / 64, by omega⟩ (v101_int l)).trans ?_
  exact v95_apply n ⟨l.val / 64, by omega⟩
/-- The decays to the chunk's end, by column. -/
theorem v117_apply (n : Fin 64) (l : Fin 256) : (k_v117 (F := Ideal) : FVec Ideal S64x256 .f32) (ix2 n l) = (Real.exp ((63 - (n.val : ℝ)) * lg (l.val / 64)) : EReal) := by
  unfold k_v117
  refine (g2 _ _ n l ⟨l.val / 64, by omega⟩ (v116_int l)).trans ?_
  exact v110_apply n ⟨l.val / 64, by omega⟩
/-- The decay over a chunk, by column. -/
theorem v128_apply (l : Fin 256) : (k_v128 (F := Ideal) : FVec Ideal S1x256 .f32) (ix2 0 l) = (Real.exp (64 * lg (l.val / 64)) : EReal) := by
  pointwise [k_v128]
  unfold k_v127
  refine (g1 _ _ l ⟨l.val / 64, by omega⟩ (v126_int l)).trans ?_
  exact v120_apply ⟨l.val / 64, by omega⟩

/-- The decays of the heads of a pair, block by block. -/
theorem v84_apply (p : Fin 2) (r l : Fin 128) : (k_v84 (F := Ideal) : FVec Ideal S2x128x128 .f32) (ix3 p r l) = (RetTile.dmF lg p.val r.val l.val : EReal) := by
  have c0 : Ideal.ofBits FTy.f32 0#32 = ((0 : ℝ) : EReal) := by
    simp [Ideal.ofBits, Ideal.ieee, -EReal.coe_mul]
  have e57 : ∀ a b : Fin 64, (k_v57 (F := Ideal) : FVec Ideal S64x64 .f32) (ix2 a b) = (dec 0 a.val b.val : EReal) := by
    intro a b; pointwise [k_v57, k_v56]; exact v55_apply 0 a b
  have e59 : ∀ a b : Fin 64, (k_v59 (F := Ideal) : FVec Ideal S64x64 .f32) (ix2 a b) = (dec 1 a.val b.val : EReal) := by
    intro a b; pointwise [k_v59, k_v58]; exact v55_apply 1 a b
  have e70 : ∀ a b : Fin 64, (k_v70 (F := Ideal) : FVec Ideal S64x64 .f32) (ix2 a b) = (dec 2 a.val b.val : EReal) := by
    intro a b; pointwise [k_v70, k_v69]; exact v55_apply 2 a b
  have e72 : ∀ a b : Fin 64, (k_v72 (F := Ideal) : FVec Ideal S64x64 .f32) (ix2 a b) = (dec 3 a.val b.val : EReal) := by
    intro a b; pointwise [k_v72, k_v71]; exact v55_apply 3 a b
  have z60 : (k_v60 (F := Ideal) : FVec Ideal S128x128 .f32) (ix2 r l) = ((0 : ℝ) : EReal) := by
    pointwise [k_v60, k_cst_9]; rfl
  have z73 : (k_v73 (F := Ideal) : FVec Ideal S128x128 .f32) (ix2 r l) = ((0 : ℝ) : EReal) := by
    pointwise [k_v73, k_cst_14]; rfl
  have e64 := sc2 (k_v60 (F := Ideal)) (k_v63 (F := Ideal)) (k_v57 (F := Ideal)) 0 (by omega) (by pointwise [k_v63, k_v62, k_v61, k_c_10, k_c_11]; rfl) (by pointwise [k_v63, k_v62, k_v61, k_c_10, k_c_11]; rfl) r l
  have e68 := sc2 (k_v64 (F := Ideal)) (k_v67 (F := Ideal)) (k_v59 (F := Ideal)) 64 (by omega) (by pointwise [k_v67, k_v66, k_v65, k_c_12, k_c_13]; rfl) (by pointwise [k_v67, k_v66, k_v65, k_c_12, k_c_13]; rfl) r l
  have e77 := sc2 (k_v73 (F := Ideal)) (k_v76 (F := Ideal)) (k_v70 (F := Ideal)) 0 (by omega) (by pointwise [k_v76, k_v75, k_v74, k_c_15, k_c_16]; rfl) (by pointwise [k_v76, k_v75, k_v74, k_c_15, k_c_16]; rfl) r l
  have e81 := sc2 (k_v77 (F := Ideal)) (k_v80 (F := Ideal)) (k_v72 (F := Ideal)) 64 (by omega) (by pointwise [k_v80, k_v79, k_v78, k_c_17, k_c_18]; rfl) (by pointwise [k_v80, k_v79, k_v78, k_c_17, k_c_18]; rfl) r l
  have d64 : (k_v64 (F := Ideal) : FVec Ideal S128x128 .f32) (ix2 r l) = _ := e64
  have d77 : (k_v77 (F := Ideal) : FVec Ideal S128x128 .f32) (ix2 r l) = _ := e77
  have d68 : (k_v68 (F := Ideal) : FVec Ideal S128x128 .f32) (ix2 r l) = _ := e68
  have d81 : (k_v81 (F := Ideal) : FVec Ideal S128x128 .f32) (ix2 r l) = _ := e81
  have fin : ∀ p : ℕ, (if h : 64 ≤ r.val ∧ r.val < 64 + 64 ∧ 64 ≤ l.val ∧ l.val < 64 + 64 then ((dec (2 * p + 1) (r.val - 64) (l.val - 64) : ℝ) : EReal)
      else if h : 0 ≤ r.val ∧ r.val < 0 + 64 ∧ 0 ≤ l.val ∧ l.val < 0 + 64 then ((dec (2 * p + 0) (r.val - 0) (l.val - 0) : ℝ) : EReal) else ((0 : ℝ) : EReal))
      = (RetTile.dmF lg p r.val l.val : EReal) := by
    intro p
    have hr := r.isLt
    have hl := l.isLt
    unfold RetTile.dmF dec
    by_cases h1 : 64 ≤ r.val ∧ r.val < 64 + 64 ∧ 64 ≤ l.val ∧ l.val < 64 + 64
    · rw [dif_pos h1, if_pos (by omega : r.val / 64 = l.val / 64)]
      have a1 : r.val % 64 = r.val - 64 := by omega
      have a2 : l.val % 64 = l.val - 64 := by omega
      have a3 : l.val / 64 = 1 := by omega
      rw [a1, a2, a3]
    · rw [dif_neg h1]
      by_cases h2 : 0 ≤ r.val ∧ r.val < 0 + 64 ∧ 0 ≤ l.val ∧ l.val < 0 + 64
      · rw [dif_pos h2, if_pos (by omega : r.val / 64 = l.val / 64)]
        have a1 : r.val % 64 = r.val - 0 := by omega
        have a2 : l.val % 64 = l.val - 0 := by omega
        have a3 : l.val / 64 = 0 := by omega
        rw [a1, a2, a3]
      · rw [dif_neg h2, if_neg (by omega : ¬ r.val / 64 = l.val / 64)]
  pointwise [k_v84, k_v83, k_v82]
  by_cases hp : p.val < 1
  · rw [dif_pos hp, d68, d64]
    simp only [e57, e59, z60]
    have : p.val = 0 := by omega
    rw [this]
    exact fin 0
  · rw [dif_neg hp, d81, d77]
    simp only [e70, e72, z73]
    have : p.val = 1 := by omega
    rw [this]
    exact fin 1

/-- A row's head in a pair. -/
theorem v2_apply (a : Fin 128) : (k_v2 (F := Ideal) : IVec S128x1 32) (ix2 a 0) = BitVec.ofNat 32 (a.val / 64) := by
  have i1 : (id (constantI S_ 32 64#32)) ix0 = 64#32 := rfl
  pointwise [k_v2, k_call0_v13, k_call0_v12, k_call0_v11, k_call0_v10, k_call0_v9, k_call0_v8, k_call0_v7, k_call0_v6, k_call0_v5, k_call0_v4, k_call0_v3, k_call0_v2, k_call0_v1, k_call0_v0, k_call0_c, k_call0_c_0, k_c, k_v1, k_v0]
  simp only [i1]
  revert a; decide +kernel
/-- A column's head in a pair. -/
theorem v4_apply (a : Fin 128) : (k_v4 (F := Ideal) : IVec S1x128 32) (ix2 0 a) = BitVec.ofNat 32 (a.val / 64) := by
  have i1 : (id (constantI S_ 32 64#32)) ix0 = 64#32 := rfl
  pointwise [k_v4, k_call1_v13, k_call1_v12, k_call1_v11, k_call1_v10, k_call1_v9, k_call1_v8, k_call1_v7, k_call1_v6, k_call1_v5, k_call1_v4, k_call1_v3, k_call1_v2, k_call1_v1, k_call1_v0, k_call1_c, k_call1_c_0, k_c_0, k_v3, k_v0]
  simp only [i1]
  revert a; decide +kernel
/-- The ones of the two heads' blocks. -/
theorem v8_apply (r l : Fin 128) : (k_v8 (F := Ideal) : FVec Ideal S128x128 .bf16) (ix2 r l) = if r.val / 64 = l.val / 64 then (1 : EReal) else 0 := by
  pointwise [k_v8, k_v7, k_v6, k_v5]
  rw [uit, v2_apply, v4_apply]
  have h : ∀ a b : Fin 2, (IntOp.cmpi .eq (BitVec.ofNat 32 a.val) (BitVec.ofNat 32 b.val) = 1#1) ↔ (a.val = b.val) := by decide
  have := h ⟨r.val / 64, by omega⟩ ⟨l.val / 64, by omega⟩
  simp only [this]

end Cert.KernelIdeal.RetTab
-- ==== Proof.RetValue.lean ====
module

public import proofs.«01_k».proof.Proof.RetFrameIdeal
public import Idealize.ShloMosaic.Lib.Pipeline.Value

@[expose] public section

noncomputable section

namespace Cert.KernelIdeal.RetValue

open Cert.KernelIdeal Cert.KernelIdeal.Gen Cert.KernelIdeal.Ret Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 8's array: the run's contents for that window after the body (`Gen.outsAt0`: its component 0), read through the window's block. -/
theorem flushed8 (c : Dev nD) (t : Fin cfg0.N) :
    (dats m 0 c).flushed 8 t = (cfg0.win 8).cut (grid0.coords t) ((outsAt0 m c t.val t.isLt).1) := by
  show (cfg0.win 8).cut (grid0.coords t) ((dats m 0 c).after 8 t) = _
  rw [after0_8]

/-- … so at a point where case A runs, what its write-back would write is that case's NAMED TERM for the window (`Gen.out0_A_8`: the pieces
    its run found, read back) at the point's memrefs and input blocks, and for an output the case reads back what the point before left (`Gen.outsAt0` at `t - 1`) — by the frame's rewriting lemma for the case. -/
theorem flushed8_A (c : Dev nD) (t : Fin cfg0.N) (h0 : t.val % 4 = 0) :
    (dats m 0 c).flushed 8 t = (cfg0.win 8).cut (grid0.coords t) (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t)) := by
  simp only [flushed8, outsAt0_A m c t h0]

/-- … so at a point where case B runs, what its write-back would write is that case's NAMED TERM for the window (`Gen.out0_B_8`: the pieces
    its run found, read back) at the point's memrefs and input blocks, and for an output the case reads back what the point before left (`Gen.outsAt0` at `t - 1`) — by the frame's rewriting lemma for the case. -/
theorem flushed8_B (c : Dev nD) (t : Fin cfg0.N) (h0 : ¬t.val % 4 = 0) :
    (dats m 0 c).flushed 8 t = (cfg0.win 8).cut (grid0.coords t) (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2) := by
  simp only [flushed8, outsAt0_B m c t h0]

/-- The index map sends distinct grid points to distinct block indices (decided over the 32 points). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S16384x256.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v129) = (dats m 0 c).arrAt 8 cfg0.N :=
  (h c).1 8

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v129) = (dats m 0 c).arrAt 8 cfg0.N
      ∧ r.2.mem ((c : Thread nD τ).loc main_arg0) = m ((c : Thread nD τ).loc main_arg0) :=
  (θ_run defs _ _).mono (fun r h c => ⟨post8 m r h c,
      kept_main_arg0 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the points ≡ 0 (mod 4)
    stores the scratch whole without reading what it held, and `acc` does not enter there (nor where no point meets the
    conditions: `acc`, never read). -/
def scAt0_0 (c : Dev nD) (n : ℕ) (hb : n < cfg0.N) (acc : Vec F S2x128x128 .f32) : Vec F S2x128x128 .f32 :=
  if h0 : n % 4 = 0 then
    sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N))
  else
    sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) acc

/-- WHAT CARRIED SCRATCH 0 HOLDS after point `t`: the fold of its run up to `t`, from the reset at the run's first point
    `4·(t / 4)` (Lib/Pipeline/Value.lean `Pipeline.eq_accAt_of_mod`, by the frame's `outsAt0_κ`; without enumerating the points). -/
theorem soutsAt0_0_eq (c : Dev nD) (t : Fin cfg0.N) :
    (outsAt0 m c t.val t.isLt).2 = Pipeline.accAt (fun n h => scAt0_0 m c n h (VS0_0.read (Elt F) VS0_0.junk)) (scAt0_0 m c) (4 * (t.val / 4)) (t.val % 4)
      (by have h1 := t.isLt; have h2 := Nat.div_add_mod t.val 4; omega) :=
  Pipeline.eq_accAt_of_mod (fun n h => (outsAt0 m c n h).2) 4 (fun n h => scAt0_0 m c n h (VS0_0.read (Elt F) VS0_0.junk)) (scAt0_0 m c)
    (fun n h hn => by
      have hN := lt_of_lt_of_eq h (show cfg0.N = 32 from N_0)
      by_cases h0 : n % 4 = 0
      all_goals first | (exfalso; omega) | (rw [outsAt0_A m c ⟨n, h⟩ h0]; dsimp only; unfold scAt0_0; rw [dif_pos h0] <;> try rfl) | (rw [outsAt0_B m c ⟨n, h⟩ h0]; dsimp only; unfold scAt0_0; rw [dif_neg h0] <;> try rfl))
    (fun n h hn => by
      have hN := lt_of_lt_of_eq h (show cfg0.N = 32 from N_0)
      by_cases h0 : (n + 1) % 4 = 0
      all_goals first | (exfalso; omega) | (rw [outsAt0_A m c ⟨n + 1, h⟩ h0]; dsimp only; unfold scAt0_0; rw [dif_pos h0] <;> try rfl) | (rw [outsAt0_B m c ⟨n + 1, h⟩ h0]; dsimp only; unfold scAt0_0; rw [dif_neg h0] <;> try rfl))
    (by decide) t.val t.isLt _

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Vec F S512x256 .bf16 × Vec F S2x128x128 .f32 :=
  ((VO0_8.read (Elt F) VO0_8.junk, VS0_0.read (Elt F) VS0_0.junk) : Vec F S512x256 .bf16 × Vec F S2x128x128 .f32)

/-- THE STEP: what point `n` leaves in the named outputs and the carried scratch (`Gen.outsAt0`'s tuple), over what the
    point before left (`acc`) — `Gen.outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S512x256 .bf16 × Vec F S2x128x128 .f32) : Vec F S512x256 .bf16 × Vec F S2x128x128 .f32 :=
  if h0 : n % 4 = 0 then
    (out0_A_8 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)), sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)))
  else
    (out0_B_8 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) acc.2, sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) acc.2)

/-- `stAt0` at a point of case A: that case's contents. -/
theorem stAt0_A (c : Dev nD) (t : Fin cfg0.N) (acc : Vec F S512x256 .bf16 × Vec F S2x128x128 .f32) (h0 : t.val % 4 = 0) :
    stAt0 m c t.val t.isLt acc = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t)) :=
  (dif_pos h0).trans rfl

/-- `stAt0` at a point of case B: that case's contents, over `acc`. -/
theorem stAt0_B (c : Dev nD) (t : Fin cfg0.N) (acc : Vec F S512x256 .bf16 × Vec F S2x128x128 .f32) (h0 : ¬t.val % 4 = 0) :
    stAt0 m c t.val t.isLt acc = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) acc.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) acc.2) :=
  (dif_neg h0).trans rfl

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _)]
  rfl

/-- WHAT THE NAMED OUTPUTS AND THE CARRIED SCRATCH HOLD after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 32 from N_0)
  have e := Pipeline.eq_accAt_of_mod (fun n h => outsAt0 m c n h) 32 (fun n h => stAt0 m c n h junk0) (stAt0 m c)
    (fun n h _ => by
      have hN := lt_of_lt_of_eq h (show cfg0.N = 32 from N_0)
      obtain rfl : n = 0 := by omega
      exact outsAt0_zero m c h)
    (fun n h _ => outsAt0_succ m c n h)
    (by decide) n hn (by have := Nat.div_add_mod n 32; omega)
  have hd : n / 32 = 0 := Nat.div_eq_of_lt hN
  have hm : n % 32 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 8 -/

/-- The block of the array that holds index `i`, numbered in the order the points write the blocks back (one per point),
    `i`'s place in it, and the point that writes it back. -/
abbrev run8Of (i : S16384x256.Idx) : ℕ := 1 * ((i 0).val / 512 - 0) + 1 * ((i 1).val / 256 - 0)
set_option backward.proofsInPublic true in
/-- The place of an index in its output block. -/
abbrev loc8Of (i : S16384x256.Idx) : S512x256.Idx := fun a => match a with
  | ⟨0, _⟩ => ⟨(i 0).val % 512, Nat.mod_lt _ (by decide)⟩
  | ⟨1, _⟩ => ⟨(i 1).val % 256, Nat.mod_lt _ (by decide)⟩
/-- The grid point that writes an index. -/
abbrev pt8Of (i : S16384x256.Idx) : ℕ := run8Of i

/-- WHAT THE ARRAY ENDS HOLDING at index `i` inside the box the flushing blocks fill: output 8's component of the carried
    state's fold at the point that writes `i`'s block back, at `i`'s place in the block. `G8` states the array's contents
    only inside the box. -/
def G8 (c : Dev nD) : Buf (Elt F) ((c : Thread nD τ).loc main_v129) := fun i =>
  if h : pt8Of i < cfg0.N then
    (Pipeline.accAt (fun n h => stAt0 m c n h junk0) (stAt0 m c) 0 (pt8Of i) (by omega)).1 (loc8Of i)
  else V m c (Pipeline.arrRef spec0 8) i

/-- The printed index map, decided over the grid: output window 8's block indices stay in the box, and the block number
    read off them is the point's (`t`). -/
theorem idx_facts8 : ∀ t : Fin cfg0.N, 0 ≤ win0_8.index t (0 : Fin 2) ∧ win0_8.index t (0 : Fin 2) ≤ 31
    ∧ 0 ≤ win0_8.index t (1 : Fin 2) ∧ win0_8.index t (1 : Fin 2) ≤ 0
    ∧ 1 * (win0_8.index t (0 : Fin 2) - 0) + 1 * (win0_8.index t (1 : Fin 2) - 0) = t.val :=
  (by decide +kernel : ∀ t : Fin grid0.N, _)

/-- Every block of the box is SOME flushing point's: `onto8Pt`, the point that writes back the block at place `q` of the box. -/
abbrev onto8Pt (q0 : Fin 32) (q1 : Fin 1) : Fin grid0.N :=
  ⟨1 * q0.val + 1 * q1.val, lt_of_lt_of_eq (by omega) N_0.symm⟩
/-- Every block of the output is written back by some point. -/
theorem idx_onto8 : ∀ (q0 : Fin 32) (q1 : Fin 1), ∃ t : Fin cfg0.N, (cfg0.win 8).flush t = true ∧ win0_8.index t = ![q0.val + 0, q1.val + 0] :=
  fun q0 q1 => ⟨onto8Pt q0 q1, (by decide +kernel : ∀ (q0 : Fin 32) (q1 : Fin 1), win0_8.flush (onto8Pt q0 q1) = true ∧ win0_8.index (onto8Pt q0 q1) = ![q0.val + 0, q1.val + 0]) q0 q1⟩

/-- WHAT A FLUSHING POINT `t` WRITES BACK is block `t` of `G8`: output 8's component of the fold up to `t`. -/
theorem flushed8_eq (c : Dev nD) (t : Fin cfg0.N) (hf : (cfg0.win 8).flush t = true) :
    (dats m 0 c).flushed 8 t = ((cfg0.win 8).blk t).view.read (Elt F) (G8 m c) := by
  show (cfg0.win 8).cut (grid0.coords t) ((dats m 0 c).after 8 t) = _
  rw [after0_8, outsAt0_sweep]
  obtain ⟨e0, e1, e2⟩ := idx_facts8 t
  funext y
  have hy0 : (y 0).val < 512 := (y 0).isLt
  have hy1 : (y 1).val < 256 := (y 1).isLt
  have hb0 : (((cfg0.win 8).blk t).view.emb y 0).val = win0_8.index t (0 : Fin 2) * 512 + 1 * (y 0).val := rfl
  have hb1 : (((cfg0.win 8).blk t).view.emb y 1).val = win0_8.index t (1 : Fin 2) * 256 + 1 * (y 1).val := rfl
  have hr : run8Of (((cfg0.win 8).blk t).view.emb y) = t.val := by
    show 1 * ((((cfg0.win 8).blk t).view.emb y 0).val / 512 - 0) + 1 * ((((cfg0.win 8).blk t).view.emb y 1).val / 256 - 0) = _
    rw [hb0, hb1]
    rw [show (win0_8.index t (0 : Fin 2) * 512 + 1 * (y 0).val) / 512 = win0_8.index t (0 : Fin 2) from by omega]; rw [show (win0_8.index t (1 : Fin 2) * 256 + 1 * (y 1).val) / 256 = win0_8.index t (1 : Fin 2) from by omega]
    omega
  have hl : loc8Of (((cfg0.win 8).blk t).view.emb y) = (cfg0.win 8).xinj (grid0.coords t) y := by
    funext a; apply Fin.ext
    match a with
    | ⟨0, _⟩ => show (((cfg0.win 8).blk t).view.emb y 0).val % 512 = (y 0).val; rw [hb0]; omega
    | ⟨1, _⟩ => show (((cfg0.win 8).blk t).view.emb y 1).val % 256 = (y 1).val; rw [hb1]; omega
  have hp : pt8Of (((cfg0.win 8).blk t).view.emb y) = t.val := by
    exact hr
  show (Pipeline.accAt (fun n h => stAt0 m c n h junk0) (stAt0 m c) 0 t.val _).1 ((cfg0.win 8).xinj (grid0.coords t) y) = G8 m c (((cfg0.win 8).blk t).view.emb y)
  unfold G8
  rw [dif_pos (by rw [hp]; exact t.isLt), hl, fold0_congr m c _ _ _ _ hp.symm]

/-- An index of the array is in point `t`'s block iff each coordinate is in the block's range on its axis. -/
theorem mem_blk8 (t : Fin cfg0.N) (i : S16384x256.Idx) :
    i ∈ ((cfg0.win 8).blk t).view.set ↔ ∀ a : Fin 2, win0_8.index t a * S512x256.size a ≤ (i a).val ∧ (i a).val < win0_8.index t a * S512x256.size a + S512x256.size a := by
  show i ∈ ((View.whole main_v129).slice (win0_8.rect t)).set ↔ _
  rw [View.set_slice_whole, Rect.mem_set_unit]
  exact Iff.rfl

/-- THE COVERED INDICES: in some flushing point's block iff inside the box those blocks fill. -/
theorem covered_iff8 (i : S16384x256.Idx) :
    (∃ t : Fin cfg0.N, (cfg0.win 8).flush t = true ∧ i ∈ ((cfg0.win 8).blk t).view.set) ↔ 0 ≤ (i 0).val ∧ (i 0).val < 16384 ∧ 0 ≤ (i 1).val ∧ (i 1).val < 256 := by
  constructor
  · rintro ⟨t, -, hi⟩
    rw [mem_blk8] at hi
    have b0 : win0_8.index t (0 : Fin 2) * 512 ≤ (i 0).val ∧ (i 0).val < win0_8.index t (0 : Fin 2) * 512 + 512 := hi 0
    have b1 : win0_8.index t (1 : Fin 2) * 256 ≤ (i 1).val ∧ (i 1).val < win0_8.index t (1 : Fin 2) * 256 + 256 := hi 1
    obtain ⟨e0, e1, e2⟩ := idx_facts8 t
    omega
  · intro h
    have hi0 : (i 0).val < 16384 := (i 0).isLt
    have hi1 : (i 1).val < 256 := (i 1).isLt
    obtain ⟨t, hft, ht⟩ := idx_onto8 ⟨(i 0).val / 512 - 0, by omega⟩ ⟨(i 1).val / 256 - 0, by omega⟩
    have q0 : win0_8.index t (0 : Fin 2) = (i 0).val / 512 - 0 + 0 := congrFun ht 0
    have q1 : win0_8.index t (1 : Fin 2) = (i 1).val / 256 - 0 + 0 := congrFun ht 1
    refine ⟨t, hft, ?_⟩
    rw [mem_blk8]
    intro a
    match a with
    | ⟨0, _⟩ => show win0_8.index t (0 : Fin 2) * 512 ≤ (i 0).val ∧ (i 0).val < win0_8.index t (0 : Fin 2) * 512 + 512; omega
    | ⟨1, _⟩ => show win0_8.index t (1 : Fin 2) * 256 ≤ (i 1).val ∧ (i 1).val < win0_8.index t (1 : Fin 2) * 256 + 256; omega

/-- THE ARRAY after the run: `G8` (the flushing blocks tile it). -/
theorem final8 (c : Dev nD) : (dats m 0 c).arrAt 8 cfg0.N = G8 m c :=
  (dats m 0 c).arrAt_eq_of_cover 8 _ (fun t hf => flushed8_eq m c t hf) (fun i => (covered_iff8 i).2 (by
    have h0 : (i 0).val < 16384 := (i 0).isLt; have h1 : (i 1).val < 256 := (i 1).isLt; omega))

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v129) = G8 m c
      ∧ r.2.mem ((c : Thread nD τ).loc main_arg0) = m ((c : Thread nD τ).loc main_arg0) :=
  (θ_run defs _ _).mono (fun r h c => ⟨(post8 m r h c).trans (final8 m c),
      kept_main_arg0 m r h c⟩)
    (run_main m ρ)

end Cert.KernelIdeal.RetValue

end
-- ==== Proof.RetHost.lean ====
module

public import proofs.«01_k».proof.Proof.RetTables
public import proofs.«01_k».proof.Proof.Gen.KernelIdeal.Frame.Runs
public import Idealize.ShloMosaic.Lib.Tactic

@[expose] public section

noncomputable section

/-! The tables the retention call is given, as the buffers hold them. -/

namespace Cert.KernelIdeal.RetHost

open Cert.KernelIdeal Cert.KernelIdeal.Gen Idealize.ShloMosaic Idealize.ShloMosaic.TcCoe Idealize.SL.Sem

variable {F : FTy → Type} [FloatOps F]

variable (m : (ℓ : Loc nD τ sig) → Buf (Elt F) ℓ)

set_option maxHeartbeats 1600000 in
set_option maxRecDepth 65536 in
/-- The buffer read by the call holds the cosines. -/
theorem V_main_v24 (c : Dev nD) : V m c main_v24 = k_v24 (F := F) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

set_option maxHeartbeats 1600000 in
set_option maxRecDepth 65536 in
/-- The buffer read by the call holds the signed sines. -/
theorem V_main_v29 (c : Dev nD) : V m c main_v29 = k_v29 (F := F) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

set_option maxHeartbeats 1600000 in
set_option maxRecDepth 65536 in
/-- The buffer read by the call holds the decay inside a chunk. -/
theorem V_main_v84 (c : Dev nD) : V m c main_v84 = k_v84 (F := F) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

set_option maxHeartbeats 1600000 in
set_option maxRecDepth 65536 in
/-- The buffer read by the call holds the decay of the queries. -/
theorem V_main_v102 (c : Dev nD) : V m c main_v102 = k_v102 (F := F) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

set_option maxHeartbeats 1600000 in
set_option maxRecDepth 65536 in
/-- The buffer read by the call holds the decay of the keys. -/
theorem V_main_v117 (c : Dev nD) : V m c main_v117 = k_v117 (F := F) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

set_option maxHeartbeats 1600000 in
set_option maxRecDepth 65536 in
/-- The buffer read by the call holds the decay over a chunk. -/
theorem V_main_v128 (c : Dev nD) : V m c main_v128 = k_v128 (F := F) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

set_option maxHeartbeats 1600000 in
set_option maxRecDepth 65536 in
/-- The buffer read by the call holds the ones of a head. -/
theorem V_main_v8 (c : Dev nD) : V m c main_v8 = k_v8 (F := F) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

end Cert.KernelIdeal.RetHost

end
-- ==== Proof.RetGrid.lean ====
/-
  The retention kernel's grid: what each of the 32 points leaves, and the output array as a whole.
-/
module

public import proofs.«01_k».proof.Proof.RetPoint
public import proofs.«01_k».proof.Proof.RetTab
public import proofs.«01_k».proof.Proof.RetValue
public import proofs.«01_k».proof.Proof.RetHost

@[expose] public section

set_option maxRecDepth 16384

noncomputable section

namespace Cert.KernelIdeal.RetGrid

open Cert.KernelIdeal Cert.KernelIdeal.Gen Cert.KernelIdeal.Ret Cert.KernelIdeal.RetValue Cert.KernelIdeal.RetHost Cert.KernelIdeal.RetTab Cert.KernelIdeal.RetTile Cert.KernelIdeal.RetLoop Cert.KernelIdeal.RetSlab Cert.Retention.Math Idealize.ShloMosaic Idealize.ShloMosaic.TcCoe Idealize.SL.Sem

/-- The query of head `h` at row `t` of batch entry `b`, rotated. -/
def qR (X : ℕ → ℕ → ℝ) (b h t d : ℕ) : ℝ := X (2048 * b + t) (64 * h + d) * rc t d + X (2048 * b + t) (64 * h + partner d) * rs t d
/-- The key of head `h` at row `t` of batch entry `b`, rotated and scaled. -/
def kR (X : ℕ → ℕ → ℝ) (b h t d : ℕ) : ℝ := (X (2048 * b + t) (256 + (64 * h + d)) * rc t d + X (2048 * b + t) (256 + (64 * h + partner d)) * rs t d) * (1 / 8)
/-- The value of head `h` at row `t` of batch entry `b`. -/
def vR (X : ℕ → ℕ → ℝ) (b h t d : ℕ) : ℝ := X (2048 * b + t) (512 + (64 * h + d))

/-- The angle depends on the column inside the head only. -/
theorem rc_mod (t l : ℕ) : rc t (l % 64) = rc t l := by
  unfold rc; rw [show l % 64 % 32 = l % 32 by omega]
/-- The angle depends on the column inside the head only. -/
theorem rs_mod (t l : ℕ) : rs t (l % 64) = rs t l := by
  unfold rs; rw [show l % 64 % 32 = l % 32 by omega, show l % 64 % 64 = l % 64 by omega]
/-- The partner of a column lies in its head. -/
theorem partner_head (l : ℕ) : 64 * (l / 64) + partner (l % 64) = partner l := by
  unfold partner
  have : l % 64 / 32 % 2 = l / 32 % 2 := by omega
  rw [this]
  by_cases h : l / 32 % 2 = 0
  · rw [if_pos h, if_pos h]; omega
  · rw [if_neg h, if_neg h]; omega

/-- The block index of window 0. -/
theorem idx0 : ∀ t : Fin cfg0.N, win0_0.index t 0 = t.val ∧ win0_0.index t 1 = 0 := by decide +kernel
/-- The block index of window 1. -/
theorem idx1 : ∀ t : Fin cfg0.N, win0_1.index t 0 = t.val % 4 ∧ win0_1.index t 1 = 0 := by decide +kernel
/-- The block index of window 2. -/
theorem idx2 : ∀ t : Fin cfg0.N, win0_2.index t 0 = t.val % 4 ∧ win0_2.index t 1 = 0 := by decide +kernel
/-- The block index of window 3. -/
theorem idx3 : ∀ t : Fin cfg0.N, win0_3.index t 0 = 0 ∧ win0_3.index t 1 = 0 ∧ win0_3.index t 2 = 0 := by decide +kernel
/-- The block index of window 4. -/
theorem idx4 : ∀ t : Fin cfg0.N, win0_4.index t 0 = 0 ∧ win0_4.index t 1 = 0 := by decide +kernel
/-- The block index of window 5. -/
theorem idx5 : ∀ t : Fin cfg0.N, win0_5.index t 0 = 0 ∧ win0_5.index t 1 = 0 := by decide +kernel
/-- The block index of window 6. -/
theorem idx6 : ∀ t : Fin cfg0.N, win0_6.index t 0 = 0 ∧ win0_6.index t 1 = 0 := by decide +kernel
/-- The block index of window 7. -/
theorem idx7 : ∀ t : Fin cfg0.N, win0_7.index t 0 = 0 ∧ win0_7.index t 1 = 0 := by decide +kernel

variable (m : ((ℓ : Loc nD τ sig) → Buf (Elt Ideal) ℓ))

/-- The input at row `r`, column `j`. -/
def xin (c : Dev nD) (r : Fin 16384) (j : Fin 1024) : EReal := (m ((c : Thread nD τ).loc main_arg0) : Vec Ideal S16384x1024 .f32) (ix2 r j)

/-- The input rows read at a point. -/
theorem blk0 (c : Dev nD) (t : Fin cfg0.N) (r : Fin 512) (l : Fin 1024) (i : Fin 16384) (hi : i.val = 512 * t.val + r.val) :
    (iblk m c 0 t : Vec Ideal S512x1024 .f32) (ix2 r l) = xin m c i l := by
  unfold iblk
  rw [View.read_apply]
  show V m c main_arg0 _ = _
  rw [V_main_arg0]
  unfold xin
  congr 1
  funext a
  apply Fin.ext
  match a with
  | ⟨0, _⟩ => show win0_0.index t 0 * 512 + 1 * r.val = i.val; rw [(idx0 t).1]; omega
  | ⟨1, _⟩ => show win0_0.index t 1 * 1024 + 1 * l.val = l.val; rw [(idx0 t).2]; omega

/-- The rows of a table read at a point. -/
theorem blk1 (c : Dev nD) (t : Fin cfg0.N) (r : Fin 512) (l : Fin 256) :
    (iblk m c 1 t : Vec Ideal S512x256 .f32) (ix2 r l) = (k_v24 (F := Ideal) : FVec Ideal S2048x256 .f32) (ix2 (⟨512 * (t.val % 4) + r.val, by omega⟩ : Fin 2048) l) := by
  unfold iblk
  rw [View.read_apply]
  show V m c main_v24 _ = _
  rw [V_main_v24]
  congr 1
  funext a
  apply Fin.ext
  match a with
  | ⟨0, _⟩ => show win0_1.index t 0 * 512 + 1 * r.val = 512 * (t.val % 4) + r.val; rw [(idx1 t).1]; omega
  | ⟨1, _⟩ => show win0_1.index t 1 * 256 + 1 * l.val = l.val; rw [(idx1 t).2]; omega

/-- The rows of a table read at a point. -/
theorem blk2 (c : Dev nD) (t : Fin cfg0.N) (r : Fin 512) (l : Fin 256) :
    (iblk m c 2 t : Vec Ideal S512x256 .f32) (ix2 r l) = (k_v29 (F := Ideal) : FVec Ideal S2048x256 .f32) (ix2 (⟨512 * (t.val % 4) + r.val, by omega⟩ : Fin 2048) l) := by
  unfold iblk
  rw [View.read_apply]
  show V m c main_v29 _ = _
  rw [V_main_v29]
  congr 1
  funext a
  apply Fin.ext
  match a with
  | ⟨0, _⟩ => show win0_2.index t 0 * 512 + 1 * r.val = 512 * (t.val % 4) + r.val; rw [(idx2 t).1]; omega
  | ⟨1, _⟩ => show win0_2.index t 1 * 256 + 1 * l.val = l.val; rw [(idx2 t).2]; omega

/-- A table read whole at a point. -/
theorem blk3 (c : Dev nD) (t : Fin cfg0.N) (p : Fin 2) (r l : Fin 128) :
    (iblk m c 3 t : Vec Ideal S2x128x128 .f32) (ix3 p r l) = (k_v84 (F := Ideal) : FVec Ideal S2x128x128 .f32) (ix3 p r l) := by
  unfold iblk
  rw [View.read_apply]
  show V m c main_v84 _ = _
  rw [V_main_v84]
  congr 1
  funext a
  apply Fin.ext
  match a with
  | ⟨0, _⟩ => show win0_3.index t 0 * 2 + 1 * p.val = p.val; rw [(idx3 t).1]; omega
  | ⟨1, _⟩ => show win0_3.index t 1 * 128 + 1 * r.val = r.val; rw [(idx3 t).2.1]; omega
  | ⟨2, _⟩ => show win0_3.index t 2 * 128 + 1 * l.val = l.val; rw [(idx3 t).2.2]; omega

/-- A table read whole at a point. -/
theorem blk4 (c : Dev nD) (t : Fin cfg0.N) (r : Fin 64) (l : Fin 256) :
    (iblk m c 4 t : Vec Ideal S64x256 .f32) (ix2 r l) = (k_v102 (F := Ideal) : FVec Ideal S64x256 .f32) (ix2 r l) := by
  unfold iblk
  rw [View.read_apply]
  show V m c main_v102 _ = _
  rw [V_main_v102]
  congr 1
  funext a
  apply Fin.ext
  match a with
  | ⟨0, _⟩ => show win0_4.index t 0 * 64 + 1 * r.val = r.val; rw [(idx4 t).1]; omega
  | ⟨1, _⟩ => show win0_4.index t 1 * 256 + 1 * l.val = l.val; rw [(idx4 t).2]; omega

/-- A table read whole at a point. -/
theorem blk5 (c : Dev nD) (t : Fin cfg0.N) (r : Fin 64) (l : Fin 256) :
    (iblk m c 5 t : Vec Ideal S64x256 .f32) (ix2 r l) = (k_v117 (F := Ideal) : FVec Ideal S64x256 .f32) (ix2 r l) := by
  unfold iblk
  rw [View.read_apply]
  show V m c main_v117 _ = _
  rw [V_main_v117]
  congr 1
  funext a
  apply Fin.ext
  match a with
  | ⟨0, _⟩ => show win0_5.index t 0 * 64 + 1 * r.val = r.val; rw [(idx5 t).1]; omega
  | ⟨1, _⟩ => show win0_5.index t 1 * 256 + 1 * l.val = l.val; rw [(idx5 t).2]; omega

/-- A table read whole at a point. -/
theorem blk6 (c : Dev nD) (t : Fin cfg0.N) (r : Fin 1) (l : Fin 256) :
    (iblk m c 6 t : Vec Ideal S1x256 .f32) (ix2 r l) = (k_v128 (F := Ideal) : FVec Ideal S1x256 .f32) (ix2 r l) := by
  unfold iblk
  rw [View.read_apply]
  show V m c main_v128 _ = _
  rw [V_main_v128]
  congr 1
  funext a
  apply Fin.ext
  match a with
  | ⟨0, _⟩ => show win0_6.index t 0 * 1 + 1 * r.val = r.val; rw [(idx6 t).1]; omega
  | ⟨1, _⟩ => show win0_6.index t 1 * 256 + 1 * l.val = l.val; rw [(idx6 t).2]; omega

/-- A table read whole at a point. -/
theorem blk7 (c : Dev nD) (t : Fin cfg0.N) (r : Fin 128) (l : Fin 128) :
    (iblk m c 7 t : Vec Ideal S128x128 .bf16) (ix2 r l) = (k_v8 (F := Ideal) : FVec Ideal S128x128 .bf16) (ix2 r l) := by
  unfold iblk
  rw [View.read_apply]
  show V m c main_v8 _ = _
  rw [V_main_v8]
  congr 1
  funext a
  apply Fin.ext
  match a with
  | ⟨0, _⟩ => show win0_7.index t 0 * 128 + 1 * r.val = r.val; rw [(idx7 t).1]; omega
  | ⟨1, _⟩ => show win0_7.index t 1 * 128 + 1 * l.val = l.val; rw [(idx7 t).2]; omega

variable (X : ℕ → ℕ → ℝ)

/-- What the body reads at a point is a tile of the real computation. -/
theorem tile (c : Dev nD) (hX : ∀ (r : Fin 16384) (j : Fin 1024), j.val < 768 → xin m c r j = (X r.val j.val : EReal)) (t : Fin cfg0.N) :
    Tile lg (qR X (t.val / 4)) (kR X (t.val / 4)) (vR X (t.val / 4)) (512 * (t.val % 4)) (fun n j => X (512 * t.val + n) j)
      (fun n l => rc (512 * (t.val % 4) + n) l) (fun n l => rs (512 * (t.val % 4) + n) l)
      (iblk m c 0 t) (iblk m c 1 t) (iblk m c 2 t) (iblk m c 3 t) (iblk m c 4 t) (iblk m c 5 t) (iblk m c 6 t) (iblk m c 7 t) := by
  have hN : cfg0.N = 32 := N_0
  have ht := t.isLt
  constructor
  · intro n j hj
    refine (blk0 m c t n j ⟨512 * t.val + n.val, by omega⟩ rfl).trans ?_
    exact hX _ _ hj
  · intro n l
    exact (blk1 m c t n l).trans (v24_apply _ _)
  · intro n l
    exact (blk2 m c t n l).trans (v29_apply _ _)
  · intro n l hn hl
    unfold qR
    rw [rc_mod, rs_mod, partner_head, show 64 * (l / 64) + l % 64 = l by omega, show 2048 * (t.val / 4) + (512 * (t.val % 4) + n) = 512 * t.val + n by omega]
  · intro n l hn hl
    unfold kR
    rw [rc_mod, rs_mod, partner_head, show 64 * (l / 64) + l % 64 = l by omega, show 2048 * (t.val / 4) + (512 * (t.val % 4) + n) = 512 * t.val + n by omega]
  · intro n l hn hl
    unfold vR
    rw [show 64 * (l / 64) + l % 64 = l by omega, show 2048 * (t.val / 4) + (512 * (t.val % 4) + n) = 512 * t.val + n by omega]
  · intro p r l
    exact (blk3 m c t p r l).trans (v84_apply p r l)
  · intro n l
    exact (blk4 m c t n l).trans (v102_apply n l)
  · intro n l
    exact (blk5 m c t n l).trans (v117_apply n l)
  · intro l
    exact (blk6 m c t 0 l).trans (v128_apply l)
  · intro r l
    exact (blk7 m c t r l).trans (v8_apply r l)

/-- What a point leaves: the state after its rows, and its rows of the output. -/
theorem point (c : Dev nD) (hX : ∀ (r : Fin 16384) (j : Fin 1024), j.val < 768 → xin m c r j = (X r.val j.val : EReal)) (n : ℕ) (hn : n < cfg0.N) :
    (∀ (p : Fin 2) (r l : Fin 128), (outsAt0 m c n hn).2 (ix3 p r l) = ((zS lg (kR X (n / 4)) (vR X (n / 4)) (512 * (n % 4) + 512) p.val r.val l.val : ℝ) : EReal))
    ∧ ∀ (y : Fin 512) (l : Fin 256) (g : Fin 1024) (i : Fin 16384), g.val = 768 + l.val → i.val = 512 * n + y.val →
      (outsAt0 m c n hn).1 (ix2 y l) = outV (xin m c i g) (fun e => rY (lg (l.val / 64)) (qR X (n / 4) (l.val / 64)) (kR X (n / 4) (l.val / 64)) (vR X (n / 4) (l.val / 64)) (512 * (n % 4) + y.val) e) (l.val % 64) := by
  induction n with
  | zero =>
    have A := outsAt0_A m c ⟨0, hn⟩ (Nat.zero_mod _)
    have T := tile m X c hX ⟨0, hn⟩
    have P := RetPoint.pointA T (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) c (grid0.coords ⟨0, hn⟩) ((hcond0_0 ⟨0, hn⟩).mpr (Nat.zero_mod _))
    constructor
    · intro p r l
      exact (congrFun (congrArg Prod.snd A) _).trans (P.1 p r l)
    · intro y l g i hg hi
      refine (congrFun (congrArg Prod.fst A) _).trans ((P.2 y l g hg).trans ?_)
      exact congrArg (fun z => outV z _ _) (blk0 m c ⟨0, hn⟩ y g i hi)
  | succ n ih =>
    by_cases h0 : (n + 1) % 4 = 0
    · have A := outsAt0_A m c ⟨n + 1, hn⟩ h0
      have T := tile m X c hX ⟨n + 1, hn⟩
      have e0 : 512 * ((⟨n + 1, hn⟩ : Fin cfg0.N).val % 4) = 0 := by show 512 * ((n + 1) % 4) = 0; omega
      have e0' : 512 * ((n + 1) % 4) = 0 := by omega
      rw [e0] at T
      have P := RetPoint.pointA T (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) c (grid0.coords ⟨n + 1, hn⟩) ((hcond0_0 ⟨n + 1, hn⟩).mpr h0)
      rw [e0']
      constructor
      · intro p r l
        exact (congrFun (congrArg Prod.snd A) _).trans (P.1 p r l)
      · intro y l g i hg hi
        refine (congrFun (congrArg Prod.fst A) _).trans ((P.2 y l g hg).trans ?_)
        exact congrArg (fun z => outV z _ _) (blk0 m c ⟨n + 1, hn⟩ y g i hi)
    · have B := outsAt0_B m c ⟨n + 1, hn⟩ h0
      have T := tile m X c hX ⟨n + 1, hn⟩
      have hs : ∀ (p : Fin 2) (r l : Fin 128), (outsAt0 m c n (Nat.lt_of_succ_lt hn)).2 (ix3 p r l) = ((zS lg (kR X ((n + 1) / 4)) (vR X ((n + 1) / 4)) (512 * ((n + 1) % 4)) p.val r.val l.val : ℝ) : EReal) := by
        intro p r l
        have := (ih (Nat.lt_of_succ_lt hn)).1 p r l
        rw [show (n + 1) / 4 = n / 4 by omega, show 512 * ((n + 1) % 4) = 512 * (n % 4) + 512 by omega]
        exact this
      have P := RetPoint.pointB T (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) c (grid0.coords ⟨n + 1, hn⟩) (fun h => h0 ((hcond0_0 ⟨n + 1, hn⟩).mp h)) (outsAt0 m c n (Nat.lt_of_succ_lt hn)).2 hs
      constructor
      · intro p r l
        exact (congrFun (congrArg Prod.snd B) _).trans (P.1 p r l)
      · intro y l g i hg hi
        refine (congrFun (congrArg Prod.fst B) _).trans ((P.2 y l g hg).trans ?_)
        exact congrArg (fun z => outV z _ _) (blk0 m c ⟨n + 1, hn⟩ y g i hi)

/-- The kernel's output, entry by entry. -/
theorem G8_apply (c : Dev nD) (hX : ∀ (r : Fin 16384) (j : Fin 1024), j.val < 768 → xin m c r j = (X r.val j.val : EReal))
    (i : Fin 16384) (l : Fin 256) (g : Fin 1024) (hg : g.val = 768 + l.val) :
    (G8 m c : Vec Ideal S16384x256 .bf16) (ix2 i l) = outV (xin m c i g) (fun e => rY (lg (l.val / 64)) (qR X (i.val / 2048) (l.val / 64)) (kR X (i.val / 2048) (l.val / 64)) (vR X (i.val / 2048) (l.val / 64)) (i.val % 2048) e) (l.val % 64) := by
  have hN : cfg0.N = 32 := N_0
  have hp : pt8Of (ix2 i l) = i.val / 512 := by
    show 1 * (i.val / 512 - 0) + 1 * (l.val / 256 - 0) = _
    omega
  have hlt : pt8Of (ix2 i l) < cfg0.N := by rw [hp]; omega
  have hl : loc8Of (ix2 i l) = ix2 (⟨i.val % 512, Nat.mod_lt _ (by omega)⟩ : Fin 512) l := by
    funext a
    apply Fin.ext
    match a with
    | ⟨0, _⟩ => rfl
    | ⟨1, _⟩ => show l.val % 256 = l.val; omega
  show G8 m c (ix2 i l) = _
  unfold G8
  rw [dif_pos hlt, ← outsAt0_sweep m c _ hlt, hl]
  refine ((point m X c hX _ hlt).2 (⟨i.val % 512, Nat.mod_lt _ (by omega)⟩ : Fin 512) l g i hg ?_).trans ?_
  · rw [hp]; show i.val = 512 * (i.val / 512) + i.val % 512; omega
  · rw [hp]
    dsimp only
    rw [show i.val / 512 / 4 = i.val / 2048 by omega, show 512 * (i.val / 512 % 4) + i.val % 512 = i.val % 2048 by omega]

end Cert.KernelIdeal.RetGrid

end
-- ==== Proof.RetEntry.lean ====
module
public import proofs.«01_k».proof.Proof.Gen.ReferenceIdeal.Run
public import proofs.«01_k».proof.Proof.Gen.ReferenceIdeal.Step
@[expose] public section
noncomputable section
namespace Cert.ReferenceIdeal.Ret
open Idealize.ShloMosaic Idealize.ShloMosaic.TcCoe Idealize.SL.Sem Idealize.ShloMosaic.StableHlo
open Cert.ReferenceIdeal Cert.ReferenceIdeal.Gen Cert.ReferenceIdeal.Value
variable {F : FTy → Type} [FloatOps F]
variable (m : (ℓ : Loc nD τ sig) → Buf (Elt F) ℓ) (c : Dev nD)
/-- The state the reference loop starts with, of the argument. -/
abbrev st0 : Step.State F := Step.init (m ((c.tc : Thread nD τ).loc main_arg0))
set_option maxRecDepth 65536 in
set_option maxHeartbeats 1600000 in
/-- What carried array 8 of the reference loop holds on entry. -/
theorem e8 : entryContents preI m c (Proc.devRef .tc main_v116_8) = (st0 m c).main_v116_8 := by
  simp only [entryContents, afterL_cons, afterL_nil]
  after_reads_simp
  rfl
set_option maxRecDepth 65536 in
set_option maxHeartbeats 1600000 in
/-- What carried array 9 of the reference loop holds on entry. -/
theorem e9 : entryContents preI m c (Proc.devRef .tc main_v116_9) = (st0 m c).main_v116_9 := by
  simp only [entryContents, afterL_cons, afterL_nil]
  after_reads_simp
  rfl
set_option maxRecDepth 65536 in
set_option maxHeartbeats 1600000 in
/-- What carried array 0 of the reference loop holds on entry. -/
theorem e0 : entryContents preI m c (Proc.devRef .tc main_v116_0) = (st0 m c).main_v116_0 := by
  simp only [entryContents, afterL_cons, afterL_nil]
  after_reads_simp
  rfl
set_option maxRecDepth 65536 in
set_option maxHeartbeats 1600000 in
/-- What carried array 1 of the reference loop holds on entry. -/
theorem e1 : entryContents preI m c (Proc.devRef .tc main_v116_1) = (st0 m c).main_v116_1 := by
  simp only [entryContents, afterL_cons, afterL_nil]
  after_reads_simp
  rfl
set_option maxRecDepth 65536 in
set_option maxHeartbeats 1600000 in
/-- What carried array 2 of the reference loop holds on entry. -/
theorem e2 : entryContents preI m c (Proc.devRef .tc main_v116_2) = (st0 m c).main_v116_2 := by
  simp only [entryContents, afterL_cons, afterL_nil]
  after_reads_simp
  rfl
set_option maxRecDepth 65536 in
set_option maxHeartbeats 1600000 in
/-- What carried array 3 of the reference loop holds on entry. -/
theorem e3 : entryContents preI m c (Proc.devRef .tc main_v116_3) = Step.K_main_v88 (F := F) := by
  simp only [entryContents, afterL_cons, afterL_nil]
  after_reads_simp
  rfl
set_option maxRecDepth 65536 in
set_option maxHeartbeats 1600000 in
/-- What carried array 4 of the reference loop holds on entry. -/
theorem e4 : entryContents preI m c (Proc.devRef .tc main_v116_4) = Step.K_main_v96 (F := F) := by
  simp only [entryContents, afterL_cons, afterL_nil]
  after_reads_simp
  rfl
set_option maxRecDepth 65536 in
set_option maxHeartbeats 1600000 in
/-- What carried array 5 of the reference loop holds on entry. -/
theorem e5 : entryContents preI m c (Proc.devRef .tc main_v116_5) = Step.K_main_v107 (F := F) := by
  simp only [entryContents, afterL_cons, afterL_nil]
  after_reads_simp
  rfl
set_option maxRecDepth 65536 in
set_option maxHeartbeats 1600000 in
/-- What carried array 6 of the reference loop holds on entry. -/
theorem e6 : entryContents preI m c (Proc.devRef .tc main_v116_6) = Step.K_main_v104 (F := F) := by
  simp only [entryContents, afterL_cons, afterL_nil]
  after_reads_simp
  rfl
end Cert.ReferenceIdeal.Ret
-- ==== Proof.RetIter.lean ====
/-
  The reference's loop, trip by trip: the carried buffers are the states of the standalone trip.
-/
module
public import proofs.«01_k».proof.Proof.RetEntry
@[expose] public section
set_option maxRecDepth 16384
noncomputable section
namespace Cert.ReferenceIdeal.Ret
open Idealize.ShloMosaic Idealize.ShloMosaic.TcCoe Idealize.SL.Sem Idealize.ShloMosaic.StableHlo
open Cert.ReferenceIdeal Cert.ReferenceIdeal.Gen Cert.ReferenceIdeal.Value
variable {F : FTy → Type} [FloatOps F]
variable (m : (ℓ : Loc nD τ sig) → Buf (Elt F) ℓ) (c : Dev nD)

/-- The buffers a trip reads hold the state `s` and the loop's tables, at trip `k`. -/
structure Fits (V : Valuation τ sig (Elt F)) (k : ℕ) (s : Step.State F) : Prop where
  f8 : V (Proc.devRef .tc main_v116_8) = s.main_v116_8
  f9 : V (Proc.devRef .tc main_v116_9) = s.main_v116_9
  f0 : V (Proc.devRef .tc main_v116_0) = s.main_v116_0
  f1 : V (Proc.devRef .tc main_v116_1) = s.main_v116_1
  f2 : V (Proc.devRef .tc main_v116_2) = s.main_v116_2
  f3 : V (Proc.devRef .tc main_v116_3) = Step.K_main_v88 (F := F)
  f4 : V (Proc.devRef .tc main_v116_4) = Step.K_main_v96 (F := F)
  f5 : V (Proc.devRef .tc main_v116_5) = Step.K_main_v107 (F := F)
  f6 : V (Proc.devRef .tc main_v116_6) = Step.K_main_v104 (F := F)
  f7 : V (Proc.devRef .tc main_v116_7) = fun _ => (BitVec.ofNat 32 k : BitVec 32)

/-- One trip keeps the correspondence. -/
theorem Fits.next {V : Valuation τ sig (Elt F)} {k : ℕ} {s : Step.State F} (h : Fits V k s) : Fits (STEP V) (k + 1) (Step.step k s) where
  f8 := by
    rw [STEP_main_v116_8, Step.step_main_v116_8]
    unfold Value.step_main_v116_8 res_main_while0b_v137 res_main_while0b_v138
    rw [h.f8, h.f1, h.f2, h.f5, h.f6, h.f7]
    rfl
  f9 := by
    rw [STEP_main_v116_9, Step.step_main_v116_9]
    unfold Value.step_main_v116_9 res_main_while0b_v136 res_main_while0b_v137 res_main_while0b_v138
    rw [h.f8, h.f9, h.f0, h.f1, h.f2, h.f3, h.f4, h.f7]
    rfl
  f0 := (STEP_main_v116_0 V).trans h.f0
  f1 := (STEP_main_v116_1 V).trans h.f1
  f2 := (STEP_main_v116_2 V).trans h.f2
  f3 := (STEP_main_v116_3 V).trans h.f3
  f4 := (STEP_main_v116_4 V).trans h.f4
  f5 := (STEP_main_v116_5 V).trans h.f5
  f6 := (STEP_main_v116_6 V).trans h.f6
  f7 := by
    rw [STEP_main_v116_7]
    unfold Value.step_main_v116_7
    rw [h.f7]
    funext i
    show BitVec.ofNat 32 k + 1#32 = BitVec.ofNat 32 (k + 1)
    rw [BitVec.ofNat_add_ofNat]

/-- The state after `k` trips. -/
def stAt : ℕ → Step.State F
  | 0 => st0 m c
  | k + 1 => Step.step k (stAt k)

/-- After `k` trips the buffers hold the state after `k` trips. -/
theorem fits : ∀ k, Fits (STEP^[k] (entryContents preI m c)) k (stAt m c k)
  | 0 => ⟨e8 m c, e9 m c, e0 m c, e1 m c, e2 m c, e3 m c, e4 m c, e5 m c, e6 m c, ctr_entry m c⟩
  | k + 1 => by
    rw [Function.iterate_succ_apply']
    exact (fits k).next

/-- The result, of the last state. -/
theorem out_eq : out_main_v135 (STEP^[16] (entryContents preI m c)) = Step.R_main_v135 (stAt m c 16) (m ((c.tc : Thread nD τ).loc main_arg0)) := by
  unfold out_main_v135
  rw [iter_main_arg0, (fits m c 16).f9]
  rfl

end Cert.ReferenceIdeal.Ret

end
-- ==== Proof.RetRef.lean ====
/-
  The retention reference over the reals: its tables, one trip of its loop, and its result.
-/
module

public import proofs.«01_k».proof.Proof.Gen.ReferenceIdeal.Step
public import proofs.«01_k».proof.Proof.RetGrid
public import Idealize.ShloMosaic.Lib.WordCmp

@[expose] public section

set_option maxRecDepth 16384

noncomputable section

namespace Cert.ReferenceIdeal.RetRef

open Cert.ReferenceIdeal Cert.ReferenceIdeal.Gen Cert.ReferenceIdeal.Step Cert.Retention.Math Cert.KernelIdeal.RetTab Cert.KernelIdeal.RetGrid Cert.KernelIdeal.RetSlab Cert.KernelIdeal.RetTile Idealize.ShloMosaic Idealize.ShloMosaic.TcCoe Idealize.SL.Sem

/-- The angles of the queries. -/
theorem K8_apply (j : Fin 32) : (K_main_v8 (F := Ideal) : FVec Ideal S32 .f32) (ix1 j) = (th j.val : EReal) := v12_apply j
/-- The angles of the keys. -/
theorem K36_apply (j : Fin 32) : (K_main_v36 (F := Ideal) : FVec Ideal S32 .f32) (ix1 j) = (th j.val : EReal) := v12_apply j
/-- The logarithms of the decays. -/
theorem K70_apply (j : Fin 4) : (K_main_v70 (F := Ideal) : FVec Ideal S4 .f32) (ix1 j) = (lg j.val : EReal) := v37_apply j

/-- The decays inside a chunk of 128 rows. -/
theorem K88_apply (h : Fin 4) (a b : Fin 128) : (K_main_v88 (F := Ideal) : FVec Ideal S4x128x128 .f32) (ix3 h a b) = (dec h.val a.val b.val : EReal) := by
  have c0 : Ideal.ofBits FTy.f32 0#32 = ((0 : ℝ) : EReal) := by
    simp [Ideal.ofBits, Ideal.ieee, -EReal.coe_mul]
  have i0 : (id (constant S_ .f32 0#32 : FVec Ideal S_ .f32)) ix0 = ((0 : ℝ) : EReal) := c0
  pointwise [K_main_v88, K_main_call2_v1, K_main_call2_v2, K_main_call2_v0, K_main_cst_11, K_main_v87, K_main_v86, K_main_v85, K_main_v84, K_main_v83, K_main_v82, K_main_v81, K_main_v80, K_main_v79, K_main_v78, K_main_v77, K_main_v76, K_main_v75, K_main_v74, K_main_v73, K_main_v72, K_main_v71, K_main_cst_9, K_main_cst_10]
  have ha := sit a.val (by omega)
  have hb := sit b.val (by omega)
  have z : (0 : EReal) = ((0 : ℝ) : EReal) := rfl
  rw [ha, hb, K70_apply, i0, ← EReal.coe_sub, z]
  simp only [EReal.coe_le_coe_iff]
  unfold dec
  by_cases hab : b.val ≤ a.val
  · have hr : (0 : ℝ) ≤ (a.val : ℝ) - (b.val : ℝ) := sub_nonneg.2 (Nat.cast_le.2 hab)
    rw [if_pos hr, if_pos hab, max_eq_left (EReal.coe_le_coe_iff.2 hr), ← EReal.coe_mul, Ideal.exp_coe]
  · have hr : ¬ (0 : ℝ) ≤ (a.val : ℝ) - (b.val : ℝ) := fun h' => hab (Nat.cast_le.1 (sub_nonneg.1 h'))
    rw [if_neg hr, if_neg hab]

/-- The decay from a chunk's state to its row `n`. -/
theorem K96_apply (n : Fin 128) (h : Fin 4) : (K_main_v96 (F := Ideal) : FVec Ideal S128x4 .f32) (ix2 n h) = (Real.exp (((n.val : ℝ) + 1) * lg h.val) : EReal) := by
  pointwise [K_main_v96, K_main_v95, K_main_v94, K_main_v93, K_main_v92, K_main_v91, K_main_v90, K_main_v89, K_main_v71, K_main_cst_12]
  have hs := sit n.val (by omega)
  have one : (1 : EReal) = ((1 : ℝ) : EReal) := rfl
  rw [hs, K70_apply, one, ← EReal.coe_add, ← EReal.coe_mul, Ideal.exp_coe]
/-- The decay from a chunk's row `n` to its end. -/
theorem K104_apply (n : Fin 128) (h : Fin 4) : (K_main_v104 (F := Ideal) : FVec Ideal S128x4 .f32) (ix2 n h) = (Real.exp ((127 - (n.val : ℝ)) * lg h.val) : EReal) := by
  have c127 : Ideal.ofBits FTy.f32 0x42FE0000#32 = ((127 : ℝ) : EReal) := by
    simp [Ideal.ofBits, Ideal.ieee, -EReal.coe_mul]; norm_num
  pointwise [K_main_v104, K_main_v103, K_main_v102, K_main_v101, K_main_v100, K_main_v99, K_main_v98, K_main_v97, K_main_v71, K_main_cst_13]
  have hs := sit n.val (by omega)
  rw [hs, K70_apply, c127, ← EReal.coe_sub, ← EReal.coe_mul, Ideal.exp_coe]
/-- The decay over a whole chunk. -/
theorem K107_apply (h : Fin 4) : (K_main_v107 (F := Ideal) : FVec Ideal S4 .f32) (ix1 h) = (Real.exp (128 * lg h.val) : EReal) := by
  have c128 : Ideal.ofBits FTy.f32 0x43000000#32 = ((128 : ℝ) : EReal) := by
    simp [Ideal.ofBits, Ideal.ieee, -EReal.coe_mul]; norm_num
  pointwise [K_main_v107, K_main_v106, K_main_v105, K_main_cst_14]
  rw [K70_apply, c128, ← EReal.coe_mul, Ideal.exp_coe]

section args
variable (a : FVec Ideal S16384x1024 .f32) (X : ℕ → ℕ → ℝ) (hX : ∀ (r : Fin 16384) (j : Fin 1024), j.val < 768 → a (ix2 r j) = (X r.val j.val : EReal))

include hX in
/-- The queries, rotated. -/
theorem A110_apply (c : Fin 16) (b : Fin 8) (n : Fin 128) (h : Fin 4) (d : Fin 64) :
    (A_main_v110 (F := Ideal) a : FVec Ideal S16x8x128x4x64 .f32) (ix5 c b n h d) = (qR X b.val h.val (128 * c.val + n.val) d.val : EReal) := by
  pointwise [A_main_v110, A_main_v109, A_main_v31]
  have ec : (c.val * 128 + n.val) = 128 * c.val + n.val := by omega
  have hs := sit (128 * c.val + n.val) (by omega)
  have er : b.val * 2048 + (128 * c.val + n.val) = 2048 * b.val + (128 * c.val + n.val) := by omega
  unfold qR rc rs partner
  by_cases hd : d.val < 32
  · rw [dif_pos hd]
    pointwise [A_main_v25, A_main_v22, A_main_v24, A_main_v19, A_main_v20, A_main_v4, A_main_v1, A_main_v0, K_main_v21, K_main_v23, K_main_v16, K_main_v18, K_main_v15, K_main_v17, K_main_v14, K_main_v13, K_main_v12, K_main_v11, K_main_v10, K_main_v9]
    simp only [ec]
    have x1 := hX ⟨b.val * 2048 + (128 * c.val + n.val), by omega⟩ ⟨h.val * 64 + d.val, by omega⟩ (by show h.val * 64 + d.val < 768; omega)
    have x2 := hX ⟨b.val * 2048 + (128 * c.val + n.val), by omega⟩ ⟨h.val * 64 + (32 + d.val), by omega⟩ (by show h.val * 64 + (32 + d.val) < 768; omega)
    simp only [x1, x2, K8_apply, hs]
    simp only [← EReal.coe_mul, Ideal.cos_coe, Ideal.sin_coe, ← EReal.coe_sub, ← EReal.coe_add]
    congr 1
    rw [if_pos (by omega), if_pos (by omega), er, show d.val % 32 = d.val by omega, show h.val * 64 + d.val = 64 * h.val + d.val by omega, show h.val * 64 + (32 + d.val) = 64 * h.val + (d.val + 32) by omega]
    push_cast
    ring
  · rw [dif_neg hd]
    pointwise [A_main_v30, A_main_v27, A_main_v29, A_main_v19, A_main_v20, A_main_v4, A_main_v1, A_main_v0, K_main_v26, K_main_v28, K_main_v16, K_main_v18, K_main_v15, K_main_v17, K_main_v14, K_main_v13, K_main_v12, K_main_v11, K_main_v10, K_main_v9]
    simp only [ec]
    have x1 := hX ⟨b.val * 2048 + (128 * c.val + n.val), by omega⟩ ⟨h.val * 64 + (d.val - 32), by omega⟩ (by show h.val * 64 + (d.val - 32) < 768; omega)
    have x2 := hX ⟨b.val * 2048 + (128 * c.val + n.val), by omega⟩ ⟨h.val * 64 + (32 + (d.val - 32)), by omega⟩ (by show h.val * 64 + (32 + (d.val - 32)) < 768; omega)
    simp only [x1, x2, K8_apply, hs]
    simp only [← EReal.coe_mul, Ideal.cos_coe, Ideal.sin_coe, ← EReal.coe_sub, ← EReal.coe_add]
    congr 1
    rw [if_neg (by omega), if_neg (by omega), er, show d.val % 32 = d.val - 32 by omega, show h.val * 64 + (32 + (d.val - 32)) = 64 * h.val + d.val by omega, show h.val * 64 + (d.val - 32) = 64 * h.val + (d.val - 32) by omega]
    push_cast
    ring

include hX in
/-- The keys, rotated and scaled. -/
theorem A112_apply (c : Fin 16) (b : Fin 8) (n : Fin 128) (h : Fin 4) (d : Fin 64) :
    (A_main_v112 (F := Ideal) a : FVec Ideal S16x8x128x4x64 .f32) (ix5 c b n h d) = (kR X b.val h.val (128 * c.val + n.val) d.val : EReal) := by
  have c8 : Ideal.ofBits FTy.f32 0x3E000000#32 = ((1 / 8 : ℝ) : EReal) := by
    simp [Ideal.ofBits, Ideal.ieee, -EReal.coe_mul]; norm_num
  pointwise [A_main_v112, A_main_v111, A_main_v61, A_main_v59, K_main_v60, K_main_cst_5]
  have ec : (c.val * 128 + n.val) = 128 * c.val + n.val := by omega
  have hs := sit (128 * c.val + n.val) (by omega)
  have er : b.val * 2048 + (128 * c.val + n.val) = 2048 * b.val + (128 * c.val + n.val) := by omega
  unfold kR rc rs partner
  by_cases hd : d.val < 32
  · rw [dif_pos hd]
    pointwise [A_main_v53, A_main_v50, A_main_v52, A_main_v47, A_main_v48, A_main_v32, A_main_v2, A_main_v0, K_main_v49, K_main_v51, K_main_v44, K_main_v46, K_main_v43, K_main_v45, K_main_v42, K_main_v41, K_main_v40, K_main_v39, K_main_v38, K_main_v37]
    simp only [ec]
    have x1 := hX ⟨b.val * 2048 + (128 * c.val + n.val), by omega⟩ ⟨256 + (h.val * 64 + d.val), by omega⟩ (by show 256 + (h.val * 64 + d.val) < 768; omega)
    have x2 := hX ⟨b.val * 2048 + (128 * c.val + n.val), by omega⟩ ⟨256 + (h.val * 64 + (32 + d.val)), by omega⟩ (by show 256 + (h.val * 64 + (32 + d.val)) < 768; omega)
    simp only [x1, x2, K36_apply, hs, c8]
    simp only [← EReal.coe_mul, Ideal.cos_coe, Ideal.sin_coe, ← EReal.coe_sub, ← EReal.coe_add]
    congr 1
    rw [if_pos (by omega), if_pos (by omega), er, show d.val % 32 = d.val by omega, show h.val * 64 + d.val = 64 * h.val + d.val by omega, show h.val * 64 + (32 + d.val) = 64 * h.val + (d.val + 32) by omega]
    push_cast
    ring
  · rw [dif_neg hd]
    pointwise [A_main_v58, A_main_v55, A_main_v57, A_main_v47, A_main_v48, A_main_v32, A_main_v2, A_main_v0, K_main_v54, K_main_v56, K_main_v44, K_main_v46, K_main_v43, K_main_v45, K_main_v42, K_main_v41, K_main_v40, K_main_v39, K_main_v38, K_main_v37]
    simp only [ec]
    have x1 := hX ⟨b.val * 2048 + (128 * c.val + n.val), by omega⟩ ⟨256 + (h.val * 64 + (d.val - 32)), by omega⟩ (by show 256 + (h.val * 64 + (d.val - 32)) < 768; omega)
    have x2 := hX ⟨b.val * 2048 + (128 * c.val + n.val), by omega⟩ ⟨256 + (h.val * 64 + (32 + (d.val - 32))), by omega⟩ (by show 256 + (h.val * 64 + (32 + (d.val - 32))) < 768; omega)
    simp only [x1, x2, K36_apply, hs, c8]
    simp only [← EReal.coe_mul, Ideal.cos_coe, Ideal.sin_coe, ← EReal.coe_sub, ← EReal.coe_add]
    congr 1
    rw [if_neg (by omega), if_neg (by omega), er, show d.val % 32 = d.val - 32 by omega, show h.val * 64 + (32 + (d.val - 32)) = 64 * h.val + d.val by omega, show h.val * 64 + (d.val - 32) = 64 * h.val + (d.val - 32) by omega]
    push_cast
    ring

include hX in
/-- The values. -/
theorem A114_apply (c : Fin 16) (b : Fin 8) (n : Fin 128) (h : Fin 4) (d : Fin 64) :
    (A_main_v114 (F := Ideal) a : FVec Ideal S16x8x128x4x64 .f32) (ix5 c b n h d) = (vR X b.val h.val (128 * c.val + n.val) d.val : EReal) := by
  pointwise [A_main_v114, A_main_v113, A_main_v62, A_main_v3, A_main_v0]
  rw [hX ⟨b.val * 2048 + (c.val * 128 + n.val), by omega⟩ ⟨512 + (h.val * 64 + d.val), by omega⟩ (by show 512 + (h.val * 64 + d.val) < 768; omega)]
  unfold vR
  dsimp only
  rw [show b.val * 2048 + (c.val * 128 + n.val) = 2048 * b.val + (128 * c.val + n.val) by omega, show h.val * 64 + d.val = 64 * h.val + d.val by omega]
end args

/-- The chunk a trip slices out. -/
theorem slice_apply (x : FVec Ideal S16x8x128x4x64 .f32) (st : Fin 5 → Int) (j : ℕ) (hj : j < 16) (h0 : st 0 = j) (h1 : st 1 = 0) (h2 : st 2 = 0) (h3 : st 3 = 0) (h4 : st 4 = 0)
    (hf : S16x8x128x4x64.Slices (fun _ => 0) S1x8x128x4x64) (b : Fin 8) (n : Fin 128) (h : Fin 4) (d : Fin 64) :
    (Host.dynamicSlice S1x8x128x4x64 x st hf : FVec Ideal S1x8x128x4x64 .f32) (ix5 0 b n h d) = x (ix5 ⟨j, hj⟩ b n h d) := by
  have hk : S16x8x128x4x64.Slices ![j, 0, 0, 0, 0] S1x8x128x4x64 := by
    refine ⟨rfl, fun a => ?_⟩
    match a with
    | ⟨0, _⟩ => show j + 1 ≤ 16; omega
    | ⟨1, _⟩ => show 0 + 8 ≤ 8; omega
    | ⟨2, _⟩ => show 0 + 128 ≤ 128; omega
    | ⟨3, _⟩ => show 0 + 4 ≤ 4; omega
    | ⟨4, _⟩ => show 0 + 64 ≤ 64; omega
  rw [WordCmp.dynamicSlice_eq_extract _ x st hf ![j, 0, 0, 0, 0] hk (fun a => by
    match a with
    | ⟨0, _⟩ => exact h0
    | ⟨1, _⟩ => exact h1
    | ⟨2, _⟩ => exact h2
    | ⟨3, _⟩ => exact h3
    | ⟨4, _⟩ => exact h4)]
  show x _ = x _
  congr 1
  funext a
  apply Fin.ext
  match a with
  | ⟨0, _⟩ => show j + 0 = j; omega
  | ⟨1, _⟩ => show 0 + b.val = b.val; omega
  | ⟨2, _⟩ => show 0 + n.val = n.val; omega
  | ⟨3, _⟩ => show 0 + h.val = h.val; omega
  | ⟨4, _⟩ => show 0 + d.val = d.val; omega

/-- The chunk a trip writes back. -/
theorem update_apply (x : FVec Ideal S16x8x128x4x64 .f32) (u : FVec Ideal S1x8x128x4x64 .f32) (st : Fin 5 → Int) (j : ℕ) (hj : j < 16) (h0 : st 0 = j) (h1 : st 1 = 0) (h2 : st 2 = 0) (h3 : st 3 = 0) (h4 : st 4 = 0)
    (hf : S16x8x128x4x64.Slices (fun _ => 0) S1x8x128x4x64) (c : Fin 16) (b : Fin 8) (n : Fin 128) (h : Fin 4) (d : Fin 64) :
    (Host.dynamicUpdateSlice x u st hf : FVec Ideal S16x8x128x4x64 .f32) (ix5 c b n h d) = if c.val = j then u (ix5 0 b n h d) else x (ix5 c b n h d) := by
  have hk : S16x8x128x4x64.Slices ![j, 0, 0, 0, 0] S1x8x128x4x64 := by
    refine ⟨rfl, fun a => ?_⟩
    match a with
    | ⟨0, _⟩ => show j + 1 ≤ 16; omega
    | ⟨1, _⟩ => show 0 + 8 ≤ 8; omega
    | ⟨2, _⟩ => show 0 + 128 ≤ 128; omega
    | ⟨3, _⟩ => show 0 + 4 ≤ 4; omega
    | ⟨4, _⟩ => show 0 + 64 ≤ 64; omega
  rw [WordCmp.dynamicUpdateSlice_eq_update x u st hf ![j, 0, 0, 0, 0] hk (fun a => by
    match a with
    | ⟨0, _⟩ => exact h0
    | ⟨1, _⟩ => exact h1
    | ⟨2, _⟩ => exact h2
    | ⟨3, _⟩ => exact h3
    | ⟨4, _⟩ => exact h4)]
  unfold updateSlice
  by_cases hc : c.val = j
  · rw [if_pos hc, dif_pos (fun a => by
      match a with
      | ⟨0, _⟩ => show j ≤ c.val ∧ c.val < j + 1; omega
      | ⟨1, _⟩ => show 0 ≤ b.val ∧ b.val < 0 + 8; omega
      | ⟨2, _⟩ => show 0 ≤ n.val ∧ n.val < 0 + 128; omega
      | ⟨3, _⟩ => show 0 ≤ h.val ∧ h.val < 0 + 4; omega
      | ⟨4, _⟩ => show 0 ≤ d.val ∧ d.val < 0 + 64; omega)]
    congr 1
    funext a
    apply Fin.ext
    match a with
    | ⟨0, _⟩ => show c.val - j = 0; omega
    | ⟨1, _⟩ => show b.val - 0 = b.val; omega
    | ⟨2, _⟩ => show n.val - 0 = n.val; omega
    | ⟨3, _⟩ => show h.val - 0 = h.val; omega
    | ⟨4, _⟩ => show d.val - 0 = d.val; omega
  · rw [if_neg hc, dif_neg (fun hh => hc (by
      have := hh 0
      have h' : j ≤ c.val ∧ c.val < j + 1 := this
      omega))]

/-- A small trip number, read back from its word. -/
theorem toInt_small (j : ℕ) (hj : j < 16) : ((BitVec.ofNat 32 j).toInt : Int) = j := by
  rw [BitVec.toInt_eq_toNat_of_lt (by rw [BitVec.toNat_ofNat]; omega), BitVec.toNat_ofNat, Nat.mod_eq_of_lt (by omega)]

variable (X : ℕ → ℕ → ℝ)

/-- The state before trip `k`, over the reals. -/
structure Inv (k : ℕ) (s : State Ideal) : Prop where
  fq : ∀ (c : Fin 16) (b : Fin 8) (n : Fin 128) (h : Fin 4) (d : Fin 64), (s.main_v116_0 : FVec Ideal S16x8x128x4x64 .f32) (ix5 c b n h d) = (qR X b.val h.val (128 * c.val + n.val) d.val : EReal)
  fk : ∀ (c : Fin 16) (b : Fin 8) (n : Fin 128) (h : Fin 4) (d : Fin 64), (s.main_v116_1 : FVec Ideal S16x8x128x4x64 .f32) (ix5 c b n h d) = (kR X b.val h.val (128 * c.val + n.val) d.val : EReal)
  fv : ∀ (c : Fin 16) (b : Fin 8) (n : Fin 128) (h : Fin 4) (d : Fin 64), (s.main_v116_2 : FVec Ideal S16x8x128x4x64 .f32) (ix5 c b n h d) = (vR X b.val h.val (128 * c.val + n.val) d.val : EReal)
  fz : ∀ (b : Fin 8) (h : Fin 4) (d e : Fin 64), (s.main_v116_8 : FVec Ideal S8x4x64x64 .f32) (ix4 b h d e) = (rZ (lg h.val) (kR X b.val h.val) (vR X b.val h.val) (128 * k) d.val e.val : EReal)
  fo : ∀ (c : Fin 16) (b : Fin 8) (n : Fin 128) (h : Fin 4) (e : Fin 64), c.val < k → (s.main_v116_9 : FVec Ideal S16x8x128x4x64 .f32) (ix5 c b n h e) = (rY (lg h.val) (qR X b.val h.val) (kR X b.val h.val) (vR X b.val h.val) (128 * c.val + n.val) e.val : EReal)

/-- Before the first trip. -/
theorem inv_init (a : FVec Ideal S16384x1024 .f32) (hX : ∀ (r : Fin 16384) (j : Fin 1024), j.val < 768 → a (ix2 r j) = (X r.val j.val : EReal)) : Inv X 0 (Step.init (F := Ideal) a) where
  fq := A110_apply a X hX
  fk := A112_apply a X hX
  fv := A114_apply a X hX
  fz := by
    intro b h d e
    rw [Nat.mul_zero, rZ_zero]
    show (K_main_v108 (F := Ideal) : FVec Ideal S8x4x64x64 .f32) (ix4 b h d e) = _
    pointwise [K_main_v108, K_main_cst_15]
    rfl
  fo := fun c b n h e hc => absurd hc (Nat.not_lt_zero _)

section trip
variable {X} {k : ℕ} {s : State Ideal} (H : Inv X k s) (hk : k < 16)

include H hk in
/-- The trip's queries. -/
theorem b5_apply (b : Fin 8) (n : Fin 128) (h : Fin 4) (d : Fin 64) : (b5 k s : FVec Ideal S8x128x4x64 .f32) (ix4 b n h d) = (qR X b.val h.val (128 * k + n.val) d.val : EReal) := by
  pointwise [b5]
  unfold b4
  refine (slice_apply _ _ k hk (toInt_small k hk) rfl rfl rfl rfl _ b n h d).trans ?_
  exact H.fq ⟨k, hk⟩ b n h d
include H hk in
/-- The trip's keys. -/
theorem b11_apply (b : Fin 8) (n : Fin 128) (h : Fin 4) (d : Fin 64) : (b11 k s : FVec Ideal S8x128x4x64 .f32) (ix4 b n h d) = (kR X b.val h.val (128 * k + n.val) d.val : EReal) := by
  pointwise [b11]
  unfold b10
  refine (slice_apply _ _ k hk (toInt_small k hk) rfl rfl rfl rfl _ b n h d).trans ?_
  exact H.fk ⟨k, hk⟩ b n h d
include H hk in
/-- The trip's values. -/
theorem b17_apply (b : Fin 8) (n : Fin 128) (h : Fin 4) (d : Fin 64) : (b17 k s : FVec Ideal S8x128x4x64 .f32) (ix4 b n h d) = (vR X b.val h.val (128 * k + n.val) d.val : EReal) := by
  pointwise [b17]
  unfold b16
  refine (slice_apply _ _ k hk (toInt_small k hk) rfl rfl rfl rfl _ b n h d).trans ?_
  exact H.fv ⟨k, hk⟩ b n h d

include H hk in
/-- The state after the trip. -/
theorem b36_apply (b : Fin 8) (h : Fin 4) (d e : Fin 64) :
    (b36 k s : FVec Ideal S8x4x64x64 .f32) (ix4 b h d e) = (rZ (lg h.val) (kR X b.val h.val) (vR X b.val h.val) (128 * (k + 1)) d.val e.val : EReal) := by
  pointwise [b36, b35, b34, b33, b32, b31, b30, b29]
  simp only [H.fz, b11_apply H hk, b17_apply H hk, K104_apply, K107_apply]
  simp only [← EReal.coe_mul, coe_sum, ← EReal.coe_add]
  congr 1
  rw [show 128 * (k + 1) = 128 * k + 128 by ring, rZ_add]
  congr 1
  rw [Fin.sum_univ_eq_sum_range (fun m => kR X b.val h.val (128 * k + m) d.val * Real.exp ((127 - (m : ℝ)) * lg h.val) * vR X b.val h.val (128 * k + m) e.val) 128]
  refine Finset.sum_congr rfl fun m _ => ?_
  norm_num

include H hk in
/-- The trip's rows of the result. -/
theorem b37_apply (b : Fin 8) (n : Fin 128) (h : Fin 4) (e : Fin 64) :
    (b37 k s : FVec Ideal S8x128x4x64 .f32) (ix4 b n h e) = (rY (lg h.val) (qR X b.val h.val) (kR X b.val h.val) (vR X b.val h.val) (128 * k + n.val) e.val : EReal) := by
  pointwise [b37, b28, b27, b26, b25, b24, b23, b22, b21, b20, b19, b18]
  simp only [H.fz, b5_apply H hk, b11_apply H hk, b17_apply H hk, K88_apply, K96_apply]
  simp only [← EReal.coe_mul, coe_sum, ← EReal.coe_add]
  congr 1
  rw [rY_add _ _ _ _ _ 128 _ _ n.isLt]
  congr 1
  · rw [← Fin.sum_univ_eq_sum_range (fun m => ((∑ d ∈ Finset.range 64, qR X b.val h.val (128 * k + n.val) d * kR X b.val h.val (128 * k + m) d)
          * (if m ≤ n.val then Real.exp (((n.val : ℝ) - m) * lg h.val) else 0)) * vR X b.val h.val (128 * k + m) e.val) 128]
    refine Finset.sum_congr rfl fun m _ => ?_
    rw [← Fin.sum_univ_eq_sum_range (fun d => qR X b.val h.val (128 * k + n.val) d * kR X b.val h.val (128 * k + m.val) d) 64]
    unfold dec
    ring
  · rw [← Fin.sum_univ_eq_sum_range (fun d => (qR X b.val h.val (128 * k + n.val) d * Real.exp (((n.val : ℝ) + 1) * lg h.val)) * rZ (lg h.val) (kR X b.val h.val) (vR X b.val h.val) (128 * k) d e.val) 64, Finset.sum_mul]
    refine Finset.sum_congr rfl fun d _ => ?_
    ring

include H hk in
/-- One trip. -/
theorem inv_step : Inv X (k + 1) (Step.step k s) where
  fq := H.fq
  fk := H.fk
  fv := H.fv
  fz := by
    intro b h d e
    rw [step_main_v116_8]
    exact b36_apply H hk b h d e
  fo := by
    intro c b n h e hc
    rw [step_main_v116_9]
    unfold b43
    refine (update_apply _ _ _ k hk (toInt_small k hk) rfl rfl rfl rfl _ c b n h e).trans ?_
    by_cases hck : c.val = k
    · rw [if_pos hck]
      pointwise [b38]
      rw [hck]
      exact b37_apply H hk b n h e
    · rw [if_neg hck]
      exact H.fo c b n h e (by omega)
end trip

/-- The reference's result, entry by entry. -/
theorem R_apply (s : State Ideal) (H : Inv X 16 s) (a : FVec Ideal S16384x1024 .f32) (i : Fin 16384) (l : Fin 256) (g : Fin 1024) (hg : g.val = 768 + l.val) :
    (R_main_v135 s a : FVec Ideal S16384x256 .bf16) (ix2 i l) = outV (a (ix2 i g)) (fun e => rY (lg (l.val / 64)) (qR X (i.val / 2048) (l.val / 64)) (kR X (i.val / 2048) (l.val / 64)) (vR X (i.val / 2048) (l.val / 64)) (i.val % 2048) e) (l.val % 64) := by
  have c64 : Ideal.ofBits FTy.f32 1115684864#32 = ((64 : ℝ) : EReal) := by
    simp [Ideal.ofBits, Ideal.ieee, -EReal.coe_mul]; norm_num
  have hb : 768 + l.val < 1024 := by have := l.isLt; omega
  have hg' : g = ⟨768 + l.val, hb⟩ := Fin.ext hg
  subst hg'
  pointwise [R_main_v135]
  have e := fun x : Fin 64 => H.fo ⟨i.val % 2048 / 128, by omega⟩ ⟨i.val / 2048, by omega⟩ ⟨i.val % 2048 % 128, by omega⟩ ⟨l.val / 64, by omega⟩ x (by show i.val % 2048 / 128 < 16; omega)
  have e' := H.fo ⟨i.val % 2048 / 128, by omega⟩ ⟨i.val / 2048, by omega⟩ ⟨i.val % 2048 % 128, by omega⟩ ⟨l.val / 64, by omega⟩ ⟨l.val % 64, by omega⟩ (by show i.val % 2048 / 128 < 16; omega)
  have ei : 128 * (i.val % 2048 / 128) + i.val % 2048 % 128 = i.val % 2048 := by omega
  simp only [ei] at e e'
  simp only [e, e', c64, ← EReal.coe_mul, coe_sum]
  rw [Ideal.div_coe (by norm_num : (64 : ℝ) ≠ 0), ← EReal.coe_mul]
  unfold outV
  dsimp only
  rw [← Fin.sum_univ_eq_sum_range (fun e => rY (lg (l.val / 64)) (qR X (i.val / 2048) (l.val / 64)) (kR X (i.val / 2048) (l.val / 64)) (vR X (i.val / 2048) (l.val / 64)) (i.val % 2048) e * rY (lg (l.val / 64)) (qR X (i.val / 2048) (l.val / 64)) (kR X (i.val / 2048) (l.val / 64)) (vR X (i.val / 2048) (l.val / 64)) (i.val % 2048) e) 64, mul_one_div]

end Cert.ReferenceIdeal.RetRef

end
-- ==== Proof.Retention.lean ====
/-
  The retention call: over the extended reals its result array is the reference's, at every entry, when the columns of the queries, keys and values are finite.
-/
module

public import proofs.«01_k».proof.Proof.RetentionFrames
public import proofs.«01_k».proof.Proof.RetGrid
public import proofs.«01_k».proof.Proof.RetIter
public import proofs.«01_k».proof.Proof.RetRef
public import proofs.«01_k».proof.Proof.Gen.Pre_finite
public import Idealize.ShloMosaic.Lib.Tactic
public import Idealize.ShloMosaic.Lib.Pointwise
public import Idealize.ShloMosaic.Lib.WordCmp

@[expose] public section

set_option maxRecDepth 16384

noncomputable section

namespace Cert.Retention

open Cert.KernelIdeal.RetGrid Cert.ReferenceIdeal.RetRef Idealize.ShloMosaic Idealize.ShloMosaic.TcCoe Idealize.SL.Sem

/-- An extended real whose size lies below infinity is a real. -/
theorem real_of_abs (x : EReal) (h : max x (-x) < ⊤) : x = (x.toReal : EReal) := by
  refine (EReal.coe_toReal ?_ ?_).symm
  · rintro rfl
    simp at h
  · rintro rfl
    simp at h

/-- Where the precondition holds, every entry of the first 768 columns is a real. -/
theorem real_of_finite (a : FVec Ideal Cert.Pre_finite.S16384x1024 .f32) (h : @Cert.Pre_finite.fn Cert.Pre_finite.Gen.facts Ideal _ a = fun _ => 1#1)
    (r : Fin 16384) (j : Fin 1024) (hj : j.val < 768) : a (ix2 r j) = ((a (ix2 r j) : EReal).toReal : EReal) := by
  have inf : Ideal.ofBits FTy.f32 0x7F800000#32 = (⊤ : EReal) := by
    simp [Ideal.ofBits, Ideal.ieee]
  have e := congrFun h (ix2 r ⟨j.val, hj⟩)
  pointwise [Cert.Pre_finite.fn] at e
  rw [WordCmp.ofBool_decide_eq_one_iff, inf] at e
  exact real_of_abs _ e

/-- The reals of the first 768 columns, by row and column. -/
def realAt (a : FVec Ideal Cert.Pre_finite.S16384x1024 .f32) (r j : ℕ) : ℝ :=
  if h : r < 16384 ∧ j < 1024 then (a (ix2 ⟨r, h.1⟩ ⟨j, h.2⟩) : EReal).toReal else 0

/-- After `k` trips the reference's state is the one its first `k` chunks leave. -/
theorem inv_at (m : (ℓ : Loc Cert.ReferenceIdeal.nD Cert.ReferenceIdeal.τ Cert.ReferenceIdeal.sig) → Buf (Elt Ideal) ℓ) (c : Dev Cert.ReferenceIdeal.nD) (X : ℕ → ℕ → ℝ)
    (hX : ∀ (r : Fin 16384) (j : Fin 1024), j.val < 768 → (m ((c.tc : Thread Cert.ReferenceIdeal.nD Cert.ReferenceIdeal.τ).loc Cert.ReferenceIdeal.main_arg0) : FVec Ideal Cert.ReferenceIdeal.S16384x1024 .f32) (ix2 r j) = (X r.val j.val : EReal)) :
    ∀ k, k ≤ 16 → Inv X k (Cert.ReferenceIdeal.Ret.stAt (F := Ideal) m c k)
  | 0, _ => inv_init X _ hX
  | k + 1, hk => inv_step (inv_at m c X hX k (by omega)) (by omega)

/-- The retention call computes its reference over the extended reals, when queries, keys and values are finite. -/
theorem algebraic : Cert.algebraic_KernelIdeal_ReferenceIdeal_pre_finite (hKernelIdeal := Cert.KernelIdeal.Gen.facts) (hReferenceIdeal := Cert.ReferenceIdeal.Gen.facts) (hPre_finite := Cert.Pre_finite.Gen.facts) := by
  intro m ρ m' ρ' hfin hagree
  refine ⟨fun c => Cert.KernelIdeal.RetValue.G8 m c, Cert.KernelIdeal.RetValue.run (F := Ideal) m ρ, ?_⟩
  refine (θ_run Cert.ReferenceIdeal.defs _ _).mono (fun _ h c => ?_) (Cert.ReferenceIdeal.Value.run (F := Ideal) m' ρ')
  refine ⟨(h c).1.trans ?_, (h c).2⟩
  have hreal : ∀ (r : Fin 16384) (j : Fin 1024), j.val < 768 → xin m c r j = (realAt (m ((c : Thread Cert.KernelIdeal.nD Cert.KernelIdeal.τ).loc Cert.KernelIdeal.main_arg0)) r.val j.val : EReal) := by
    intro r j hj
    unfold realAt
    rw [dif_pos ⟨r.isLt, j.isLt⟩]
    exact real_of_finite _ (hfin c) r j hj
  have hreal' : ∀ (r : Fin 16384) (j : Fin 1024), j.val < 768 → (m' ((c.tc : Thread Cert.ReferenceIdeal.nD Cert.ReferenceIdeal.τ).loc Cert.ReferenceIdeal.main_arg0) : FVec Ideal Cert.ReferenceIdeal.S16384x1024 .f32) (ix2 r j) = (realAt (m ((c : Thread Cert.KernelIdeal.nD Cert.KernelIdeal.τ).loc Cert.KernelIdeal.main_arg0)) r.val j.val : EReal) := by
    intro r j hj
    rw [hagree c]
    exact hreal r j hj
  rw [Cert.ReferenceIdeal.Ret.out_eq]
  funext i
  obtain ⟨a, b, rfl⟩ : ∃ (a : Fin 16384) (b : Fin 256), i = ix2 a b := ⟨i 0, i 1, by
    funext k
    match k with
    | ⟨0, _⟩ => rfl
    | ⟨1, _⟩ => rfl⟩
  have hb : 768 + b.val < 1024 := by have := b.isLt; omega
  refine (R_apply _ _ (inv_at m' c _ hreal' 16 le_rfl) _ a b ⟨768 + b.val, hb⟩ rfl).trans (Eq.trans ?_ (G8_apply m _ c hreal a b ⟨768 + b.val, hb⟩ rfl).symm)
  rw [hagree c]
  rfl

end Cert.Retention

end
-- ==== Proof.Ffn2FinalCase.lean ====
/-
  The second feed-forward call, with the closing norm, one grid point at a time: what each of the three cases of the body (first tile of a row
  block, a tile in between, the last tile) leaves in the output block and in the two scratch blocks, as the
  body's own arithmetic of the blocks it reads.
-/
module

public import proofs.«01_k».proof.Proof.Gen.Kernel2Ideal.Value
public import Idealize.ShloMosaic.Lib.Tactic

@[expose] public section

set_option maxRecDepth 16384

noncomputable section

namespace Cert.Kernel2Ideal.Ffn

open Cert.Kernel2Ideal Cert.Kernel2Ideal.Gen Idealize.ShloMosaic Idealize.ShloMosaic.TcCoe Idealize.SL.Sem

variable {F : FTy → Type} [FloatOps F]

/-- The literal zero offsets are the zero function. -/
theorem hz : (![0, 0] : Fin 2 → Nat) = fun _ => 0 := funext fun a => by fin_cases a <;> rfl

/-- The first tile leaves in the first scratch the mixed block: `x` plus the three products of the branch outputs. -/
theorem s0_A (c : Dev nD) (i : grid0.Coords) (a2 h2 a3 h3 a4 h4 a5 h5 a6 h6 a7 h7 a8 h8 a9 h9 a10 h10 a11 h11 a12 h12 a13 h13 a14 h14 a15 h15 a16 h16 hc0 hc1)
    (x0 : Vec F S1024x1024 .f32) (x1 : Vec F S1024x384 .bf16) (x2 : Vec F S1024x384 .bf16) (x3 : Vec F S1024x256 .bf16) (x4 : Vec F S384x1024 .bf16) (x5 : Vec F S384x1024 .bf16) (x6 : Vec F S256x1024 .bf16) (x7 : Vec F S1x1024 .f32) (x8 : Vec F S1024x256 .bf16) (x9 : Vec F S1024x256 .bf16) (x10 : Vec F S256x1024 .bf16) (x11 : Vec F S1x1024 .f32) :
    sout0_A_0 c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 x11
      = k0_pay6 x0 x1 x4 x2 x5 x3 x6 := by
  unfold sout0_A_0
  rw [View.read_writes_eq_canon _ _ _ (scover0_A_0 c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 x11)]
  unfold kernelRun0_A
  dsimp only
  sl_unfold_words
  rw [View.canon_unit_zero hz]
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, View.ld_unit_zero (S := S1024x1024) hz, View.ld_unit_zero (S := S1024x384) hz, View.ld_unit_zero (S := S1024x256) hz, View.ld_unit_zero (S := S384x1024) hz, View.ld_unit_zero (S := S256x1024) hz, View.ld_unit_zero (S := S1x1024) hz, shapeCast_self]

/-- The first tile leaves in the second scratch the mixed block normed. -/
theorem s1_A (c : Dev nD) (i : grid0.Coords) (a2 h2 a3 h3 a4 h4 a5 h5 a6 h6 a7 h7 a8 h8 a9 h9 a10 h10 a11 h11 a12 h12 a13 h13 a14 h14 a15 h15 a16 h16 hc0 hc1)
    (x0 : Vec F S1024x1024 .f32) (x1 : Vec F S1024x384 .bf16) (x2 : Vec F S1024x384 .bf16) (x3 : Vec F S1024x256 .bf16) (x4 : Vec F S384x1024 .bf16) (x5 : Vec F S384x1024 .bf16) (x6 : Vec F S256x1024 .bf16) (x7 : Vec F S1x1024 .f32) (x8 : Vec F S1024x256 .bf16) (x9 : Vec F S1024x256 .bf16) (x10 : Vec F S256x1024 .bf16) (x11 : Vec F S1x1024 .f32) :
    sout0_A_1 c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 x11
      = k0_pay1 (k0_pay7 x0 x1 x4 x2 x5 x3 x6 x7) := by
  unfold sout0_A_1
  rw [View.read_writes_eq_canon _ _ _ (scover0_A_1 c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 x11)]
  unfold kernelRun0_A
  dsimp only
  sl_unfold_words
  rw [View.canon_unit_zero hz]
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, View.ld_unit_zero (S := S1024x1024) hz, View.ld_unit_zero (S := S1024x384) hz, View.ld_unit_zero (S := S1024x256) hz, View.ld_unit_zero (S := S384x1024) hz, View.ld_unit_zero (S := S256x1024) hz, View.ld_unit_zero (S := S1x1024) hz, shapeCast_self]

/-- The first tile leaves in the output block its own product, added to the zero block. -/
theorem out_A (c : Dev nD) (i : grid0.Coords) (a2 h2 a3 h3 a4 h4 a5 h5 a6 h6 a7 h7 a8 h8 a9 h9 a10 h10 a11 h11 a12 h12 a13 h13 a14 h14 a15 h15 a16 h16 hc0 hc1)
    (x0 : Vec F S1024x1024 .f32) (x1 : Vec F S1024x384 .bf16) (x2 : Vec F S1024x384 .bf16) (x3 : Vec F S1024x256 .bf16) (x4 : Vec F S384x1024 .bf16) (x5 : Vec F S384x1024 .bf16) (x6 : Vec F S256x1024 .bf16) (x7 : Vec F S1x1024 .f32) (x8 : Vec F S1024x256 .bf16) (x9 : Vec F S1024x256 .bf16) (x10 : Vec F S256x1024 .bf16) (x11 : Vec F S1x1024 .f32) :
    out0_A_12 c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 x11
      = k0_pay3 (k0_pay1 (k0_pay7 x0 x1 x4 x2 x5 x3 x6 x7)) x8 x9 k0_pay2 x10 := by
  unfold out0_A_12
  rw [View.read_writes_eq_canon _ _ _ (cover0_A_12 c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 x11)]
  unfold kernelRun0_A
  dsimp only
  sl_unfold_words
  rw [View.canon_cons_unit_zero (S := S1024x1024) hz, View.readCov_unit_zero (S := S1024x1024) _ hz, View.readCov_unit_zero (S := S1024x1024) _ hz]
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, View.ld_unit_zero (S := S1024x1024) hz, View.ld_unit_zero (S := S1024x384) hz, View.ld_unit_zero (S := S1024x256) hz, View.ld_unit_zero (S := S384x1024) hz, View.ld_unit_zero (S := S256x1024) hz, View.ld_unit_zero (S := S1x1024) hz, shapeCast_self]

/-- A tile in between adds its product to the output block. -/
theorem out_B (c : Dev nD) (i : grid0.Coords) (a2 h2 a3 h3 a4 h4 a5 h5 a6 h6 a7 h7 a8 h8 a9 h9 a10 h10 a11 h11 a12 h12 a13 h13 a14 h14 a15 h15 a16 h16 hc0 hc1)
    (x0 : Vec F S1024x1024 .f32) (x1 : Vec F S1024x384 .bf16) (x2 : Vec F S1024x384 .bf16) (x3 : Vec F S1024x256 .bf16) (x4 : Vec F S384x1024 .bf16) (x5 : Vec F S384x1024 .bf16) (x6 : Vec F S256x1024 .bf16) (x7 : Vec F S1x1024 .f32) (x8 : Vec F S1024x256 .bf16) (x9 : Vec F S1024x256 .bf16) (x10 : Vec F S256x1024 .bf16) (x11 : Vec F S1x1024 .f32)
    (xo s0 : Vec F S1024x1024 .f32) (s1 : Vec F S1024x1024 .bf16) :
    out0_B_12 c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 x11 xo s0 s1
      = k0_pay3 s1 x8 x9 xo x10 := by
  unfold out0_B_12
  rw [View.read_writes_eq_canon _ _ _ (cover0_B_12 c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 x11 xo s0 s1)]
  unfold kernelRun0_B
  dsimp only
  sl_unfold_words
  rw [View.canon_unit_zero hz]
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, View.ld_unit_zero (S := S1024x1024) hz, View.ld_unit_zero (S := S1024x384) hz, View.ld_unit_zero (S := S1024x256) hz, View.ld_unit_zero (S := S384x1024) hz, View.ld_unit_zero (S := S256x1024) hz, View.ld_unit_zero (S := S1x1024) hz, shapeCast_self]

/-- The last tile adds its product and then closes the block. -/
theorem out_C (c : Dev nD) (i : grid0.Coords) (a2 h2 a3 h3 a4 h4 a5 h5 a6 h6 a7 h7 a8 h8 a9 h9 a10 h10 a11 h11 a12 h12 a13 h13 a14 h14 a15 h15 a16 h16 hc0 hc1)
    (x0 : Vec F S1024x1024 .f32) (x1 : Vec F S1024x384 .bf16) (x2 : Vec F S1024x384 .bf16) (x3 : Vec F S1024x256 .bf16) (x4 : Vec F S384x1024 .bf16) (x5 : Vec F S384x1024 .bf16) (x6 : Vec F S256x1024 .bf16) (x7 : Vec F S1x1024 .f32) (x8 : Vec F S1024x256 .bf16) (x9 : Vec F S1024x256 .bf16) (x10 : Vec F S256x1024 .bf16) (x11 : Vec F S1x1024 .f32)
    (xo s0 : Vec F S1024x1024 .f32) (s1 : Vec F S1024x1024 .bf16) :
    out0_C_12 c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 x11 xo s0 s1
      = k0_pay4 s0 (k0_pay3 s1 x8 x9 xo x10) x11 := by
  unfold out0_C_12
  rw [View.read_writes_eq_canon _ _ _ (cover0_C_12 c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 x11 xo s0 s1)]
  unfold kernelRun0_C
  dsimp only
  sl_unfold_words
  rw [View.canon_cons_unit_zero (S := S1024x1024) hz, View.readCov_unit_zero (S := S1024x1024) _ hz]
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, View.ld_unit_zero (S := S1024x1024) hz, View.ld_unit_zero (S := S1024x384) hz, View.ld_unit_zero (S := S1024x256) hz, View.ld_unit_zero (S := S384x1024) hz, View.ld_unit_zero (S := S256x1024) hz, View.ld_unit_zero (S := S1x1024) hz, shapeCast_self]

variable (m : (ℓ : Loc nD τ sig) → Buf (Elt F) ℓ)

/-- The three carried blocks after a row block's first point. -/
theorem st_A (c : Dev nD) (t : Fin cfg0.N) (acc) (h0 : t.val % 11 = 0) (h1 : ¬t.val % 11 = 10) :
    Value.stAt0 m c t.val t.isLt acc
      = (k0_pay3 (k0_pay1 (k0_pay7 (iblk m c 0 t) (iblk m c 1 t) (iblk m c 4 t) (iblk m c 2 t) (iblk m c 5 t) (iblk m c 3 t) (iblk m c 6 t) (iblk m c 7 t))) (iblk m c 8 t) (iblk m c 9 t) k0_pay2 (iblk m c 10 t),
          k0_pay6 (iblk m c 0 t) (iblk m c 1 t) (iblk m c 4 t) (iblk m c 2 t) (iblk m c 5 t) (iblk m c 3 t) (iblk m c 6 t), k0_pay1 (k0_pay7 (iblk m c 0 t) (iblk m c 1 t) (iblk m c 4 t) (iblk m c 2 t) (iblk m c 5 t) (iblk m c 3 t) (iblk m c 6 t) (iblk m c 7 t))) := by
  rw [Value.stAt0_A m c t acc h0 h1, out_A, s0_A, s1_A]

/-- The three carried blocks after a point in between. -/
theorem st_B (c : Dev nD) (t : Fin cfg0.N) (acc) (h0 : ¬t.val % 11 = 0) (h1 : ¬t.val % 11 = 10) :
    Value.stAt0 m c t.val t.isLt acc
      = (k0_pay3 acc.2.2 (iblk m c 8 t) (iblk m c 9 t) acc.1 (iblk m c 10 t), acc.2.1, acc.2.2) := by
  rw [Value.stAt0_B m c t acc h0 h1, out_B, sout0_B_0, sout0_B_1]

/-- The three carried blocks after a row block's last point. -/
theorem st_C (c : Dev nD) (t : Fin cfg0.N) (acc) (h0 : ¬t.val % 11 = 0) (h1 : t.val % 11 = 10) :
    Value.stAt0 m c t.val t.isLt acc
      = (k0_pay4 acc.2.1 (k0_pay3 acc.2.2 (iblk m c 8 t) (iblk m c 9 t) acc.1 (iblk m c 10 t)) (iblk m c 11 t), acc.2.1, acc.2.2) := by
  rw [Value.stAt0_C m c t acc h0 h1, out_C, sout0_C_0, sout0_C_1]

end Cert.Kernel2Ideal.Ffn

end
-- ==== Proof.FfnMath.lean ====
/-
  The feed-forward block as plain formulas over the extended reals, and the two facts the calls need: the
  hidden positions taken in eleven tiles of 256 are the 2752 positions of the weights (the positions past
  them are zero rows), and a sum built tile by tile is the sum over all of them.
-/
module

public import Idealize.ShloMosaic.Lib.Pointwise
public import Idealize.ShloMosaic.PureOps
public import Idealize.ShloMosaic.Lib.KernelVsHost

@[expose] public section

noncomputable section

namespace Cert.FfnMath

open Idealize.ShloMosaic

/-- A row normed by its mean square and scaled by `g`. -/
def nrm (x g : Fin 1024 → EReal) (k : Fin 1024) : EReal :=
  x k * Ideal.rsqrt (Ideal.div (∑ l : Fin 1024, x l * x l) (Ideal.ofBits FTy.f32 0x44800000#32) + Ideal.ofBits FTy.f32 0x358637BD#32) * g k

/-- One hidden unit of a row `h`: the gate, times its logistic, times the up projection. -/
def act (h w u : Fin 1024 → EReal) : EReal :=
  (∑ k : Fin 1024, h k * w k) * Ideal.div 1 (1 + Ideal.exp (0 - ∑ k : Fin 1024, h k * w k)) * ∑ k : Fin 1024, h k * u k

/-- One hidden position's share of an output entry. -/
def term (h : Fin 1024 → EReal) (w u : Fin 1024 → ℕ → EReal) (d : ℕ → EReal) (p : ℕ) : EReal :=
  act h (fun k => w k p) (fun k => u k p) * d p

/-- The share of the tile of 256 hidden positions number `s`. -/
def tile (h : Fin 1024 → EReal) (w u : Fin 1024 → ℕ → EReal) (d : ℕ → EReal) (s : ℕ) : EReal :=
  ∑ f : Fin 256, term h w u d (256 * s + f.val)

/-- Tiles one after another are the positions one after another. -/
theorem sum_tiles (h : Fin 1024 → EReal) (w u : Fin 1024 → ℕ → EReal) (d : ℕ → EReal) (n : ℕ) :
    ∑ s ∈ Finset.range n, tile h w u d s = ∑ p ∈ Finset.range (256 * n), term h w u d p := by
  induction n with
  | zero => simp
  | succ n ih =>
    rw [Finset.sum_range_succ, ih, Nat.mul_succ, Finset.sum_range_add, tile,
      Finset.sum_range (fun x => term h w u d (256 * n + x))]

/-- Eleven tiles, the down projection being zero past position 2752: the sum over the 2752 positions. -/
theorem sum_eleven (h : Fin 1024 → EReal) (w u : Fin 1024 → ℕ → EReal) (d : ℕ → EReal) (hd : ∀ p, 2752 ≤ p → d p = 0) :
    ∑ s ∈ Finset.range 11, tile h w u d s = ∑ p : Fin 2752, term h w u d p.val := by
  rw [sum_tiles, show 256 * 11 = 2752 + 64 from rfl, Finset.sum_range_add, Finset.sum_range]
  rw [Finset.sum_eq_zero (s := Finset.range 64), add_zero]
  intro p _
  rw [term, hd _ (by omega), mul_zero]

/-- A matrix's entry at a position that may lie past its columns: zero there. -/
def padCol {n : ℕ} (w : Fin 1024 → Fin n → EReal) (k : Fin 1024) (p : ℕ) : EReal :=
  if h : p < n then w k ⟨p, h⟩ else 0

/-- A matrix's entry at a position that may lie past its rows: zero there. -/
def padRow {n : ℕ} (w : Fin n → Fin 1024 → EReal) (l : Fin 1024) (p : ℕ) : EReal :=
  if h : p < n then w ⟨p, h⟩ l else 0

/-- The feed-forward sum of a row over the 2752 hidden positions, at output column `l`. -/
def ffn (h : Fin 1024 → EReal) (w u : Fin 1024 → Fin 2752 → EReal) (d : Fin 2752 → Fin 1024 → EReal) (l : Fin 1024) : EReal :=
  ∑ p : Fin 2752, act h (fun k => w k p) (fun k => u k p) * d p l

/-- The eleven tiles of the padded weights are the feed-forward sum. -/
theorem sum_eleven_pad (h : Fin 1024 → EReal) (w u : Fin 1024 → Fin 2752 → EReal) (d : Fin 2752 → Fin 1024 → EReal) (l : Fin 1024) :
    ∑ s ∈ Finset.range 11, tile h (padCol w) (padCol u) (padRow d l) s = ffn h w u d l := by
  rw [sum_eleven]
  · refine Finset.sum_congr rfl fun p _ => ?_
    simp only [term, padCol, padRow, p.isLt, dif_pos]
  · intro p hp
    rw [padRow, dif_neg (by omega)]

/-- A matrix padded with 64 zero columns, read at an entry. -/
theorem pad_cols (w : FVec Ideal ⟨2, ![1024, 2752]⟩ .f32) (h : Shape.Pads ⟨2, ![1024, 2752]⟩ ![0, 0] ![0, 64] ![0, 0] ⟨2, ![1024, 2816]⟩)
    (hu : 0 < Shape.numel ⟨0, ![]⟩) (k : Fin 1024) (p : Fin 2816) :
    pad ⟨2, ![1024, 2816]⟩ ![0, 0] ![0, 64] ![0, 0] w (sitofp (F := Ideal) .f32 (constantI ⟨0, ![]⟩ 32 0#32)) h hu (ix2 k p)
      = padCol (fun k p => w (ix2 k p)) k p.val := by
  unfold padCol
  split
  · rename_i hp
    refine pad_apply_of_inside _ _ _ _ _ h hu _ (ix2 k ⟨p.val, hp⟩) fun a => ?_
    match a with
    | ⟨0, _⟩ => show k.val = 0 + k.val * (0 + 1); omega
    | ⟨1, _⟩ => show p.val = 0 + p.val * (0 + 1); omega
  · rename_i hp
    rw [pad_apply_of_not_inside _ _ _ _ _ h hu _ (1 : Fin 2)]
    · show FloatOps.sitofp (F := Ideal) FTy.f32 0#32 = 0
      simp [FloatOps.sitofp]
    · show ¬(0 ≤ p.val ∧ (p.val - 0) % (0 + 1) = 0 ∧ (p.val - 0) / (0 + 1) < 2752)
      omega

/-- A matrix padded with 64 zero rows, read at an entry. -/
theorem pad_rows (w : FVec Ideal ⟨2, ![2752, 1024]⟩ .f32) (h : Shape.Pads ⟨2, ![2752, 1024]⟩ ![0, 0] ![64, 0] ![0, 0] ⟨2, ![2816, 1024]⟩)
    (hu : 0 < Shape.numel ⟨0, ![]⟩) (p : Fin 2816) (l : Fin 1024) :
    pad ⟨2, ![2816, 1024]⟩ ![0, 0] ![64, 0] ![0, 0] w (sitofp (F := Ideal) .f32 (constantI ⟨0, ![]⟩ 32 0#32)) h hu (ix2 p l)
      = padRow (fun p l => w (ix2 p l)) l p.val := by
  unfold padRow
  split
  · rename_i hp
    refine pad_apply_of_inside _ _ _ _ _ h hu _ (ix2 ⟨p.val, hp⟩ l) fun a => ?_
    match a with
    | ⟨0, _⟩ => show p.val = 0 + p.val * (0 + 1); omega
    | ⟨1, _⟩ => show l.val = 0 + l.val * (0 + 1); omega
  · rename_i hp
    rw [pad_apply_of_not_inside _ _ _ _ _ h hu _ (0 : Fin 2)]
    · show FloatOps.sitofp (F := Ideal) FTy.f32 0#32 = 0
      simp [FloatOps.sitofp]
    · show ¬(0 ≤ p.val ∧ (p.val - 0) % (0 + 1) = 0 ∧ (p.val - 0) / (0 + 1) < 2752)
      omega

end Cert.FfnMath

end
-- ==== Proof.MixMath.lean ====
/-
  The output projection of the three branch outputs as one formula, and its reading in three pieces: a sum
  over the 1024 joined columns is the sum over each branch's columns.
-/
module

public import proofs.«01_k».proof.Proof.FfnMath

@[expose] public section

noncomputable section

namespace Cert.MixMath

open Idealize.ShloMosaic

/-- The three branch rows joined into one row. -/
def joined (a b : Fin 384 → EReal) (c : Fin 256 → EReal) (j : Fin 1024) : EReal :=
  if h : j.val < 384 then a ⟨j.val, h⟩
  else if h' : j.val < 768 then b ⟨j.val - 384, by omega⟩
  else c ⟨j.val - 768, by omega⟩

/-- A row plus the projection of the joined branch rows. -/
def mix (x : Fin 1024 → EReal) (a b : Fin 384 → EReal) (c : Fin 256 → EReal) (w : Fin 1024 → Fin 1024 → EReal) (l : Fin 1024) : EReal :=
  x l + ∑ j : Fin 1024, joined a b c j * w j l

/-- The projection taken branch by branch, each with its own rows of the weights. -/
theorem mix_split (x : Fin 1024 → EReal) (a b : Fin 384 → EReal) (c : Fin 256 → EReal) (w : Fin 1024 → Fin 1024 → EReal) (l : Fin 1024) :
    x l + (∑ j : Fin 384, a j * w ⟨j.val, by omega⟩ l) + (∑ j : Fin 384, b j * w ⟨384 + j.val, by omega⟩ l)
        + (∑ j : Fin 256, c j * w ⟨768 + j.val, by omega⟩ l) = mix x a b c w l := by
  have h : ∑ j : Fin 1024, joined a b c j * w j l
      = (∑ j : Fin 384, a j * w ⟨j.val, by omega⟩ l) + (∑ j : Fin 384, b j * w ⟨384 + j.val, by omega⟩ l)
        + (∑ j : Fin 256, c j * w ⟨768 + j.val, by omega⟩ l) := by
    rw [show (∑ j : Fin 1024, joined a b c j * w j l) = ∑ j : Fin (384 + 384 + 256), joined a b c ⟨j.val, j.isLt⟩ * w ⟨j.val, j.isLt⟩ l from rfl,
      Fin.sum_univ_add, Fin.sum_univ_add]
    congr 1
  rw [mix, h]
  simp only [add_assoc]

end Cert.MixMath

end
-- ==== Proof.Ffn2FinalValue.lean ====
/-
  The second feed-forward call, with the closing norm: what its result array ends holding, entry by entry, as the formula of the arguments. The
  blocks read at a point are entries of the arguments; along one row block the kept scratches hold the mixed
  rows and the mixed rows normed, and the output block the tiles added so far.
-/
module

public import proofs.«01_k».proof.Proof.Ffn2FinalCase
public import proofs.«01_k».proof.Proof.MixMath

@[expose] public section

set_option maxRecDepth 16384

noncomputable section

namespace Cert.Kernel2Ideal.Ffn

open Cert.Kernel2Ideal Cert.Kernel2Ideal.Gen Idealize.ShloMosaic Idealize.ShloMosaic.TcCoe Idealize.SL.Sem Cert.FfnMath Cert.MixMath

/-! ## The body's arithmetic at an entry -/

/-- The mixed block at an entry. -/
theorem pay5_apply (x : Vec Ideal S1024x1024 .f32) (a : Vec Ideal S1024x384 .bf16) (wa : Vec Ideal S384x1024 .bf16) (b : Vec Ideal S1024x384 .bf16) (wb : Vec Ideal S384x1024 .bf16) (e : Vec Ideal S1024x256 .bf16) (we : Vec Ideal S256x1024 .bf16) (r l : Fin 1024) :
    k0_pay5 x a wa b wb e we (ix2 r l) = x (ix2 r l) + (∑ j : Fin 384, a (ix2 r j) * wa (ix2 j l)) + (∑ j : Fin 384, b (ix2 r j) * wb (ix2 j l)) + (∑ j : Fin 256, e (ix2 r j) * we (ix2 j l)) := by
  pointwise [k0_pay5]

/-- The kept mixed block at an entry. -/
theorem pay6_apply (x : Vec Ideal S1024x1024 .f32) (a : Vec Ideal S1024x384 .bf16) (wa : Vec Ideal S384x1024 .bf16) (b : Vec Ideal S1024x384 .bf16) (wb : Vec Ideal S384x1024 .bf16) (e : Vec Ideal S1024x256 .bf16) (we : Vec Ideal S256x1024 .bf16) (r l : Fin 1024) :
    k0_pay6 x a wa b wb e we (ix2 r l) = k0_pay5 x a wa b wb e we (ix2 r l) := by
  pointwise [k0_pay6]

/-- The normed block at an entry. -/
theorem pay7_apply (x : Vec Ideal S1024x1024 .f32) (a : Vec Ideal S1024x384 .bf16) (wa : Vec Ideal S384x1024 .bf16) (b : Vec Ideal S1024x384 .bf16) (wb : Vec Ideal S384x1024 .bf16) (e : Vec Ideal S1024x256 .bf16) (we : Vec Ideal S256x1024 .bf16) (g : Vec Ideal S1x1024 .f32) (r l : Fin 1024) :
    k0_pay1 (k0_pay7 x a wa b wb e we g) (ix2 r l) = nrm (fun k => k0_pay5 x a wa b wb e we (ix2 r k)) (fun k => g (ix2 0 k)) l := by
  pointwise [k0_pay1, k0_pay7, nrm]

/-- One tile's product added to a block, at an entry. -/
theorem pay3_apply (h : Vec Ideal S1024x1024 .bf16) (w u : Vec Ideal S1024x256 .bf16) (d : Vec Ideal S256x1024 .bf16)
    (o : Vec Ideal S1024x1024 .f32) (r l : Fin 1024) :
    k0_pay3 h w u o d (ix2 r l) = o (ix2 r l)
      + ∑ f : Fin 256, act (fun k => h (ix2 r k)) (fun k => w (ix2 k f)) (fun k => u (ix2 k f)) * d (ix2 f l) := by
  pointwise [k0_pay3, act]

/-- The closing sum, normed, at an entry. -/
theorem pay4_apply (x o : Vec Ideal S1024x1024 .f32) (g : Vec Ideal S1x1024 .f32) (r l : Fin 1024) :
    k0_pay4 x o g (ix2 r l) = nrm (fun k => x (ix2 r k) + Ideal.ofBits FTy.f32 0x3F000000#32 * o (ix2 r k)) (fun k => g (ix2 0 k)) l := by
  pointwise [k0_pay4, nrm]

/-- The zero block at an entry. -/
theorem pay2_apply (r l : Fin 1024) : k0_pay2 (F := Ideal) (ix2 r l) = 0 := by
  pointwise [k0_pay2]

variable (m : (ℓ : Loc nD τ sig) → Buf (Elt Ideal) ℓ)

/-! ## The arguments by entry -/

/-- Row `i` of `x`. -/
def xin (c : Dev nD) (i : Fin 16384) (k : Fin 1024) : EReal := (m ((c : Thread nD τ).loc main_arg0) : Vec Ideal S16384x1024 .f32) (ix2 i k)
/-- Row `i` of the first branch's output. -/
def oa (c : Dev nD) (i : Fin 16384) (k : Fin 384) : EReal := (m ((c : Thread nD τ).loc main_arg1) : Vec Ideal S16384x384 .bf16) (ix2 i k)
/-- Row `i` of the second branch's output. -/
def ob (c : Dev nD) (i : Fin 16384) (k : Fin 384) : EReal := (m ((c : Thread nD τ).loc main_arg2) : Vec Ideal S16384x384 .bf16) (ix2 i k)
/-- Row `i` of the third branch's output. -/
def oc (c : Dev nD) (i : Fin 16384) (k : Fin 256) : EReal := (m ((c : Thread nD τ).loc main_arg3) : Vec Ideal S16384x256 .bf16) (ix2 i k)
/-- The output projection's weights. -/
def wo (c : Dev nD) (j l : Fin 1024) : EReal := (m ((c : Thread nD τ).loc main_arg4) : Vec Ideal S1024x1024 .f32) (ix2 j l)
/-- The norm's scale. -/
def gn (c : Dev nD) (k : Fin 1024) : EReal := (m ((c : Thread nD τ).loc main_arg5) : Vec Ideal S1024 .f32) (ix1 k)
/-- The gate weights. -/
def wg (c : Dev nD) (k : Fin 1024) (p : Fin 2752) : EReal := (m ((c : Thread nD τ).loc main_arg6) : Vec Ideal S1024x2752 .f32) (ix2 k p)
/-- The up weights. -/
def wu (c : Dev nD) (k : Fin 1024) (p : Fin 2752) : EReal := (m ((c : Thread nD τ).loc main_arg7) : Vec Ideal S1024x2752 .f32) (ix2 k p)
/-- The down weights. -/
def wd (c : Dev nD) (p : Fin 2752) (l : Fin 1024) : EReal := (m ((c : Thread nD τ).loc main_arg8) : Vec Ideal S2752x1024 .f32) (ix2 p l)
/-- The closing norm's scale. -/
def gf (c : Dev nD) (k : Fin 1024) : EReal := (m ((c : Thread nD τ).loc main_arg9) : Vec Ideal S1024 .f32) (ix1 k)
/-- The mixed row: row `i` of `x` plus the projection of the joined branch outputs. -/
def xrow (c : Dev nD) (i : Fin 16384) (l : Fin 1024) : EReal := mix (xin m c i) (oa m c i) (ob m c i) (oc m c i) (wo m c) l

/-! ## What the host hands the call -/

/-- The rows of the projection's weights for the first branch. -/
theorem V1_eq (c : Dev nD) :
    @Eq (FVec Ideal S384x1024 .bf16) (V m c main_v1) <| extractStridedSlice S384x1024 ![0, 0] (truncf (F := Ideal) .bf16 (m ((c : Thread nD τ).loc main_arg4) : Vec Ideal S1024x1024 .f32) bitsLt_bf16_f32) slices_S1024x1024_S384x1024_0_0 := by
  unfold V
  simp only [hostOps0, hostOps0_1, hostOps0_2, hostOps0_3, hostOps0_4, hostOps0_5, hostOps0_6, List.flatten_cons, List.flatten_nil, List.append_nil, List.cons_append, List.nil_append]
  after_results

/-- Those rows at an entry. -/
theorem V1_apply (c : Dev nD) (j : Fin 384) (l : Fin 1024) :
    (V m c main_v1 : Vec Ideal S384x1024 .bf16) (ix2 j l) = wo m c ⟨0 + j.val, by omega⟩ l := by
  refine (congrFun (V1_eq m c) _).trans ?_
  unfold wo
  pointwise

/-- The rows of the projection's weights for the second branch. -/
theorem V2_eq (c : Dev nD) :
    @Eq (FVec Ideal S384x1024 .bf16) (V m c main_v2) <| extractStridedSlice S384x1024 ![384, 0] (truncf (F := Ideal) .bf16 (m ((c : Thread nD τ).loc main_arg4) : Vec Ideal S1024x1024 .f32) bitsLt_bf16_f32) slices_S1024x1024_S384x1024_384_0 := by
  unfold V
  simp only [hostOps0, hostOps0_1, hostOps0_2, hostOps0_3, hostOps0_4, hostOps0_5, hostOps0_6, List.flatten_cons, List.flatten_nil, List.append_nil, List.cons_append, List.nil_append]
  after_results

/-- Those rows at an entry. -/
theorem V2_apply (c : Dev nD) (j : Fin 384) (l : Fin 1024) :
    (V m c main_v2 : Vec Ideal S384x1024 .bf16) (ix2 j l) = wo m c ⟨384 + j.val, by omega⟩ l := by
  refine (congrFun (V2_eq m c) _).trans ?_
  unfold wo
  pointwise

/-- The rows of the projection's weights for the third branch. -/
theorem V3_eq (c : Dev nD) :
    @Eq (FVec Ideal S256x1024 .bf16) (V m c main_v3) <| extractStridedSlice S256x1024 ![768, 0] (truncf (F := Ideal) .bf16 (m ((c : Thread nD τ).loc main_arg4) : Vec Ideal S1024x1024 .f32) bitsLt_bf16_f32) slices_S1024x1024_S256x1024_768_0 := by
  unfold V
  simp only [hostOps0, hostOps0_1, hostOps0_2, hostOps0_3, hostOps0_4, hostOps0_5, hostOps0_6, List.flatten_cons, List.flatten_nil, List.append_nil, List.cons_append, List.nil_append]
  after_results

/-- Those rows at an entry. -/
theorem V3_apply (c : Dev nD) (j : Fin 256) (l : Fin 1024) :
    (V m c main_v3 : Vec Ideal S256x1024 .bf16) (ix2 j l) = wo m c ⟨768 + j.val, by omega⟩ l := by
  refine (congrFun (V3_eq m c) _).trans ?_
  unfold wo
  pointwise

/-- The norm's scale, as one row. -/
theorem V4_eq (c : Dev nD) :
    V m c main_v4 = shapeCast S1x1024 (m ((c : Thread nD τ).loc main_arg5) : Vec Ideal S1024 .f32) shapeCasts_S1024_S1x1024 := by
  unfold V
  simp only [hostOps0, hostOps0_1, hostOps0_2, hostOps0_3, hostOps0_4, hostOps0_5, hostOps0_6, List.flatten_cons, List.flatten_nil, List.append_nil, List.cons_append, List.nil_append]
  after_results
  rfl

/-- The norm's scale at an entry. -/
theorem V4_apply (c : Dev nD) (k : Fin 1024) : (V m c main_v4 : Vec Ideal S1x1024 .f32) (ix2 0 k) = gn m c k := by
  rw [V4_eq]
  unfold gn
  pointwise

/-- The gate weights, padded. -/
theorem V6_eq (c : Dev nD) :
    @Eq (FVec Ideal S1024x2816 .bf16) (V m c main_v6) <| truncf (F := Ideal) .bf16 (pad S1024x2816 ![0, 0] ![0, 64] ![0, 0] (m ((c : Thread nD τ).loc main_arg6) : Vec Ideal S1024x2752 .f32)
      (sitofp .f32 (constantI S_ 32 0#32)) pads_S1024x2752_S1024x2816_000_0640 h_S_) bitsLt_bf16_f32 := by
  unfold V
  simp only [hostOps0, hostOps0_1, hostOps0_2, hostOps0_3, hostOps0_4, hostOps0_5, hostOps0_6, List.flatten_cons, List.flatten_nil, List.append_nil, List.cons_append, List.nil_append]
  after_results
  rfl

/-- The padded gate weights at an entry. -/
theorem V6_apply (c : Dev nD) (k : Fin 1024) (p : Fin 2816) :
    (V m c main_v6 : Vec Ideal S1024x2816 .bf16) (ix2 k p) = padCol (wg m c) k p.val :=
  (congrFun (V6_eq m c) _).trans (pad_cols _ pads_S1024x2752_S1024x2816_000_0640 h_S_ k p)

/-- The up weights, padded. -/
theorem V8_eq (c : Dev nD) :
    @Eq (FVec Ideal S1024x2816 .bf16) (V m c main_v8) <| truncf (F := Ideal) .bf16 (pad S1024x2816 ![0, 0] ![0, 64] ![0, 0] (m ((c : Thread nD τ).loc main_arg7) : Vec Ideal S1024x2752 .f32)
      (sitofp .f32 (constantI S_ 32 0#32)) pads_S1024x2752_S1024x2816_000_0640 h_S_) bitsLt_bf16_f32 := by
  unfold V
  simp only [hostOps0, hostOps0_1, hostOps0_2, hostOps0_3, hostOps0_4, hostOps0_5, hostOps0_6, List.flatten_cons, List.flatten_nil, List.append_nil, List.cons_append, List.nil_append]
  after_results
  rfl

/-- The padded up weights at an entry. -/
theorem V8_apply (c : Dev nD) (k : Fin 1024) (p : Fin 2816) :
    (V m c main_v8 : Vec Ideal S1024x2816 .bf16) (ix2 k p) = padCol (wu m c) k p.val :=
  (congrFun (V8_eq m c) _).trans (pad_cols _ pads_S1024x2752_S1024x2816_000_0640 h_S_ k p)

/-- The down weights, padded. -/
theorem V10_eq (c : Dev nD) :
    @Eq (FVec Ideal S2816x1024 .bf16) (V m c main_v10) <| truncf (F := Ideal) .bf16 (pad S2816x1024 ![0, 0] ![64, 0] ![0, 0] (m ((c : Thread nD τ).loc main_arg8) : Vec Ideal S2752x1024 .f32)
      (sitofp .f32 (constantI S_ 32 0#32)) pads_S2752x1024_S2816x1024_0640_000 h_S_) bitsLt_bf16_f32 := by
  unfold V
  simp only [hostOps0, hostOps0_1, hostOps0_2, hostOps0_3, hostOps0_4, hostOps0_5, hostOps0_6, List.flatten_cons, List.flatten_nil, List.append_nil, List.cons_append, List.nil_append]
  after_results
  rfl

/-- The padded down weights at an entry. -/
theorem V10_apply (c : Dev nD) (p : Fin 2816) (l : Fin 1024) :
    (V m c main_v10 : Vec Ideal S2816x1024 .bf16) (ix2 p l) = padRow (wd m c) l p.val :=
  (congrFun (V10_eq m c) _).trans (pad_rows _ pads_S2752x1024_S2816x1024_0640_000 h_S_ p l)

/-- The closing norm's scale, as one row. -/
theorem V11_eq (c : Dev nD) :
    V m c main_v11 = shapeCast S1x1024 (m ((c : Thread nD τ).loc main_arg9) : Vec Ideal S1024 .f32) shapeCasts_S1024_S1x1024 := by
  unfold V
  simp only [hostOps0, hostOps0_1, hostOps0_2, hostOps0_3, hostOps0_4, hostOps0_5, hostOps0_6, List.flatten_cons, List.flatten_nil, List.append_nil, List.cons_append, List.nil_append]
  after_results
  rfl

/-- The closing norm's scale at an entry. -/
theorem V11_apply (c : Dev nD) (k : Fin 1024) : (V m c main_v11 : Vec Ideal S1x1024 .f32) (ix2 0 k) = gf m c k := by
  rw [V11_eq]
  unfold gf
  pointwise

/-! ## The blocks read at a point -/

/-- The block index of window 0. -/
theorem idx0 : ∀ t : Fin cfg0.N, win0_0.index t 0 = t.val / 11 ∧ win0_0.index t 1 = 0 := by decide +kernel
/-- The block index of window 1. -/
theorem idx1 : ∀ t : Fin cfg0.N, win0_1.index t 0 = t.val / 11 ∧ win0_1.index t 1 = 0 := by decide +kernel
/-- The block index of window 2. -/
theorem idx2 : ∀ t : Fin cfg0.N, win0_2.index t 0 = t.val / 11 ∧ win0_2.index t 1 = 0 := by decide +kernel
/-- The block index of window 3. -/
theorem idx3 : ∀ t : Fin cfg0.N, win0_3.index t 0 = t.val / 11 ∧ win0_3.index t 1 = 0 := by decide +kernel
/-- The block index of window 4. -/
theorem idx4 : ∀ t : Fin cfg0.N, win0_4.index t 0 = 0 ∧ win0_4.index t 1 = 0 := by decide +kernel
/-- The block index of window 5. -/
theorem idx5 : ∀ t : Fin cfg0.N, win0_5.index t 0 = 0 ∧ win0_5.index t 1 = 0 := by decide +kernel
/-- The block index of window 6. -/
theorem idx6 : ∀ t : Fin cfg0.N, win0_6.index t 0 = 0 ∧ win0_6.index t 1 = 0 := by decide +kernel
/-- The block index of window 7. -/
theorem idx7 : ∀ t : Fin cfg0.N, win0_7.index t 0 = 0 ∧ win0_7.index t 1 = 0 := by decide +kernel
/-- The block index of window 8. -/
theorem idx8 : ∀ t : Fin cfg0.N, win0_8.index t 0 = 0 ∧ win0_8.index t 1 = t.val % 11 := by decide +kernel
/-- The block index of window 9. -/
theorem idx9 : ∀ t : Fin cfg0.N, win0_9.index t 0 = 0 ∧ win0_9.index t 1 = t.val % 11 := by decide +kernel
/-- The block index of window 10. -/
theorem idx10 : ∀ t : Fin cfg0.N, win0_10.index t 0 = t.val % 11 ∧ win0_10.index t 1 = 0 := by decide +kernel
/-- The block index of window 11. -/
theorem idx11 : ∀ t : Fin cfg0.N, win0_11.index t 0 = 0 ∧ win0_11.index t 1 = 0 := by decide +kernel

/-- The row that row `r` of the block at point `n` is. -/
def rowOf (n : ℕ) (r : Fin 1024) : Fin 16384 := ⟨(1024 * (n / 11) + r.val) % 16384, Nat.mod_lt _ (by norm_num)⟩

/-- The rows of argument 0 read at a point. -/
theorem iblk0_apply (c : Dev nD) (t : Fin cfg0.N) (r : Fin 1024) (l : Fin 1024) :
    (iblk m c 0 t : Vec Ideal S1024x1024 .f32) (ix2 r l) = xin m c (rowOf t.val r) l := by
  have hN : cfg0.N = 176 := N_0
  have ht := t.isLt
  unfold iblk
  rw [View.read_apply]
  show V m c main_arg0 _ = _
  rw [V_main_arg0]
  unfold xin
  congr 1
  funext a
  apply Fin.ext
  match a with
  | ⟨0, _⟩ => show win0_0.index t 0 * 1024 + 1 * r.val = (1024 * (t.val / 11) + r.val) % 16384; rw [(idx0 t).1]; omega
  | ⟨1, _⟩ => show win0_0.index t 1 * 1024 + 1 * l.val = l.val; rw [(idx0 t).2]; omega

/-- The rows of argument 1 read at a point. -/
theorem iblk1_apply (c : Dev nD) (t : Fin cfg0.N) (r : Fin 1024) (l : Fin 384) :
    (iblk m c 1 t : Vec Ideal S1024x384 .bf16) (ix2 r l) = oa m c (rowOf t.val r) l := by
  have hN : cfg0.N = 176 := N_0
  have ht := t.isLt
  unfold iblk
  rw [View.read_apply]
  show V m c main_arg1 _ = _
  rw [V_main_arg1]
  unfold oa
  congr 1
  funext a
  apply Fin.ext
  match a with
  | ⟨0, _⟩ => show win0_1.index t 0 * 1024 + 1 * r.val = (1024 * (t.val / 11) + r.val) % 16384; rw [(idx1 t).1]; omega
  | ⟨1, _⟩ => show win0_1.index t 1 * 384 + 1 * l.val = l.val; rw [(idx1 t).2]; omega

/-- The rows of argument 2 read at a point. -/
theorem iblk2_apply (c : Dev nD) (t : Fin cfg0.N) (r : Fin 1024) (l : Fin 384) :
    (iblk m c 2 t : Vec Ideal S1024x384 .bf16) (ix2 r l) = ob m c (rowOf t.val r) l := by
  have hN : cfg0.N = 176 := N_0
  have ht := t.isLt
  unfold iblk
  rw [View.read_apply]
  show V m c main_arg2 _ = _
  rw [V_main_arg2]
  unfold ob
  congr 1
  funext a
  apply Fin.ext
  match a with
  | ⟨0, _⟩ => show win0_2.index t 0 * 1024 + 1 * r.val = (1024 * (t.val / 11) + r.val) % 16384; rw [(idx2 t).1]; omega
  | ⟨1, _⟩ => show win0_2.index t 1 * 384 + 1 * l.val = l.val; rw [(idx2 t).2]; omega

/-- The rows of argument 3 read at a point. -/
theorem iblk3_apply (c : Dev nD) (t : Fin cfg0.N) (r : Fin 1024) (l : Fin 256) :
    (iblk m c 3 t : Vec Ideal S1024x256 .bf16) (ix2 r l) = oc m c (rowOf t.val r) l := by
  have hN : cfg0.N = 176 := N_0
  have ht := t.isLt
  unfold iblk
  rw [View.read_apply]
  show V m c main_arg3 _ = _
  rw [V_main_arg3]
  unfold oc
  congr 1
  funext a
  apply Fin.ext
  match a with
  | ⟨0, _⟩ => show win0_3.index t 0 * 1024 + 1 * r.val = (1024 * (t.val / 11) + r.val) % 16384; rw [(idx3 t).1]; omega
  | ⟨1, _⟩ => show win0_3.index t 1 * 256 + 1 * l.val = l.val; rw [(idx3 t).2]; omega

/-- The projection's rows read at a point through window 4. -/
theorem iblk4_apply (c : Dev nD) (t : Fin cfg0.N) (j : Fin 384) (l : Fin 1024) :
    (iblk m c 4 t : Vec Ideal S384x1024 .bf16) (ix2 j l) = wo m c ⟨0 + j.val, by omega⟩ l := by
  unfold iblk
  rw [View.read_apply, ← V1_apply]
  show V m c main_v1 _ = V m c main_v1 _
  congr 1
  funext a
  apply Fin.ext
  match a with
  | ⟨0, _⟩ => show win0_4.index t 0 * 384 + 1 * j.val = j.val; rw [(idx4 t).1]; omega
  | ⟨1, _⟩ => show win0_4.index t 1 * 1024 + 1 * l.val = l.val; rw [(idx4 t).2]; omega

/-- The projection's rows read at a point through window 5. -/
theorem iblk5_apply (c : Dev nD) (t : Fin cfg0.N) (j : Fin 384) (l : Fin 1024) :
    (iblk m c 5 t : Vec Ideal S384x1024 .bf16) (ix2 j l) = wo m c ⟨384 + j.val, by omega⟩ l := by
  unfold iblk
  rw [View.read_apply, ← V2_apply]
  show V m c main_v2 _ = V m c main_v2 _
  congr 1
  funext a
  apply Fin.ext
  match a with
  | ⟨0, _⟩ => show win0_5.index t 0 * 384 + 1 * j.val = j.val; rw [(idx5 t).1]; omega
  | ⟨1, _⟩ => show win0_5.index t 1 * 1024 + 1 * l.val = l.val; rw [(idx5 t).2]; omega

/-- The projection's rows read at a point through window 6. -/
theorem iblk6_apply (c : Dev nD) (t : Fin cfg0.N) (j : Fin 256) (l : Fin 1024) :
    (iblk m c 6 t : Vec Ideal S256x1024 .bf16) (ix2 j l) = wo m c ⟨768 + j.val, by omega⟩ l := by
  unfold iblk
  rw [View.read_apply, ← V3_apply]
  show V m c main_v3 _ = V m c main_v3 _
  congr 1
  funext a
  apply Fin.ext
  match a with
  | ⟨0, _⟩ => show win0_6.index t 0 * 256 + 1 * j.val = j.val; rw [(idx6 t).1]; omega
  | ⟨1, _⟩ => show win0_6.index t 1 * 1024 + 1 * l.val = l.val; rw [(idx6 t).2]; omega

/-- The scale read at a point through window 7. -/
theorem iblk7_apply (c : Dev nD) (t : Fin cfg0.N) (k : Fin 1024) :
    (iblk m c 7 t : Vec Ideal S1x1024 .f32) (ix2 0 k) = gn m c k := by
  unfold iblk
  rw [View.read_apply, ← V4_apply]
  show V m c main_v4 _ = V m c main_v4 _
  congr 1
  funext a
  apply Fin.ext
  match a with
  | ⟨0, _⟩ => show win0_7.index t 0 * 1 + 1 * 0 = 0; rw [(idx7 t).1]
  | ⟨1, _⟩ => show win0_7.index t 1 * 1024 + 1 * k.val = k.val; rw [(idx7 t).2]; omega

/-- The scale read at a point through window 11. -/
theorem iblk11_apply (c : Dev nD) (t : Fin cfg0.N) (k : Fin 1024) :
    (iblk m c 11 t : Vec Ideal S1x1024 .f32) (ix2 0 k) = gf m c k := by
  unfold iblk
  rw [View.read_apply, ← V11_apply]
  show V m c main_v11 _ = V m c main_v11 _
  congr 1
  funext a
  apply Fin.ext
  match a with
  | ⟨0, _⟩ => show win0_11.index t 0 * 1 + 1 * 0 = 0; rw [(idx11 t).1]
  | ⟨1, _⟩ => show win0_11.index t 1 * 1024 + 1 * k.val = k.val; rw [(idx11 t).2]; omega

/-- The tile of the gate weights read at a point. -/
theorem iblk8_apply (c : Dev nD) (t : Fin cfg0.N) (k : Fin 1024) (f : Fin 256) :
    (iblk m c 8 t : Vec Ideal S1024x256 .bf16) (ix2 k f) = padCol (wg m c) k (256 * (t.val % 11) + f.val) := by
  unfold iblk
  rw [View.read_apply]
  refine Eq.trans ?_ (V6_apply m c k ⟨256 * (t.val % 11) + f.val, by omega⟩)
  show V m c main_v6 _ = V m c main_v6 _
  congr 1
  funext a
  apply Fin.ext
  match a with
  | ⟨0, _⟩ => show win0_8.index t 0 * 1024 + 1 * k.val = k.val; rw [(idx8 t).1]; omega
  | ⟨1, _⟩ => show win0_8.index t 1 * 256 + 1 * f.val = 256 * (t.val % 11) + f.val; rw [(idx8 t).2]; omega

/-- The tile of the up weights read at a point. -/
theorem iblk9_apply (c : Dev nD) (t : Fin cfg0.N) (k : Fin 1024) (f : Fin 256) :
    (iblk m c 9 t : Vec Ideal S1024x256 .bf16) (ix2 k f) = padCol (wu m c) k (256 * (t.val % 11) + f.val) := by
  unfold iblk
  rw [View.read_apply]
  refine Eq.trans ?_ (V8_apply m c k ⟨256 * (t.val % 11) + f.val, by omega⟩)
  show V m c main_v8 _ = V m c main_v8 _
  congr 1
  funext a
  apply Fin.ext
  match a with
  | ⟨0, _⟩ => show win0_9.index t 0 * 1024 + 1 * k.val = k.val; rw [(idx9 t).1]; omega
  | ⟨1, _⟩ => show win0_9.index t 1 * 256 + 1 * f.val = 256 * (t.val % 11) + f.val; rw [(idx9 t).2]; omega

/-- The tile of the down weights read at a point. -/
theorem iblk10_apply (c : Dev nD) (t : Fin cfg0.N) (f : Fin 256) (l : Fin 1024) :
    (iblk m c 10 t : Vec Ideal S256x1024 .bf16) (ix2 f l) = padRow (wd m c) l (256 * (t.val % 11) + f.val) := by
  unfold iblk
  rw [View.read_apply]
  refine Eq.trans ?_ (V10_apply m c ⟨256 * (t.val % 11) + f.val, by omega⟩ l)
  show V m c main_v10 _ = V m c main_v10 _
  congr 1
  funext a
  apply Fin.ext
  match a with
  | ⟨0, _⟩ => show win0_10.index t 0 * 256 + 1 * f.val = 256 * (t.val % 11) + f.val; rw [(idx10 t).1]; omega
  | ⟨1, _⟩ => show win0_10.index t 1 * 1024 + 1 * l.val = l.val; rw [(idx10 t).2]; omega

/-! ## Along one row block -/

/-- The normed row. -/
def hrow (c : Dev nD) (i : Fin 16384) (k : Fin 1024) : EReal := nrm (xrow m c i) (gn m c) k

/-- The tiles of a row, at an output column. -/
def tl (c : Dev nD) (i : Fin 16384) (l : Fin 1024) (s : ℕ) : EReal := tile (hrow m c i) (padCol (wg m c)) (padCol (wu m c)) (padRow (wd m c) l) s

/-- The result at an entry. -/
def res (c : Dev nD) (i : Fin 16384) (l : Fin 1024) : EReal :=
  nrm (fun k => xrow m c i k + Ideal.ofBits FTy.f32 0x3F000000#32 * ffn (hrow m c i) (wg m c) (wu m c) (wd m c) k) (gf m c) l

/-- What the carried blocks hold after point `n`. -/
def Inv (c : Dev nD) (n : ℕ) (acc : Vec Ideal S1024x1024 .f32 × Vec Ideal S1024x1024 .f32 × Vec Ideal S1024x1024 .bf16) : Prop :=
  (∀ r l : Fin 1024, acc.2.1 (ix2 r l) = xrow m c (rowOf n r) l)
  ∧ (∀ r l : Fin 1024, acc.2.2 (ix2 r l) = hrow m c (rowOf n r) l)
  ∧ (n % 11 ≠ 10 → ∀ r l : Fin 1024, acc.1 (ix2 r l) = ∑ s ∈ Finset.range (n % 11 + 1), tl m c (rowOf n r) l s)
  ∧ (n % 11 = 10 → ∀ r l : Fin 1024, acc.1 (ix2 r l) = res m c (rowOf n r) l)

/-- One tile's product at a point, when the block holds the normed rows. -/
theorem tile_apply (c : Dev nD) (t : Fin cfg0.N) (h : Vec Ideal S1024x1024 .bf16) (o : Vec Ideal S1024x1024 .f32)
    (hh : ∀ r l : Fin 1024, h (ix2 r l) = hrow m c (rowOf t.val r) l) (r l : Fin 1024) :
    k0_pay3 h (iblk m c 8 t : Vec Ideal S1024x256 .bf16) (iblk m c 9 t : Vec Ideal S1024x256 .bf16) o (iblk m c 10 t : Vec Ideal S256x1024 .bf16) (ix2 r l)
      = o (ix2 r l) + tl m c (rowOf t.val r) l (t.val % 11) := by
  rw [pay3_apply]
  unfold tl tile
  refine congrArg (o (ix2 r l) + ·) (Finset.sum_congr rfl fun f _ => ?_)
  simp only [iblk8_apply, iblk9_apply, iblk10_apply, hh]
  rfl

/-- The mixed block at a point. -/
theorem mixed_apply (c : Dev nD) (t : Fin cfg0.N) (r l : Fin 1024) :
    k0_pay5 (iblk m c 0 t : Vec Ideal S1024x1024 .f32) (iblk m c 1 t : Vec Ideal S1024x384 .bf16) (iblk m c 4 t : Vec Ideal S384x1024 .bf16) (iblk m c 2 t : Vec Ideal S1024x384 .bf16) (iblk m c 5 t : Vec Ideal S384x1024 .bf16) (iblk m c 3 t : Vec Ideal S1024x256 .bf16) (iblk m c 6 t : Vec Ideal S256x1024 .bf16) (ix2 r l) = xrow m c (rowOf t.val r) l := by
  rw [pay5_apply]
  simp only [iblk0_apply, iblk1_apply, iblk2_apply, iblk3_apply, iblk4_apply, iblk5_apply, iblk6_apply]
  unfold xrow
  rw [← mix_split]
  simp only [Nat.zero_add]

/-- The normed block at a point. -/
theorem norm_apply (c : Dev nD) (t : Fin cfg0.N) (r l : Fin 1024) :
    k0_pay1 (k0_pay7 (iblk m c 0 t : Vec Ideal S1024x1024 .f32) (iblk m c 1 t : Vec Ideal S1024x384 .bf16) (iblk m c 4 t : Vec Ideal S384x1024 .bf16) (iblk m c 2 t : Vec Ideal S1024x384 .bf16) (iblk m c 5 t : Vec Ideal S384x1024 .bf16) (iblk m c 3 t : Vec Ideal S1024x256 .bf16) (iblk m c 6 t : Vec Ideal S256x1024 .bf16) (iblk m c 7 t : Vec Ideal S1x1024 .f32)) (ix2 r l) = hrow m c (rowOf t.val r) l := by
  rw [pay7_apply]
  simp only [mixed_apply, iblk7_apply]
  rfl

/-- A row block's first point sets the blocks up. -/
theorem inv_first (c : Dev nD) (t : Fin cfg0.N) (h0 : t.val % 11 = 0) (acc) : Inv m c t.val (Value.stAt0 m c t.val t.isLt acc) := by
  have h1 : ¬t.val % 11 = 10 := by omega
  rw [st_A m c t acc h0 h1]
  refine ⟨fun r l => ?_, fun r l => ?_, fun _ r l => ?_, fun h => absurd h h1⟩
  · dsimp only
    rw [pay6_apply, mixed_apply]
  · dsimp only
    rw [norm_apply]
  · dsimp only
    rw [tile_apply m c t _ _ (norm_apply m c t), pay2_apply, zero_add, h0]
    simp

/-- Every later point carries them on. -/
theorem inv_next (c : Dev nD) (t : Fin cfg0.N) (n : ℕ) (ht : t.val = n + 1) (h0 : ¬t.val % 11 = 0) (acc) (hi : Inv m c n acc) :
    Inv m c t.val (Value.stAt0 m c t.val t.isLt acc) := by
  obtain ⟨i0, i1, i2, -⟩ := hi
  have hr : ∀ r, rowOf n r = rowOf t.val r := fun r => by
    apply Fin.ext
    show (1024 * (n / 11) + r.val) % 16384 = (1024 * (t.val / 11) + r.val) % 16384
    rw [show n / 11 = t.val / 11 by omega]
  have hn : n % 11 + 1 = t.val % 11 := by omega
  simp only [hr, hn] at i0 i1 i2
  have i2 := i2 (by omega)
  by_cases h1 : t.val % 11 = 10
  · rw [st_C m c t acc h0 h1]
    refine ⟨i0, i1, fun h => absurd h1 h, fun _ r l => ?_⟩
    dsimp only
    rw [pay4_apply]
    simp only [tile_apply m c t _ _ i1, i0, i2, ← Finset.sum_range_succ, iblk11_apply]
    rw [h1]
    unfold res
    simp only [← sum_eleven_pad]
    rfl
  · rw [st_B m c t acc h0 h1]
    refine ⟨i0, i1, fun h r l => ?_, fun h => absurd h h1⟩
    dsimp only
    rw [tile_apply m c t _ _ i1, i2, ← Finset.sum_range_succ]

/-- So after every point. -/
theorem inv_all (c : Dev nD) : ∀ (n : ℕ) (h : 0 + n < cfg0.N),
    Inv m c (0 + n) (Pipeline.accAt (fun n h => Value.stAt0 m c n h Value.junk0) (Value.stAt0 m c) 0 n h)
  | 0, h => inv_first m c ⟨0 + 0, h⟩ rfl _
  | n + 1, h => by
    rw [Pipeline.accAt_succ]
    have ih := inv_all c n (Nat.lt_of_succ_lt h)
    by_cases h0 : (0 + (n + 1)) % 11 = 0
    · exact inv_first m c ⟨0 + (n + 1), h⟩ h0 _
    · exact inv_next m c ⟨0 + (n + 1), h⟩ (0 + n) rfl h0 _ ih

/-- The result array at an entry. -/
theorem G12_apply (c : Dev nD) (i : Fin 16384) (l : Fin 1024) :
    (Value.G12 m c : Vec Ideal S16384x1024 .f32) (ix2 i l) = res m c i l := by
  have hN : cfg0.N = 176 := N_0
  have hp : Value.pt12Of (ix2 i l) = 11 * (i.val / 1024) + 10 := by
    show 11 * (1 * (i.val / 1024 - 0) + 1 * (l.val / 1024 - 0)) + 10 = _
    omega
  unfold Value.G12
  rw [dif_pos (show Value.pt12Of (ix2 i l) < cfg0.N by rw [hp]; omega)]
  obtain ⟨-, -, -, h⟩ := inv_all m c (Value.pt12Of (ix2 i l)) (by rw [hp]; omega)
  have hl : Value.loc12Of (ix2 i l) = ix2 ⟨i.val % 1024, by omega⟩ ⟨l.val % 1024, by omega⟩ := by
    funext a
    match a with
    | ⟨0, _⟩ => rfl
    | ⟨1, _⟩ => rfl
  rw [hl, h (by rw [hp]; omega)]
  congr 1
  · apply Fin.ext
    show (1024 * ((0 + Value.pt12Of (ix2 i l)) / 11) + i.val % 1024) % 16384 = i.val
    rw [hp]
    omega
  · apply Fin.ext
    show l.val % 1024 = l.val
    omega

end Cert.Kernel2Ideal.Ffn

end
-- ==== Proof.Ffn2FinalRef.lean ====
/-
  The second feed-forward call, with the closing norm: the reference's result at an entry is the feed-forward formula of the mixed rows.
-/
module

public import proofs.«01_k».proof.Proof.MixMath
public import proofs.«01_k».proof.Proof.Gen.Reference2Ideal.Read

@[expose] public section

set_option maxRecDepth 16384

noncomputable section

namespace Cert.Reference2Ideal.Ffn

open Cert.Reference2Ideal Cert.Reference2Ideal.Read Idealize.ShloMosaic Idealize.ShloMosaic.TcCoe Cert.FfnMath Cert.MixMath

/-- The joined branch outputs at an entry. -/
theorem joined_apply (x1 x2 : (⟨S16384x384, .bf16⟩ : BufTy).Contents (Elt Ideal)) (x3 : (⟨S16384x256, .bf16⟩ : BufTy).Contents (Elt Ideal)) (i : Fin 16384) (j : Fin 1024) :
    val_main_v0 (F := Ideal) x1 x2 x3 (ix2 i j) = joined (fun k => x1 (ix2 i k)) (fun k => x2 (ix2 i k)) (fun k => x3 (ix2 i k)) j := by
  pointwise [val_main_v0, joined]
  by_cases h : j.val < 384
  · simp only [h, dif_pos]
  · by_cases h2 : j.val < 768
    · have h3 : j.val - 384 < 384 := by omega
      simp only [h, h2, h3, dif_pos, dif_neg, not_false_iff]
    · have h3 : ¬ j.val - 384 < 384 := by omega
      simp only [h, h2, h3, dif_neg, not_false_iff, Nat.sub_sub, Nat.reduceAdd]

/-- The reference's mixed row. -/
theorem mix_apply (x0 : (⟨S16384x1024, .f32⟩ : BufTy).Contents (Elt Ideal)) (x1 x2 : (⟨S16384x384, .bf16⟩ : BufTy).Contents (Elt Ideal)) (x3 : (⟨S16384x256, .bf16⟩ : BufTy).Contents (Elt Ideal)) (x4 : (⟨S1024x1024, .f32⟩ : BufTy).Contents (Elt Ideal)) (i : Fin 16384) (l : Fin 1024) :
    val_main_v3 (F := Ideal) x0 x1 x2 x3 x4 (ix2 i l) = mix (fun k => x0 (ix2 i k)) (fun k => x1 (ix2 i k)) (fun k => x2 (ix2 i k)) (fun k => x3 (ix2 i k)) (fun j l => x4 (ix2 j l)) l := by
  have h : val_main_v3 (F := Ideal) x0 x1 x2 x3 x4 (ix2 i l) = x0 (ix2 i l) + ∑ j : Fin 1024, val_main_v0 (F := Ideal) x1 x2 x3 (ix2 i j) * x4 (ix2 j l) := by
    pointwise [val_main_v3, val_main_v2, val_main_v1]
  rw [h]
  simp only [joined_apply]
  rfl

/-- The reference's normed row. -/
theorem norm_apply (x0 : (⟨S16384x1024, .f32⟩ : BufTy).Contents (Elt Ideal)) (x1 x2 : (⟨S16384x384, .bf16⟩ : BufTy).Contents (Elt Ideal)) (x3 : (⟨S16384x256, .bf16⟩ : BufTy).Contents (Elt Ideal)) (x4 : (⟨S1024x1024, .f32⟩ : BufTy).Contents (Elt Ideal)) (x5 : (⟨S1024, .f32⟩ : BufTy).Contents (Elt Ideal)) (i : Fin 16384) (l : Fin 1024) :
    val_main_v16 (F := Ideal) x0 x1 x2 x3 x4 x5 (ix2 i l)
      = nrm (fun k => val_main_v3 (F := Ideal) x0 x1 x2 x3 x4 (ix2 i k)) (fun k => x5 (ix1 k)) l := by
  pointwise [val_main_v16, val_main_v15, val_main_v14, val_main_v13, val_main_v12, val_main_v11, val_main_v10, val_main_v9, val_main_v8, val_main_v7, val_main_v6, val_main_v5, val_main_v4, val_main_cst, val_main_cst_0, val_main_cst_1, nrm]

/-- The reference's hidden units. -/
theorem act_apply (x0 : (⟨S16384x1024, .f32⟩ : BufTy).Contents (Elt Ideal)) (x1 x2 : (⟨S16384x384, .bf16⟩ : BufTy).Contents (Elt Ideal)) (x3 : (⟨S16384x256, .bf16⟩ : BufTy).Contents (Elt Ideal)) (x4 : (⟨S1024x1024, .f32⟩ : BufTy).Contents (Elt Ideal)) (x5 : (⟨S1024, .f32⟩ : BufTy).Contents (Elt Ideal)) (x6 x7 : (⟨S1024x2752, .f32⟩ : BufTy).Contents (Elt Ideal)) (i : Fin 16384) (p : Fin 2752) :
    val_main_v20 (F := Ideal) x0 x1 x2 x3 x4 x5 x6 x7 (ix2 i p)
      = act (fun k => val_main_v16 (F := Ideal) x0 x1 x2 x3 x4 x5 (ix2 i k)) (fun k => x6 (ix2 k p)) (fun k => x7 (ix2 k p)) := by
  pointwise [val_main_v20, val_main_v19, val_main_v18, val_main_v17, val_main_call0_v0, val_main_call0_v1, val_main_call0_v2, val_main_call0_v3, val_main_call0_v4, val_main_call0_v5, val_main_call0_cst, val_main_call0_cst_0, act]
  rw [zero_sub]

/-- The mixed row plus half the feed-forward sum. -/
theorem sum_apply (x0 : (⟨S16384x1024, .f32⟩ : BufTy).Contents (Elt Ideal)) (x1 x2 : (⟨S16384x384, .bf16⟩ : BufTy).Contents (Elt Ideal)) (x3 : (⟨S16384x256, .bf16⟩ : BufTy).Contents (Elt Ideal)) (x4 : (⟨S1024x1024, .f32⟩ : BufTy).Contents (Elt Ideal)) (x5 : (⟨S1024, .f32⟩ : BufTy).Contents (Elt Ideal)) (x6 x7 : (⟨S1024x2752, .f32⟩ : BufTy).Contents (Elt Ideal)) (x8 : (⟨S2752x1024, .f32⟩ : BufTy).Contents (Elt Ideal)) (i : Fin 16384) (l : Fin 1024) :
    val_main_v24 (F := Ideal) x0 x1 x2 x3 x4 x5 x6 x7 x8 (ix2 i l)
      = mix (fun k => x0 (ix2 i k)) (fun k => x1 (ix2 i k)) (fun k => x2 (ix2 i k)) (fun k => x3 (ix2 i k)) (fun j l => x4 (ix2 j l)) l + Ideal.ofBits FTy.f32 0x3F000000#32
        * ffn (nrm (mix (fun k => x0 (ix2 i k)) (fun k => x1 (ix2 i k)) (fun k => x2 (ix2 i k)) (fun k => x3 (ix2 i k)) (fun j l => x4 (ix2 j l))) (fun k => x5 (ix1 k))) (fun k p => x6 (ix2 k p)) (fun k p => x7 (ix2 k p)) (fun p l => x8 (ix2 p l)) l := by
  have h : val_main_v24 (F := Ideal) x0 x1 x2 x3 x4 x5 x6 x7 x8 (ix2 i l) = val_main_v3 (F := Ideal) x0 x1 x2 x3 x4 (ix2 i l) + Ideal.ofBits FTy.f32 0x3F000000#32
      * ∑ p : Fin 2752, val_main_v20 (F := Ideal) x0 x1 x2 x3 x4 x5 x6 x7 (ix2 i p) * x8 (ix2 p l) := by
    pointwise [val_main_v24, val_main_v23, val_main_v22, val_main_v21, val_main_cst_2]
  rw [h]
  simp only [act_apply, norm_apply, mix_apply]
  rfl

/-- The reference's result at an entry: that sum normed once more. -/
theorem out_apply (x0 : (⟨S16384x1024, .f32⟩ : BufTy).Contents (Elt Ideal)) (x1 x2 : (⟨S16384x384, .bf16⟩ : BufTy).Contents (Elt Ideal)) (x3 : (⟨S16384x256, .bf16⟩ : BufTy).Contents (Elt Ideal)) (x4 : (⟨S1024x1024, .f32⟩ : BufTy).Contents (Elt Ideal)) (x5 : (⟨S1024, .f32⟩ : BufTy).Contents (Elt Ideal)) (x6 x7 : (⟨S1024x2752, .f32⟩ : BufTy).Contents (Elt Ideal)) (x8 : (⟨S2752x1024, .f32⟩ : BufTy).Contents (Elt Ideal)) (x9 : (⟨S1024, .f32⟩ : BufTy).Contents (Elt Ideal)) (i : Fin 16384) (l : Fin 1024) :
    val_main_v37 (F := Ideal) x0 x1 x2 x3 x4 x5 x6 x7 x8 x9 (ix2 i l)
      = nrm (fun l => mix (fun k => x0 (ix2 i k)) (fun k => x1 (ix2 i k)) (fun k => x2 (ix2 i k)) (fun k => x3 (ix2 i k)) (fun j l => x4 (ix2 j l)) l + Ideal.ofBits FTy.f32 0x3F000000#32
        * ffn (nrm (mix (fun k => x0 (ix2 i k)) (fun k => x1 (ix2 i k)) (fun k => x2 (ix2 i k)) (fun k => x3 (ix2 i k)) (fun j l => x4 (ix2 j l))) (fun k => x5 (ix1 k))) (fun k p => x6 (ix2 k p)) (fun k p => x7 (ix2 k p)) (fun p l => x8 (ix2 p l)) l) (fun k => x9 (ix1 k)) l := by
  have h : val_main_v37 (F := Ideal) x0 x1 x2 x3 x4 x5 x6 x7 x8 x9 (ix2 i l)
      = nrm (fun l => val_main_v24 (F := Ideal) x0 x1 x2 x3 x4 x5 x6 x7 x8 (ix2 i l)) (fun k => x9 (ix1 k)) l := by
    pointwise [val_main_v37, val_main_v36, val_main_v35, val_main_v34, val_main_v33, val_main_v32, val_main_v31, val_main_v30, val_main_v29, val_main_v28, val_main_v27, val_main_v26, val_main_v25, val_main_cst_3, val_main_cst_4, val_main_cst_5, nrm]
  rw [h]
  simp only [sum_apply]

end Cert.Reference2Ideal.Ffn

end
-- ==== Proof.Ffn2Final.lean ====
/-
  The second feed-forward call, with the closing norm: its result array is the reference's, at every entry.
-/
module

public import proofs.«01_k».proof.Defs
public import proofs.«01_k».proof.Proof.Ffn2FinalValue
public import proofs.«01_k».proof.Proof.Ffn2FinalRef
public import proofs.«01_k».proof.Proof.Gen.Reference2Ideal.Run

@[expose] public section

set_option maxRecDepth 16384

noncomputable section

namespace Cert.Ffn2Final

open Idealize.ShloMosaic Idealize.ShloMosaic.TcCoe Idealize.SL.Sem

/-- The second feed-forward call, with the closing norm computes its reference over the extended reals. -/
theorem algebraic : Cert.algebraic_Kernel2Ideal_Reference2Ideal := by
  intro m ρ m' ρ' _ hagree
  refine ⟨fun c => Cert.Kernel2Ideal.Value.G12 m c, Cert.Kernel2Ideal.Value.run (F := Ideal) m ρ, ?_⟩
  refine (θ_run Cert.Reference2Ideal.defs _ _).mono (fun _ h c => ?_) (Cert.Reference2Ideal.Value.run (F := Ideal) m' ρ')
  refine ⟨(h c).1.trans ?_, (h c).2⟩
  rw [Cert.Reference2Ideal.Read.val_main_v37_eq]
  funext i
  obtain ⟨a, b, rfl⟩ : ∃ (a : Fin 16384) (b : Fin 1024), i = ix2 a b := ⟨i 0, i 1, by
    funext k
    match k with
    | ⟨0, _⟩ => rfl
    | ⟨1, _⟩ => rfl⟩
  refine (Cert.Reference2Ideal.Ffn.out_apply _ _ _ _ _ _ _ _ _ _ a b).trans (Eq.trans ?_ (Cert.Kernel2Ideal.Ffn.G12_apply m c a b).symm)
  obtain ⟨h0, h1, h2, h3, h4, h5, h6, h7, h8, h9⟩ := hagree c
  rw [h0, h1, h2, h3, h4, h5, h6, h7, h8, h9]
  rfl

end Cert.Ffn2Final

end
-- ==== Proof.Ffn1Case.lean ====
/-
  The first feed-forward call, one grid point at a time: what each of the three cases of the body
  (first tile of a row block, a tile in between, the last tile) leaves in the output block and in the
  two scratch blocks, as the body's own arithmetic of the blocks it reads.
-/
module

public import proofs.«01_k».proof.Proof.Gen.Kernel3Ideal.Value
public import Idealize.ShloMosaic.Lib.Tactic

@[expose] public section

set_option maxRecDepth 16384

noncomputable section

namespace Cert.Kernel3Ideal.Ffn

open Cert.Kernel3Ideal Cert.Kernel3Ideal.Gen Idealize.ShloMosaic Idealize.ShloMosaic.TcCoe Idealize.SL.Sem

variable {F : FTy → Type} [FloatOps F]

/-- The literal zero offsets are the zero function. -/
theorem hz : (![0, 0] : Fin 2 → Nat) = fun _ => 0 := funext fun a => by fin_cases a <;> rfl

/-- The first tile leaves in the first scratch the block of `x`. -/
theorem s0_A (c : Dev nD) (i : grid0.Coords) (a2 h2 a3 h3 a4 h4 a5 h5 a6 h6 a7 h7 a8 h8 a9 h9 hc0 hc1)
    (x0 : Vec F S1024x1024 .f32) (x1 : Vec F S1x1024 .f32) (x2 x3 : Vec F S1024x256 .bf16) (x4 : Vec F S256x1024 .bf16) :
    sout0_A_0 c i a2 h2 a3 h3 a4 h4 a5 h5 a6 h6 a7 h7 a8 h8 a9 h9 hc0 hc1 x0 x1 x2 x3 x4 = k0_pay1 x0 := by
  unfold sout0_A_0
  rw [View.read_writes_eq_canon _ _ _ (scover0_A_0 c i a2 h2 a3 h3 a4 h4 a5 h5 a6 h6 a7 h7 a8 h8 a9 h9 hc0 hc1 x0 x1 x2 x3 x4)]
  unfold kernelRun0_A
  dsimp only
  sl_unfold_words
  rw [View.canon_unit_zero hz]
  simp only [View.readAt_eq_ld, h2.read_unread, View.ld_unit_zero (S := S1024x1024) hz, shapeCast_self]

/-- The first tile leaves in the second scratch the normed block. -/
theorem s1_A (c : Dev nD) (i : grid0.Coords) (a2 h2 a3 h3 a4 h4 a5 h5 a6 h6 a7 h7 a8 h8 a9 h9 hc0 hc1)
    (x0 : Vec F S1024x1024 .f32) (x1 : Vec F S1x1024 .f32) (x2 x3 : Vec F S1024x256 .bf16) (x4 : Vec F S256x1024 .bf16) :
    sout0_A_1 c i a2 h2 a3 h3 a4 h4 a5 h5 a6 h6 a7 h7 a8 h8 a9 h9 hc0 hc1 x0 x1 x2 x3 x4 = k0_pay2 x0 x1 := by
  unfold sout0_A_1
  rw [View.read_writes_eq_canon _ _ _ (scover0_A_1 c i a2 h2 a3 h3 a4 h4 a5 h5 a6 h6 a7 h7 a8 h8 a9 h9 hc0 hc1 x0 x1 x2 x3 x4)]
  unfold kernelRun0_A
  dsimp only
  sl_unfold_words
  rw [View.canon_unit_zero hz]
  simp only [View.readAt_eq_ld, h2.read_unread, h3.read_unread, View.ld_unit_zero (S := S1024x1024) hz, View.ld_unit_zero (S := S1x1024) hz, shapeCast_self]

/-- The first tile leaves in the output block its own product, added to the zero block. -/
theorem out_A (c : Dev nD) (i : grid0.Coords) (a2 h2 a3 h3 a4 h4 a5 h5 a6 h6 a7 h7 a8 h8 a9 h9 hc0 hc1)
    (x0 : Vec F S1024x1024 .f32) (x1 : Vec F S1x1024 .f32) (x2 x3 : Vec F S1024x256 .bf16) (x4 : Vec F S256x1024 .bf16) :
    out0_A_5 c i a2 h2 a3 h3 a4 h4 a5 h5 a6 h6 a7 h7 a8 h8 a9 h9 hc0 hc1 x0 x1 x2 x3 x4
      = k0_pay4 (k0_pay2 x0 x1) x2 x3 k0_pay3 x4 := by
  unfold out0_A_5
  rw [View.read_writes_eq_canon _ _ _ (cover0_A_5 c i a2 h2 a3 h3 a4 h4 a5 h5 a6 h6 a7 h7 a8 h8 a9 h9 hc0 hc1 x0 x1 x2 x3 x4)]
  unfold kernelRun0_A
  dsimp only
  sl_unfold_words
  rw [View.canon_cons_unit_zero (S := S1024x1024) hz, View.readCov_unit_zero (S := S1024x1024) _ hz, View.readCov_unit_zero (S := S1024x1024) _ hz]
  simp only [View.readAt_eq_ld, h2.read_unread, h3.read_unread, h4.read_unread, h5.read_unread, h6.read_unread, View.ld_unit_zero (S := S1024x1024) hz, View.ld_unit_zero (S := S1x1024) hz, View.ld_unit_zero (S := S1024x256) hz, View.ld_unit_zero (S := S256x1024) hz, shapeCast_self]

/-- A tile in between adds its product to the output block. -/
theorem out_B (c : Dev nD) (i : grid0.Coords) (a2 h2 a3 h3 a4 h4 a5 h5 a6 h6 a7 h7 a8 h8 a9 h9 hc0 hc1)
    (x0 : Vec F S1024x1024 .f32) (x1 : Vec F S1x1024 .f32) (x2 x3 : Vec F S1024x256 .bf16) (x4 : Vec F S256x1024 .bf16)
    (xo s0 : Vec F S1024x1024 .f32) (s1 : Vec F S1024x1024 .bf16) :
    out0_B_5 c i a2 h2 a3 h3 a4 h4 a5 h5 a6 h6 a7 h7 a8 h8 a9 h9 hc0 hc1 x0 x1 x2 x3 x4 xo s0 s1
      = k0_pay4 s1 x2 x3 xo x4 := by
  unfold out0_B_5
  rw [View.read_writes_eq_canon _ _ _ (cover0_B_5 c i a2 h2 a3 h3 a4 h4 a5 h5 a6 h6 a7 h7 a8 h8 a9 h9 hc0 hc1 x0 x1 x2 x3 x4 xo s0 s1)]
  unfold kernelRun0_B
  dsimp only
  sl_unfold_words
  rw [View.canon_unit_zero hz]
  simp only [View.readAt_eq_ld, h2.read_unread, h3.read_unread, h4.read_unread, h5.read_unread, h6.read_unread, h7.read_unread, h8.read_unread, h9.read_unread, View.ld_unit_zero (S := S1024x1024) hz, View.ld_unit_zero (S := S1x1024) hz, View.ld_unit_zero (S := S1024x256) hz, View.ld_unit_zero (S := S256x1024) hz, shapeCast_self]

/-- The last tile adds its product and then closes the block: the kept `x` plus half the sum. -/
theorem out_C (c : Dev nD) (i : grid0.Coords) (a2 h2 a3 h3 a4 h4 a5 h5 a6 h6 a7 h7 a8 h8 a9 h9 hc0 hc1)
    (x0 : Vec F S1024x1024 .f32) (x1 : Vec F S1x1024 .f32) (x2 x3 : Vec F S1024x256 .bf16) (x4 : Vec F S256x1024 .bf16)
    (xo s0 : Vec F S1024x1024 .f32) (s1 : Vec F S1024x1024 .bf16) :
    out0_C_5 c i a2 h2 a3 h3 a4 h4 a5 h5 a6 h6 a7 h7 a8 h8 a9 h9 hc0 hc1 x0 x1 x2 x3 x4 xo s0 s1
      = k0_pay5 s0 (k0_pay4 s1 x2 x3 xo x4) := by
  unfold out0_C_5
  rw [View.read_writes_eq_canon _ _ _ (cover0_C_5 c i a2 h2 a3 h3 a4 h4 a5 h5 a6 h6 a7 h7 a8 h8 a9 h9 hc0 hc1 x0 x1 x2 x3 x4 xo s0 s1)]
  unfold kernelRun0_C
  dsimp only
  sl_unfold_words
  rw [View.canon_cons_unit_zero (S := S1024x1024) hz, View.readCov_unit_zero (S := S1024x1024) _ hz]
  simp only [View.readAt_eq_ld, h2.read_unread, h3.read_unread, h4.read_unread, h5.read_unread, h6.read_unread, h7.read_unread, h8.read_unread, h9.read_unread, View.ld_unit_zero (S := S1024x1024) hz, View.ld_unit_zero (S := S1x1024) hz, View.ld_unit_zero (S := S1024x256) hz, View.ld_unit_zero (S := S256x1024) hz, shapeCast_self]

variable (m : (ℓ : Loc nD τ sig) → Buf (Elt F) ℓ)

/-- The three carried blocks after a row block's first point. -/
theorem st_A (c : Dev nD) (t : Fin cfg0.N) (acc) (h0 : t.val % 11 = 0) (h1 : ¬t.val % 11 = 10) :
    Value.stAt0 m c t.val t.isLt acc
      = (k0_pay4 (k0_pay2 (iblk m c 0 t) (iblk m c 1 t)) (iblk m c 2 t) (iblk m c 3 t) k0_pay3 (iblk m c 4 t),
          k0_pay1 (iblk m c 0 t), k0_pay2 (iblk m c 0 t) (iblk m c 1 t)) := by
  rw [Value.stAt0_A m c t acc h0 h1, out_A, s0_A, s1_A]

/-- The three carried blocks after a point in between. -/
theorem st_B (c : Dev nD) (t : Fin cfg0.N) (acc) (h0 : ¬t.val % 11 = 0) (h1 : ¬t.val % 11 = 10) :
    Value.stAt0 m c t.val t.isLt acc
      = (k0_pay4 acc.2.2 (iblk m c 2 t) (iblk m c 3 t) acc.1 (iblk m c 4 t), acc.2.1, acc.2.2) := by
  rw [Value.stAt0_B m c t acc h0 h1, out_B, sout0_B_0, sout0_B_1]

/-- The three carried blocks after a row block's last point. -/
theorem st_C (c : Dev nD) (t : Fin cfg0.N) (acc) (h0 : ¬t.val % 11 = 0) (h1 : t.val % 11 = 10) :
    Value.stAt0 m c t.val t.isLt acc
      = (k0_pay5 acc.2.1 (k0_pay4 acc.2.2 (iblk m c 2 t) (iblk m c 3 t) acc.1 (iblk m c 4 t)), acc.2.1, acc.2.2) := by
  rw [Value.stAt0_C m c t acc h0 h1, out_C, sout0_C_0, sout0_C_1]

end Cert.Kernel3Ideal.Ffn

end
-- ==== Proof.Ffn1Value.lean ====
/-
  The first feed-forward call: what its result array ends holding, entry by entry, as the feed-forward
  formula of the arguments. The blocks read at a point are entries of the arguments; along one row block the
  kept scratches hold the rows and the normed rows, and the output block the tiles added so far.
-/
module

public import proofs.«01_k».proof.Proof.Ffn1Case
public import proofs.«01_k».proof.Proof.FfnMath

@[expose] public section

set_option maxRecDepth 16384

noncomputable section

namespace Cert.Kernel3Ideal.Ffn

open Cert.Kernel3Ideal Cert.Kernel3Ideal.Gen Idealize.ShloMosaic Idealize.ShloMosaic.TcCoe Idealize.SL.Sem Cert.FfnMath

/-! ## The body's arithmetic at an entry -/

/-- The normed block at an entry. -/
theorem pay2_apply (x : Vec Ideal S1024x1024 .f32) (g : Vec Ideal S1x1024 .f32) (r l : Fin 1024) :
    k0_pay2 x g (ix2 r l) = nrm (fun k => x (ix2 r k)) (fun k => g (ix2 0 k)) l := by
  pointwise [k0_pay2, nrm]

/-- One tile's product added to a block, at an entry. -/
theorem pay4_apply (h : Vec Ideal S1024x1024 .bf16) (w u : Vec Ideal S1024x256 .bf16) (d : Vec Ideal S256x1024 .bf16)
    (o : Vec Ideal S1024x1024 .f32) (r l : Fin 1024) :
    k0_pay4 h w u o d (ix2 r l) = o (ix2 r l)
      + ∑ f : Fin 256, act (fun k => h (ix2 r k)) (fun k => w (ix2 k f)) (fun k => u (ix2 k f)) * d (ix2 f l) := by
  pointwise [k0_pay4, act]

/-- The closing sum at an entry. -/
theorem pay5_apply (x o : Vec Ideal S1024x1024 .f32) (r l : Fin 1024) :
    k0_pay5 x o (ix2 r l) = x (ix2 r l) + Ideal.ofBits FTy.f32 0x3F000000#32 * o (ix2 r l) := by
  pointwise [k0_pay5]

/-- The zero block at an entry. -/
theorem pay3_apply (r l : Fin 1024) : k0_pay3 (F := Ideal) (ix2 r l) = 0 := by
  pointwise [k0_pay3]

/-- The kept block at an entry. -/
theorem pay1_apply (x : Vec Ideal S1024x1024 .f32) (r l : Fin 1024) : k0_pay1 x (ix2 r l) = x (ix2 r l) := by
  pointwise [k0_pay1]

variable (m : (ℓ : Loc nD τ sig) → Buf (Elt Ideal) ℓ)

/-! ## The arguments by entry -/

/-- Row `i` of `x`. -/
def xrow (c : Dev nD) (i : Fin 16384) (k : Fin 1024) : EReal := (m ((c : Thread nD τ).loc main_arg0) : Vec Ideal S16384x1024 .f32) (ix2 i k)
/-- The norm's scale. -/
def gn (c : Dev nD) (k : Fin 1024) : EReal := (m ((c : Thread nD τ).loc main_arg1) : Vec Ideal S1024 .f32) (ix1 k)
/-- The gate weights. -/
def wg (c : Dev nD) (k : Fin 1024) (p : Fin 2752) : EReal := (m ((c : Thread nD τ).loc main_arg2) : Vec Ideal S1024x2752 .f32) (ix2 k p)
/-- The up weights. -/
def wu (c : Dev nD) (k : Fin 1024) (p : Fin 2752) : EReal := (m ((c : Thread nD τ).loc main_arg3) : Vec Ideal S1024x2752 .f32) (ix2 k p)
/-- The down weights. -/
def wd (c : Dev nD) (p : Fin 2752) (l : Fin 1024) : EReal := (m ((c : Thread nD τ).loc main_arg4) : Vec Ideal S2752x1024 .f32) (ix2 p l)

/-! ## What the host hands the call -/

/-- The scale, as one row. -/
theorem V0_eq (c : Dev nD) :
    V m c main_v0 = shapeCast S1x1024 (m ((c : Thread nD τ).loc main_arg1) : Vec Ideal S1024 .f32) shapeCasts_S1024_S1x1024 := by
  unfold V
  simp only [hostOps0, hostOps0_1, hostOps0_2, hostOps0_3, hostOps0_4, hostOps0_5, hostOps0_6, List.flatten_cons, List.flatten_nil, List.append_nil, List.cons_append, List.nil_append]
  after_results
  rfl

/-- The gate weights, padded. -/
theorem V2_eq (c : Dev nD) :
    @Eq (FVec Ideal S1024x2816 .bf16) (V m c main_v2) <| truncf (F := Ideal) .bf16 (pad S1024x2816 ![0, 0] ![0, 64] ![0, 0] (m ((c : Thread nD τ).loc main_arg2) : Vec Ideal S1024x2752 .f32)
      (sitofp .f32 (constantI S_ 32 0#32)) pads_S1024x2752_S1024x2816_000_0640 h_S_) bitsLt_bf16_f32 := by
  unfold V
  simp only [hostOps0, hostOps0_1, hostOps0_2, hostOps0_3, hostOps0_4, hostOps0_5, hostOps0_6, List.flatten_cons, List.flatten_nil, List.append_nil, List.cons_append, List.nil_append]
  after_results
  rfl

/-- The up weights, padded. -/
theorem V4_eq (c : Dev nD) :
    @Eq (FVec Ideal S1024x2816 .bf16) (V m c main_v4) <| truncf (F := Ideal) .bf16 (pad S1024x2816 ![0, 0] ![0, 64] ![0, 0] (m ((c : Thread nD τ).loc main_arg3) : Vec Ideal S1024x2752 .f32)
      (sitofp .f32 (constantI S_ 32 0#32)) pads_S1024x2752_S1024x2816_000_0640 h_S_) bitsLt_bf16_f32 := by
  unfold V
  simp only [hostOps0, hostOps0_1, hostOps0_2, hostOps0_3, hostOps0_4, hostOps0_5, hostOps0_6, List.flatten_cons, List.flatten_nil, List.append_nil, List.cons_append, List.nil_append]
  after_results
  rfl

/-- The down weights, padded. -/
theorem V6_eq (c : Dev nD) :
    @Eq (FVec Ideal S2816x1024 .bf16) (V m c main_v6) <| truncf (F := Ideal) .bf16 (pad S2816x1024 ![0, 0] ![64, 0] ![0, 0] (m ((c : Thread nD τ).loc main_arg4) : Vec Ideal S2752x1024 .f32)
      (sitofp .f32 (constantI S_ 32 0#32)) pads_S2752x1024_S2816x1024_0640_000 h_S_) bitsLt_bf16_f32 := by
  unfold V
  simp only [hostOps0, hostOps0_1, hostOps0_2, hostOps0_3, hostOps0_4, hostOps0_5, hostOps0_6, List.flatten_cons, List.flatten_nil, List.append_nil, List.cons_append, List.nil_append]
  after_results
  rfl

/-- The scale row at an entry. -/
theorem V0_apply (c : Dev nD) (k : Fin 1024) : (V m c main_v0 : Vec Ideal S1x1024 .f32) (ix2 0 k) = gn m c k := by
  rw [V0_eq]
  unfold gn
  pointwise

/-- The padded gate weights at an entry. -/
theorem V2_apply (c : Dev nD) (k : Fin 1024) (p : Fin 2816) :
    (V m c main_v2 : Vec Ideal S1024x2816 .bf16) (ix2 k p) = padCol (wg m c) k p.val :=
  (congrFun (V2_eq m c) _).trans (pad_cols _ pads_S1024x2752_S1024x2816_000_0640 h_S_ k p)

/-- The padded up weights at an entry. -/
theorem V4_apply (c : Dev nD) (k : Fin 1024) (p : Fin 2816) :
    (V m c main_v4 : Vec Ideal S1024x2816 .bf16) (ix2 k p) = padCol (wu m c) k p.val :=
  (congrFun (V4_eq m c) _).trans (pad_cols _ pads_S1024x2752_S1024x2816_000_0640 h_S_ k p)

/-- The padded down weights at an entry. -/
theorem V6_apply (c : Dev nD) (p : Fin 2816) (l : Fin 1024) :
    (V m c main_v6 : Vec Ideal S2816x1024 .bf16) (ix2 p l) = padRow (wd m c) l p.val :=
  (congrFun (V6_eq m c) _).trans (pad_rows _ pads_S2752x1024_S2816x1024_0640_000 h_S_ p l)

/-! ## The blocks read at a point -/

/-- The block index of window 0. -/
theorem idx0 : ∀ t : Fin cfg0.N, win0_0.index t 0 = t.val / 11 ∧ win0_0.index t 1 = 0 := by decide +kernel
/-- The block index of window 1. -/
theorem idx1 : ∀ t : Fin cfg0.N, win0_1.index t 0 = 0 ∧ win0_1.index t 1 = 0 := by decide +kernel
/-- The block index of window 2. -/
theorem idx2 : ∀ t : Fin cfg0.N, win0_2.index t 0 = 0 ∧ win0_2.index t 1 = t.val % 11 := by decide +kernel
/-- The block index of window 3. -/
theorem idx3 : ∀ t : Fin cfg0.N, win0_3.index t 0 = 0 ∧ win0_3.index t 1 = t.val % 11 := by decide +kernel
/-- The block index of window 4. -/
theorem idx4 : ∀ t : Fin cfg0.N, win0_4.index t 0 = t.val % 11 ∧ win0_4.index t 1 = 0 := by decide +kernel

/-- The row of `x` that row `r` of the block at point `n` is. -/
def rowOf (n : ℕ) (r : Fin 1024) : Fin 16384 := ⟨(1024 * (n / 11) + r.val) % 16384, Nat.mod_lt _ (by norm_num)⟩

/-- The rows of `x` read at a point. -/
theorem iblk0_apply (c : Dev nD) (t : Fin cfg0.N) (r l : Fin 1024) :
    (iblk m c 0 t : Vec Ideal S1024x1024 .f32) (ix2 r l) = xrow m c (rowOf t.val r) l := by
  have hN : cfg0.N = 176 := N_0
  have ht := t.isLt
  unfold iblk
  rw [View.read_apply]
  show V m c main_arg0 _ = _
  rw [V_main_arg0]
  unfold xrow
  congr 1
  funext a
  apply Fin.ext
  match a with
  | ⟨0, _⟩ => show win0_0.index t 0 * 1024 + 1 * r.val = (1024 * (t.val / 11) + r.val) % 16384; rw [(idx0 t).1]; omega
  | ⟨1, _⟩ => show win0_0.index t 1 * 1024 + 1 * l.val = l.val; rw [(idx0 t).2]; omega

/-- The scale read at a point. -/
theorem iblk1_apply (c : Dev nD) (t : Fin cfg0.N) (k : Fin 1024) :
    (iblk m c 1 t : Vec Ideal S1x1024 .f32) (ix2 0 k) = gn m c k := by
  unfold iblk
  rw [View.read_apply, ← V0_apply]
  show V m c main_v0 _ = V m c main_v0 _
  congr 1
  funext a
  apply Fin.ext
  match a with
  | ⟨0, _⟩ => show win0_1.index t 0 * 1 + 1 * 0 = 0; rw [(idx1 t).1]
  | ⟨1, _⟩ => show win0_1.index t 1 * 1024 + 1 * k.val = k.val; rw [(idx1 t).2]; omega

/-- The tile of the gate weights read at a point. -/
theorem iblk2_apply (c : Dev nD) (t : Fin cfg0.N) (k : Fin 1024) (f : Fin 256) :
    (iblk m c 2 t : Vec Ideal S1024x256 .bf16) (ix2 k f) = padCol (wg m c) k (256 * (t.val % 11) + f.val) := by
  unfold iblk
  rw [View.read_apply]
  refine Eq.trans ?_ (V2_apply m c k ⟨256 * (t.val % 11) + f.val, by omega⟩)
  show V m c main_v2 _ = V m c main_v2 _
  congr 1
  funext a
  apply Fin.ext
  match a with
  | ⟨0, _⟩ => show win0_2.index t 0 * 1024 + 1 * k.val = k.val; rw [(idx2 t).1]; omega
  | ⟨1, _⟩ => show win0_2.index t 1 * 256 + 1 * f.val = 256 * (t.val % 11) + f.val; rw [(idx2 t).2]; omega

/-- The tile of the up weights read at a point. -/
theorem iblk3_apply (c : Dev nD) (t : Fin cfg0.N) (k : Fin 1024) (f : Fin 256) :
    (iblk m c 3 t : Vec Ideal S1024x256 .bf16) (ix2 k f) = padCol (wu m c) k (256 * (t.val % 11) + f.val) := by
  unfold iblk
  rw [View.read_apply]
  refine Eq.trans ?_ (V4_apply m c k ⟨256 * (t.val % 11) + f.val, by omega⟩)
  show V m c main_v4 _ = V m c main_v4 _
  congr 1
  funext a
  apply Fin.ext
  match a with
  | ⟨0, _⟩ => show win0_3.index t 0 * 1024 + 1 * k.val = k.val; rw [(idx3 t).1]; omega
  | ⟨1, _⟩ => show win0_3.index t 1 * 256 + 1 * f.val = 256 * (t.val % 11) + f.val; rw [(idx3 t).2]; omega

/-- The tile of the down weights read at a point. -/
theorem iblk4_apply (c : Dev nD) (t : Fin cfg0.N) (f : Fin 256) (l : Fin 1024) :
    (iblk m c 4 t : Vec Ideal S256x1024 .bf16) (ix2 f l) = padRow (wd m c) l (256 * (t.val % 11) + f.val) := by
  unfold iblk
  rw [View.read_apply]
  refine Eq.trans ?_ (V6_apply m c ⟨256 * (t.val % 11) + f.val, by omega⟩ l)
  show V m c main_v6 _ = V m c main_v6 _
  congr 1
  funext a
  apply Fin.ext
  match a with
  | ⟨0, _⟩ => show win0_4.index t 0 * 256 + 1 * f.val = 256 * (t.val % 11) + f.val; rw [(idx4 t).1]; omega
  | ⟨1, _⟩ => show win0_4.index t 1 * 1024 + 1 * l.val = l.val; rw [(idx4 t).2]; omega

/-! ## Along one row block -/

/-- The normed row. -/
def hrow (c : Dev nD) (i : Fin 16384) (k : Fin 1024) : EReal := nrm (xrow m c i) (gn m c) k

/-- The tiles of a row, at an output column. -/
def tl (c : Dev nD) (i : Fin 16384) (l : Fin 1024) (s : ℕ) : EReal := tile (hrow m c i) (padCol (wg m c)) (padCol (wu m c)) (padRow (wd m c) l) s

/-- The result at an entry. -/
def res (c : Dev nD) (i : Fin 16384) (l : Fin 1024) : EReal :=
  xrow m c i l + Ideal.ofBits FTy.f32 0x3F000000#32 * ffn (hrow m c i) (wg m c) (wu m c) (wd m c) l

/-- What the carried blocks hold after point `n`. -/
def Inv (c : Dev nD) (n : ℕ) (acc : Vec Ideal S1024x1024 .f32 × Vec Ideal S1024x1024 .f32 × Vec Ideal S1024x1024 .bf16) : Prop :=
  (∀ r l : Fin 1024, acc.2.1 (ix2 r l) = xrow m c (rowOf n r) l)
  ∧ (∀ r l : Fin 1024, acc.2.2 (ix2 r l) = hrow m c (rowOf n r) l)
  ∧ (n % 11 ≠ 10 → ∀ r l : Fin 1024, acc.1 (ix2 r l) = ∑ s ∈ Finset.range (n % 11 + 1), tl m c (rowOf n r) l s)
  ∧ (n % 11 = 10 → ∀ r l : Fin 1024, acc.1 (ix2 r l) = res m c (rowOf n r) l)

/-- One tile's product at a point, when the block holds the normed rows. -/
theorem tile_apply (c : Dev nD) (t : Fin cfg0.N) (h : Vec Ideal S1024x1024 .bf16) (o : Vec Ideal S1024x1024 .f32)
    (hh : ∀ r l : Fin 1024, h (ix2 r l) = hrow m c (rowOf t.val r) l) (r l : Fin 1024) :
    k0_pay4 h (iblk m c 2 t : Vec Ideal S1024x256 .bf16) (iblk m c 3 t : Vec Ideal S1024x256 .bf16) o (iblk m c 4 t : Vec Ideal S256x1024 .bf16) (ix2 r l)
      = o (ix2 r l) + tl m c (rowOf t.val r) l (t.val % 11) := by
  rw [pay4_apply]
  unfold tl tile
  refine congrArg (o (ix2 r l) + ·) (Finset.sum_congr rfl fun f _ => ?_)
  simp only [iblk2_apply, iblk3_apply, iblk4_apply, hh]
  rfl

/-- The normed block at a point. -/
theorem norm_apply (c : Dev nD) (t : Fin cfg0.N) (r l : Fin 1024) :
    k0_pay2 (iblk m c 0 t : Vec Ideal S1024x1024 .f32) (iblk m c 1 t : Vec Ideal S1x1024 .f32) (ix2 r l) = hrow m c (rowOf t.val r) l := by
  rw [pay2_apply]
  simp only [iblk0_apply, iblk1_apply]
  rfl

/-- A row block's first point sets the blocks up. -/
theorem inv_first (c : Dev nD) (t : Fin cfg0.N) (h0 : t.val % 11 = 0) (acc) : Inv m c t.val (Value.stAt0 m c t.val t.isLt acc) := by
  have h1 : ¬t.val % 11 = 10 := by omega
  rw [st_A m c t acc h0 h1]
  refine ⟨fun r l => ?_, fun r l => ?_, fun _ r l => ?_, fun h => absurd h h1⟩
  · dsimp only
    rw [pay1_apply, iblk0_apply]
  · dsimp only
    rw [norm_apply]
  · dsimp only
    rw [tile_apply m c t _ _ (norm_apply m c t), pay3_apply, zero_add, h0]
    simp

/-- Every later point carries them on. -/
theorem inv_next (c : Dev nD) (t : Fin cfg0.N) (n : ℕ) (ht : t.val = n + 1) (h0 : ¬t.val % 11 = 0) (acc) (hi : Inv m c n acc) :
    Inv m c t.val (Value.stAt0 m c t.val t.isLt acc) := by
  obtain ⟨i0, i1, i2, -⟩ := hi
  have hr : ∀ r, rowOf n r = rowOf t.val r := fun r => by
    apply Fin.ext
    show (1024 * (n / 11) + r.val) % 16384 = (1024 * (t.val / 11) + r.val) % 16384
    rw [show n / 11 = t.val / 11 by omega]
  have hn : n % 11 + 1 = t.val % 11 := by omega
  simp only [hr, hn] at i0 i1 i2
  have i2 := i2 (by omega)
  by_cases h1 : t.val % 11 = 10
  · rw [st_C m c t acc h0 h1]
    refine ⟨i0, i1, fun h => absurd h1 h, fun _ r l => ?_⟩
    dsimp only
    rw [pay5_apply, tile_apply m c t _ _ i1, i0, i2, ← Finset.sum_range_succ, h1]
    unfold res
    rw [← sum_eleven_pad]
    rfl
  · rw [st_B m c t acc h0 h1]
    refine ⟨i0, i1, fun h r l => ?_, fun h => absurd h h1⟩
    dsimp only
    rw [tile_apply m c t _ _ i1, i2, ← Finset.sum_range_succ]

/-- So after every point. -/
theorem inv_all (c : Dev nD) : ∀ (n : ℕ) (h : 0 + n < cfg0.N),
    Inv m c (0 + n) (Pipeline.accAt (fun n h => Value.stAt0 m c n h Value.junk0) (Value.stAt0 m c) 0 n h)
  | 0, h => inv_first m c ⟨0 + 0, h⟩ rfl _
  | n + 1, h => by
    rw [Pipeline.accAt_succ]
    have ih := inv_all c n (Nat.lt_of_succ_lt h)
    by_cases h0 : (0 + (n + 1)) % 11 = 0
    · exact inv_first m c ⟨0 + (n + 1), h⟩ h0 _
    · exact inv_next m c ⟨0 + (n + 1), h⟩ (0 + n) rfl h0 _ ih

/-- The result array at an entry. -/
theorem G5_apply (c : Dev nD) (i : Fin 16384) (l : Fin 1024) :
    (Value.G5 m c : Vec Ideal S16384x1024 .f32) (ix2 i l) = res m c i l := by
  have hN : cfg0.N = 176 := N_0
  have hp : Value.pt5Of (ix2 i l) = 11 * (i.val / 1024) + 10 := by
    show 11 * (1 * (i.val / 1024 - 0) + 1 * (l.val / 1024 - 0)) + 10 = _
    omega
  unfold Value.G5
  rw [dif_pos (show Value.pt5Of (ix2 i l) < cfg0.N by rw [hp]; omega)]
  obtain ⟨-, -, -, h⟩ := inv_all m c (Value.pt5Of (ix2 i l)) (by rw [hp]; omega)
  have hl : Value.loc5Of (ix2 i l) = ix2 ⟨i.val % 1024, by omega⟩ ⟨l.val % 1024, by omega⟩ := by
    funext a
    match a with
    | ⟨0, _⟩ => rfl
    | ⟨1, _⟩ => rfl
  rw [hl, h (by rw [hp]; omega)]
  congr 1
  · apply Fin.ext
    show (1024 * ((0 + Value.pt5Of (ix2 i l)) / 11) + i.val % 1024) % 16384 = i.val
    rw [hp]
    omega
  · apply Fin.ext
    show l.val % 1024 = l.val
    omega

end Cert.Kernel3Ideal.Ffn

end
-- ==== Proof.Ffn1Ref.lean ====
/-
  The first feed-forward call: the reference's result at an entry is the feed-forward formula, and so the
  call's result array is the reference's.
-/
module

public import proofs.«01_k».proof.Proof.FfnMath
public import proofs.«01_k».proof.Proof.Gen.Reference3Ideal.Read

@[expose] public section

set_option maxRecDepth 16384

noncomputable section

namespace Cert.Reference3Ideal.Ffn

open Cert.Reference3Ideal Cert.Reference3Ideal.Read Idealize.ShloMosaic Idealize.ShloMosaic.TcCoe Cert.FfnMath

/-- The reference's normed row. -/
theorem norm_apply (x0 : (⟨S16384x1024, .f32⟩ : BufTy).Contents (Elt Ideal)) (x1 : (⟨S1024, .f32⟩ : BufTy).Contents (Elt Ideal)) (i : Fin 16384) (l : Fin 1024) :
    val_main_v12 (F := Ideal) x0 x1 (ix2 i l) = nrm (fun k => x0 (ix2 i k)) (fun k => x1 (ix1 k)) l := by
  pointwise [val_main_v12, val_main_v11, val_main_v10, val_main_v9, val_main_v8, val_main_v7, val_main_v6, val_main_v5, val_main_v4, val_main_v3, val_main_v2, val_main_v1, val_main_v0, val_main_cst, val_main_cst_0, val_main_cst_1, nrm]

/-- The reference's hidden units. -/
theorem act_apply (x0 : (⟨S16384x1024, .f32⟩ : BufTy).Contents (Elt Ideal)) (x1 : (⟨S1024, .f32⟩ : BufTy).Contents (Elt Ideal))
    (x2 x3 : (⟨S1024x2752, .f32⟩ : BufTy).Contents (Elt Ideal)) (i : Fin 16384) (p : Fin 2752) :
    val_main_v16 (F := Ideal) x0 x1 x2 x3 (ix2 i p)
      = act (fun k => val_main_v12 (F := Ideal) x0 x1 (ix2 i k)) (fun k => x2 (ix2 k p)) (fun k => x3 (ix2 k p)) := by
  pointwise [val_main_v16, val_main_v15, val_main_v14, val_main_v13, val_main_call0_v0, val_main_call0_v1, val_main_call0_v2, val_main_call0_v3, val_main_call0_v4, val_main_call0_v5, val_main_call0_cst, val_main_call0_cst_0, act]
  rw [zero_sub]

/-- The reference's result at an entry. -/
theorem out_apply (x0 : (⟨S16384x1024, .f32⟩ : BufTy).Contents (Elt Ideal)) (x1 : (⟨S1024, .f32⟩ : BufTy).Contents (Elt Ideal))
    (x2 x3 : (⟨S1024x2752, .f32⟩ : BufTy).Contents (Elt Ideal)) (x4 : (⟨S2752x1024, .f32⟩ : BufTy).Contents (Elt Ideal)) (i : Fin 16384) (l : Fin 1024) :
    val_main_v20 (F := Ideal) x0 x1 x2 x3 x4 (ix2 i l)
      = x0 (ix2 i l) + Ideal.ofBits FTy.f32 0x3F000000#32
        * ffn (nrm (fun k => x0 (ix2 i k)) (fun k => x1 (ix1 k))) (fun k p => x2 (ix2 k p)) (fun k p => x3 (ix2 k p)) (fun p l => x4 (ix2 p l)) l := by
  have h : val_main_v20 (F := Ideal) x0 x1 x2 x3 x4 (ix2 i l) = x0 (ix2 i l) + Ideal.ofBits FTy.f32 0x3F000000#32
      * ∑ p : Fin 2752, val_main_v16 (F := Ideal) x0 x1 x2 x3 (ix2 i p) * x4 (ix2 p l) := by
    pointwise [val_main_v20, val_main_v19, val_main_v18, val_main_v17, val_main_cst_2]
  rw [h]
  simp only [act_apply, norm_apply]
  rfl

end Cert.Reference3Ideal.Ffn

end
-- ==== Proof.Ffn1.lean ====
/-
  The first feed-forward call: its result array is the reference's, at every entry.
-/
module

public import proofs.«01_k».proof.Defs
public import proofs.«01_k».proof.Proof.Ffn1Value
public import proofs.«01_k».proof.Proof.Ffn1Ref
public import proofs.«01_k».proof.Proof.Gen.Reference3Ideal.Run

@[expose] public section

set_option maxRecDepth 16384

noncomputable section

namespace Cert.Ffn1

open Idealize.ShloMosaic Idealize.ShloMosaic.TcCoe Idealize.SL.Sem

/-- The first feed-forward call computes its reference over the extended reals. -/
theorem algebraic : Cert.algebraic_Kernel3Ideal_Reference3Ideal := by
  intro m ρ m' ρ' _ hagree
  refine ⟨fun c => Cert.Kernel3Ideal.Value.G5 m c, Cert.Kernel3Ideal.Value.run (F := Ideal) m ρ, ?_⟩
  refine (θ_run Cert.Reference3Ideal.defs _ _).mono (fun _ h c => ?_) (Cert.Reference3Ideal.Value.run (F := Ideal) m' ρ')
  refine ⟨(h c).1.trans ?_, (h c).2⟩
  rw [Cert.Reference3Ideal.Read.val_main_v20_eq]
  funext i
  obtain ⟨a, b, rfl⟩ : ∃ (a : Fin 16384) (b : Fin 1024), i = ix2 a b := ⟨i 0, i 1, by
    funext k
    match k with
    | ⟨0, _⟩ => rfl
    | ⟨1, _⟩ => rfl⟩
  refine (Cert.Reference3Ideal.Ffn.out_apply _ _ _ _ _ a b).trans (Eq.trans ?_ (Cert.Kernel3Ideal.Ffn.G5_apply m c a b).symm)
  obtain ⟨h0, h1, h2, h3, h4⟩ := hagree c
  rw [h0, h1, h2, h3, h4]
  rfl

end Cert.Ffn1

end
-- ==== Proof.Ffn2Case.lean ====
/-
  The second feed-forward call, without the closing norm, one grid point at a time: what each of the three cases of the body (first tile of a row
  block, a tile in between, the last tile) leaves in the output block and in the two scratch blocks, as the
  body's own arithmetic of the blocks it reads.
-/
module

public import proofs.«01_k».proof.Proof.Gen.Kernel4Ideal.Value
public import Idealize.ShloMosaic.Lib.Tactic

@[expose] public section

set_option maxRecDepth 16384

noncomputable section

namespace Cert.Kernel4Ideal.Ffn

open Cert.Kernel4Ideal Cert.Kernel4Ideal.Gen Idealize.ShloMosaic Idealize.ShloMosaic.TcCoe Idealize.SL.Sem

variable {F : FTy → Type} [FloatOps F]

/-- The literal zero offsets are the zero function. -/
theorem hz : (![0, 0] : Fin 2 → Nat) = fun _ => 0 := funext fun a => by fin_cases a <;> rfl

/-- The first tile leaves in the first scratch the mixed block: `x` plus the three products of the branch outputs. -/
theorem s0_A (c : Dev nD) (i : grid0.Coords) (a2 h2 a3 h3 a4 h4 a5 h5 a6 h6 a7 h7 a8 h8 a9 h9 a10 h10 a11 h11 a12 h12 a13 h13 a14 h14 a15 h15 hc0 hc1)
    (x0 : Vec F S1024x1024 .f32) (x1 : Vec F S1024x384 .bf16) (x2 : Vec F S1024x384 .bf16) (x3 : Vec F S1024x256 .bf16) (x4 : Vec F S384x1024 .bf16) (x5 : Vec F S384x1024 .bf16) (x6 : Vec F S256x1024 .bf16) (x7 : Vec F S1x1024 .f32) (x8 : Vec F S1024x256 .bf16) (x9 : Vec F S1024x256 .bf16) (x10 : Vec F S256x1024 .bf16) :
    sout0_A_0 c i a2 h2 a3 h3 a4 h4 a5 h5 a6 h6 a7 h7 a8 h8 a9 h9 a10 h10 a11 h11 a12 h12 a13 h13 a14 h14 a15 h15 hc0 hc1 x0 x1 x2 x3 x4 x5 x6 x7 x8 x9 x10
      = k0_pay6 x0 x1 x4 x2 x5 x3 x6 := by
  unfold sout0_A_0
  rw [View.read_writes_eq_canon _ _ _ (scover0_A_0 c i a2 h2 a3 h3 a4 h4 a5 h5 a6 h6 a7 h7 a8 h8 a9 h9 a10 h10 a11 h11 a12 h12 a13 h13 a14 h14 a15 h15 hc0 hc1 x0 x1 x2 x3 x4 x5 x6 x7 x8 x9 x10)]
  unfold kernelRun0_A
  dsimp only
  sl_unfold_words
  rw [View.canon_unit_zero hz]
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, View.ld_unit_zero (S := S1024x1024) hz, View.ld_unit_zero (S := S1024x384) hz, View.ld_unit_zero (S := S1024x256) hz, View.ld_unit_zero (S := S384x1024) hz, View.ld_unit_zero (S := S256x1024) hz, View.ld_unit_zero (S := S1x1024) hz, shapeCast_self]

/-- The first tile leaves in the second scratch the mixed block normed. -/
theorem s1_A (c : Dev nD) (i : grid0.Coords) (a2 h2 a3 h3 a4 h4 a5 h5 a6 h6 a7 h7 a8 h8 a9 h9 a10 h10 a11 h11 a12 h12 a13 h13 a14 h14 a15 h15 hc0 hc1)
    (x0 : Vec F S1024x1024 .f32) (x1 : Vec F S1024x384 .bf16) (x2 : Vec F S1024x384 .bf16) (x3 : Vec F S1024x256 .bf16) (x4 : Vec F S384x1024 .bf16) (x5 : Vec F S384x1024 .bf16) (x6 : Vec F S256x1024 .bf16) (x7 : Vec F S1x1024 .f32) (x8 : Vec F S1024x256 .bf16) (x9 : Vec F S1024x256 .bf16) (x10 : Vec F S256x1024 .bf16) :
    sout0_A_1 c i a2 h2 a3 h3 a4 h4 a5 h5 a6 h6 a7 h7 a8 h8 a9 h9 a10 h10 a11 h11 a12 h12 a13 h13 a14 h14 a15 h15 hc0 hc1 x0 x1 x2 x3 x4 x5 x6 x7 x8 x9 x10
      = k0_pay1 (k0_pay7 x0 x1 x4 x2 x5 x3 x6 x7) := by
  unfold sout0_A_1
  rw [View.read_writes_eq_canon _ _ _ (scover0_A_1 c i a2 h2 a3 h3 a4 h4 a5 h5 a6 h6 a7 h7 a8 h8 a9 h9 a10 h10 a11 h11 a12 h12 a13 h13 a14 h14 a15 h15 hc0 hc1 x0 x1 x2 x3 x4 x5 x6 x7 x8 x9 x10)]
  unfold kernelRun0_A
  dsimp only
  sl_unfold_words
  rw [View.canon_unit_zero hz]
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, View.ld_unit_zero (S := S1024x1024) hz, View.ld_unit_zero (S := S1024x384) hz, View.ld_unit_zero (S := S1024x256) hz, View.ld_unit_zero (S := S384x1024) hz, View.ld_unit_zero (S := S256x1024) hz, View.ld_unit_zero (S := S1x1024) hz, shapeCast_self]

/-- The first tile leaves in the output block its own product, added to the zero block. -/
theorem out_A (c : Dev nD) (i : grid0.Coords) (a2 h2 a3 h3 a4 h4 a5 h5 a6 h6 a7 h7 a8 h8 a9 h9 a10 h10 a11 h11 a12 h12 a13 h13 a14 h14 a15 h15 hc0 hc1)
    (x0 : Vec F S1024x1024 .f32) (x1 : Vec F S1024x384 .bf16) (x2 : Vec F S1024x384 .bf16) (x3 : Vec F S1024x256 .bf16) (x4 : Vec F S384x1024 .bf16) (x5 : Vec F S384x1024 .bf16) (x6 : Vec F S256x1024 .bf16) (x7 : Vec F S1x1024 .f32) (x8 : Vec F S1024x256 .bf16) (x9 : Vec F S1024x256 .bf16) (x10 : Vec F S256x1024 .bf16) :
    out0_A_11 c i a2 h2 a3 h3 a4 h4 a5 h5 a6 h6 a7 h7 a8 h8 a9 h9 a10 h10 a11 h11 a12 h12 a13 h13 a14 h14 a15 h15 hc0 hc1 x0 x1 x2 x3 x4 x5 x6 x7 x8 x9 x10
      = k0_pay3 (k0_pay1 (k0_pay7 x0 x1 x4 x2 x5 x3 x6 x7)) x8 x9 k0_pay2 x10 := by
  unfold out0_A_11
  rw [View.read_writes_eq_canon _ _ _ (cover0_A_11 c i a2 h2 a3 h3 a4 h4 a5 h5 a6 h6 a7 h7 a8 h8 a9 h9 a10 h10 a11 h11 a12 h12 a13 h13 a14 h14 a15 h15 hc0 hc1 x0 x1 x2 x3 x4 x5 x6 x7 x8 x9 x10)]
  unfold kernelRun0_A
  dsimp only
  sl_unfold_words
  rw [View.canon_cons_unit_zero (S := S1024x1024) hz, View.readCov_unit_zero (S := S1024x1024) _ hz, View.readCov_unit_zero (S := S1024x1024) _ hz]
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, View.ld_unit_zero (S := S1024x1024) hz, View.ld_unit_zero (S := S1024x384) hz, View.ld_unit_zero (S := S1024x256) hz, View.ld_unit_zero (S := S384x1024) hz, View.ld_unit_zero (S := S256x1024) hz, View.ld_unit_zero (S := S1x1024) hz, shapeCast_self]

/-- A tile in between adds its product to the output block. -/
theorem out_B (c : Dev nD) (i : grid0.Coords) (a2 h2 a3 h3 a4 h4 a5 h5 a6 h6 a7 h7 a8 h8 a9 h9 a10 h10 a11 h11 a12 h12 a13 h13 a14 h14 a15 h15 hc0 hc1)
    (x0 : Vec F S1024x1024 .f32) (x1 : Vec F S1024x384 .bf16) (x2 : Vec F S1024x384 .bf16) (x3 : Vec F S1024x256 .bf16) (x4 : Vec F S384x1024 .bf16) (x5 : Vec F S384x1024 .bf16) (x6 : Vec F S256x1024 .bf16) (x7 : Vec F S1x1024 .f32) (x8 : Vec F S1024x256 .bf16) (x9 : Vec F S1024x256 .bf16) (x10 : Vec F S256x1024 .bf16)
    (xo s0 : Vec F S1024x1024 .f32) (s1 : Vec F S1024x1024 .bf16) :
    out0_B_11 c i a2 h2 a3 h3 a4 h4 a5 h5 a6 h6 a7 h7 a8 h8 a9 h9 a10 h10 a11 h11 a12 h12 a13 h13 a14 h14 a15 h15 hc0 hc1 x0 x1 x2 x3 x4 x5 x6 x7 x8 x9 x10 xo s0 s1
      = k0_pay3 s1 x8 x9 xo x10 := by
  unfold out0_B_11
  rw [View.read_writes_eq_canon _ _ _ (cover0_B_11 c i a2 h2 a3 h3 a4 h4 a5 h5 a6 h6 a7 h7 a8 h8 a9 h9 a10 h10 a11 h11 a12 h12 a13 h13 a14 h14 a15 h15 hc0 hc1 x0 x1 x2 x3 x4 x5 x6 x7 x8 x9 x10 xo s0 s1)]
  unfold kernelRun0_B
  dsimp only
  sl_unfold_words
  rw [View.canon_unit_zero hz]
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, View.ld_unit_zero (S := S1024x1024) hz, View.ld_unit_zero (S := S1024x384) hz, View.ld_unit_zero (S := S1024x256) hz, View.ld_unit_zero (S := S384x1024) hz, View.ld_unit_zero (S := S256x1024) hz, View.ld_unit_zero (S := S1x1024) hz, shapeCast_self]

/-- The last tile adds its product and then closes the block. -/
theorem out_C (c : Dev nD) (i : grid0.Coords) (a2 h2 a3 h3 a4 h4 a5 h5 a6 h6 a7 h7 a8 h8 a9 h9 a10 h10 a11 h11 a12 h12 a13 h13 a14 h14 a15 h15 hc0 hc1)
    (x0 : Vec F S1024x1024 .f32) (x1 : Vec F S1024x384 .bf16) (x2 : Vec F S1024x384 .bf16) (x3 : Vec F S1024x256 .bf16) (x4 : Vec F S384x1024 .bf16) (x5 : Vec F S384x1024 .bf16) (x6 : Vec F S256x1024 .bf16) (x7 : Vec F S1x1024 .f32) (x8 : Vec F S1024x256 .bf16) (x9 : Vec F S1024x256 .bf16) (x10 : Vec F S256x1024 .bf16)
    (xo s0 : Vec F S1024x1024 .f32) (s1 : Vec F S1024x1024 .bf16) :
    out0_C_11 c i a2 h2 a3 h3 a4 h4 a5 h5 a6 h6 a7 h7 a8 h8 a9 h9 a10 h10 a11 h11 a12 h12 a13 h13 a14 h14 a15 h15 hc0 hc1 x0 x1 x2 x3 x4 x5 x6 x7 x8 x9 x10 xo s0 s1
      = k0_pay4 s0 (k0_pay3 s1 x8 x9 xo x10) := by
  unfold out0_C_11
  rw [View.read_writes_eq_canon _ _ _ (cover0_C_11 c i a2 h2 a3 h3 a4 h4 a5 h5 a6 h6 a7 h7 a8 h8 a9 h9 a10 h10 a11 h11 a12 h12 a13 h13 a14 h14 a15 h15 hc0 hc1 x0 x1 x2 x3 x4 x5 x6 x7 x8 x9 x10 xo s0 s1)]
  unfold kernelRun0_C
  dsimp only
  sl_unfold_words
  rw [View.canon_cons_unit_zero (S := S1024x1024) hz, View.readCov_unit_zero (S := S1024x1024) _ hz]
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, View.ld_unit_zero (S := S1024x1024) hz, View.ld_unit_zero (S := S1024x384) hz, View.ld_unit_zero (S := S1024x256) hz, View.ld_unit_zero (S := S384x1024) hz, View.ld_unit_zero (S := S256x1024) hz, View.ld_unit_zero (S := S1x1024) hz, shapeCast_self]

variable (m : (ℓ : Loc nD τ sig) → Buf (Elt F) ℓ)

/-- The three carried blocks after a row block's first point. -/
theorem st_A (c : Dev nD) (t : Fin cfg0.N) (acc) (h0 : t.val % 11 = 0) (h1 : ¬t.val % 11 = 10) :
    Value.stAt0 m c t.val t.isLt acc
      = (k0_pay3 (k0_pay1 (k0_pay7 (iblk m c 0 t) (iblk m c 1 t) (iblk m c 4 t) (iblk m c 2 t) (iblk m c 5 t) (iblk m c 3 t) (iblk m c 6 t) (iblk m c 7 t))) (iblk m c 8 t) (iblk m c 9 t) k0_pay2 (iblk m c 10 t),
          k0_pay6 (iblk m c 0 t) (iblk m c 1 t) (iblk m c 4 t) (iblk m c 2 t) (iblk m c 5 t) (iblk m c 3 t) (iblk m c 6 t), k0_pay1 (k0_pay7 (iblk m c 0 t) (iblk m c 1 t) (iblk m c 4 t) (iblk m c 2 t) (iblk m c 5 t) (iblk m c 3 t) (iblk m c 6 t) (iblk m c 7 t))) := by
  rw [Value.stAt0_A m c t acc h0 h1, out_A, s0_A, s1_A]

/-- The three carried blocks after a point in between. -/
theorem st_B (c : Dev nD) (t : Fin cfg0.N) (acc) (h0 : ¬t.val % 11 = 0) (h1 : ¬t.val % 11 = 10) :
    Value.stAt0 m c t.val t.isLt acc
      = (k0_pay3 acc.2.2 (iblk m c 8 t) (iblk m c 9 t) acc.1 (iblk m c 10 t), acc.2.1, acc.2.2) := by
  rw [Value.stAt0_B m c t acc h0 h1, out_B, sout0_B_0, sout0_B_1]

/-- The three carried blocks after a row block's last point. -/
theorem st_C (c : Dev nD) (t : Fin cfg0.N) (acc) (h0 : ¬t.val % 11 = 0) (h1 : t.val % 11 = 10) :
    Value.stAt0 m c t.val t.isLt acc
      = (k0_pay4 acc.2.1 (k0_pay3 acc.2.2 (iblk m c 8 t) (iblk m c 9 t) acc.1 (iblk m c 10 t)), acc.2.1, acc.2.2) := by
  rw [Value.stAt0_C m c t acc h0 h1, out_C, sout0_C_0, sout0_C_1]

end Cert.Kernel4Ideal.Ffn

end
-- ==== Proof.Ffn2Value.lean ====
/-
  The second feed-forward call, without the closing norm: what its result array ends holding, entry by entry, as the formula of the arguments. The
  blocks read at a point are entries of the arguments; along one row block the kept scratches hold the mixed
  rows and the mixed rows normed, and the output block the tiles added so far.
-/
module

public import proofs.«01_k».proof.Proof.Ffn2Case
public import proofs.«01_k».proof.Proof.MixMath

@[expose] public section

set_option maxRecDepth 16384

noncomputable section

namespace Cert.Kernel4Ideal.Ffn

open Cert.Kernel4Ideal Cert.Kernel4Ideal.Gen Idealize.ShloMosaic Idealize.ShloMosaic.TcCoe Idealize.SL.Sem Cert.FfnMath Cert.MixMath

/-! ## The body's arithmetic at an entry -/

/-- The mixed block at an entry. -/
theorem pay5_apply (x : Vec Ideal S1024x1024 .f32) (a : Vec Ideal S1024x384 .bf16) (wa : Vec Ideal S384x1024 .bf16) (b : Vec Ideal S1024x384 .bf16) (wb : Vec Ideal S384x1024 .bf16) (e : Vec Ideal S1024x256 .bf16) (we : Vec Ideal S256x1024 .bf16) (r l : Fin 1024) :
    k0_pay5 x a wa b wb e we (ix2 r l) = x (ix2 r l) + (∑ j : Fin 384, a (ix2 r j) * wa (ix2 j l)) + (∑ j : Fin 384, b (ix2 r j) * wb (ix2 j l)) + (∑ j : Fin 256, e (ix2 r j) * we (ix2 j l)) := by
  pointwise [k0_pay5]

/-- The kept mixed block at an entry. -/
theorem pay6_apply (x : Vec Ideal S1024x1024 .f32) (a : Vec Ideal S1024x384 .bf16) (wa : Vec Ideal S384x1024 .bf16) (b : Vec Ideal S1024x384 .bf16) (wb : Vec Ideal S384x1024 .bf16) (e : Vec Ideal S1024x256 .bf16) (we : Vec Ideal S256x1024 .bf16) (r l : Fin 1024) :
    k0_pay6 x a wa b wb e we (ix2 r l) = k0_pay5 x a wa b wb e we (ix2 r l) := by
  pointwise [k0_pay6]

/-- The normed block at an entry. -/
theorem pay7_apply (x : Vec Ideal S1024x1024 .f32) (a : Vec Ideal S1024x384 .bf16) (wa : Vec Ideal S384x1024 .bf16) (b : Vec Ideal S1024x384 .bf16) (wb : Vec Ideal S384x1024 .bf16) (e : Vec Ideal S1024x256 .bf16) (we : Vec Ideal S256x1024 .bf16) (g : Vec Ideal S1x1024 .f32) (r l : Fin 1024) :
    k0_pay1 (k0_pay7 x a wa b wb e we g) (ix2 r l) = nrm (fun k => k0_pay5 x a wa b wb e we (ix2 r k)) (fun k => g (ix2 0 k)) l := by
  pointwise [k0_pay1, k0_pay7, nrm]

/-- One tile's product added to a block, at an entry. -/
theorem pay3_apply (h : Vec Ideal S1024x1024 .bf16) (w u : Vec Ideal S1024x256 .bf16) (d : Vec Ideal S256x1024 .bf16)
    (o : Vec Ideal S1024x1024 .f32) (r l : Fin 1024) :
    k0_pay3 h w u o d (ix2 r l) = o (ix2 r l)
      + ∑ f : Fin 256, act (fun k => h (ix2 r k)) (fun k => w (ix2 k f)) (fun k => u (ix2 k f)) * d (ix2 f l) := by
  pointwise [k0_pay3, act]

/-- The closing sum at an entry. -/
theorem pay4_apply (x o : Vec Ideal S1024x1024 .f32) (r l : Fin 1024) :
    k0_pay4 x o (ix2 r l) = x (ix2 r l) + Ideal.ofBits FTy.f32 0x3F000000#32 * o (ix2 r l) := by
  pointwise [k0_pay4]

/-- The zero block at an entry. -/
theorem pay2_apply (r l : Fin 1024) : k0_pay2 (F := Ideal) (ix2 r l) = 0 := by
  pointwise [k0_pay2]

variable (m : (ℓ : Loc nD τ sig) → Buf (Elt Ideal) ℓ)

/-! ## The arguments by entry -/

/-- Row `i` of `x`. -/
def xin (c : Dev nD) (i : Fin 16384) (k : Fin 1024) : EReal := (m ((c : Thread nD τ).loc main_arg0) : Vec Ideal S16384x1024 .f32) (ix2 i k)
/-- Row `i` of the first branch's output. -/
def oa (c : Dev nD) (i : Fin 16384) (k : Fin 384) : EReal := (m ((c : Thread nD τ).loc main_arg1) : Vec Ideal S16384x384 .bf16) (ix2 i k)
/-- Row `i` of the second branch's output. -/
def ob (c : Dev nD) (i : Fin 16384) (k : Fin 384) : EReal := (m ((c : Thread nD τ).loc main_arg2) : Vec Ideal S16384x384 .bf16) (ix2 i k)
/-- Row `i` of the third branch's output. -/
def oc (c : Dev nD) (i : Fin 16384) (k : Fin 256) : EReal := (m ((c : Thread nD τ).loc main_arg3) : Vec Ideal S16384x256 .bf16) (ix2 i k)
/-- The output projection's weights. -/
def wo (c : Dev nD) (j l : Fin 1024) : EReal := (m ((c : Thread nD τ).loc main_arg4) : Vec Ideal S1024x1024 .f32) (ix2 j l)
/-- The norm's scale. -/
def gn (c : Dev nD) (k : Fin 1024) : EReal := (m ((c : Thread nD τ).loc main_arg5) : Vec Ideal S1024 .f32) (ix1 k)
/-- The gate weights. -/
def wg (c : Dev nD) (k : Fin 1024) (p : Fin 2752) : EReal := (m ((c : Thread nD τ).loc main_arg6) : Vec Ideal S1024x2752 .f32) (ix2 k p)
/-- The up weights. -/
def wu (c : Dev nD) (k : Fin 1024) (p : Fin 2752) : EReal := (m ((c : Thread nD τ).loc main_arg7) : Vec Ideal S1024x2752 .f32) (ix2 k p)
/-- The down weights. -/
def wd (c : Dev nD) (p : Fin 2752) (l : Fin 1024) : EReal := (m ((c : Thread nD τ).loc main_arg8) : Vec Ideal S2752x1024 .f32) (ix2 p l)
/-- The mixed row: row `i` of `x` plus the projection of the joined branch outputs. -/
def xrow (c : Dev nD) (i : Fin 16384) (l : Fin 1024) : EReal := mix (xin m c i) (oa m c i) (ob m c i) (oc m c i) (wo m c) l

/-! ## What the host hands the call -/

/-- The rows of the projection's weights for the first branch. -/
theorem V1_eq (c : Dev nD) :
    @Eq (FVec Ideal S384x1024 .bf16) (V m c main_v1) <| extractStridedSlice S384x1024 ![0, 0] (truncf (F := Ideal) .bf16 (m ((c : Thread nD τ).loc main_arg4) : Vec Ideal S1024x1024 .f32) bitsLt_bf16_f32) slices_S1024x1024_S384x1024_0_0 := by
  unfold V
  simp only [hostOps0, hostOps0_1, hostOps0_2, hostOps0_3, hostOps0_4, hostOps0_5, hostOps0_6, List.flatten_cons, List.flatten_nil, List.append_nil, List.cons_append, List.nil_append]
  after_results

/-- Those rows at an entry. -/
theorem V1_apply (c : Dev nD) (j : Fin 384) (l : Fin 1024) :
    (V m c main_v1 : Vec Ideal S384x1024 .bf16) (ix2 j l) = wo m c ⟨0 + j.val, by omega⟩ l := by
  refine (congrFun (V1_eq m c) _).trans ?_
  unfold wo
  pointwise

/-- The rows of the projection's weights for the second branch. -/
theorem V2_eq (c : Dev nD) :
    @Eq (FVec Ideal S384x1024 .bf16) (V m c main_v2) <| extractStridedSlice S384x1024 ![384, 0] (truncf (F := Ideal) .bf16 (m ((c : Thread nD τ).loc main_arg4) : Vec Ideal S1024x1024 .f32) bitsLt_bf16_f32) slices_S1024x1024_S384x1024_384_0 := by
  unfold V
  simp only [hostOps0, hostOps0_1, hostOps0_2, hostOps0_3, hostOps0_4, hostOps0_5, hostOps0_6, List.flatten_cons, List.flatten_nil, List.append_nil, List.cons_append, List.nil_append]
  after_results

/-- Those rows at an entry. -/
theorem V2_apply (c : Dev nD) (j : Fin 384) (l : Fin 1024) :
    (V m c main_v2 : Vec Ideal S384x1024 .bf16) (ix2 j l) = wo m c ⟨384 + j.val, by omega⟩ l := by
  refine (congrFun (V2_eq m c) _).trans ?_
  unfold wo
  pointwise

/-- The rows of the projection's weights for the third branch. -/
theorem V3_eq (c : Dev nD) :
    @Eq (FVec Ideal S256x1024 .bf16) (V m c main_v3) <| extractStridedSlice S256x1024 ![768, 0] (truncf (F := Ideal) .bf16 (m ((c : Thread nD τ).loc main_arg4) : Vec Ideal S1024x1024 .f32) bitsLt_bf16_f32) slices_S1024x1024_S256x1024_768_0 := by
  unfold V
  simp only [hostOps0, hostOps0_1, hostOps0_2, hostOps0_3, hostOps0_4, hostOps0_5, hostOps0_6, List.flatten_cons, List.flatten_nil, List.append_nil, List.cons_append, List.nil_append]
  after_results

/-- Those rows at an entry. -/
theorem V3_apply (c : Dev nD) (j : Fin 256) (l : Fin 1024) :
    (V m c main_v3 : Vec Ideal S256x1024 .bf16) (ix2 j l) = wo m c ⟨768 + j.val, by omega⟩ l := by
  refine (congrFun (V3_eq m c) _).trans ?_
  unfold wo
  pointwise

/-- The norm's scale, as one row. -/
theorem V4_eq (c : Dev nD) :
    V m c main_v4 = shapeCast S1x1024 (m ((c : Thread nD τ).loc main_arg5) : Vec Ideal S1024 .f32) shapeCasts_S1024_S1x1024 := by
  unfold V
  simp only [hostOps0, hostOps0_1, hostOps0_2, hostOps0_3, hostOps0_4, hostOps0_5, hostOps0_6, List.flatten_cons, List.flatten_nil, List.append_nil, List.cons_append, List.nil_append]
  after_results
  rfl

/-- The norm's scale at an entry. -/
theorem V4_apply (c : Dev nD) (k : Fin 1024) : (V m c main_v4 : Vec Ideal S1x1024 .f32) (ix2 0 k) = gn m c k := by
  rw [V4_eq]
  unfold gn
  pointwise

/-- The gate weights, padded. -/
theorem V6_eq (c : Dev nD) :
    @Eq (FVec Ideal S1024x2816 .bf16) (V m c main_v6) <| truncf (F := Ideal) .bf16 (pad S1024x2816 ![0, 0] ![0, 64] ![0, 0] (m ((c : Thread nD τ).loc main_arg6) : Vec Ideal S1024x2752 .f32)
      (sitofp .f32 (constantI S_ 32 0#32)) pads_S1024x2752_S1024x2816_000_0640 h_S_) bitsLt_bf16_f32 := by
  unfold V
  simp only [hostOps0, hostOps0_1, hostOps0_2, hostOps0_3, hostOps0_4, hostOps0_5, hostOps0_6, List.flatten_cons, List.flatten_nil, List.append_nil, List.cons_append, List.nil_append]
  after_results
  rfl

/-- The padded gate weights at an entry. -/
theorem V6_apply (c : Dev nD) (k : Fin 1024) (p : Fin 2816) :
    (V m c main_v6 : Vec Ideal S1024x2816 .bf16) (ix2 k p) = padCol (wg m c) k p.val :=
  (congrFun (V6_eq m c) _).trans (pad_cols _ pads_S1024x2752_S1024x2816_000_0640 h_S_ k p)

/-- The up weights, padded. -/
theorem V8_eq (c : Dev nD) :
    @Eq (FVec Ideal S1024x2816 .bf16) (V m c main_v8) <| truncf (F := Ideal) .bf16 (pad S1024x2816 ![0, 0] ![0, 64] ![0, 0] (m ((c : Thread nD τ).loc main_arg7) : Vec Ideal S1024x2752 .f32)
      (sitofp .f32 (constantI S_ 32 0#32)) pads_S1024x2752_S1024x2816_000_0640 h_S_) bitsLt_bf16_f32 := by
  unfold V
  simp only [hostOps0, hostOps0_1, hostOps0_2, hostOps0_3, hostOps0_4, hostOps0_5, hostOps0_6, List.flatten_cons, List.flatten_nil, List.append_nil, List.cons_append, List.nil_append]
  after_results
  rfl

/-- The padded up weights at an entry. -/
theorem V8_apply (c : Dev nD) (k : Fin 1024) (p : Fin 2816) :
    (V m c main_v8 : Vec Ideal S1024x2816 .bf16) (ix2 k p) = padCol (wu m c) k p.val :=
  (congrFun (V8_eq m c) _).trans (pad_cols _ pads_S1024x2752_S1024x2816_000_0640 h_S_ k p)

/-- The down weights, padded. -/
theorem V10_eq (c : Dev nD) :
    @Eq (FVec Ideal S2816x1024 .bf16) (V m c main_v10) <| truncf (F := Ideal) .bf16 (pad S2816x1024 ![0, 0] ![64, 0] ![0, 0] (m ((c : Thread nD τ).loc main_arg8) : Vec Ideal S2752x1024 .f32)
      (sitofp .f32 (constantI S_ 32 0#32)) pads_S2752x1024_S2816x1024_0640_000 h_S_) bitsLt_bf16_f32 := by
  unfold V
  simp only [hostOps0, hostOps0_1, hostOps0_2, hostOps0_3, hostOps0_4, hostOps0_5, hostOps0_6, List.flatten_cons, List.flatten_nil, List.append_nil, List.cons_append, List.nil_append]
  after_results
  rfl

/-- The padded down weights at an entry. -/
theorem V10_apply (c : Dev nD) (p : Fin 2816) (l : Fin 1024) :
    (V m c main_v10 : Vec Ideal S2816x1024 .bf16) (ix2 p l) = padRow (wd m c) l p.val :=
  (congrFun (V10_eq m c) _).trans (pad_rows _ pads_S2752x1024_S2816x1024_0640_000 h_S_ p l)

/-! ## The blocks read at a point -/

/-- The block index of window 0. -/
theorem idx0 : ∀ t : Fin cfg0.N, win0_0.index t 0 = t.val / 11 ∧ win0_0.index t 1 = 0 := by decide +kernel
/-- The block index of window 1. -/
theorem idx1 : ∀ t : Fin cfg0.N, win0_1.index t 0 = t.val / 11 ∧ win0_1.index t 1 = 0 := by decide +kernel
/-- The block index of window 2. -/
theorem idx2 : ∀ t : Fin cfg0.N, win0_2.index t 0 = t.val / 11 ∧ win0_2.index t 1 = 0 := by decide +kernel
/-- The block index of window 3. -/
theorem idx3 : ∀ t : Fin cfg0.N, win0_3.index t 0 = t.val / 11 ∧ win0_3.index t 1 = 0 := by decide +kernel
/-- The block index of window 4. -/
theorem idx4 : ∀ t : Fin cfg0.N, win0_4.index t 0 = 0 ∧ win0_4.index t 1 = 0 := by decide +kernel
/-- The block index of window 5. -/
theorem idx5 : ∀ t : Fin cfg0.N, win0_5.index t 0 = 0 ∧ win0_5.index t 1 = 0 := by decide +kernel
/-- The block index of window 6. -/
theorem idx6 : ∀ t : Fin cfg0.N, win0_6.index t 0 = 0 ∧ win0_6.index t 1 = 0 := by decide +kernel
/-- The block index of window 7. -/
theorem idx7 : ∀ t : Fin cfg0.N, win0_7.index t 0 = 0 ∧ win0_7.index t 1 = 0 := by decide +kernel
/-- The block index of window 8. -/
theorem idx8 : ∀ t : Fin cfg0.N, win0_8.index t 0 = 0 ∧ win0_8.index t 1 = t.val % 11 := by decide +kernel
/-- The block index of window 9. -/
theorem idx9 : ∀ t : Fin cfg0.N, win0_9.index t 0 = 0 ∧ win0_9.index t 1 = t.val % 11 := by decide +kernel
/-- The block index of window 10. -/
theorem idx10 : ∀ t : Fin cfg0.N, win0_10.index t 0 = t.val % 11 ∧ win0_10.index t 1 = 0 := by decide +kernel

/-- The row that row `r` of the block at point `n` is. -/
def rowOf (n : ℕ) (r : Fin 1024) : Fin 16384 := ⟨(1024 * (n / 11) + r.val) % 16384, Nat.mod_lt _ (by norm_num)⟩

/-- The rows of argument 0 read at a point. -/
theorem iblk0_apply (c : Dev nD) (t : Fin cfg0.N) (r : Fin 1024) (l : Fin 1024) :
    (iblk m c 0 t : Vec Ideal S1024x1024 .f32) (ix2 r l) = xin m c (rowOf t.val r) l := by
  have hN : cfg0.N = 176 := N_0
  have ht := t.isLt
  unfold iblk
  rw [View.read_apply]
  show V m c main_arg0 _ = _
  rw [V_main_arg0]
  unfold xin
  congr 1
  funext a
  apply Fin.ext
  match a with
  | ⟨0, _⟩ => show win0_0.index t 0 * 1024 + 1 * r.val = (1024 * (t.val / 11) + r.val) % 16384; rw [(idx0 t).1]; omega
  | ⟨1, _⟩ => show win0_0.index t 1 * 1024 + 1 * l.val = l.val; rw [(idx0 t).2]; omega

/-- The rows of argument 1 read at a point. -/
theorem iblk1_apply (c : Dev nD) (t : Fin cfg0.N) (r : Fin 1024) (l : Fin 384) :
    (iblk m c 1 t : Vec Ideal S1024x384 .bf16) (ix2 r l) = oa m c (rowOf t.val r) l := by
  have hN : cfg0.N = 176 := N_0
  have ht := t.isLt
  unfold iblk
  rw [View.read_apply]
  show V m c main_arg1 _ = _
  rw [V_main_arg1]
  unfold oa
  congr 1
  funext a
  apply Fin.ext
  match a with
  | ⟨0, _⟩ => show win0_1.index t 0 * 1024 + 1 * r.val = (1024 * (t.val / 11) + r.val) % 16384; rw [(idx1 t).1]; omega
  | ⟨1, _⟩ => show win0_1.index t 1 * 384 + 1 * l.val = l.val; rw [(idx1 t).2]; omega

/-- The rows of argument 2 read at a point. -/
theorem iblk2_apply (c : Dev nD) (t : Fin cfg0.N) (r : Fin 1024) (l : Fin 384) :
    (iblk m c 2 t : Vec Ideal S1024x384 .bf16) (ix2 r l) = ob m c (rowOf t.val r) l := by
  have hN : cfg0.N = 176 := N_0
  have ht := t.isLt
  unfold iblk
  rw [View.read_apply]
  show V m c main_arg2 _ = _
  rw [V_main_arg2]
  unfold ob
  congr 1
  funext a
  apply Fin.ext
  match a with
  | ⟨0, _⟩ => show win0_2.index t 0 * 1024 + 1 * r.val = (1024 * (t.val / 11) + r.val) % 16384; rw [(idx2 t).1]; omega
  | ⟨1, _⟩ => show win0_2.index t 1 * 384 + 1 * l.val = l.val; rw [(idx2 t).2]; omega

/-- The rows of argument 3 read at a point. -/
theorem iblk3_apply (c : Dev nD) (t : Fin cfg0.N) (r : Fin 1024) (l : Fin 256) :
    (iblk m c 3 t : Vec Ideal S1024x256 .bf16) (ix2 r l) = oc m c (rowOf t.val r) l := by
  have hN : cfg0.N = 176 := N_0
  have ht := t.isLt
  unfold iblk
  rw [View.read_apply]
  show V m c main_arg3 _ = _
  rw [V_main_arg3]
  unfold oc
  congr 1
  funext a
  apply Fin.ext
  match a with
  | ⟨0, _⟩ => show win0_3.index t 0 * 1024 + 1 * r.val = (1024 * (t.val / 11) + r.val) % 16384; rw [(idx3 t).1]; omega
  | ⟨1, _⟩ => show win0_3.index t 1 * 256 + 1 * l.val = l.val; rw [(idx3 t).2]; omega

/-- The projection's rows read at a point through window 4. -/
theorem iblk4_apply (c : Dev nD) (t : Fin cfg0.N) (j : Fin 384) (l : Fin 1024) :
    (iblk m c 4 t : Vec Ideal S384x1024 .bf16) (ix2 j l) = wo m c ⟨0 + j.val, by omega⟩ l := by
  unfold iblk
  rw [View.read_apply, ← V1_apply]
  show V m c main_v1 _ = V m c main_v1 _
  congr 1
  funext a
  apply Fin.ext
  match a with
  | ⟨0, _⟩ => show win0_4.index t 0 * 384 + 1 * j.val = j.val; rw [(idx4 t).1]; omega
  | ⟨1, _⟩ => show win0_4.index t 1 * 1024 + 1 * l.val = l.val; rw [(idx4 t).2]; omega

/-- The projection's rows read at a point through window 5. -/
theorem iblk5_apply (c : Dev nD) (t : Fin cfg0.N) (j : Fin 384) (l : Fin 1024) :
    (iblk m c 5 t : Vec Ideal S384x1024 .bf16) (ix2 j l) = wo m c ⟨384 + j.val, by omega⟩ l := by
  unfold iblk
  rw [View.read_apply, ← V2_apply]
  show V m c main_v2 _ = V m c main_v2 _
  congr 1
  funext a
  apply Fin.ext
  match a with
  | ⟨0, _⟩ => show win0_5.index t 0 * 384 + 1 * j.val = j.val; rw [(idx5 t).1]; omega
  | ⟨1, _⟩ => show win0_5.index t 1 * 1024 + 1 * l.val = l.val; rw [(idx5 t).2]; omega

/-- The projection's rows read at a point through window 6. -/
theorem iblk6_apply (c : Dev nD) (t : Fin cfg0.N) (j : Fin 256) (l : Fin 1024) :
    (iblk m c 6 t : Vec Ideal S256x1024 .bf16) (ix2 j l) = wo m c ⟨768 + j.val, by omega⟩ l := by
  unfold iblk
  rw [View.read_apply, ← V3_apply]
  show V m c main_v3 _ = V m c main_v3 _
  congr 1
  funext a
  apply Fin.ext
  match a with
  | ⟨0, _⟩ => show win0_6.index t 0 * 256 + 1 * j.val = j.val; rw [(idx6 t).1]; omega
  | ⟨1, _⟩ => show win0_6.index t 1 * 1024 + 1 * l.val = l.val; rw [(idx6 t).2]; omega

/-- The scale read at a point through window 7. -/
theorem iblk7_apply (c : Dev nD) (t : Fin cfg0.N) (k : Fin 1024) :
    (iblk m c 7 t : Vec Ideal S1x1024 .f32) (ix2 0 k) = gn m c k := by
  unfold iblk
  rw [View.read_apply, ← V4_apply]
  show V m c main_v4 _ = V m c main_v4 _
  congr 1
  funext a
  apply Fin.ext
  match a with
  | ⟨0, _⟩ => show win0_7.index t 0 * 1 + 1 * 0 = 0; rw [(idx7 t).1]
  | ⟨1, _⟩ => show win0_7.index t 1 * 1024 + 1 * k.val = k.val; rw [(idx7 t).2]; omega

/-- The tile of the gate weights read at a point. -/
theorem iblk8_apply (c : Dev nD) (t : Fin cfg0.N) (k : Fin 1024) (f : Fin 256) :
    (iblk m c 8 t : Vec Ideal S1024x256 .bf16) (ix2 k f) = padCol (wg m c) k (256 * (t.val % 11) + f.val) := by
  unfold iblk
  rw [View.read_apply]
  refine Eq.trans ?_ (V6_apply m c k ⟨256 * (t.val % 11) + f.val, by omega⟩)
  show V m c main_v6 _ = V m c main_v6 _
  congr 1
  funext a
  apply Fin.ext
  match a with
  | ⟨0, _⟩ => show win0_8.index t 0 * 1024 + 1 * k.val = k.val; rw [(idx8 t).1]; omega
  | ⟨1, _⟩ => show win0_8.index t 1 * 256 + 1 * f.val = 256 * (t.val % 11) + f.val; rw [(idx8 t).2]; omega

/-- The tile of the up weights read at a point. -/
theorem iblk9_apply (c : Dev nD) (t : Fin cfg0.N) (k : Fin 1024) (f : Fin 256) :
    (iblk m c 9 t : Vec Ideal S1024x256 .bf16) (ix2 k f) = padCol (wu m c) k (256 * (t.val % 11) + f.val) := by
  unfold iblk
  rw [View.read_apply]
  refine Eq.trans ?_ (V8_apply m c k ⟨256 * (t.val % 11) + f.val, by omega⟩)
  show V m c main_v8 _ = V m c main_v8 _
  congr 1
  funext a
  apply Fin.ext
  match a with
  | ⟨0, _⟩ => show win0_9.index t 0 * 1024 + 1 * k.val = k.val; rw [(idx9 t).1]; omega
  | ⟨1, _⟩ => show win0_9.index t 1 * 256 + 1 * f.val = 256 * (t.val % 11) + f.val; rw [(idx9 t).2]; omega

/-- The tile of the down weights read at a point. -/
theorem iblk10_apply (c : Dev nD) (t : Fin cfg0.N) (f : Fin 256) (l : Fin 1024) :
    (iblk m c 10 t : Vec Ideal S256x1024 .bf16) (ix2 f l) = padRow (wd m c) l (256 * (t.val % 11) + f.val) := by
  unfold iblk
  rw [View.read_apply]
  refine Eq.trans ?_ (V10_apply m c ⟨256 * (t.val % 11) + f.val, by omega⟩ l)
  show V m c main_v10 _ = V m c main_v10 _
  congr 1
  funext a
  apply Fin.ext
  match a with
  | ⟨0, _⟩ => show win0_10.index t 0 * 256 + 1 * f.val = 256 * (t.val % 11) + f.val; rw [(idx10 t).1]; omega
  | ⟨1, _⟩ => show win0_10.index t 1 * 1024 + 1 * l.val = l.val; rw [(idx10 t).2]; omega

/-! ## Along one row block -/

/-- The normed row. -/
def hrow (c : Dev nD) (i : Fin 16384) (k : Fin 1024) : EReal := nrm (xrow m c i) (gn m c) k

/-- The tiles of a row, at an output column. -/
def tl (c : Dev nD) (i : Fin 16384) (l : Fin 1024) (s : ℕ) : EReal := tile (hrow m c i) (padCol (wg m c)) (padCol (wu m c)) (padRow (wd m c) l) s

/-- The result at an entry. -/
def res (c : Dev nD) (i : Fin 16384) (l : Fin 1024) : EReal :=
  xrow m c i l + Ideal.ofBits FTy.f32 0x3F000000#32 * ffn (hrow m c i) (wg m c) (wu m c) (wd m c) l

/-- What the carried blocks hold after point `n`. -/
def Inv (c : Dev nD) (n : ℕ) (acc : Vec Ideal S1024x1024 .f32 × Vec Ideal S1024x1024 .f32 × Vec Ideal S1024x1024 .bf16) : Prop :=
  (∀ r l : Fin 1024, acc.2.1 (ix2 r l) = xrow m c (rowOf n r) l)
  ∧ (∀ r l : Fin 1024, acc.2.2 (ix2 r l) = hrow m c (rowOf n r) l)
  ∧ (n % 11 ≠ 10 → ∀ r l : Fin 1024, acc.1 (ix2 r l) = ∑ s ∈ Finset.range (n % 11 + 1), tl m c (rowOf n r) l s)
  ∧ (n % 11 = 10 → ∀ r l : Fin 1024, acc.1 (ix2 r l) = res m c (rowOf n r) l)

/-- One tile's product at a point, when the block holds the normed rows. -/
theorem tile_apply (c : Dev nD) (t : Fin cfg0.N) (h : Vec Ideal S1024x1024 .bf16) (o : Vec Ideal S1024x1024 .f32)
    (hh : ∀ r l : Fin 1024, h (ix2 r l) = hrow m c (rowOf t.val r) l) (r l : Fin 1024) :
    k0_pay3 h (iblk m c 8 t : Vec Ideal S1024x256 .bf16) (iblk m c 9 t : Vec Ideal S1024x256 .bf16) o (iblk m c 10 t : Vec Ideal S256x1024 .bf16) (ix2 r l)
      = o (ix2 r l) + tl m c (rowOf t.val r) l (t.val % 11) := by
  rw [pay3_apply]
  unfold tl tile
  refine congrArg (o (ix2 r l) + ·) (Finset.sum_congr rfl fun f _ => ?_)
  simp only [iblk8_apply, iblk9_apply, iblk10_apply, hh]
  rfl

/-- The mixed block at a point. -/
theorem mixed_apply (c : Dev nD) (t : Fin cfg0.N) (r l : Fin 1024) :
    k0_pay5 (iblk m c 0 t : Vec Ideal S1024x1024 .f32) (iblk m c 1 t : Vec Ideal S1024x384 .bf16) (iblk m c 4 t : Vec Ideal S384x1024 .bf16) (iblk m c 2 t : Vec Ideal S1024x384 .bf16) (iblk m c 5 t : Vec Ideal S384x1024 .bf16) (iblk m c 3 t : Vec Ideal S1024x256 .bf16) (iblk m c 6 t : Vec Ideal S256x1024 .bf16) (ix2 r l) = xrow m c (rowOf t.val r) l := by
  rw [pay5_apply]
  simp only [iblk0_apply, iblk1_apply, iblk2_apply, iblk3_apply, iblk4_apply, iblk5_apply, iblk6_apply]
  unfold xrow
  rw [← mix_split]
  simp only [Nat.zero_add]

/-- The normed block at a point. -/
theorem norm_apply (c : Dev nD) (t : Fin cfg0.N) (r l : Fin 1024) :
    k0_pay1 (k0_pay7 (iblk m c 0 t : Vec Ideal S1024x1024 .f32) (iblk m c 1 t : Vec Ideal S1024x384 .bf16) (iblk m c 4 t : Vec Ideal S384x1024 .bf16) (iblk m c 2 t : Vec Ideal S1024x384 .bf16) (iblk m c 5 t : Vec Ideal S384x1024 .bf16) (iblk m c 3 t : Vec Ideal S1024x256 .bf16) (iblk m c 6 t : Vec Ideal S256x1024 .bf16) (iblk m c 7 t : Vec Ideal S1x1024 .f32)) (ix2 r l) = hrow m c (rowOf t.val r) l := by
  rw [pay7_apply]
  simp only [mixed_apply, iblk7_apply]
  rfl

/-- A row block's first point sets the blocks up. -/
theorem inv_first (c : Dev nD) (t : Fin cfg0.N) (h0 : t.val % 11 = 0) (acc) : Inv m c t.val (Value.stAt0 m c t.val t.isLt acc) := by
  have h1 : ¬t.val % 11 = 10 := by omega
  rw [st_A m c t acc h0 h1]
  refine ⟨fun r l => ?_, fun r l => ?_, fun _ r l => ?_, fun h => absurd h h1⟩
  · dsimp only
    rw [pay6_apply, mixed_apply]
  · dsimp only
    rw [norm_apply]
  · dsimp only
    rw [tile_apply m c t _ _ (norm_apply m c t), pay2_apply, zero_add, h0]
    simp

/-- Every later point carries them on. -/
theorem inv_next (c : Dev nD) (t : Fin cfg0.N) (n : ℕ) (ht : t.val = n + 1) (h0 : ¬t.val % 11 = 0) (acc) (hi : Inv m c n acc) :
    Inv m c t.val (Value.stAt0 m c t.val t.isLt acc) := by
  obtain ⟨i0, i1, i2, -⟩ := hi
  have hr : ∀ r, rowOf n r = rowOf t.val r := fun r => by
    apply Fin.ext
    show (1024 * (n / 11) + r.val) % 16384 = (1024 * (t.val / 11) + r.val) % 16384
    rw [show n / 11 = t.val / 11 by omega]
  have hn : n % 11 + 1 = t.val % 11 := by omega
  simp only [hr, hn] at i0 i1 i2
  have i2 := i2 (by omega)
  by_cases h1 : t.val % 11 = 10
  · rw [st_C m c t acc h0 h1]
    refine ⟨i0, i1, fun h => absurd h1 h, fun _ r l => ?_⟩
    dsimp only
    rw [pay4_apply, tile_apply m c t _ _ i1, i0, i2, ← Finset.sum_range_succ, h1]
    unfold res
    rw [← sum_eleven_pad]
    rfl
  · rw [st_B m c t acc h0 h1]
    refine ⟨i0, i1, fun h r l => ?_, fun h => absurd h h1⟩
    dsimp only
    rw [tile_apply m c t _ _ i1, i2, ← Finset.sum_range_succ]

/-- So after every point. -/
theorem inv_all (c : Dev nD) : ∀ (n : ℕ) (h : 0 + n < cfg0.N),
    Inv m c (0 + n) (Pipeline.accAt (fun n h => Value.stAt0 m c n h Value.junk0) (Value.stAt0 m c) 0 n h)
  | 0, h => inv_first m c ⟨0 + 0, h⟩ rfl _
  | n + 1, h => by
    rw [Pipeline.accAt_succ]
    have ih := inv_all c n (Nat.lt_of_succ_lt h)
    by_cases h0 : (0 + (n + 1)) % 11 = 0
    · exact inv_first m c ⟨0 + (n + 1), h⟩ h0 _
    · exact inv_next m c ⟨0 + (n + 1), h⟩ (0 + n) rfl h0 _ ih

/-- The result array at an entry. -/
theorem G11_apply (c : Dev nD) (i : Fin 16384) (l : Fin 1024) :
    (Value.G11 m c : Vec Ideal S16384x1024 .f32) (ix2 i l) = res m c i l := by
  have hN : cfg0.N = 176 := N_0
  have hp : Value.pt11Of (ix2 i l) = 11 * (i.val / 1024) + 10 := by
    show 11 * (1 * (i.val / 1024 - 0) + 1 * (l.val / 1024 - 0)) + 10 = _
    omega
  unfold Value.G11
  rw [dif_pos (show Value.pt11Of (ix2 i l) < cfg0.N by rw [hp]; omega)]
  obtain ⟨-, -, -, h⟩ := inv_all m c (Value.pt11Of (ix2 i l)) (by rw [hp]; omega)
  have hl : Value.loc11Of (ix2 i l) = ix2 ⟨i.val % 1024, by omega⟩ ⟨l.val % 1024, by omega⟩ := by
    funext a
    match a with
    | ⟨0, _⟩ => rfl
    | ⟨1, _⟩ => rfl
  rw [hl, h (by rw [hp]; omega)]
  congr 1
  · apply Fin.ext
    show (1024 * ((0 + Value.pt11Of (ix2 i l)) / 11) + i.val % 1024) % 16384 = i.val
    rw [hp]
    omega
  · apply Fin.ext
    show l.val % 1024 = l.val
    omega

end Cert.Kernel4Ideal.Ffn

end
-- ==== Proof.Ffn2Ref.lean ====
/-
  The second feed-forward call, without the closing norm: the reference's result at an entry is the feed-forward formula of the mixed rows.
-/
module

public import proofs.«01_k».proof.Proof.MixMath
public import proofs.«01_k».proof.Proof.Gen.Reference4Ideal.Read

@[expose] public section

set_option maxRecDepth 16384

noncomputable section

namespace Cert.Reference4Ideal.Ffn

open Cert.Reference4Ideal Cert.Reference4Ideal.Read Idealize.ShloMosaic Idealize.ShloMosaic.TcCoe Cert.FfnMath Cert.MixMath

/-- The joined branch outputs at an entry. -/
theorem joined_apply (x1 x2 : (⟨S16384x384, .bf16⟩ : BufTy).Contents (Elt Ideal)) (x3 : (⟨S16384x256, .bf16⟩ : BufTy).Contents (Elt Ideal)) (i : Fin 16384) (j : Fin 1024) :
    val_main_v0 (F := Ideal) x1 x2 x3 (ix2 i j) = joined (fun k => x1 (ix2 i k)) (fun k => x2 (ix2 i k)) (fun k => x3 (ix2 i k)) j := by
  pointwise [val_main_v0, joined]
  by_cases h : j.val < 384
  · simp only [h, dif_pos]
  · by_cases h2 : j.val < 768
    · have h3 : j.val - 384 < 384 := by omega
      simp only [h, h2, h3, dif_pos, dif_neg, not_false_iff]
    · have h3 : ¬ j.val - 384 < 384 := by omega
      simp only [h, h2, h3, dif_neg, not_false_iff, Nat.sub_sub, Nat.reduceAdd]

/-- The reference's mixed row. -/
theorem mix_apply (x0 : (⟨S16384x1024, .f32⟩ : BufTy).Contents (Elt Ideal)) (x1 x2 : (⟨S16384x384, .bf16⟩ : BufTy).Contents (Elt Ideal)) (x3 : (⟨S16384x256, .bf16⟩ : BufTy).Contents (Elt Ideal)) (x4 : (⟨S1024x1024, .f32⟩ : BufTy).Contents (Elt Ideal)) (i : Fin 16384) (l : Fin 1024) :
    val_main_v3 (F := Ideal) x0 x1 x2 x3 x4 (ix2 i l) = mix (fun k => x0 (ix2 i k)) (fun k => x1 (ix2 i k)) (fun k => x2 (ix2 i k)) (fun k => x3 (ix2 i k)) (fun j l => x4 (ix2 j l)) l := by
  have h : val_main_v3 (F := Ideal) x0 x1 x2 x3 x4 (ix2 i l) = x0 (ix2 i l) + ∑ j : Fin 1024, val_main_v0 (F := Ideal) x1 x2 x3 (ix2 i j) * x4 (ix2 j l) := by
    pointwise [val_main_v3, val_main_v2, val_main_v1]
  rw [h]
  simp only [joined_apply]
  rfl

/-- The reference's normed row. -/
theorem norm_apply (x0 : (⟨S16384x1024, .f32⟩ : BufTy).Contents (Elt Ideal)) (x1 x2 : (⟨S16384x384, .bf16⟩ : BufTy).Contents (Elt Ideal)) (x3 : (⟨S16384x256, .bf16⟩ : BufTy).Contents (Elt Ideal)) (x4 : (⟨S1024x1024, .f32⟩ : BufTy).Contents (Elt Ideal)) (x5 : (⟨S1024, .f32⟩ : BufTy).Contents (Elt Ideal)) (i : Fin 16384) (l : Fin 1024) :
    val_main_v16 (F := Ideal) x0 x1 x2 x3 x4 x5 (ix2 i l)
      = nrm (fun k => val_main_v3 (F := Ideal) x0 x1 x2 x3 x4 (ix2 i k)) (fun k => x5 (ix1 k)) l := by
  pointwise [val_main_v16, val_main_v15, val_main_v14, val_main_v13, val_main_v12, val_main_v11, val_main_v10, val_main_v9, val_main_v8, val_main_v7, val_main_v6, val_main_v5, val_main_v4, val_main_cst, val_main_cst_0, val_main_cst_1, nrm]

/-- The reference's hidden units. -/
theorem act_apply (x0 : (⟨S16384x1024, .f32⟩ : BufTy).Contents (Elt Ideal)) (x1 x2 : (⟨S16384x384, .bf16⟩ : BufTy).Contents (Elt Ideal)) (x3 : (⟨S16384x256, .bf16⟩ : BufTy).Contents (Elt Ideal)) (x4 : (⟨S1024x1024, .f32⟩ : BufTy).Contents (Elt Ideal)) (x5 : (⟨S1024, .f32⟩ : BufTy).Contents (Elt Ideal)) (x6 x7 : (⟨S1024x2752, .f32⟩ : BufTy).Contents (Elt Ideal)) (i : Fin 16384) (p : Fin 2752) :
    val_main_v20 (F := Ideal) x0 x1 x2 x3 x4 x5 x6 x7 (ix2 i p)
      = act (fun k => val_main_v16 (F := Ideal) x0 x1 x2 x3 x4 x5 (ix2 i k)) (fun k => x6 (ix2 k p)) (fun k => x7 (ix2 k p)) := by
  pointwise [val_main_v20, val_main_v19, val_main_v18, val_main_v17, val_main_call0_v0, val_main_call0_v1, val_main_call0_v2, val_main_call0_v3, val_main_call0_v4, val_main_call0_v5, val_main_call0_cst, val_main_call0_cst_0, act]
  rw [zero_sub]

/-- The mixed row plus half the feed-forward sum. -/
theorem sum_apply (x0 : (⟨S16384x1024, .f32⟩ : BufTy).Contents (Elt Ideal)) (x1 x2 : (⟨S16384x384, .bf16⟩ : BufTy).Contents (Elt Ideal)) (x3 : (⟨S16384x256, .bf16⟩ : BufTy).Contents (Elt Ideal)) (x4 : (⟨S1024x1024, .f32⟩ : BufTy).Contents (Elt Ideal)) (x5 : (⟨S1024, .f32⟩ : BufTy).Contents (Elt Ideal)) (x6 x7 : (⟨S1024x2752, .f32⟩ : BufTy).Contents (Elt Ideal)) (x8 : (⟨S2752x1024, .f32⟩ : BufTy).Contents (Elt Ideal)) (i : Fin 16384) (l : Fin 1024) :
    val_main_v24 (F := Ideal) x0 x1 x2 x3 x4 x5 x6 x7 x8 (ix2 i l)
      = mix (fun k => x0 (ix2 i k)) (fun k => x1 (ix2 i k)) (fun k => x2 (ix2 i k)) (fun k => x3 (ix2 i k)) (fun j l => x4 (ix2 j l)) l + Ideal.ofBits FTy.f32 0x3F000000#32
        * ffn (nrm (mix (fun k => x0 (ix2 i k)) (fun k => x1 (ix2 i k)) (fun k => x2 (ix2 i k)) (fun k => x3 (ix2 i k)) (fun j l => x4 (ix2 j l))) (fun k => x5 (ix1 k))) (fun k p => x6 (ix2 k p)) (fun k p => x7 (ix2 k p)) (fun p l => x8 (ix2 p l)) l := by
  have h : val_main_v24 (F := Ideal) x0 x1 x2 x3 x4 x5 x6 x7 x8 (ix2 i l) = val_main_v3 (F := Ideal) x0 x1 x2 x3 x4 (ix2 i l) + Ideal.ofBits FTy.f32 0x3F000000#32
      * ∑ p : Fin 2752, val_main_v20 (F := Ideal) x0 x1 x2 x3 x4 x5 x6 x7 (ix2 i p) * x8 (ix2 p l) := by
    pointwise [val_main_v24, val_main_v23, val_main_v22, val_main_v21, val_main_cst_2]
  rw [h]
  simp only [act_apply, norm_apply, mix_apply]
  rfl

end Cert.Reference4Ideal.Ffn

end
-- ==== Proof.Ffn2.lean ====
/-
  The second feed-forward call, without the closing norm: its result array is the reference's, at every entry.
-/
module

public import proofs.«01_k».proof.Defs
public import proofs.«01_k».proof.Proof.Ffn2Value
public import proofs.«01_k».proof.Proof.Ffn2Ref
public import proofs.«01_k».proof.Proof.Gen.Reference4Ideal.Run

@[expose] public section

set_option maxRecDepth 16384

noncomputable section

namespace Cert.Ffn2

open Idealize.ShloMosaic Idealize.ShloMosaic.TcCoe Idealize.SL.Sem

/-- The second feed-forward call, without the closing norm computes its reference over the extended reals. -/
theorem algebraic : Cert.algebraic_Kernel4Ideal_Reference4Ideal := by
  intro m ρ m' ρ' _ hagree
  refine ⟨fun c => Cert.Kernel4Ideal.Value.G11 m c, Cert.Kernel4Ideal.Value.run (F := Ideal) m ρ, ?_⟩
  refine (θ_run Cert.Reference4Ideal.defs _ _).mono (fun _ h c => ?_) (Cert.Reference4Ideal.Value.run (F := Ideal) m' ρ')
  refine ⟨(h c).1.trans ?_, (h c).2⟩
  rw [Cert.Reference4Ideal.Read.val_main_v24_eq]
  funext i
  obtain ⟨a, b, rfl⟩ : ∃ (a : Fin 16384) (b : Fin 1024), i = ix2 a b := ⟨i 0, i 1, by
    funext k
    match k with
    | ⟨0, _⟩ => rfl
    | ⟨1, _⟩ => rfl⟩
  refine (Cert.Reference4Ideal.Ffn.sum_apply _ _ _ _ _ _ _ _ _ a b).trans (Eq.trans ?_ (Cert.Kernel4Ideal.Ffn.G11_apply m c a b).symm)
  obtain ⟨h0, h1, h2, h3, h4, h5, h6, h7, h8⟩ := hagree c
  rw [h0, h1, h2, h3, h4, h5, h6, h7, h8]
  rfl

end Cert.Ffn2

end
-- ==== Proof.MixInValue.lean ====
/-
  The projection into the three branches: what one block of 512 rows computes, and what the six result arrays
  end holding — at every entry, the normed row times a column of the packed weights.
-/
module

public import proofs.«01_k».proof.Proof.FfnMath
public import proofs.«01_k».proof.Proof.Gen.Kernel5Ideal.Value
public import Idealize.ShloMosaic.Lib.Tactic
public import Idealize.ShloMosaic.Lib.Pipeline.ValueKit.Tiles

@[expose] public section

set_option maxRecDepth 16384

noncomputable section

namespace Cert.Kernel5Ideal.MixIn

open Cert.Kernel5Ideal Cert.Kernel5Ideal.Gen Idealize.ShloMosaic Idealize.ShloMosaic.TcCoe Idealize.SL.Sem Cert.FfnMath

/-- The literal zero offsets are the zero function. -/
theorem hz : (![0, 0] : Fin 2 → Nat) = fun _ => 0 := funext fun a => by fin_cases a <;> rfl

/-- A row normed, times column `p` of the packed weights, from the blocks. -/
def proj (x0 : Vec Ideal S512x1024 .f32) (x1 : Vec Ideal S1x1024 .f32) (x2 : Vec Ideal S1024x3712 .bf16) (r : Fin 512) (p : Fin 3712) : EReal :=
  ∑ k : Fin 1024, nrm (fun k => x0 (ix2 r k)) (fun k => x1 (ix2 0 k)) k * x2 (ix2 k p)

/-- The normed block at an entry. -/
theorem pay3_apply (x : Vec Ideal S512x1024 .f32) (g : Vec Ideal S1x1024 .f32) (r : Fin 512) (k : Fin 1024) :
    k0_pay3 x g (ix2 r k) = nrm (fun k => x (ix2 r k)) (fun k => g (ix2 0 k)) k := by
  pointwise [k0_pay3, nrm]

/-- The whole rows' block is loaded whole. -/
theorem ld_x (x0 : Vec Ideal S512x1024 .f32) : View.ld x0 r0_0 = x0 := View.ld_unit_zero (S := S512x1024) hz _ _

/-- The scale is loaded whole. -/
theorem ld_g (x1 : Vec Ideal S1x1024 .f32) : View.ld x1 r0_1 = x1 := View.ld_unit_zero (S := S1x1024) hz _ _

/-- Columns 768 to 1151 of the block's product. -/
theorem tile_768 (x0 : Vec Ideal S512x1024 .f32) (x1 : Vec Ideal S1x1024 .f32) (x2 : Vec Ideal S1024x3712 .bf16) (a : Fin 512) (b : Fin 384) :
    k0_pay6 (View.ld x0 r0_0) (View.ld x1 r0_1) (View.ld x2 r0_6) (ix2 a b) = proj x0 x1 x2 a ⟨768 + b.val, by omega⟩ := by
  have h : k0_pay6 x0 x1 (View.ld x2 r0_6) (ix2 a b) = ∑ k : Fin 1024, k0_pay3 x0 x1 (ix2 a k) * View.ld x2 r0_6 (ix2 k b) := by
    pointwise [k0_pay6]
  rw [ld_x, ld_g, h]
  refine Finset.sum_congr rfl fun k _ => ?_
  rw [pay3_apply]
  refine congrArg _ (View.ld_unit_apply_of x2 _ _ _ (ix2 k b) (ix2 k ⟨768 + b.val, by omega⟩) fun d => ?_)
  match d with
  | ⟨0, _⟩ => show k.val = 0 + k.val; omega
  | ⟨1, _⟩ => rfl

/-- Columns 384 to 767 of the block's product. -/
theorem tile_384 (x0 : Vec Ideal S512x1024 .f32) (x1 : Vec Ideal S1x1024 .f32) (x2 : Vec Ideal S1024x3712 .bf16) (a : Fin 512) (b : Fin 384) :
    k0_pay5 (View.ld x0 r0_0) (View.ld x1 r0_1) (View.ld x2 r0_4) (ix2 a b) = proj x0 x1 x2 a ⟨384 + b.val, by omega⟩ := by
  have h : k0_pay5 x0 x1 (View.ld x2 r0_4) (ix2 a b) = ∑ k : Fin 1024, k0_pay3 x0 x1 (ix2 a k) * View.ld x2 r0_4 (ix2 k b) := by
    pointwise [k0_pay5]
  rw [ld_x, ld_g, h]
  refine Finset.sum_congr rfl fun k _ => ?_
  rw [pay3_apply]
  refine congrArg _ (View.ld_unit_apply_of x2 _ _ _ (ix2 k b) (ix2 k ⟨384 + b.val, by omega⟩) fun d => ?_)
  match d with
  | ⟨0, _⟩ => show k.val = 0 + k.val; omega
  | ⟨1, _⟩ => rfl

/-- Columns 0 to 383 of the block's product. -/
theorem tile_0 (x0 : Vec Ideal S512x1024 .f32) (x1 : Vec Ideal S1x1024 .f32) (x2 : Vec Ideal S1024x3712 .bf16) (a : Fin 512) (b : Fin 384) :
    k0_pay4 (View.ld x0 r0_0) (View.ld x1 r0_1) (View.ld x2 r0_2) (ix2 a b) = proj x0 x1 x2 a ⟨0 + b.val, by omega⟩ := by
  have h : k0_pay4 x0 x1 (View.ld x2 r0_2) (ix2 a b) = ∑ k : Fin 1024, k0_pay3 x0 x1 (ix2 a k) * View.ld x2 r0_2 (ix2 k b) := by
    pointwise [k0_pay4]
  rw [ld_x, ld_g, h]
  refine Finset.sum_congr rfl fun k _ => ?_
  rw [pay3_apply]
  refine congrArg _ (View.ld_unit_apply_of x2 _ _ _ (ix2 k b) (ix2 k ⟨0 + b.val, by omega⟩) fun d => ?_)
  match d with
  | ⟨0, _⟩ => show k.val = 0 + k.val; omega
  | ⟨1, _⟩ => rfl

/-- Result block 0 at an entry. -/
theorem out3_apply (x0 : Vec Ideal S512x1024 .f32) (x1 : Vec Ideal S1x1024 .f32) (x2 : Vec Ideal S1024x3712 .bf16) (r : Fin 512) (l : Fin 1152) :
    out0_3 x0 x1 x2 (ix2 r l) = proj x0 x1 x2 r ⟨0 + l.val, by omega⟩ := by
  unfold out0_3
  refine View.canon_eq_of_allAt _ _ _ (cover0_3 _ _ _ _) ?_
  refine View.allAt_cons_unit _ _ _ _ _ (fun x hx => ?_) ?_
  · obtain ⟨a, b, rfl⟩ : ∃ (a : Fin 512) (b : Fin 384), x = ix2 a b := ⟨x 0, x 1, by
      funext k
      match k with
      | ⟨0, _⟩ => rfl
      | ⟨1, _⟩ => rfl⟩
    have h0 : r.val = 0 + a.val := hx 0
    have h1 : l.val = 768 + b.val := hx 1
    refine (tile_768 x0 x1 x2 a b).trans ?_
    congr 1
    · apply Fin.ext; omega
    · apply Fin.ext; show 768 + b.val = 0 + l.val; omega
  refine View.allAt_cons_unit _ _ _ _ _ (fun x hx => ?_) ?_
  · obtain ⟨a, b, rfl⟩ : ∃ (a : Fin 512) (b : Fin 384), x = ix2 a b := ⟨x 0, x 1, by
      funext k
      match k with
      | ⟨0, _⟩ => rfl
      | ⟨1, _⟩ => rfl⟩
    have h0 : r.val = 0 + a.val := hx 0
    have h1 : l.val = 384 + b.val := hx 1
    refine (tile_384 x0 x1 x2 a b).trans ?_
    congr 1
    · apply Fin.ext; omega
    · apply Fin.ext; show 384 + b.val = 0 + l.val; omega
  refine View.allAt_cons_unit _ _ _ _ _ (fun x hx => ?_) ?_
  · obtain ⟨a, b, rfl⟩ : ∃ (a : Fin 512) (b : Fin 384), x = ix2 a b := ⟨x 0, x 1, by
      funext k
      match k with
      | ⟨0, _⟩ => rfl
      | ⟨1, _⟩ => rfl⟩
    have h0 : r.val = 0 + a.val := hx 0
    have h1 : l.val = 0 + b.val := hx 1
    refine (tile_0 x0 x1 x2 a b).trans ?_
    congr 1
    · apply Fin.ext; omega
    · apply Fin.ext; show 0 + b.val = 0 + l.val; omega
  exact View.allAt_nil _ _

/-- Columns 1152 to 1407 of the block's product. -/
theorem tile_1152 (x0 : Vec Ideal S512x1024 .f32) (x1 : Vec Ideal S1x1024 .f32) (x2 : Vec Ideal S1024x3712 .bf16) (a : Fin 512) (b : Fin 256) :
    k0_pay7 (View.ld x0 r0_0) (View.ld x1 r0_1) (View.ld x2 r0_8) (ix2 a b) = proj x0 x1 x2 a ⟨1152 + b.val, by omega⟩ := by
  have h : k0_pay7 x0 x1 (View.ld x2 r0_8) (ix2 a b) = ∑ k : Fin 1024, k0_pay3 x0 x1 (ix2 a k) * View.ld x2 r0_8 (ix2 k b) := by
    pointwise [k0_pay7]
  rw [ld_x, ld_g, h]
  refine Finset.sum_congr rfl fun k _ => ?_
  rw [pay3_apply]
  refine congrArg _ (View.ld_unit_apply_of x2 _ _ _ (ix2 k b) (ix2 k ⟨1152 + b.val, by omega⟩) fun d => ?_)
  match d with
  | ⟨0, _⟩ => show k.val = 0 + k.val; omega
  | ⟨1, _⟩ => rfl

/-- Result block 1 at an entry. -/
theorem out4_apply (x0 : Vec Ideal S512x1024 .f32) (x1 : Vec Ideal S1x1024 .f32) (x2 : Vec Ideal S1024x3712 .bf16) (r : Fin 512) (l : Fin 256) :
    out0_4 x0 x1 x2 (ix2 r l) = proj x0 x1 x2 r ⟨1152 + l.val, by omega⟩ := by
  unfold out0_4
  refine View.canon_eq_of_allAt _ _ _ (cover0_4 _ _) ?_
  refine View.allAt_cons_unit _ _ _ _ _ (fun x hx => ?_) ?_
  · obtain ⟨a, b, rfl⟩ : ∃ (a : Fin 512) (b : Fin 256), x = ix2 a b := ⟨x 0, x 1, by
      funext k
      match k with
      | ⟨0, _⟩ => rfl
      | ⟨1, _⟩ => rfl⟩
    have h0 : r.val = 0 + a.val := hx 0
    have h1 : l.val = 0 + b.val := hx 1
    refine (tile_1152 x0 x1 x2 a b).trans ?_
    congr 1
    · apply Fin.ext; omega
    · apply Fin.ext; show 1152 + b.val = 1152 + l.val; omega
  exact View.allAt_nil _ _

/-- Columns 1408 to 1791 of the block's product. -/
theorem tile_1408 (x0 : Vec Ideal S512x1024 .f32) (x1 : Vec Ideal S1x1024 .f32) (x2 : Vec Ideal S1024x3712 .bf16) (a : Fin 512) (b : Fin 384) :
    k0_pay8 (k0_pay14 x0 x1 x2) (View.ld x2 r0_10) (ix2 a b) = proj x0 x1 x2 a ⟨1408 + b.val, by omega⟩ := by
  have h : k0_pay8 (k0_pay14 x0 x1 x2) (View.ld x2 r0_10) (ix2 a b) = ∑ k : Fin 1024, k0_pay14 x0 x1 x2 (ix2 a k) * View.ld x2 r0_10 (ix2 k b) := by
    generalize k0_pay14 x0 x1 x2 = y
    pointwise [k0_pay8]
  rw [h]
  unfold k0_pay14
  rw [ld_x, ld_g]
  refine Finset.sum_congr rfl fun k _ => ?_
  rw [pay3_apply]
  refine congrArg _ (View.ld_unit_apply_of x2 _ _ _ (ix2 k b) (ix2 k ⟨1408 + b.val, by omega⟩) fun d => ?_)
  match d with
  | ⟨0, _⟩ => show k.val = 0 + k.val; omega
  | ⟨1, _⟩ => rfl

/-- Result block 2 at an entry. -/
theorem out5_apply (x0 : Vec Ideal S512x1024 .f32) (x1 : Vec Ideal S1x1024 .f32) (x2 : Vec Ideal S1024x3712 .bf16) (r : Fin 512) (l : Fin 384) :
    out0_5 x0 x1 x2 (ix2 r l) = proj x0 x1 x2 r ⟨1408 + l.val, by omega⟩ := by
  unfold out0_5
  refine View.canon_eq_of_allAt _ _ _ (cover0_5 _ _) ?_
  refine View.allAt_cons_unit _ _ _ _ _ (fun x hx => ?_) ?_
  · obtain ⟨a, b, rfl⟩ : ∃ (a : Fin 512) (b : Fin 384), x = ix2 a b := ⟨x 0, x 1, by
      funext k
      match k with
      | ⟨0, _⟩ => rfl
      | ⟨1, _⟩ => rfl⟩
    have h0 : r.val = 0 + a.val := hx 0
    have h1 : l.val = 0 + b.val := hx 1
    refine (tile_1408 x0 x1 x2 a b).trans ?_
    congr 1
    · apply Fin.ext; omega
    · apply Fin.ext; show 1408 + b.val = 1408 + l.val; omega
  exact View.allAt_nil _ _

/-- Columns 2048 to 2303 of the block's product. -/
theorem tile_2048 (x0 : Vec Ideal S512x1024 .f32) (x1 : Vec Ideal S1x1024 .f32) (x2 : Vec Ideal S1024x3712 .bf16) (a : Fin 512) (b : Fin 256) :
    k0_pay10 (k0_pay14 x0 x1 x2) (View.ld x2 r0_14) (ix2 a b) = proj x0 x1 x2 a ⟨2048 + b.val, by omega⟩ := by
  have h : k0_pay10 (k0_pay14 x0 x1 x2) (View.ld x2 r0_14) (ix2 a b) = ∑ k : Fin 1024, k0_pay14 x0 x1 x2 (ix2 a k) * View.ld x2 r0_14 (ix2 k b) := by
    generalize k0_pay14 x0 x1 x2 = y
    pointwise [k0_pay10]
  rw [h]
  unfold k0_pay14
  rw [ld_x, ld_g]
  refine Finset.sum_congr rfl fun k _ => ?_
  rw [pay3_apply]
  refine congrArg _ (View.ld_unit_apply_of x2 _ _ _ (ix2 k b) (ix2 k ⟨2048 + b.val, by omega⟩) fun d => ?_)
  match d with
  | ⟨0, _⟩ => show k.val = 0 + k.val; omega
  | ⟨1, _⟩ => rfl

/-- Columns 1792 to 2047 of the block's product. -/
theorem tile_1792 (x0 : Vec Ideal S512x1024 .f32) (x1 : Vec Ideal S1x1024 .f32) (x2 : Vec Ideal S1024x3712 .bf16) (a : Fin 512) (b : Fin 256) :
    k0_pay9 (k0_pay14 x0 x1 x2) (View.ld x2 r0_12) (ix2 a b) = proj x0 x1 x2 a ⟨1792 + b.val, by omega⟩ := by
  have h : k0_pay9 (k0_pay14 x0 x1 x2) (View.ld x2 r0_12) (ix2 a b) = ∑ k : Fin 1024, k0_pay14 x0 x1 x2 (ix2 a k) * View.ld x2 r0_12 (ix2 k b) := by
    generalize k0_pay14 x0 x1 x2 = y
    pointwise [k0_pay9]
  rw [h]
  unfold k0_pay14
  rw [ld_x, ld_g]
  refine Finset.sum_congr rfl fun k _ => ?_
  rw [pay3_apply]
  refine congrArg _ (View.ld_unit_apply_of x2 _ _ _ (ix2 k b) (ix2 k ⟨1792 + b.val, by omega⟩) fun d => ?_)
  match d with
  | ⟨0, _⟩ => show k.val = 0 + k.val; omega
  | ⟨1, _⟩ => rfl

/-- Result block 3 at an entry. -/
theorem out6_apply (x0 : Vec Ideal S512x1024 .f32) (x1 : Vec Ideal S1x1024 .f32) (x2 : Vec Ideal S1024x3712 .bf16) (r : Fin 512) (l : Fin 512) :
    out0_6 x0 x1 x2 (ix2 r l) = proj x0 x1 x2 r ⟨1792 + l.val, by omega⟩ := by
  unfold out0_6
  refine View.canon_eq_of_allAt _ _ _ (cover0_6 _ _ _) ?_
  refine View.allAt_cons_unit _ _ _ _ _ (fun x hx => ?_) ?_
  · obtain ⟨a, b, rfl⟩ : ∃ (a : Fin 512) (b : Fin 256), x = ix2 a b := ⟨x 0, x 1, by
      funext k
      match k with
      | ⟨0, _⟩ => rfl
      | ⟨1, _⟩ => rfl⟩
    have h0 : r.val = 0 + a.val := hx 0
    have h1 : l.val = 256 + b.val := hx 1
    refine (tile_2048 x0 x1 x2 a b).trans ?_
    congr 1
    · apply Fin.ext; omega
    · apply Fin.ext; show 2048 + b.val = 1792 + l.val; omega
  refine View.allAt_cons_unit _ _ _ _ _ (fun x hx => ?_) ?_
  · obtain ⟨a, b, rfl⟩ : ∃ (a : Fin 512) (b : Fin 256), x = ix2 a b := ⟨x 0, x 1, by
      funext k
      match k with
      | ⟨0, _⟩ => rfl
      | ⟨1, _⟩ => rfl⟩
    have h0 : r.val = 0 + a.val := hx 0
    have h1 : l.val = 0 + b.val := hx 1
    refine (tile_1792 x0 x1 x2 a b).trans ?_
    congr 1
    · apply Fin.ext; omega
    · apply Fin.ext; show 1792 + b.val = 1792 + l.val; omega
  exact View.allAt_nil _ _

/-- Columns 2304 to 2687 of the block's product. -/
theorem tile_2304 (x0 : Vec Ideal S512x1024 .f32) (x1 : Vec Ideal S1x1024 .f32) (x2 : Vec Ideal S1024x3712 .bf16) (a : Fin 512) (b : Fin 384) :
    k0_pay11 (k0_pay14 x0 x1 x2) (View.ld x2 r0_16) (ix2 a b) = proj x0 x1 x2 a ⟨2304 + b.val, by omega⟩ := by
  have h : k0_pay11 (k0_pay14 x0 x1 x2) (View.ld x2 r0_16) (ix2 a b) = ∑ k : Fin 1024, k0_pay14 x0 x1 x2 (ix2 a k) * View.ld x2 r0_16 (ix2 k b) := by
    generalize k0_pay14 x0 x1 x2 = y
    pointwise [k0_pay11]
  rw [h]
  unfold k0_pay14
  rw [ld_x, ld_g]
  refine Finset.sum_congr rfl fun k _ => ?_
  rw [pay3_apply]
  refine congrArg _ (View.ld_unit_apply_of x2 _ _ _ (ix2 k b) (ix2 k ⟨2304 + b.val, by omega⟩) fun d => ?_)
  match d with
  | ⟨0, _⟩ => show k.val = 0 + k.val; omega
  | ⟨1, _⟩ => rfl

/-- Result block 4 at an entry. -/
theorem out7_apply (x0 : Vec Ideal S512x1024 .f32) (x1 : Vec Ideal S1x1024 .f32) (x2 : Vec Ideal S1024x3712 .bf16) (r : Fin 512) (l : Fin 384) :
    out0_7 x0 x1 x2 (ix2 r l) = proj x0 x1 x2 r ⟨2304 + l.val, by omega⟩ := by
  unfold out0_7
  refine View.canon_eq_of_allAt _ _ _ (cover0_7 _ _) ?_
  refine View.allAt_cons_unit _ _ _ _ _ (fun x hx => ?_) ?_
  · obtain ⟨a, b, rfl⟩ : ∃ (a : Fin 512) (b : Fin 384), x = ix2 a b := ⟨x 0, x 1, by
      funext k
      match k with
      | ⟨0, _⟩ => rfl
      | ⟨1, _⟩ => rfl⟩
    have h0 : r.val = 0 + a.val := hx 0
    have h1 : l.val = 0 + b.val := hx 1
    refine (tile_2304 x0 x1 x2 a b).trans ?_
    congr 1
    · apply Fin.ext; omega
    · apply Fin.ext; show 2304 + b.val = 2304 + l.val; omega
  exact View.allAt_nil _ _

/-- Columns 3456 to 3711 of the block's product. -/
theorem tile_3456 (x0 : Vec Ideal S512x1024 .f32) (x1 : Vec Ideal S1x1024 .f32) (x2 : Vec Ideal S1024x3712 .bf16) (a : Fin 512) (b : Fin 256) :
    k0_pay2 (k0_pay14 x0 x1 x2) (View.ld x2 r0_23) (ix2 a b) = proj x0 x1 x2 a ⟨3456 + b.val, by omega⟩ := by
  have h : k0_pay2 (k0_pay14 x0 x1 x2) (View.ld x2 r0_23) (ix2 a b) = ∑ k : Fin 1024, k0_pay14 x0 x1 x2 (ix2 a k) * View.ld x2 r0_23 (ix2 k b) := by
    generalize k0_pay14 x0 x1 x2 = y
    pointwise [k0_pay2]
  rw [h]
  unfold k0_pay14
  rw [ld_x, ld_g]
  refine Finset.sum_congr rfl fun k _ => ?_
  rw [pay3_apply]
  refine congrArg _ (View.ld_unit_apply_of x2 _ _ _ (ix2 k b) (ix2 k ⟨3456 + b.val, by omega⟩) fun d => ?_)
  match d with
  | ⟨0, _⟩ => show k.val = 0 + k.val; omega
  | ⟨1, _⟩ => rfl

/-- Columns 3200 to 3455 of the block's product. -/
theorem tile_3200 (x0 : Vec Ideal S512x1024 .f32) (x1 : Vec Ideal S1x1024 .f32) (x2 : Vec Ideal S1024x3712 .bf16) (a : Fin 512) (b : Fin 256) :
    k0_pay1 (k0_pay14 x0 x1 x2) (View.ld x2 r0_21) (ix2 a b) = proj x0 x1 x2 a ⟨3200 + b.val, by omega⟩ := by
  have h : k0_pay1 (k0_pay14 x0 x1 x2) (View.ld x2 r0_21) (ix2 a b) = ∑ k : Fin 1024, k0_pay14 x0 x1 x2 (ix2 a k) * View.ld x2 r0_21 (ix2 k b) := by
    generalize k0_pay14 x0 x1 x2 = y
    pointwise [k0_pay1]
  rw [h]
  unfold k0_pay14
  rw [ld_x, ld_g]
  refine Finset.sum_congr rfl fun k _ => ?_
  rw [pay3_apply]
  refine congrArg _ (View.ld_unit_apply_of x2 _ _ _ (ix2 k b) (ix2 k ⟨3200 + b.val, by omega⟩) fun d => ?_)
  match d with
  | ⟨0, _⟩ => show k.val = 0 + k.val; omega
  | ⟨1, _⟩ => rfl

/-- Columns 2944 to 3199 of the block's product. -/
theorem tile_2944 (x0 : Vec Ideal S512x1024 .f32) (x1 : Vec Ideal S1x1024 .f32) (x2 : Vec Ideal S1024x3712 .bf16) (a : Fin 512) (b : Fin 256) :
    k0_pay13 (k0_pay14 x0 x1 x2) (View.ld x2 r0_19) (ix2 a b) = proj x0 x1 x2 a ⟨2944 + b.val, by omega⟩ := by
  have h : k0_pay13 (k0_pay14 x0 x1 x2) (View.ld x2 r0_19) (ix2 a b) = ∑ k : Fin 1024, k0_pay14 x0 x1 x2 (ix2 a k) * View.ld x2 r0_19 (ix2 k b) := by
    generalize k0_pay14 x0 x1 x2 = y
    pointwise [k0_pay13]
  rw [h]
  unfold k0_pay14
  rw [ld_x, ld_g]
  refine Finset.sum_congr rfl fun k _ => ?_
  rw [pay3_apply]
  refine congrArg _ (View.ld_unit_apply_of x2 _ _ _ (ix2 k b) (ix2 k ⟨2944 + b.val, by omega⟩) fun d => ?_)
  match d with
  | ⟨0, _⟩ => show k.val = 0 + k.val; omega
  | ⟨1, _⟩ => rfl

/-- Columns 2688 to 2943 of the block's product. -/
theorem tile_2688 (x0 : Vec Ideal S512x1024 .f32) (x1 : Vec Ideal S1x1024 .f32) (x2 : Vec Ideal S1024x3712 .bf16) (a : Fin 512) (b : Fin 256) :
    k0_pay12 (k0_pay14 x0 x1 x2) (View.ld x2 r0_17) (ix2 a b) = proj x0 x1 x2 a ⟨2688 + b.val, by omega⟩ := by
  have h : k0_pay12 (k0_pay14 x0 x1 x2) (View.ld x2 r0_17) (ix2 a b) = ∑ k : Fin 1024, k0_pay14 x0 x1 x2 (ix2 a k) * View.ld x2 r0_17 (ix2 k b) := by
    generalize k0_pay14 x0 x1 x2 = y
    pointwise [k0_pay12]
  rw [h]
  unfold k0_pay14
  rw [ld_x, ld_g]
  refine Finset.sum_congr rfl fun k _ => ?_
  rw [pay3_apply]
  refine congrArg _ (View.ld_unit_apply_of x2 _ _ _ (ix2 k b) (ix2 k ⟨2688 + b.val, by omega⟩) fun d => ?_)
  match d with
  | ⟨0, _⟩ => show k.val = 0 + k.val; omega
  | ⟨1, _⟩ => rfl

/-- Result block 5 at an entry. -/
theorem out8_apply (x0 : Vec Ideal S512x1024 .f32) (x1 : Vec Ideal S1x1024 .f32) (x2 : Vec Ideal S1024x3712 .bf16) (r : Fin 512) (l : Fin 1024) :
    out0_8 x0 x1 x2 (ix2 r l) = proj x0 x1 x2 r ⟨2688 + l.val, by omega⟩ := by
  unfold out0_8
  refine View.canon_eq_of_allAt _ _ _ (cover0_8 _ _ _ _ _) ?_
  refine View.allAt_cons_unit _ _ _ _ _ (fun x hx => ?_) ?_
  · obtain ⟨a, b, rfl⟩ : ∃ (a : Fin 512) (b : Fin 256), x = ix2 a b := ⟨x 0, x 1, by
      funext k
      match k with
      | ⟨0, _⟩ => rfl
      | ⟨1, _⟩ => rfl⟩
    have h0 : r.val = 0 + a.val := hx 0
    have h1 : l.val = 768 + b.val := hx 1
    refine (tile_3456 x0 x1 x2 a b).trans ?_
    congr 1
    · apply Fin.ext; omega
    · apply Fin.ext; show 3456 + b.val = 2688 + l.val; omega
  refine View.allAt_cons_unit _ _ _ _ _ (fun x hx => ?_) ?_
  · obtain ⟨a, b, rfl⟩ : ∃ (a : Fin 512) (b : Fin 256), x = ix2 a b := ⟨x 0, x 1, by
      funext k
      match k with
      | ⟨0, _⟩ => rfl
      | ⟨1, _⟩ => rfl⟩
    have h0 : r.val = 0 + a.val := hx 0
    have h1 : l.val = 512 + b.val := hx 1
    refine (tile_3200 x0 x1 x2 a b).trans ?_
    congr 1
    · apply Fin.ext; omega
    · apply Fin.ext; show 3200 + b.val = 2688 + l.val; omega
  refine View.allAt_cons_unit _ _ _ _ _ (fun x hx => ?_) ?_
  · obtain ⟨a, b, rfl⟩ : ∃ (a : Fin 512) (b : Fin 256), x = ix2 a b := ⟨x 0, x 1, by
      funext k
      match k with
      | ⟨0, _⟩ => rfl
      | ⟨1, _⟩ => rfl⟩
    have h0 : r.val = 0 + a.val := hx 0
    have h1 : l.val = 256 + b.val := hx 1
    refine (tile_2944 x0 x1 x2 a b).trans ?_
    congr 1
    · apply Fin.ext; omega
    · apply Fin.ext; show 2944 + b.val = 2688 + l.val; omega
  refine View.allAt_cons_unit _ _ _ _ _ (fun x hx => ?_) ?_
  · obtain ⟨a, b, rfl⟩ : ∃ (a : Fin 512) (b : Fin 256), x = ix2 a b := ⟨x 0, x 1, by
      funext k
      match k with
      | ⟨0, _⟩ => rfl
      | ⟨1, _⟩ => rfl⟩
    have h0 : r.val = 0 + a.val := hx 0
    have h1 : l.val = 0 + b.val := hx 1
    refine (tile_2688 x0 x1 x2 a b).trans ?_
    congr 1
    · apply Fin.ext; omega
    · apply Fin.ext; show 2688 + b.val = 2688 + l.val; omega
  exact View.allAt_nil _ _

variable (m : (ℓ : Loc nD τ sig) → Buf (Elt Ideal) ℓ)

/-! ## The arguments by entry, and the blocks read at a point -/

/-- Row `i` of `x`. -/
def xrow (c : Dev nD) (i : Fin 16384) (k : Fin 1024) : EReal := (m ((c : Thread nD τ).loc main_arg0) : Vec Ideal S16384x1024 .f32) (ix2 i k)
/-- The norm's scale. -/
def gn (c : Dev nD) (k : Fin 1024) : EReal := (m ((c : Thread nD τ).loc main_arg1) : Vec Ideal S1024 .f32) (ix1 k)
/-- The packed weights. -/
def wp (c : Dev nD) (k : Fin 1024) (p : Fin 3712) : EReal := (m ((c : Thread nD τ).loc main_arg2) : Vec Ideal S1024x3712 .f32) (ix2 k p)
/-- A normed row times a column of the packed weights. -/
def res (c : Dev nD) (i : Fin 16384) (p : Fin 3712) : EReal := ∑ k : Fin 1024, nrm (xrow m c i) (gn m c) k * wp m c k p

/-- The scale, as one row. -/
theorem V0_eq (c : Dev nD) :
    V m c main_v0 = shapeCast S1x1024 (m ((c : Thread nD τ).loc main_arg1) : Vec Ideal S1024 .f32) shapeCasts_S1024_S1x1024 := by
  unfold V
  simp only [hostOps0, List.flatten_cons, List.flatten_nil, List.append_nil, List.cons_append, List.nil_append]
  after_results
  rfl

/-- The packed weights, cast. -/
theorem V1_eq (c : Dev nD) :
    @Eq (FVec Ideal S1024x3712 .bf16) (V m c main_v1) <| truncf (F := Ideal) .bf16 (m ((c : Thread nD τ).loc main_arg2) : Vec Ideal S1024x3712 .f32) bitsLt_bf16_f32 := by
  unfold V
  simp only [hostOps0, List.flatten_cons, List.flatten_nil, List.append_nil, List.cons_append, List.nil_append]
  after_results

/-- The scale row at an entry. -/
theorem V0_apply (c : Dev nD) (k : Fin 1024) : (V m c main_v0 : Vec Ideal S1x1024 .f32) (ix2 0 k) = gn m c k := by
  rw [V0_eq]
  unfold gn
  pointwise

/-- The packed weights at an entry. -/
theorem V1_apply (c : Dev nD) (k : Fin 1024) (p : Fin 3712) : (V m c main_v1 : Vec Ideal S1024x3712 .bf16) (ix2 k p) = wp m c k p :=
  congrFun (V1_eq m c) _

/-- The block index of window 0. -/
theorem idx0 : ∀ t : Fin cfg0.N, win0_0.index t 0 = t.val ∧ win0_0.index t 1 = 0 := by decide +kernel
/-- The block index of window 1. -/
theorem idx1 : ∀ t : Fin cfg0.N, win0_1.index t 0 = 0 ∧ win0_1.index t 1 = 0 := by decide +kernel
/-- The block index of window 2. -/
theorem idx2 : ∀ t : Fin cfg0.N, win0_2.index t 0 = 0 ∧ win0_2.index t 1 = 0 := by decide +kernel

/-- The rows of `x` read at a point. -/
theorem iblk0_apply (c : Dev nD) (t : Fin cfg0.N) (r : Fin 512) (l : Fin 1024) (i : Fin 16384) (hi : i.val = 512 * t.val + r.val) :
    (iblk m c 0 t : Vec Ideal S512x1024 .f32) (ix2 r l) = xrow m c i l := by
  unfold iblk
  rw [View.read_apply]
  show V m c main_arg0 _ = _
  rw [V_main_arg0]
  unfold xrow
  congr 1
  funext a
  apply Fin.ext
  match a with
  | ⟨0, _⟩ => show win0_0.index t 0 * 512 + 1 * r.val = i.val; rw [(idx0 t).1]; omega
  | ⟨1, _⟩ => show win0_0.index t 1 * 1024 + 1 * l.val = l.val; rw [(idx0 t).2]; omega

/-- The scale read at a point. -/
theorem iblk1_apply (c : Dev nD) (t : Fin cfg0.N) (k : Fin 1024) :
    (iblk m c 1 t : Vec Ideal S1x1024 .f32) (ix2 0 k) = gn m c k := by
  unfold iblk
  rw [View.read_apply, ← V0_apply]
  show V m c main_v0 _ = V m c main_v0 _
  congr 1
  funext a
  apply Fin.ext
  match a with
  | ⟨0, _⟩ => show win0_1.index t 0 * 1 + 1 * 0 = 0; rw [(idx1 t).1]
  | ⟨1, _⟩ => show win0_1.index t 1 * 1024 + 1 * k.val = k.val; rw [(idx1 t).2]; omega

/-- The packed weights read at a point. -/
theorem iblk2_apply (c : Dev nD) (t : Fin cfg0.N) (k : Fin 1024) (p : Fin 3712) :
    (iblk m c 2 t : Vec Ideal S1024x3712 .bf16) (ix2 k p) = wp m c k p := by
  unfold iblk
  rw [View.read_apply, ← V1_apply]
  show V m c main_v1 _ = V m c main_v1 _
  congr 1
  funext a
  apply Fin.ext
  match a with
  | ⟨0, _⟩ => show win0_2.index t 0 * 1024 + 1 * k.val = k.val; rw [(idx2 t).1]; omega
  | ⟨1, _⟩ => show win0_2.index t 1 * 3712 + 1 * p.val = p.val; rw [(idx2 t).2]; omega

/-- The block's product at a point. -/
theorem proj_apply (c : Dev nD) (t : Fin cfg0.N) (r : Fin 512) (p : Fin 3712) (i : Fin 16384) (hi : i.val = 512 * t.val + r.val) :
    proj (iblk m c 0 t : Vec Ideal S512x1024 .f32) (iblk m c 1 t : Vec Ideal S1x1024 .f32) (iblk m c 2 t : Vec Ideal S1024x3712 .bf16) r p = res m c i p := by
  unfold proj
  simp only [iblk0_apply m c t r _ i hi, iblk1_apply, iblk2_apply]
  rfl

/-! ## The result arrays -/

/-- The block index of window 3. -/
theorem idx3 : ∀ t : Fin cfg0.N, win0_3.index t 0 = t.val ∧ win0_3.index t 1 = 0 ∧ (cfg0.win 3).flush t = true := by decide +kernel

/-- Result array 0 at an entry. -/
theorem arr3_apply (c : Dev nD) (i : Fin 16384) (l : Fin 1152) :
    ((dats m 0 c).arrAt 3 cfg0.N : Vec Ideal S16384x1152 .f32) (ix2 i l) = res m c i ⟨0 + l.val, by omega⟩ := by
  have hN : cfg0.N = 32 := N_0
  have ht : i.val / 512 < cfg0.N := by omega
  obtain ⟨t, htv⟩ : ∃ t : Fin cfg0.N, t.val = i.val / 512 := ⟨⟨_, ht⟩, rfl⟩
  have h := congrFun ((Value.blocks3 m c t (idx3 t).2.2).trans (Value.flushed3 m c t)) (ix2 ⟨i.val % 512, by omega⟩ l)
  rw [View.read_apply] at h
  refine Eq.trans (congrArg ((dats m 0 c).arrAt 3 cfg0.N) ?_) (h.trans ((out3_apply _ _ _ ⟨i.val % 512, by omega⟩ l).trans
    (proj_apply m c t _ _ i ?_)))
  · funext a
    apply Fin.ext
    match a with
    | ⟨0, _⟩ => show i.val = win0_3.index t 0 * 512 + 1 * (i.val % 512); rw [(idx3 t).1]; omega
    | ⟨1, _⟩ => show l.val = win0_3.index t 1 * 1152 + 1 * l.val; rw [(idx3 t).2.1]; omega
  · show i.val = 512 * t.val + i.val % 512
    omega

/-- The block index of window 4. -/
theorem idx4 : ∀ t : Fin cfg0.N, win0_4.index t 0 = t.val ∧ win0_4.index t 1 = 0 ∧ (cfg0.win 4).flush t = true := by decide +kernel

/-- Result array 1 at an entry. -/
theorem arr4_apply (c : Dev nD) (i : Fin 16384) (l : Fin 256) :
    ((dats m 0 c).arrAt 4 cfg0.N : Vec Ideal S16384x256 .f32) (ix2 i l) = res m c i ⟨1152 + l.val, by omega⟩ := by
  have hN : cfg0.N = 32 := N_0
  have ht : i.val / 512 < cfg0.N := by omega
  obtain ⟨t, htv⟩ : ∃ t : Fin cfg0.N, t.val = i.val / 512 := ⟨⟨_, ht⟩, rfl⟩
  have h := congrFun ((Value.blocks4 m c t (idx4 t).2.2).trans (Value.flushed4 m c t)) (ix2 ⟨i.val % 512, by omega⟩ l)
  rw [View.read_apply] at h
  refine Eq.trans (congrArg ((dats m 0 c).arrAt 4 cfg0.N) ?_) (h.trans ((out4_apply _ _ _ ⟨i.val % 512, by omega⟩ l).trans
    (proj_apply m c t _ _ i ?_)))
  · funext a
    apply Fin.ext
    match a with
    | ⟨0, _⟩ => show i.val = win0_4.index t 0 * 512 + 1 * (i.val % 512); rw [(idx4 t).1]; omega
    | ⟨1, _⟩ => show l.val = win0_4.index t 1 * 256 + 1 * l.val; rw [(idx4 t).2.1]; omega
  · show i.val = 512 * t.val + i.val % 512
    omega

/-- The block index of window 5. -/
theorem idx5 : ∀ t : Fin cfg0.N, win0_5.index t 0 = t.val ∧ win0_5.index t 1 = 0 ∧ (cfg0.win 5).flush t = true := by decide +kernel

/-- Result array 2 at an entry. -/
theorem arr5_apply (c : Dev nD) (i : Fin 16384) (l : Fin 384) :
    ((dats m 0 c).arrAt 5 cfg0.N : Vec Ideal S16384x384 .f32) (ix2 i l) = res m c i ⟨1408 + l.val, by omega⟩ := by
  have hN : cfg0.N = 32 := N_0
  have ht : i.val / 512 < cfg0.N := by omega
  obtain ⟨t, htv⟩ : ∃ t : Fin cfg0.N, t.val = i.val / 512 := ⟨⟨_, ht⟩, rfl⟩
  have h := congrFun ((Value.blocks5 m c t (idx5 t).2.2).trans (Value.flushed5 m c t)) (ix2 ⟨i.val % 512, by omega⟩ l)
  rw [View.read_apply] at h
  refine Eq.trans (congrArg ((dats m 0 c).arrAt 5 cfg0.N) ?_) (h.trans ((out5_apply _ _ _ ⟨i.val % 512, by omega⟩ l).trans
    (proj_apply m c t _ _ i ?_)))
  · funext a
    apply Fin.ext
    match a with
    | ⟨0, _⟩ => show i.val = win0_5.index t 0 * 512 + 1 * (i.val % 512); rw [(idx5 t).1]; omega
    | ⟨1, _⟩ => show l.val = win0_5.index t 1 * 384 + 1 * l.val; rw [(idx5 t).2.1]; omega
  · show i.val = 512 * t.val + i.val % 512
    omega

/-- The block index of window 6. -/
theorem idx6 : ∀ t : Fin cfg0.N, win0_6.index t 0 = t.val ∧ win0_6.index t 1 = 0 ∧ (cfg0.win 6).flush t = true := by decide +kernel

/-- Result array 3 at an entry. -/
theorem arr6_apply (c : Dev nD) (i : Fin 16384) (l : Fin 512) :
    ((dats m 0 c).arrAt 6 cfg0.N : Vec Ideal S16384x512 .f32) (ix2 i l) = res m c i ⟨1792 + l.val, by omega⟩ := by
  have hN : cfg0.N = 32 := N_0
  have ht : i.val / 512 < cfg0.N := by omega
  obtain ⟨t, htv⟩ : ∃ t : Fin cfg0.N, t.val = i.val / 512 := ⟨⟨_, ht⟩, rfl⟩
  have h := congrFun ((Value.blocks6 m c t (idx6 t).2.2).trans (Value.flushed6 m c t)) (ix2 ⟨i.val % 512, by omega⟩ l)
  rw [View.read_apply] at h
  refine Eq.trans (congrArg ((dats m 0 c).arrAt 6 cfg0.N) ?_) (h.trans ((out6_apply _ _ _ ⟨i.val % 512, by omega⟩ l).trans
    (proj_apply m c t _ _ i ?_)))
  · funext a
    apply Fin.ext
    match a with
    | ⟨0, _⟩ => show i.val = win0_6.index t 0 * 512 + 1 * (i.val % 512); rw [(idx6 t).1]; omega
    | ⟨1, _⟩ => show l.val = win0_6.index t 1 * 512 + 1 * l.val; rw [(idx6 t).2.1]; omega
  · show i.val = 512 * t.val + i.val % 512
    omega

/-- The block index of window 7. -/
theorem idx7 : ∀ t : Fin cfg0.N, win0_7.index t 0 = t.val ∧ win0_7.index t 1 = 0 ∧ (cfg0.win 7).flush t = true := by decide +kernel

/-- Result array 4 at an entry. -/
theorem arr7_apply (c : Dev nD) (i : Fin 16384) (l : Fin 384) :
    ((dats m 0 c).arrAt 7 cfg0.N : Vec Ideal S16384x384 .f32) (ix2 i l) = res m c i ⟨2304 + l.val, by omega⟩ := by
  have hN : cfg0.N = 32 := N_0
  have ht : i.val / 512 < cfg0.N := by omega
  obtain ⟨t, htv⟩ : ∃ t : Fin cfg0.N, t.val = i.val / 512 := ⟨⟨_, ht⟩, rfl⟩
  have h := congrFun ((Value.blocks7 m c t (idx7 t).2.2).trans (Value.flushed7 m c t)) (ix2 ⟨i.val % 512, by omega⟩ l)
  rw [View.read_apply] at h
  refine Eq.trans (congrArg ((dats m 0 c).arrAt 7 cfg0.N) ?_) (h.trans ((out7_apply _ _ _ ⟨i.val % 512, by omega⟩ l).trans
    (proj_apply m c t _ _ i ?_)))
  · funext a
    apply Fin.ext
    match a with
    | ⟨0, _⟩ => show i.val = win0_7.index t 0 * 512 + 1 * (i.val % 512); rw [(idx7 t).1]; omega
    | ⟨1, _⟩ => show l.val = win0_7.index t 1 * 384 + 1 * l.val; rw [(idx7 t).2.1]; omega
  · show i.val = 512 * t.val + i.val % 512
    omega

/-- The block index of window 8. -/
theorem idx8 : ∀ t : Fin cfg0.N, win0_8.index t 0 = t.val ∧ win0_8.index t 1 = 0 ∧ (cfg0.win 8).flush t = true := by decide +kernel

/-- Result array 5 at an entry. -/
theorem arr8_apply (c : Dev nD) (i : Fin 16384) (l : Fin 1024) :
    ((dats m 0 c).arrAt 8 cfg0.N : Vec Ideal S16384x1024 .f32) (ix2 i l) = res m c i ⟨2688 + l.val, by omega⟩ := by
  have hN : cfg0.N = 32 := N_0
  have ht : i.val / 512 < cfg0.N := by omega
  obtain ⟨t, htv⟩ : ∃ t : Fin cfg0.N, t.val = i.val / 512 := ⟨⟨_, ht⟩, rfl⟩
  have h := congrFun ((Value.blocks8 m c t (idx8 t).2.2).trans (Value.flushed8 m c t)) (ix2 ⟨i.val % 512, by omega⟩ l)
  rw [View.read_apply] at h
  refine Eq.trans (congrArg ((dats m 0 c).arrAt 8 cfg0.N) ?_) (h.trans ((out8_apply _ _ _ ⟨i.val % 512, by omega⟩ l).trans
    (proj_apply m c t _ _ i ?_)))
  · funext a
    apply Fin.ext
    match a with
    | ⟨0, _⟩ => show i.val = win0_8.index t 0 * 512 + 1 * (i.val % 512); rw [(idx8 t).1]; omega
    | ⟨1, _⟩ => show l.val = win0_8.index t 1 * 1024 + 1 * l.val; rw [(idx8 t).2.1]; omega
  · show i.val = 512 * t.val + i.val % 512
    omega

end Cert.Kernel5Ideal.MixIn

end
-- ==== Proof.MixIn.lean ====
/-
  The projection into the three branches: the reference's six results at an entry, and so the call's result
  arrays are the reference's.
-/
module

public import proofs.«01_k».proof.Defs
public import proofs.«01_k».proof.Proof.MixInValue
public import proofs.«01_k».proof.Proof.Gen.Reference5Ideal.Read
public import proofs.«01_k».proof.Proof.Gen.Reference5Ideal.Run

@[expose] public section

set_option maxRecDepth 16384

noncomputable section

namespace Cert.Reference5Ideal.MixIn

open Cert.Reference5Ideal Cert.Reference5Ideal.Read Idealize.ShloMosaic Idealize.ShloMosaic.TcCoe Cert.FfnMath

/-- The reference's normed row. -/
theorem norm_apply (x0 : (⟨S16384x1024, .f32⟩ : BufTy).Contents (Elt Ideal)) (x1 : (⟨S1024, .f32⟩ : BufTy).Contents (Elt Ideal)) (i : Fin 16384) (l : Fin 1024) :
    val_main_v12 (F := Ideal) x0 x1 (ix2 i l) = nrm (fun k => x0 (ix2 i k)) (fun k => x1 (ix1 k)) l := by
  pointwise [val_main_v12, val_main_v11, val_main_v10, val_main_v9, val_main_v8, val_main_v7, val_main_v6, val_main_v5, val_main_v4, val_main_v3, val_main_v2, val_main_v1, val_main_v0, val_main_cst, val_main_cst_0, val_main_cst_1, nrm]

/-- The reference's product at an entry. -/
theorem prod_apply (x0 : (⟨S16384x1024, .f32⟩ : BufTy).Contents (Elt Ideal)) (x1 : (⟨S1024, .f32⟩ : BufTy).Contents (Elt Ideal))
    (x2 : (⟨S1024x3712, .f32⟩ : BufTy).Contents (Elt Ideal)) (i : Fin 16384) (p : Fin 3712) :
    val_main_v13 (F := Ideal) x0 x1 x2 (ix2 i p) = ∑ k : Fin 1024, nrm (fun k => x0 (ix2 i k)) (fun k => x1 (ix1 k)) k * x2 (ix2 k p) := by
  have h : val_main_v13 (F := Ideal) x0 x1 x2 (ix2 i p) = ∑ k : Fin 1024, val_main_v12 (F := Ideal) x0 x1 (ix2 i k) * x2 (ix2 k p) := by
    pointwise [val_main_v13]
  rw [h]
  simp only [norm_apply]

end Cert.Reference5Ideal.MixIn

namespace Cert.MixIn

open Idealize.ShloMosaic Idealize.ShloMosaic.TcCoe Idealize.SL.Sem

/-- The projection into the branches computes its reference over the extended reals. -/
theorem algebraic : Cert.algebraic_Kernel5Ideal_Reference5Ideal := by
  intro m ρ m' ρ' _ hagree
  refine ⟨fun c => (Cert.Kernel5Ideal.Gen.dats m 0 c).arrAt 3 Cert.Kernel5Ideal.cfg0.N, fun c => (Cert.Kernel5Ideal.Gen.dats m 0 c).arrAt 4 Cert.Kernel5Ideal.cfg0.N,
    fun c => (Cert.Kernel5Ideal.Gen.dats m 0 c).arrAt 5 Cert.Kernel5Ideal.cfg0.N, fun c => (Cert.Kernel5Ideal.Gen.dats m 0 c).arrAt 6 Cert.Kernel5Ideal.cfg0.N,
    fun c => (Cert.Kernel5Ideal.Gen.dats m 0 c).arrAt 7 Cert.Kernel5Ideal.cfg0.N, fun c => (Cert.Kernel5Ideal.Gen.dats m 0 c).arrAt 8 Cert.Kernel5Ideal.cfg0.N,
    Cert.Kernel5Ideal.Value.run_blocks (F := Ideal) m ρ, ?_⟩
  refine (θ_run Cert.Reference5Ideal.defs _ _).mono (fun _ h c => ?_) (Cert.Reference5Ideal.Value.run (F := Ideal) m' ρ')
  obtain ⟨h0, h1, h2⟩ := hagree c
  obtain ⟨r0, r1, r2, r3, r4, r5, rest⟩ := h c
  refine ⟨r0.trans ?_, r1.trans ?_, r2.trans ?_, r3.trans ?_, r4.trans ?_, r5.trans ?_, rest⟩
  · rw [Cert.Reference5Ideal.Read.val_main_v14_eq, h0, h1, h2]
    funext i
    obtain ⟨a, b, rfl⟩ : ∃ (a : Fin 16384) (b : Fin 1152), i = ix2 a b := ⟨i 0, i 1, by
      funext k
      match k with
      | ⟨0, _⟩ => rfl
      | ⟨1, _⟩ => rfl⟩
    refine Eq.trans ?_ (Cert.Kernel5Ideal.MixIn.arr3_apply m c a b).symm
    rw [Cert.Reference5Ideal.Read.val_main_v14_apply]
    refine Eq.trans (congrArg _ ?_) (Cert.Reference5Ideal.MixIn.prod_apply _ _ _ a ⟨0 + b.val, by omega⟩)
    funext k
    match k with
    | ⟨0, _⟩ => rfl
    | ⟨1, _⟩ => exact Fin.ext (Nat.zero_add _).symm
  · rw [Cert.Reference5Ideal.Read.val_main_v15_eq, h0, h1, h2]
    funext i
    obtain ⟨a, b, rfl⟩ : ∃ (a : Fin 16384) (b : Fin 256), i = ix2 a b := ⟨i 0, i 1, by
      funext k
      match k with
      | ⟨0, _⟩ => rfl
      | ⟨1, _⟩ => rfl⟩
    refine Eq.trans ?_ (Cert.Kernel5Ideal.MixIn.arr4_apply m c a b).symm
    rw [Cert.Reference5Ideal.Read.val_main_v15_apply]
    refine Eq.trans (congrArg _ ?_) (Cert.Reference5Ideal.MixIn.prod_apply _ _ _ a ⟨1152 + b.val, by omega⟩)
    funext k
    match k with
    | ⟨0, _⟩ => rfl
    | ⟨1, _⟩ => rfl
  · rw [Cert.Reference5Ideal.Read.val_main_v16_eq, h0, h1, h2]
    funext i
    obtain ⟨a, b, rfl⟩ : ∃ (a : Fin 16384) (b : Fin 384), i = ix2 a b := ⟨i 0, i 1, by
      funext k
      match k with
      | ⟨0, _⟩ => rfl
      | ⟨1, _⟩ => rfl⟩
    refine Eq.trans ?_ (Cert.Kernel5Ideal.MixIn.arr5_apply m c a b).symm
    rw [Cert.Reference5Ideal.Read.val_main_v16_apply]
    refine Eq.trans (congrArg _ ?_) (Cert.Reference5Ideal.MixIn.prod_apply _ _ _ a ⟨1408 + b.val, by omega⟩)
    funext k
    match k with
    | ⟨0, _⟩ => rfl
    | ⟨1, _⟩ => rfl
  · rw [Cert.Reference5Ideal.Read.val_main_v17_eq, h0, h1, h2]
    funext i
    obtain ⟨a, b, rfl⟩ : ∃ (a : Fin 16384) (b : Fin 512), i = ix2 a b := ⟨i 0, i 1, by
      funext k
      match k with
      | ⟨0, _⟩ => rfl
      | ⟨1, _⟩ => rfl⟩
    refine Eq.trans ?_ (Cert.Kernel5Ideal.MixIn.arr6_apply m c a b).symm
    rw [Cert.Reference5Ideal.Read.val_main_v17_apply]
    refine Eq.trans (congrArg _ ?_) (Cert.Reference5Ideal.MixIn.prod_apply _ _ _ a ⟨1792 + b.val, by omega⟩)
    funext k
    match k with
    | ⟨0, _⟩ => rfl
    | ⟨1, _⟩ => rfl
  · rw [Cert.Reference5Ideal.Read.val_main_v18_eq, h0, h1, h2]
    funext i
    obtain ⟨a, b, rfl⟩ : ∃ (a : Fin 16384) (b : Fin 384), i = ix2 a b := ⟨i 0, i 1, by
      funext k
      match k with
      | ⟨0, _⟩ => rfl
      | ⟨1, _⟩ => rfl⟩
    refine Eq.trans ?_ (Cert.Kernel5Ideal.MixIn.arr7_apply m c a b).symm
    rw [Cert.Reference5Ideal.Read.val_main_v18_apply]
    refine Eq.trans (congrArg _ ?_) (Cert.Reference5Ideal.MixIn.prod_apply _ _ _ a ⟨2304 + b.val, by omega⟩)
    funext k
    match k with
    | ⟨0, _⟩ => rfl
    | ⟨1, _⟩ => rfl
  · rw [Cert.Reference5Ideal.Read.val_main_v19_eq, h0, h1, h2]
    funext i
    obtain ⟨a, b, rfl⟩ : ∃ (a : Fin 16384) (b : Fin 1024), i = ix2 a b := ⟨i 0, i 1, by
      funext k
      match k with
      | ⟨0, _⟩ => rfl
      | ⟨1, _⟩ => rfl⟩
    refine Eq.trans ?_ (Cert.Kernel5Ideal.MixIn.arr8_apply m c a b).symm
    rw [Cert.Reference5Ideal.Read.val_main_v19_apply]
    refine Eq.trans (congrArg _ ?_) (Cert.Reference5Ideal.MixIn.prod_apply _ _ _ a ⟨2688 + b.val, by omega⟩)
    funext k
    match k with
    | ⟨0, _⟩ => rfl
    | ⟨1, _⟩ => rfl

end Cert.MixIn

end
-- ==== Proof.PrepRef.lean ====
/-
  The preparation of the recurrence: the token shift by rows, and the reference's two results at an entry.
-/
module

public import proofs.«01_k».proof.Proof.Gen.Reference6Ideal.Read
public import Idealize.ShloMosaic.Lib.Tactic
public import Idealize.ShloMosaic.Lib.Pointwise
public import Idealize.ShloMosaic.Lib.KernelVsHost
public import Idealize.ShloMosaic.Lib.Pipeline.Value

@[expose] public section

set_option maxRecDepth 16384

noncomputable section

namespace Cert.PrepMath

open Idealize.ShloMosaic

/-- The row before, in a sequence of 2048 rows; zero before the first. -/
def before (X : ℕ → EReal) (R : ℕ) : EReal := if R % 2048 = 0 then 0 else X (R - 1)

/-- A column mixed with itself shifted down by a row. -/
def mix (X : ℕ → EReal) (mu : EReal) (R : ℕ) : EReal := X R + (before X R - X R) * mu

/-- The logistic function as both programs spell it. -/
def logi (x : EReal) : EReal := Ideal.div 1 (1 + Ideal.exp (-x))

/-- A column of an array by row number, zero outside. -/
def col {k : ℕ} (x : (Shape.mk 2 ![16384, k]).Idx → EReal) (p : Fin k) (R : ℕ) : EReal := if h : R < 16384 then x (ix2 ⟨R, h⟩ p) else 0

end Cert.PrepMath

namespace Cert.Reference6Ideal.Prep

open Cert.Reference6Ideal Cert.Reference6Ideal.Read Idealize.ShloMosaic Idealize.ShloMosaic.TcCoe Cert.PrepMath

variable (x0 : (⟨S16384x1152, .f32⟩ : BufTy).Contents (Elt Ideal)) (x1 : (⟨S16384x256, .f32⟩ : BufTy).Contents (Elt Ideal))
  (x2 : (⟨S16384x384, .f32⟩ : BufTy).Contents (Elt Ideal)) (x3 : (⟨S1280, .f32⟩ : BufTy).Contents (Elt Ideal))
  (x4 : (⟨S16, .f32⟩ : BufTy).Contents (Elt Ideal)) (x12 : (⟨S384, .f32⟩ : BufTy).Contents (Elt Ideal)) (x13 : (⟨S16x384, .f32⟩ : BufTy).Contents (Elt Ideal))

/-- A wide stream by batch entry, row and column. -/
theorem v2_apply (b : Fin 8) (t : Fin 2048) (p : Fin 1280) (hp : p.val < 1152) :
    val_main_v2 (F := Ideal) x0 x1 (ix3 b t p) = col x0 ⟨p.val, hp⟩ (2048 * b.val + t.val) := by
  rw [val_main_v2_apply, col, dif_pos (by omega)]
  unfold val_main_v1
  refine concatenate_pair_apply_left (t := S16384x1280) (s₁ := S16384x1152) (s₂ := S16384x128) (1 : Fin 2) _ _ _ _ rfl _ fun k => ?_
  match k with
  | ⟨0, _⟩ => show 2048 * b.val + t.val = ((b.val * 2048 + t.val) * 1280 + p.val) / 1280; omega
  | ⟨1, _⟩ => show p.val = ((b.val * 2048 + t.val) * 1280 + p.val) % 1280; omega

/-- The last sixteen streams by batch entry, row and column. -/
theorem v4_apply (b : Fin 8) (t : Fin 2048) (p : Fin 16) :
    val_main_v4 (F := Ideal) x1 (ix3 b t p) = col x1 ⟨128 + p.val, by omega⟩ (2048 * b.val + t.val) := by
  rw [val_main_v4_apply, val_main_v3_apply, col, dif_pos (by omega)]
  refine congrArg x1 (funext fun k => Fin.ext ?_)
  match k with
  | ⟨0, _⟩ => show ((b.val * 2048 + t.val) * 16 + p.val) / 16 = 2048 * b.val + t.val; omega
  | ⟨1, _⟩ => show 128 + ((b.val * 2048 + t.val) * 16 + p.val) % 16 = 128 + p.val; omega

/-- The padded wide streams hold the row before. -/
theorem v5_apply (b : Fin 8) (t : Fin 2049) (ht : t.val < 2048) (p : Fin 1280) (hp : p.val < 1152) :
    val_main_v5 (F := Ideal) x0 x1 (ix3 b t p) = before (col x0 ⟨p.val, hp⟩) (2048 * b.val + t.val) := by
  unfold val_main_v5 before
  by_cases h : t.val = 0
  · rw [if_pos (by omega), pad_apply_of_not_inside (t := S8x2049x1280) _ _ _ _ _ _ _ _ (1 : Fin 3) (fun hh => by have h1 : 1 ≤ t.val := hh.1; omega)]
    exact sitofp_zero (φ := .f32)
  · rw [if_neg (by omega), pad_apply_of_inside (t := S8x2049x1280) _ _ _ _ _ _ _ _ (ix3 b ⟨t.val - 1, by omega⟩ p) (fun a => ?_), v2_apply x0 x1 _ _ _ hp]
    · congr 1
      show 2048 * b.val + (t.val - 1) = _
      omega
    match a with
    | ⟨0, _⟩ => show b.val = 0 + b.val * (0 + 1); omega
    | ⟨1, _⟩ => show t.val = 1 + (t.val - 1) * (0 + 1); omega
    | ⟨2, _⟩ => show p.val = 0 + p.val * (0 + 1); omega

/-- The padded last streams hold the row before. -/
theorem v18_apply (b : Fin 8) (t : Fin 2049) (ht : t.val < 2048) (p : Fin 16) :
    val_main_v18 (F := Ideal) x1 (ix3 b t p) = before (col x1 ⟨128 + p.val, by omega⟩) (2048 * b.val + t.val) := by
  unfold val_main_v18 before
  by_cases h : t.val = 0
  · rw [if_pos (by omega), pad_apply_of_not_inside (t := S8x2049x16) _ _ _ _ _ _ _ _ (1 : Fin 3) (fun hh => by have h1 : 1 ≤ t.val := hh.1; omega)]
    exact sitofp_zero (φ := .f32)
  · rw [if_neg (by omega), pad_apply_of_inside (t := S8x2049x16) _ _ _ _ _ _ _ _ (ix3 b ⟨t.val - 1, by omega⟩ p) (fun a => ?_), v4_apply x1 _ _ _]
    · congr 1
      show 2048 * b.val + (t.val - 1) = _
      omega
    match a with
    | ⟨0, _⟩ => show b.val = 0 + b.val * (0 + 1); omega
    | ⟨1, _⟩ => show t.val = 1 + (t.val - 1) * (0 + 1); omega
    | ⟨2, _⟩ => show p.val = 0 + p.val * (0 + 1); omega

/-- A mixed wide stream. -/
theorem v11_apply (b : Fin 8) (t : Fin 2048) (p : Fin 1280) (hp : p.val < 1152) :
    val_main_v11 (F := Ideal) x0 x1 x3 (ix3 b t p) = mix (col x0 ⟨p.val, hp⟩) (x3 (ix1 p)) (2048 * b.val + t.val) := by
  have h : val_main_v11 (F := Ideal) x0 x1 x3 (ix3 b t p) = val_main_v2 (F := Ideal) x0 x1 (ix3 b t p) + (val_main_v5 (F := Ideal) x0 x1 (ix3 b ⟨t.val, by omega⟩ p) - val_main_v2 (F := Ideal) x0 x1 (ix3 b t p)) * x3 (ix1 p) := by
    pointwise [val_main_v11, val_main_v10, val_main_v9, val_main_v8, val_main_v7, val_main_v6]
  rw [h, v2_apply x0 x1 _ _ _ hp, v5_apply x0 x1 _ _ t.isLt _ hp, mix]

/-- A mixed last stream. -/
theorem v24_apply (b : Fin 8) (t : Fin 2048) (p : Fin 16) :
    val_main_v24 (F := Ideal) x1 x4 (ix3 b t p) = mix (col x1 ⟨128 + p.val, by omega⟩) (x4 (ix1 p)) (2048 * b.val + t.val) := by
  have h : val_main_v24 (F := Ideal) x1 x4 (ix3 b t p) = val_main_v4 (F := Ideal) x1 (ix3 b t p) + (val_main_v18 (F := Ideal) x1 (ix3 b ⟨t.val, by omega⟩ p) - val_main_v4 (F := Ideal) x1 (ix3 b t p)) * x4 (ix1 p) := by
    pointwise [val_main_v24, val_main_v23, val_main_v22, val_main_v21, val_main_v20, val_main_v19]
  rw [h, v4_apply, v18_apply x1 _ _ t.isLt _, mix]

end Cert.Reference6Ideal.Prep

end
-- ==== Proof.PrepFrameIdeal.lean ====
/-
  The preparation of the recurrence, as a run: what the body leaves in its seven result blocks, with the row it carries from
  one block to the next in two scratch buffers, and so the run of the whole call and its frame.
-/
module

public import proofs.«01_k».proof.Proof.Gen.Kernel6Ideal.Frame
public import proofs.«01_k».proof.Proof.Gen.Kernel6Ideal.Skeleton
public import Idealize.ShloMosaic.Lib.Pipeline.Value
public import Idealize.ShloMosaic.Lib.VecWindow
public import Idealize.ShloMosaic.Lib.Tactic
public import Idealize.ShloMosaic.Lib.Claim

@[expose] public section

set_option maxRecDepth 16384

noncomputable section

namespace Cert.Kernel6Ideal.Prep

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first row of the carried buffer of the three wide streams. -/
abbrev row0 : Rect S8x1152 := Rect.unit (s := S8x1152) ![0, 0] S1x1152.size inb_S8x1152_S1x1152_0_0
/-- The first row of the carried buffer of the narrow streams. -/
abbrev row1 : Rect S8x256 := Rect.unit (s := S8x256) ![0, 0] S1x256.size inb_S8x256_S1x256_0_0

/-- All of block 0. -/
abbrev all0 : Rect S256x1152 := Rect.unit (s := S256x1152) ![0, 0] S256x1152.size inb_S256x1152_S256x1152_0_0
/-- All of block 1. -/
abbrev all1 : Rect S256x256 := Rect.unit (s := S256x256) ![0, 0] S256x256.size inb_S256x256_S256x256_0_0
/-- All of block 2. -/
abbrev all2 : Rect S256x384 := Rect.unit (s := S256x384) ![0, 0] S256x384.size inb_S256x384_S256x384_0_0
/-- All of block 3. -/
abbrev all3 : Rect S1x1152 := Rect.unit (s := S1x1152) ![0, 0] S1x1152.size inb_S1x1152_S1x1152_0_0
/-- All of block 4. -/
abbrev all4 : Rect S1x256 := Rect.unit (s := S1x256) ![0, 0] S1x256.size inb_S1x256_S1x256_0_0
/-- All of block 5. -/
abbrev all5 : Rect S1x384 := Rect.unit (s := S1x384) ![0, 0] S1x384.size inb_S1x384_S1x384_0_0
/-- All of block 6. -/
abbrev all6 : Rect S1x384 := Rect.unit (s := S1x384) ![0, 0] S1x384.size inb_S1x384_S1x384_0_0
/-- All of block 7. -/
abbrev all7 : Rect S128x1152 := Rect.unit (s := S128x1152) ![0, 0] S128x1152.size inb_S128x1152_S128x1152_0_0
/-- All of block 8. -/
abbrev all8 : Rect S1x384 := Rect.unit (s := S1x384) ![0, 0] S1x384.size inb_S1x384_S1x384_0_0
/-- All of block 9. -/
abbrev all9 : Rect S1x384 := Rect.unit (s := S1x384) ![0, 0] S1x384.size inb_S1x384_S1x384_0_0
/-- All of block 10. -/
abbrev all10 : Rect S1x384 := Rect.unit (s := S1x384) ![0, 0] S1x384.size inb_S1x384_S1x384_0_0
/-- All of block 11. -/
abbrev all11 : Rect S128x384 := Rect.unit (s := S128x384) ![0, 0] S128x384.size inb_S128x384_S128x384_0_0
/-- All of block 12. -/
abbrev all12 : Rect S384x384 := Rect.unit (s := S384x384) ![0, 0] S384x384.size inb_S384x384_S384x384_0_0

/-- The narrow streams, shifted and mixed. -/
def xl (x1 : Vec F S256x256 .f32) (x4 : Vec F S1x256 .f32) (v34 : FVec F S256x256 .f32) : FVec F S256x256 .f32 := k0_pay8 (View.ld x1 all1) (k0_pay4 (View.ld x4 all4)) v34
/-- The product with the packed low-rank weights. -/
def pj (x1 : Vec F S256x256 .f32) (x4 : Vec F S1x256 .f32) (x7 : Vec F S128x1152 .bf16) (v34 : FVec F S256x256 .f32) : FVec F S256x1152 .f32 := k0_pay12 (View.ld x1 all1) (k0_pay4 (View.ld x4 all4)) v34 (View.ld x7 all7)

/-- A result block, as it comes of the blocks and the shifted streams. -/
abbrev Out (F : FTy → Type) := Vec F S256x256 .f32 → Vec F S256x384 .f32 → Vec F S1x1152 .f32 → Vec F S1x256 .f32 → Vec F S1x384 .f32 → Vec F S1x384 .f32 → Vec F S128x1152 .bf16 → Vec F S1x384 .f32 → Vec F S1x384 .f32 → Vec F S1x384 .f32 → Vec F S128x384 .bf16 → Vec F S384x384 .bf16 → FVec F S256x1152 .f32 → FVec F S256x256 .f32 → Vec F S256x384 .f32

/-- Result block 0: the first third of the shifted streams. -/
def out13 : Out F := fun _ _ _ _ _ _ _ _ _ _ _ _ v21 _ =>
  k0_pay9 v21

/-- Result block 1: the scaled second third. -/
def out14 : Out F := fun x1 _ _ x4 _ x6 x7 _ x9 _ _ _ v21 v34 =>
  k0_pay23 (k0_pay10 v21) (k0_pay17 (pj x1 x4 x7 v34) (View.ld x6 all6)) (View.ld x9 all9)

/-- Result block 2: the last third, mixed with the first layer's. -/
def out15 : Out F := fun x1 x2 _ x4 _ _ _ _ _ x10 x11 _ v21 v34 =>
  k0_pay1 (k0_pay11 v21) (k0_pay24 (xl x1 x4 v34) (View.ld x10 all10) (View.ld x11 all11)) (View.ld x2 all2)

/-- Result block 3: the normed second third. -/
def out16 : Out F := fun _ _ _ _ _ _ _ x8 _ _ _ x12 v21 _ =>
  k0_pay21 (k0_pay19 (k0_pay10 v21) (View.ld x8 all8)) (k0_pay20 (k0_pay10 v21) (View.ld x8 all8) (View.ld x12 all12))

/-- Result block 4: the normed second third times the rate. -/
def out17 : Out F := fun x1 _ _ x4 _ x6 x7 x8 _ _ _ x12 v21 v34 =>
  k0_pay22 (k0_pay17 (pj x1 x4 x7 v34) (View.ld x6 all6)) (k0_pay19 (k0_pay10 v21) (View.ld x8 all8)) (k0_pay20 (k0_pay10 v21) (View.ld x8 all8) (View.ld x12 all12))

/-- Result block 5: the logarithm of the decay. -/
def out18 : Out F := fun x1 _ _ x4 x5 _ x7 _ _ _ _ _ _ v34 =>
  k0_pay16 (k0_pay14 (View.ld x1 all1) (k0_pay4 (View.ld x4 all4)) v34 (View.ld x7 all7) (View.ld x5 all5)) (k0_pay15 (View.ld x1 all1) (k0_pay4 (View.ld x4 all4)) v34 (View.ld x7 all7) (View.ld x5 all5)) (Scalar.ofBits .f32 0x3F800000#32)

/-- Result block 6: the gate. -/
def out19 : Out F := fun x1 _ _ x4 _ _ x7 _ _ _ _ _ _ v34 =>
  k0_pay18 (pj x1 x4 x7 v34)

/-- The wide streams, shifted down by a row with a row put on top, and mixed. -/
def shift0 (i : grid0.Coords) (x0 : Vec F S256x1152 .f32) (x3 y : Vec F S1x1152 .f32) : FVec F S256x1152 .f32 := k0_pay3 i (View.ld x0 all0) (View.ld x3 all3) y
/-- The narrow streams, shifted down by a row with a row put on top. -/
def shift1 (i : grid0.Coords) (x1 : Vec F S256x256 .f32) (y : Vec F S1x256 .f32) : FVec F S256x256 .f32 := k0_pay5 i (View.ld x1 all1) y
/-- The last row of the wide streams. -/
def bottom0 (x0 : Vec F S256x1152 .f32) : FVec F S1x1152 .f32 := k0_pay2 (View.ld x0 all0)
/-- The last row of the narrow streams. -/
def bottom1 (x1 : Vec F S256x256 .f32) : FVec F S1x256 .f32 := k0_pay7 (k0_pay6 (View.ld x1 all1))

set_option maxHeartbeats 4000000 in
/-- The body on whole buffers runs to the result blocks' contents, and leaves the blocks' last rows carried. -/
theorem sound_kernel (c : Dev nD) (E : Set ℕ) (i : grid0.Coords) (arg2 : Memref sig .tc .vmem S256x1152 .f32) (harg2 : arg2.IsWhole) (arg3 : Memref sig .tc .vmem S256x256 .f32) (harg3 : arg3.IsWhole) (arg4 : Memref sig .tc .vmem S256x384 .f32) (harg4 : arg4.IsWhole) (arg5 : Memref sig .tc .vmem S1x1152 .f32) (harg5 : arg5.IsWhole) (arg6 : Memref sig .tc .vmem S1x256 .f32) (harg6 : arg6.IsWhole) (arg7 : Memref sig .tc .vmem S1x384 .f32) (harg7 : arg7.IsWhole) (arg8 : Memref sig .tc .vmem S1x384 .f32) (harg8 : arg8.IsWhole) (arg9 : Memref sig .tc .vmem S128x1152 .bf16) (harg9 : arg9.IsWhole) (arg10 : Memref sig .tc .vmem S1x384 .f32) (harg10 : arg10.IsWhole) (arg11 : Memref sig .tc .vmem S1x384 .f32) (harg11 : arg11.IsWhole) (arg12 : Memref sig .tc .vmem S1x384 .f32) (harg12 : arg12.IsWhole) (arg13 : Memref sig .tc .vmem S128x384 .bf16) (harg13 : arg13.IsWhole) (arg14 : Memref sig .tc .vmem S384x384 .bf16) (harg14 : arg14.IsWhole) (arg15 : Memref sig .tc .vmem S256x384 .f32) (harg15 : arg15.IsWhole) (arg16 : Memref sig .tc .vmem S256x384 .f32) (harg16 : arg16.IsWhole) (arg17 : Memref sig .tc .vmem S256x384 .f32) (harg17 : arg17.IsWhole) (arg18 : Memref sig .tc .vmem S256x384 .f32) (harg18 : arg18.IsWhole) (arg19 : Memref sig .tc .vmem S256x384 .f32) (harg19 : arg19.IsWhole) (arg20 : Memref sig .tc .vmem S256x384 .f32) (harg20 : arg20.IsWhole) (arg21 : Memref sig .tc .vmem S256x384 .f32) (harg21 : arg21.IsWhole) (arg22 : Memref sig .tc .vmem S8x1152 .f32) (harg22 : arg22.IsWhole) (arg23 : Memref sig .tc .vmem S8x256 .f32) (harg23 : arg23.IsWhole)
    (x0 : Vec F S256x1152 .f32) (x1 : Vec F S256x256 .f32) (x2 : Vec F S256x384 .f32) (x3 : Vec F S1x1152 .f32) (x4 : Vec F S1x256 .f32) (x5 : Vec F S1x384 .f32) (x6 : Vec F S1x384 .f32) (x7 : Vec F S128x1152 .bf16) (x8 : Vec F S1x384 .f32) (x9 : Vec F S1x384 .f32) (x10 : Vec F S1x384 .f32) (x11 : Vec F S128x384 .bf16) (x12 : Vec F S384x384 .bf16) (xs0 : Vec F S8x1152 .f32) (xs1 : Vec F S8x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ owns (c : Thread nD τ) arg22 fullShare xs0 ∗ owns (c : Thread nD τ) arg23 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare (out13 x1 x2 x3 x4 x5 x6 x7 x8 x9 x10 x11 x12 (shift0 i x0 x3 (View.ld xs0 row0)) (shift1 i x1 (View.ld xs1 row1))) ∗ owns (c : Thread nD τ) arg16 fullShare (out14 x1 x2 x3 x4 x5 x6 x7 x8 x9 x10 x11 x12 (shift0 i x0 x3 (View.ld xs0 row0)) (shift1 i x1 (View.ld xs1 row1))) ∗ owns (c : Thread nD τ) arg17 fullShare (out15 x1 x2 x3 x4 x5 x6 x7 x8 x9 x10 x11 x12 (shift0 i x0 x3 (View.ld xs0 row0)) (shift1 i x1 (View.ld xs1 row1))) ∗ owns (c : Thread nD τ) arg18 fullShare (out16 x1 x2 x3 x4 x5 x6 x7 x8 x9 x10 x11 x12 (shift0 i x0 x3 (View.ld xs0 row0)) (shift1 i x1 (View.ld xs1 row1))) ∗ owns (c : Thread nD τ) arg19 fullShare (out17 x1 x2 x3 x4 x5 x6 x7 x8 x9 x10 x11 x12 (shift0 i x0 x3 (View.ld xs0 row0)) (shift1 i x1 (View.ld xs1 row1))) ∗ owns (c : Thread nD τ) arg20 fullShare (out18 x1 x2 x3 x4 x5 x6 x7 x8 x9 x10 x11 x12 (shift0 i x0 x3 (View.ld xs0 row0)) (shift1 i x1 (View.ld xs1 row1))) ∗ owns (c : Thread nD τ) arg21 fullShare (out19 x1 x2 x3 x4 x5 x6 x7 x8 x9 x10 x11 x12 (shift0 i x0 x3 (View.ld xs0 row0)) (shift1 i x1 (View.ld xs1 row1))) ∗ (∃ S, iprop(⌜View.ld S row0 = bottom0 x0⌝ ∗ owns (c : Thread nD τ) arg22 fullShare S)) ∗ (∃ S, iprop(⌜View.ld S row1 = bottom1 x1⌝ ∗ owns (c : Thread nD τ) arg23 fullShare S))) -∗ K ⟨⟩))
      ⊢ wp frame (wpE (defs₀ (F := F)) Variants.none c none) E (cc0_rwkv_prep i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_rwkv_prep_eq_skeleton]; unfold cc0_rwkv_prep_skel
  simp only [k0_part1_eq_skeleton, k0_part2_eq_skeleton, k0_part3_eq_skeleton, k0_part4_eq_skeleton]
  unfold k0_part1_skel k0_part2_skel k0_part3_skel k0_part4_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%fs0, %hfs0, HS0⟩, ⟨%fs1, %hfs1, HS1⟩, Hk⟩
  subst hf0 hf1 hf2 hf3 hf4 hf5 hf6 hf7 hf8 hf9 hf10 hf11 hf12 hfs0 hfs1
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    exact View.read_writes_full _ _ _ _ _
  isplitl [H14]
  · iexists _; isplitr
    swap; · iexact H14
    ipureintro
    exact View.read_writes_full _ _ _ _ _
  isplitl [H15]
  · iexists _; isplitr
    swap; · iexact H15
    ipureintro
    exact View.read_writes_full _ _ _ _ _
  isplitl [H16]
  · iexists _; isplitr
    swap; · iexact H16
    ipureintro
    exact View.read_writes_full _ _ _ _ _
  isplitl [H17]
  · iexists _; isplitr
    swap; · iexact H17
    ipureintro
    exact View.read_writes_full _ _ _ _ _
  isplitl [H18]
  · iexists _; isplitr
    swap; · iexact H18
    ipureintro
    exact View.read_writes_full _ _ _ _ _
  isplitl [H19]
  · iexists _; isplitr
    swap; · iexact H19
    ipureintro
    exact View.read_writes_full _ _ _ _ _
  isplitl [HS0]
  · iexists _; isplitr
    swap
    · iexists _; isplitr
      swap; · iexact HS0
      ipureintro; rfl
    ipureintro
    exact funext fun x => View.read_writes_cons_emb _ _ _ _ _ x
  iexists _; isplitr
  swap
  · iexists _; isplitr
    swap; · iexact HS1
    ipureintro; rfl
  ipureintro
  exact funext fun x => View.read_writes_cons_emb _ _ _ _ _ x

/-- At the first block of a batch entry what was carried is not used. -/
theorem first3 (i : grid0.Coords) (h : (i 1).val = 0) (v1 : Vec F S256x1152 .f32) (v2 y y' : Vec F S1x1152 .f32) : k0_pay3 i v1 v2 y = k0_pay3 i v1 v2 y' := by
  unfold k0_pay3
  have : Scalar.cmpi .eq (BitVec.ofNat 32 (i 1).val) 0#32 = 1#1 := by rw [h]; rfl
  simp only [this]
  rfl

/-- The same for the narrow streams. -/
theorem first5 (i : grid0.Coords) (h : (i 1).val = 0) (v1 : Vec F S256x256 .f32) (y y' : Vec F S1x256 .f32) : k0_pay5 i v1 y = k0_pay5 i v1 y' := by
  unfold k0_pay5
  have : Scalar.cmpi .eq (BitVec.ofNat 32 (i 1).val) 0#32 = 1#1 := by rw [h]; rfl
  simp only [this]
  rfl

/-- The grid point before. -/
def prev (t : Fin cfg0.N) : Fin cfg0.N := ⟨t.val - 1, Nat.lt_of_le_of_lt (Nat.sub_le _ _) t.isLt⟩

/-- The row the wide streams' block leaves. -/
def last0 (c : Dev nD) (t : Fin cfg0.N) : FVec F S1x1152 .f32 := bottom0 (iblk m c 0 t)
/-- The row the narrow streams' block leaves. -/
def last1 (c : Dev nD) (t : Fin cfg0.N) : FVec F S1x256 .f32 := bottom1 (iblk m c 1 t)

/-- The wide streams at a point, shifted over the row of the point before. -/
def wide (c : Dev nD) (t : Fin cfg0.N) : FVec F S256x1152 .f32 := shift0 (grid0.coords t) (iblk m c 0 t) (iblk m c 3 t) (last0 m c (prev t))
/-- The narrow streams at a point, likewise. -/
def narrow (c : Dev nD) (t : Fin cfg0.N) : FVec F S256x256 .f32 := shift1 (grid0.coords t) (iblk m c 1 t) (last1 m c (prev t))

/-- The first grid point is the first of its batch entry. -/
theorem coords_zero : ∀ t : Fin cfg0.N, t.val = 0 → ((grid0.coords t) 1).val = 0 :=
  (by decide +kernel : ∀ t : Fin grid0.N, t.val = 0 → ((grid0.coords t) 1).val = 0)

/-- The carried buffer of the wide streams. -/
abbrev sc0 : Memref sig .tc .vmem S8x1152 .f32 := Memref.whole cc0_scratch0
/-- The carried buffer of the narrow streams. -/
abbrev sc1 : Memref sig .tc .vmem S8x256 .f32 := Memref.whole cc0_scratch1

/-- What the launch hands over: both carried buffers at anything. -/
theorem PhiA0_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- Between the points: before the first at anything, later with the last rows of the point before. -/
def PhiS (c : Dev nD) : (n : ℕ) → n ≤ cfg0.N → sProp 𝕄
  | 0, _ => Pipeline.ΦA spec0 c
  | n + 1, hn => iprop(iprop((∃ S, iprop(⌜View.ld S row0 = last0 m c ⟨n, hn⟩⌝ ∗ owns (c : Thread nD τ) sc0 fullShare S)) ∗ (∃ S, iprop(⌜View.ld S row1 = last1 m c ⟨n, hn⟩⌝ ∗ owns (c : Thread nD τ) sc1 fullShare S))) ∗ (∃ r, prngReg c r))

/-- Before the first point the assertion is the launch's own. -/
theorem PhiS_zero (c : Dev nD) (n : ℕ) (h : n ≤ cfg0.N) (hz : n = 0) : PhiS m c n h = Pipeline.ΦA spec0 c := by
  subst hz; rfl

/-- After a point the last rows of its blocks are carried. -/
theorem PhiS_succ (c : Dev nD) (n : ℕ) (hn : n < cfg0.N) :
    PhiS m c (n + 1) hn = iprop(iprop((∃ S, iprop(⌜View.ld S row0 = last0 m c ⟨n, hn⟩⌝ ∗ owns (c : Thread nD τ) sc0 fullShare S)) ∗ (∃ S, iprop(⌜View.ld S row1 = last1 m c ⟨n, hn⟩⌝ ∗ owns (c : Thread nD τ) sc1 fullShare S))) ∗ (∃ r, prngReg c r)) := rfl

/-- Before a later point the last rows of the point before are carried. -/
theorem PhiS_pos (c : Dev nD) (t : Fin (cfg0.N + 1)) (hz : t.val ≠ 0) :
    PhiS m c t.val (Nat.le_of_lt_succ t.isLt) = iprop(iprop((∃ S, iprop(⌜View.ld S row0 = last0 m c ⟨t.val - 1, by have := t.isLt; omega⟩⌝ ∗ owns (c : Thread nD τ) sc0 fullShare S)) ∗ (∃ S, iprop(⌜View.ld S row1 = last1 m c ⟨t.val - 1, by have := t.isLt; omega⟩⌝ ∗ owns (c : Thread nD τ) sc1 fullShare S))) ∗ (∃ r, prngReg c r)) := by
  obtain ⟨n, hn⟩ := t
  cases n with
  | zero => exact absurd rfl hz
  | succ n => rfl

/-- A result block of a point. -/
abbrev res (c : Dev nD) (t : Fin cfg0.N) (o : Out F) : Vec F S256x384 .f32 :=
  o (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (wide m c t) (narrow m c t)

/-- The proof data of the pipeline: the arrays as the region finds them, the inputs' blocks kept, the results' blocks as computed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => res m c t out13
    | ⟨14, _⟩ => res m c t out14
    | ⟨15, _⟩ => res m c t out15
    | ⟨16, _⟩ => res m c t out16
    | ⟨17, _⟩ => res m c t out17
    | ⟨18, _⟩ => res m c t out18
    | ⟨19, _⟩ => res m c t out19
    | ⟨n + 20, h⟩ => absurd (show n + 20 < 20 from h) (by omega)
  Φ t := PhiS m c t.val (Nat.le_of_lt_succ t.isLt)
  q _ := fullShare
  owed _ := 0

/-- The arrays are the region-entry contents. -/
theorem A_eq (c : Dev nD) (w : Fin cfg0.W) : (dats m 0 c).A w = V m c (Pipeline.arrRef spec0 w) := by
  dsimp only [dats]

/-- The invariant at a point's start. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- Window 0 keeps its block. -/
theorem after0 (c : Dev nD) (t : Fin cfg0.N) : (dats m 0 c).after 0 t = iblk m c 0 t := by dsimp only [dats]
/-- Window 0 holds its block before the body. -/
theorem before0 (c : Dev nD) (t : Fin cfg0.N) (d) : (dats m 0 c).before 0 t d = iblk m c 0 t :=
  before0_0_of m (dats m 0 c) (A_eq m c 0) (after0 m c) t d
/-- Window 1 keeps its block. -/
theorem after1 (c : Dev nD) (t : Fin cfg0.N) : (dats m 0 c).after 1 t = iblk m c 1 t := by dsimp only [dats]
/-- Window 1 holds its block before the body. -/
theorem before1 (c : Dev nD) (t : Fin cfg0.N) (d) : (dats m 0 c).before 1 t d = iblk m c 1 t :=
  before0_1_of m (dats m 0 c) (A_eq m c 1) (after1 m c) t d
/-- Window 2 keeps its block. -/
theorem after2 (c : Dev nD) (t : Fin cfg0.N) : (dats m 0 c).after 2 t = iblk m c 2 t := by dsimp only [dats]
/-- Window 2 holds its block before the body. -/
theorem before2 (c : Dev nD) (t : Fin cfg0.N) (d) : (dats m 0 c).before 2 t d = iblk m c 2 t :=
  before0_2_of m (dats m 0 c) (A_eq m c 2) (after2 m c) t d
/-- Window 3 keeps its block. -/
theorem after3 (c : Dev nD) (t : Fin cfg0.N) : (dats m 0 c).after 3 t = iblk m c 3 t := by dsimp only [dats]
/-- Window 3 holds its block before the body. -/
theorem before3 (c : Dev nD) (t : Fin cfg0.N) (d) : (dats m 0 c).before 3 t d = iblk m c 3 t :=
  before0_3_of m (dats m 0 c) (A_eq m c 3) (after3 m c) t d
/-- Window 4 keeps its block. -/
theorem after4 (c : Dev nD) (t : Fin cfg0.N) : (dats m 0 c).after 4 t = iblk m c 4 t := by dsimp only [dats]
/-- Window 4 holds its block before the body. -/
theorem before4 (c : Dev nD) (t : Fin cfg0.N) (d) : (dats m 0 c).before 4 t d = iblk m c 4 t :=
  before0_4_of m (dats m 0 c) (A_eq m c 4) (after4 m c) t d
/-- Window 5 keeps its block. -/
theorem after5 (c : Dev nD) (t : Fin cfg0.N) : (dats m 0 c).after 5 t = iblk m c 5 t := by dsimp only [dats]
/-- Window 5 holds its block before the body. -/
theorem before5 (c : Dev nD) (t : Fin cfg0.N) (d) : (dats m 0 c).before 5 t d = iblk m c 5 t :=
  before0_5_of m (dats m 0 c) (A_eq m c 5) (after5 m c) t d
/-- Window 6 keeps its block. -/
theorem after6 (c : Dev nD) (t : Fin cfg0.N) : (dats m 0 c).after 6 t = iblk m c 6 t := by dsimp only [dats]
/-- Window 6 holds its block before the body. -/
theorem before6 (c : Dev nD) (t : Fin cfg0.N) (d) : (dats m 0 c).before 6 t d = iblk m c 6 t :=
  before0_6_of m (dats m 0 c) (A_eq m c 6) (after6 m c) t d
/-- Window 7 keeps its block. -/
theorem after7 (c : Dev nD) (t : Fin cfg0.N) : (dats m 0 c).after 7 t = iblk m c 7 t := by dsimp only [dats]
/-- Window 7 holds its block before the body. -/
theorem before7 (c : Dev nD) (t : Fin cfg0.N) (d) : (dats m 0 c).before 7 t d = iblk m c 7 t :=
  before0_7_of m (dats m 0 c) (A_eq m c 7) (after7 m c) t d
/-- Window 8 keeps its block. -/
theorem after8 (c : Dev nD) (t : Fin cfg0.N) : (dats m 0 c).after 8 t = iblk m c 8 t := by dsimp only [dats]
/-- Window 8 holds its block before the body. -/
theorem before8 (c : Dev nD) (t : Fin cfg0.N) (d) : (dats m 0 c).before 8 t d = iblk m c 8 t :=
  before0_8_of m (dats m 0 c) (A_eq m c 8) (after8 m c) t d
/-- Window 9 keeps its block. -/
theorem after9 (c : Dev nD) (t : Fin cfg0.N) : (dats m 0 c).after 9 t = iblk m c 9 t := by dsimp only [dats]
/-- Window 9 holds its block before the body. -/
theorem before9 (c : Dev nD) (t : Fin cfg0.N) (d) : (dats m 0 c).before 9 t d = iblk m c 9 t :=
  before0_9_of m (dats m 0 c) (A_eq m c 9) (after9 m c) t d
/-- Window 10 keeps its block. -/
theorem after10 (c : Dev nD) (t : Fin cfg0.N) : (dats m 0 c).after 10 t = iblk m c 10 t := by dsimp only [dats]
/-- Window 10 holds its block before the body. -/
theorem before10 (c : Dev nD) (t : Fin cfg0.N) (d) : (dats m 0 c).before 10 t d = iblk m c 10 t :=
  before0_10_of m (dats m 0 c) (A_eq m c 10) (after10 m c) t d
/-- Window 11 keeps its block. -/
theorem after11 (c : Dev nD) (t : Fin cfg0.N) : (dats m 0 c).after 11 t = iblk m c 11 t := by dsimp only [dats]
/-- Window 11 holds its block before the body. -/
theorem before11 (c : Dev nD) (t : Fin cfg0.N) (d) : (dats m 0 c).before 11 t d = iblk m c 11 t :=
  before0_11_of m (dats m 0 c) (A_eq m c 11) (after11 m c) t d
/-- Window 12 keeps its block. -/
theorem after12 (c : Dev nD) (t : Fin cfg0.N) : (dats m 0 c).after 12 t = iblk m c 12 t := by dsimp only [dats]
/-- Window 12 holds its block before the body. -/
theorem before12 (c : Dev nD) (t : Fin cfg0.N) (d) : (dats m 0 c).before 12 t d = iblk m c 12 t :=
  before0_12_of m (dats m 0 c) (A_eq m c 12) (after12 m c) t d
/-- Window 13 is left at its result block. -/
theorem after13 (c : Dev nD) (t : Fin cfg0.N) : (dats m 0 c).after 13 t = res m c t out13 := by dsimp only [dats]
/-- Window 14 is left at its result block. -/
theorem after14 (c : Dev nD) (t : Fin cfg0.N) : (dats m 0 c).after 14 t = res m c t out14 := by dsimp only [dats]
/-- Window 15 is left at its result block. -/
theorem after15 (c : Dev nD) (t : Fin cfg0.N) : (dats m 0 c).after 15 t = res m c t out15 := by dsimp only [dats]
/-- Window 16 is left at its result block. -/
theorem after16 (c : Dev nD) (t : Fin cfg0.N) : (dats m 0 c).after 16 t = res m c t out16 := by dsimp only [dats]
/-- Window 17 is left at its result block. -/
theorem after17 (c : Dev nD) (t : Fin cfg0.N) : (dats m 0 c).after 17 t = res m c t out17 := by dsimp only [dats]
/-- Window 18 is left at its result block. -/
theorem after18 (c : Dev nD) (t : Fin cfg0.N) : (dats m 0 c).after 18 t = res m c t out18 := by dsimp only [dats]
/-- Window 19 is left at its result block. -/
theorem after19 (c : Dev nD) (t : Fin cfg0.N) : (dats m 0 c).after 19 t = res m c t out19 := by dsimp only [dats]

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t))

set_option maxHeartbeats 6400000 in
/-- The body at any point: the rows of the point before are carried in, this point's rows are carried out. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12]
  rw [show (dats m 0 c).owesAt () t.succ = (dats m 0 c).owesAt () t.castSucc from rfl,
    after0, after1, after2, after3, after4, after5, after6, after7, after8, after9, after10, after11, after12, after13, after14, after15, after16, after17, after18, after19]
  rw [show (dats m 0 c).Φ t.succ = PhiS m c (t.val + 1) t.isLt from rfl, PhiS_succ]
  by_cases hz : t.val = 0
  case' pos =>
    rw [PhiS_castSucc m c t, PhiS_zero m c _ _ hz, PhiA0_eq]
    iintro ⟨⟨⟨⟨%S0, HS0⟩, ⟨%S1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
    have e0 : wide m c t = shift0 (grid0.coords t) (iblk m c 0 t) (iblk m c 3 t) (View.ld S0 row0) := first3 _ (coords_zero t hz) _ _ _ _
    have e1 : narrow m c t = shift1 (grid0.coords t) (iblk m c 1 t) (View.ld S1 row1) := first5 _ (coords_zero t hz) _ _ _
  case' neg =>
    rw [PhiS_castSucc m c t, PhiS_pos m c ⟨t.val, Nat.lt_succ_of_lt t.isLt⟩ hz]
    iintro ⟨⟨⟨⟨%S0, %hS0, HS0⟩, ⟨%S1, %hS1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
    have e0 : wide m c t = shift0 (grid0.coords t) (iblk m c 0 t) (iblk m c 3 t) (View.ld S0 row0) := by rw [hS0]; rfl
    have e1 : narrow m c t = shift1 (grid0.coords t) (iblk m c 1 t) (View.ld S1 row1) := by rw [hS1]; rfl
  all_goals
    dsimp only [res]
    rw [e0, e1]
    iapply (sound_kernel c Set.univ (grid0.coords t) _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) S0 S1 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [HS0]; · iexact HS0
    isplitl [HS1]; · iexact HS1
    iintro ⟨H0, H1, H2, H3, H4, H5, H6, H7, H8, H9, H10, H11, H12, H13, H14, H15, H16, H17, H18, H19, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19

/-- The body table's row at a point's slots is the body at the point. -/
theorem defs₀_row (t : Fin cfg0.N) :
    defs₀ (F := F) .tc cfg0.body (cfg0.bodyArgs t (cfg0.slots t)) = bodyAt0 t := by
  unfold defs₀; rw [Defs.onTc_tc]

/-- The body's obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the carried rows are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ (by rw [Fin.val_last]; have : cfg0.N = 64 := N_0; omega), PhiA0_eq]
  iintro ⟨⟨⟨%S0, -, HS0⟩, ⟨%S1, -, HS1⟩⟩, Hg⟩
  isplitl [HS0 HS1]
  · isplitl [HS0]
    · iexists _; iexact HS0
    iexists _; iexact HS1
  iexact Hg

set_option backward.isDefEq.respectTransparency.types false in
/-- The call's run, with every counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The call's run: every array of the pipeline ends at what the proof data says. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the arguments and every counter end as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (frame_of m ρ (dats m) (A_eq m) (run_main m ρ)) ((θ_run defs _ _).mono (fun _ h => h.2) (run_main_quiescent m ρ))

end Cert.Kernel6Ideal.Prep

end
-- ==== Proof.PrepPay.lean ====
/-
  The preparation of the recurrence: the body's two result blocks r and v at an entry, from the blocks it reads.
-/
module

public import proofs.«01_k».proof.Proof.PrepFrameIdeal
public import Idealize.ShloMosaic.Lib.Pointwise

@[expose] public section

set_option maxRecDepth 16384

noncomputable section

namespace Cert.Kernel6Ideal.Prep

open Cert.Kernel6Ideal Cert.Kernel6Ideal.Gen Idealize.ShloMosaic Idealize.ShloMosaic.TcCoe

/-- The literal zero offsets are the zero function. -/
theorem hz : (![0, 0] : Fin 2 → Nat) = fun _ => 0 := funext fun a => by fin_cases a <;> rfl

/-- The choice of a row: the carried row on top (zero in a first block), else the row before. -/
theorem pick (i : grid0.Coords) (r : Fin 256) (y : EReal) (f : Fin 256 → EReal) :
    Scalar.select (IntOp.cmpi CmpIPredicate.eq (BitVec.ofNat 32 r.val) 0#32) (Scalar.select (Scalar.cmpi CmpIPredicate.eq (BitVec.ofNat 32 (i 1).val) 0#32) 0 y) (f ⟨(r.val + 256 - 1) % 256, by omega⟩)
      = if r.val = 0 then (if (i 1).val = 0 then 0 else y) else f ⟨r.val - 1, by omega⟩ := by
  have hr : ∀ r : Fin 256, IntOp.cmpi CmpIPredicate.eq (BitVec.ofNat 32 r.val) 0#32 = if r.val = 0 then 1#1 else 0#1 := by decide +kernel
  have hi : ∀ k : Fin 8, Scalar.cmpi CmpIPredicate.eq (BitVec.ofNat 32 k.val) 0#32 = if k.val = 0 then 1#1 else 0#1 := by decide +kernel
  have hk : Scalar.cmpi CmpIPredicate.eq (BitVec.ofNat 32 (i 1).val) 0#32 = if (i 1).val = 0 then 1#1 else 0#1 := hi (i 1)
  rw [hr, hk]
  by_cases h : r.val = 0
  · rw [if_pos h, if_pos h]
    by_cases h' : (i 1).val = 0
    · rw [if_pos h', if_pos h']; rfl
    · rw [if_neg h', if_neg h']; rfl
  · rw [if_neg h, if_neg h]
    exact congrArg f (Fin.ext (by show (r.val + 256 - 1) % 256 = r.val - 1; omega))

/-- The wide block over its shifted self at an entry. -/
theorem shift0_apply (i : grid0.Coords) (x0 : Vec Ideal S256x1152 .f32) (x3 y : Vec Ideal S1x1152 .f32) (r : Fin 256) (p : Fin 1152) :
    shift0 i x0 x3 y (ix2 r p) = x0 (ix2 r p) + ((if r.val = 0 then (if (i 1).val = 0 then 0 else y (ix2 0 p)) else x0 (ix2 ⟨r.val - 1, by omega⟩ p)) - x0 (ix2 r p)) * x3 (ix2 0 p) := by
  have hl : View.ld x0 all0 = x0 := View.ld_unit_zero (S := S256x1152) hz _ _
  have hm : View.ld x3 all3 = x3 := View.ld_unit_zero (S := S1x1152) hz _ _
  unfold shift0
  rw [hl, hm]
  pointwise [k0_pay3]
  rw [pick i r (y (ix2 0 p)) fun r => x0 (ix2 r p)]

/-- The narrow block's shifted self at an entry. -/
theorem shift1_apply (i : grid0.Coords) (x1 : Vec Ideal S256x256 .f32) (y : Vec Ideal S1x256 .f32) (r : Fin 256) (p : Fin 256) :
    shift1 i x1 y (ix2 r p) = if r.val = 0 then (if (i 1).val = 0 then 0 else y (ix2 0 p)) else x1 (ix2 ⟨r.val - 1, by omega⟩ p) := by
  have hl : View.ld x1 all1 = x1 := View.ld_unit_zero (S := S256x256) hz _ _
  unfold shift1
  rw [hl]
  pointwise [k0_pay5]
  exact pick i r (y (ix2 0 p)) fun r => x1 (ix2 r p)

/-- The wide block's last row. -/
theorem bottom0_apply (x0 : Vec Ideal S256x1152 .f32) (p : Fin 1152) : bottom0 x0 (ix2 0 p) = x0 (ix2 ⟨255, by omega⟩ p) := by
  have hl : View.ld x0 all0 = x0 := View.ld_unit_zero (S := S256x1152) hz _ _
  unfold bottom0
  rw [hl]
  pointwise [k0_pay2]

/-- The narrow block's last row. -/
theorem bottom1_apply (x1 : Vec Ideal S256x256 .f32) (p : Fin 256) : bottom1 x1 (ix2 0 p) = x1 (ix2 ⟨255, by omega⟩ p) := by
  have hl : View.ld x1 all1 = x1 := View.ld_unit_zero (S := S256x256) hz _ _
  unfold bottom1
  rw [hl]
  pointwise [k0_pay7, k0_pay6]

/-- The mixed narrow block at an entry. -/
theorem xl_apply (x1 : Vec Ideal S256x256 .f32) (x4 : Vec Ideal S1x256 .f32) (s : FVec Ideal S256x256 .f32) (r : Fin 256) (p : Fin 256) :
    xl x1 x4 s (ix2 r p) = x1 (ix2 r p) + (s (ix2 r p) - x1 (ix2 r p)) * x4 (ix2 0 p) := by
  have hl : View.ld x1 all1 = x1 := View.ld_unit_zero (S := S256x256) hz _ _
  have hm : View.ld x4 all4 = x4 := View.ld_unit_zero (S := S1x256) hz _ _
  unfold xl
  rw [hl, hm]
  pointwise [k0_pay8, k0_pay4]

/-- The rate of the mix with the first layer's values at an entry. -/
theorem rate_apply (X : FVec Ideal S256x256 .f32) (x10 : Vec Ideal S1x384 .f32) (x11 : Vec Ideal S128x384 .bf16) (r : Fin 256) (q : Fin 384) :
    k0_pay24 X x10 x11 (ix2 r q) = Ideal.div 1 (1 + Ideal.exp (0 - (x10 (ix2 0 q) + ∑ k : Fin 128, X (ix2 r ⟨128 + k.val, by omega⟩) * x11 (ix2 k q)))) := by
  pointwise [k0_pay24]

/-- The mix with the first layer's values at an entry. -/
theorem pay1_apply (v : FVec Ideal S256x1152 .f32) (s : FVec Ideal S256x384 .f32) (x2 : Vec Ideal S256x384 .f32) (r : Fin 256) (q : Fin 384) :
    k0_pay1 (k0_pay11 v) s x2 (ix2 r q) = v (ix2 r ⟨768 + q.val, by omega⟩) + (x2 (ix2 r q) - v (ix2 r ⟨768 + q.val, by omega⟩)) * s (ix2 r q) := by
  pointwise [k0_pay1, k0_pay11]

/-- The first third of the wide streams at an entry. -/
theorem pay9_apply (v : FVec Ideal S256x1152 .f32) (r : Fin 256) (q : Fin 384) : k0_pay9 v (ix2 r q) = v (ix2 r ⟨q.val, by omega⟩) := by
  pointwise [k0_pay9]

/-- The block of v at an entry, from the blocks read. -/
theorem out15_at (x1 : Vec Ideal S256x256 .f32) (x2 : Vec Ideal S256x384 .f32) (x3 : Vec Ideal S1x1152 .f32) (x4 : Vec Ideal S1x256 .f32) (x5 x6 : Vec Ideal S1x384 .f32) (x7 : Vec Ideal S128x1152 .bf16)
    (x8 x9 x10 : Vec Ideal S1x384 .f32) (x11 : Vec Ideal S128x384 .bf16) (x12 : Vec Ideal S384x384 .bf16) (v : FVec Ideal S256x1152 .f32) (s : FVec Ideal S256x256 .f32) (r : Fin 256) (q : Fin 384) :
    out15 x1 x2 x3 x4 x5 x6 x7 x8 x9 x10 x11 x12 v s (ix2 r q) = v (ix2 r ⟨768 + q.val, by omega⟩) + (x2 (ix2 r q) - v (ix2 r ⟨768 + q.val, by omega⟩))
      * Ideal.div 1 (1 + Ideal.exp (0 - (x10 (ix2 0 q) + ∑ k : Fin 128, xl x1 x4 s (ix2 r ⟨128 + k.val, by omega⟩) * x11 (ix2 k q)))) := by
  unfold out15
  rw [show View.ld x2 all2 = x2 from View.ld_unit_zero (S := S256x384) hz _ _, show View.ld x10 all10 = x10 from View.ld_unit_zero (S := S1x384) hz _ _,
    show View.ld x11 all11 = x11 from View.ld_unit_zero (S := S128x384) hz _ _, pay1_apply, rate_apply]

end Cert.Kernel6Ideal.Prep

end
-- ==== Proof.PrepHost.lean ====
/-
  The preparation of the recurrence: the host's rows and padded factors at the entries the results read.
-/
module

public import proofs.«01_k».proof.Proof.Gen.Kernel6Ideal.Frame
public import Idealize.ShloMosaic.Lib.Tactic
public import Idealize.ShloMosaic.Lib.Pointwise
public import Idealize.ShloMosaic.Lib.KernelVsHost
public import Idealize.ShloMosaic.Lib.Pipeline.Value

@[expose] public section

set_option maxRecDepth 16384

noncomputable section

namespace Cert.Kernel6Ideal.Prep

open Cert.Kernel6Ideal Cert.Kernel6Ideal.Gen Idealize.ShloMosaic Idealize.ShloMosaic.TcCoe Idealize.ShloMosaic.Tactic Idealize.SL.Sem

variable (m : (ℓ : Loc nD τ sig) → Buf (Elt Ideal) ℓ) (c : Dev nD)

/-- The wide streams. -/
abbrev a0 : Vec Ideal S16384x1152 .f32 := m ((c : Thread nD τ).loc main_arg0)
/-- The narrow streams. -/
abbrev a1 : Vec Ideal S16384x256 .f32 := m ((c : Thread nD τ).loc main_arg1)
/-- The first layer's values. -/
abbrev a2 : Vec Ideal S16384x384 .f32 := m ((c : Thread nD τ).loc main_arg2)
/-- The mixing rates. -/
abbrev a3 : Vec Ideal S1280 .f32 := m ((c : Thread nD τ).loc main_arg3)
/-- The mixing rates of the last sixteen streams. -/
abbrev a4 : Vec Ideal S16 .f32 := m ((c : Thread nD τ).loc main_arg4)
/-- The offset of the mix with the first layer's values. -/
abbrev a12 : Vec Ideal S384 .f32 := m ((c : Thread nD τ).loc main_arg12)
/-- The factor of that mix. -/
abbrev a13 : Vec Ideal S16x384 .f32 := m ((c : Thread nD τ).loc main_arg13)

/-- The wide streams' rates at an entry. -/
theorem V24_apply (p : Fin 1152) : (V m c main_v24 : Vec Ideal S1x1152 .f32) (ix2 0 p) = a3 m c (ix1 ⟨p.val, by omega⟩) := by
  have h : V m c main_v24 = shapeCast S1x1152 (extractStridedSlice S1152 ![0] (a3 m c) slices_S1280_S1152_0) shapeCasts_S1152_S1x1152 := by
    unfold V
    simp only [hostOps0, hostOps0_1, hostOps0_2, hostOps0_3, hostOps0_4, hostOps0_5, hostOps0_6, hostOps0_7, hostOps0_8, List.flatten_cons, List.flatten_nil, List.append_nil, List.cons_append, List.nil_append]
    after_results
    rfl
  rw [h]
  pointwise

/-- The offset's row at an entry. -/
theorem V33_apply (q : Fin 384) : (V m c main_v33 : Vec Ideal S1x384 .f32) (ix2 0 q) = a12 m c (ix1 q) := by
  have h : V m c main_v33 = shapeCast S1x384 (a12 m c) shapeCasts_S384_S1x384 := by
    unfold V
    simp only [hostOps0, hostOps0_1, hostOps0_2, hostOps0_3, hostOps0_4, hostOps0_5, hostOps0_6, hostOps0_7, hostOps0_8, List.flatten_cons, List.flatten_nil, List.append_nil, List.cons_append, List.nil_append]
    after_results
    rfl
  rw [h]
  pointwise

/-- The last sixteen streams' rates at an entry. -/
theorem V27_apply (k : Fin 16) : (V m c main_v27 : Vec Ideal S1x256 .f32) (ix2 0 ⟨128 + k.val, by omega⟩) = a4 m c (ix1 k) := by
  have h : V m c main_v27 = shapeCast S1x256 (concatenate S256 0 [⟨S128, extractStridedSlice S128 ![1152] (a3 m c) slices_S1280_S128_1152⟩,
      ⟨S128, pad S128 ![0] ![112] ![0] (a4 m c) (sitofp (F := Ideal) .f32 (constantI S_ 32 0#32)) pads_S16_S128_01120 h_S_⟩] concatenates_S128_S128_S256_d0) shapeCasts_S256_S1x256 := by
    unfold V
    simp only [hostOps0, hostOps0_1, hostOps0_2, hostOps0_3, hostOps0_4, hostOps0_5, hostOps0_6, hostOps0_7, hostOps0_8, List.flatten_cons, List.flatten_nil, List.append_nil, List.cons_append, List.nil_append]
    after_results
    rfl
  rw [h]
  generalize hy : concatenate S256 0 _ _ = y
  have hs : shapeCast S1x256 y shapeCasts_S256_S1x256 (ix2 0 ⟨128 + k.val, by omega⟩) = y (ix1 ⟨128 + k.val, by omega⟩) := by pointwise
  rw [hs, ← hy]
  refine (concatenate_pair_apply_right (t := S256) (s₁ := S128) (s₂ := S128) (0 : Fin 1) _ _ _ _ rfl rfl (ix1 ⟨k.val, by omega⟩) (fun b hb => absurd (Subsingleton.elim _ _) hb) ?_).trans ?_
  · show k.val + 128 = 128 + k.val; omega
  · refine pad_apply_of_inside (t := S128) _ _ _ _ _ _ _ _ (ix1 k) fun a => ?_
    match a with
    | ⟨0, _⟩ => show k.val = 0 + k.val * (0 + 1); omega

/-- The padded factor at an entry. -/
theorem V35_apply (k : Fin 128) (q : Fin 384) : (V m c main_v35 : Vec Ideal S128x384 .bf16) (ix2 k q) = if h : k.val < 16 then a13 m c (ix2 ⟨k.val, h⟩ q) else 0 := by
  have h : @Eq (FVec Ideal S128x384 .bf16) (V m c main_v35) (truncf (F := Ideal) .bf16 (pad S128x384 ![0, 0] ![112, 0] ![0, 0] (a13 m c) (sitofp (F := Ideal) .f32 (constantI S_ 32 0#32)) pads_S16x384_S128x384_01120_000 h_S_ : Vec Ideal S128x384 .f32) bitsLt_bf16_f32) := by
    unfold V
    simp only [hostOps0, hostOps0_1, hostOps0_2, hostOps0_3, hostOps0_4, hostOps0_5, hostOps0_6, hostOps0_7, hostOps0_8, List.flatten_cons, List.flatten_nil, List.append_nil, List.cons_append, List.nil_append]
    after_results
    rfl
  refine (congrFun h _).trans ?_
  show pad S128x384 ![0, 0] ![112, 0] ![0, 0] (a13 m c) (sitofp (F := Ideal) .f32 (constantI S_ 32 0#32)) pads_S16x384_S128x384_01120_000 h_S_ (ix2 k q) = _
  by_cases hk : k.val < 16
  · rw [dif_pos hk]
    refine pad_apply_of_inside (t := S128x384) _ _ _ _ _ _ _ _ (ix2 ⟨k.val, hk⟩ q) fun a => ?_
    match a with
    | ⟨0, _⟩ => show k.val = 0 + k.val * (0 + 1); omega
    | ⟨1, _⟩ => show q.val = 0 + q.val * (0 + 1); omega
  · rw [dif_neg hk]
    refine (pad_apply_of_not_inside (t := S128x384) _ _ _ _ _ _ _ _ (0 : Fin 2) fun hh => ?_).trans (sitofp_zero (φ := .f32))
    have h2 : (k.val - 0) / (0 + 1) < 16 := hh.2.2
    omega

end Cert.Kernel6Ideal.Prep

end
-- ==== Proof.PrepArr.lean ====
/-
  The preparation of the recurrence: the blocks read at a grid point, and what the arrays r and v end holding.
-/
module

public import proofs.«01_k».proof.Proof.PrepRef
public import proofs.«01_k».proof.Proof.PrepPay
public import proofs.«01_k».proof.Proof.PrepHost

@[expose] public section

set_option maxRecDepth 16384

noncomputable section

namespace Cert.Kernel6Ideal.Prep

open Cert.Kernel6Ideal Cert.Kernel6Ideal.Gen Idealize.ShloMosaic Idealize.ShloMosaic.TcCoe Idealize.SL.Sem Cert.PrepMath
open Idealize.ShloMosaic.Pipeline (Dat)

variable (m : (ℓ : Loc nD τ sig) → Buf (Elt Ideal) ℓ) (c : Dev nD)

/-- The block indices of the windows of rows. -/
theorem idxR : ∀ t : Fin cfg0.N, (win0_0.index t 0 = t.val ∧ win0_0.index t 1 = 0) ∧ (win0_1.index t 0 = t.val ∧ win0_1.index t 1 = 0) ∧ (win0_2.index t 0 = t.val ∧ win0_2.index t 1 = 0) := by decide +kernel
/-- The block indices of the whole windows. -/
theorem idxW : ∀ t : Fin cfg0.N, (win0_3.index t 0 = 0 ∧ win0_3.index t 1 = 0) ∧ (win0_4.index t 0 = 0 ∧ win0_4.index t 1 = 0) ∧ (win0_10.index t 0 = 0 ∧ win0_10.index t 1 = 0) ∧ (win0_11.index t 0 = 0 ∧ win0_11.index t 1 = 0) := by decide +kernel
/-- The block indices of the two result windows. -/
theorem idxO : ∀ t : Fin cfg0.N, (win0_13.index t 0 = t.val ∧ win0_13.index t 1 = 0 ∧ (cfg0.win 13).flush t = true) ∧ (win0_15.index t 0 = t.val ∧ win0_15.index t 1 = 0 ∧ (cfg0.win 15).flush t = true) := by decide +kernel
/-- The second coordinate counts the blocks of a batch entry. -/
theorem coord1 : ∀ t : Fin cfg0.N, ((grid0.coords t) 1).val = t.val % 8 :=
  (by decide +kernel : ∀ t : Fin grid0.N, ((grid0.coords t) 1).val = t.val % 8)

/-- The wide streams read at a point. -/
theorem iblk0_apply (t : Fin cfg0.N) (r : Fin 256) (p : Fin 1152) :
    (iblk m c 0 t : Vec Ideal S256x1152 .f32) (ix2 r p) = col (a0 m c) p (256 * t.val + r.val) := by
  have ht : t.val < 64 := Nat.lt_of_lt_of_eq t.isLt N_0
  unfold iblk
  rw [View.read_apply, col, dif_pos (by omega)]
  show V m c main_arg0 _ = _
  rw [V_main_arg0]
  refine congrArg (a0 m c) (funext fun a => Fin.ext ?_)
  match a with
  | ⟨0, _⟩ => show win0_0.index t 0 * 256 + 1 * r.val = 256 * t.val + r.val; rw [(idxR t).1.1]; omega
  | ⟨1, _⟩ => show win0_0.index t 1 * 1152 + 1 * p.val = p.val; rw [(idxR t).1.2]; omega

/-- The narrow streams read at a point. -/
theorem iblk1_apply (t : Fin cfg0.N) (r : Fin 256) (p : Fin 256) :
    (iblk m c 1 t : Vec Ideal S256x256 .f32) (ix2 r p) = col (a1 m c) p (256 * t.val + r.val) := by
  have ht : t.val < 64 := Nat.lt_of_lt_of_eq t.isLt N_0
  unfold iblk
  rw [View.read_apply, col, dif_pos (by omega)]
  show V m c main_arg1 _ = _
  rw [V_main_arg1]
  refine congrArg (a1 m c) (funext fun a => Fin.ext ?_)
  match a with
  | ⟨0, _⟩ => show win0_1.index t 0 * 256 + 1 * r.val = 256 * t.val + r.val; rw [(idxR t).2.1.1]; omega
  | ⟨1, _⟩ => show win0_1.index t 1 * 256 + 1 * p.val = p.val; rw [(idxR t).2.1.2]; omega

/-- The first layer's values read at a point. -/
theorem iblk2_apply (t : Fin cfg0.N) (r : Fin 256) (q : Fin 384) (i : Fin 16384) (hi : 256 * t.val + r.val = i.val) :
    (iblk m c 2 t : Vec Ideal S256x384 .f32) (ix2 r q) = a2 m c (ix2 i q) := by
  unfold iblk
  rw [View.read_apply]
  show V m c main_arg2 _ = _
  rw [V_main_arg2]
  refine congrArg (a2 m c) (funext fun a => Fin.ext ?_)
  match a with
  | ⟨0, _⟩ => show win0_2.index t 0 * 256 + 1 * r.val = i.val; rw [(idxR t).2.2.1]; omega
  | ⟨1, _⟩ => show win0_2.index t 1 * 384 + 1 * q.val = q.val; rw [(idxR t).2.2.2]; omega

/-- The wide streams' rates read at a point. -/
theorem iblk3_apply (t : Fin cfg0.N) (p : Fin 1152) : (iblk m c 3 t : Vec Ideal S1x1152 .f32) (ix2 0 p) = a3 m c (ix1 ⟨p.val, by omega⟩) := by
  unfold iblk
  rw [View.read_apply, ← V24_apply]
  show V m c main_v24 _ = V m c main_v24 _
  refine congrArg _ (funext fun a => Fin.ext ?_)
  match a with
  | ⟨0, _⟩ => show win0_3.index t 0 * 1 + 1 * 0 = 0; rw [(idxW t).1.1]
  | ⟨1, _⟩ => show win0_3.index t 1 * 1152 + 1 * p.val = p.val; rw [(idxW t).1.2]; omega

/-- The last sixteen streams' rates read at a point. -/
theorem iblk4_apply (t : Fin cfg0.N) (k : Fin 16) : (iblk m c 4 t : Vec Ideal S1x256 .f32) (ix2 0 ⟨128 + k.val, by omega⟩) = a4 m c (ix1 k) := by
  unfold iblk
  rw [View.read_apply, ← V27_apply]
  show V m c main_v27 _ = V m c main_v27 _
  refine congrArg _ (funext fun a => Fin.ext ?_)
  match a with
  | ⟨0, _⟩ => show win0_4.index t 0 * 1 + 1 * 0 = 0; rw [(idxW t).2.1.1]
  | ⟨1, _⟩ => show win0_4.index t 1 * 256 + 1 * (128 + k.val) = 128 + k.val; rw [(idxW t).2.1.2]; omega

/-- The offset read at a point. -/
theorem iblk10_apply (t : Fin cfg0.N) (q : Fin 384) : (iblk m c 10 t : Vec Ideal S1x384 .f32) (ix2 0 q) = a12 m c (ix1 q) := by
  unfold iblk
  rw [View.read_apply, ← V33_apply]
  show V m c main_v33 _ = V m c main_v33 _
  refine congrArg _ (funext fun a => Fin.ext ?_)
  match a with
  | ⟨0, _⟩ => show win0_10.index t 0 * 1 + 1 * 0 = 0; rw [(idxW t).2.2.1.1]
  | ⟨1, _⟩ => show win0_10.index t 1 * 384 + 1 * q.val = q.val; rw [(idxW t).2.2.1.2]; omega

/-- The padded factor read at a point. -/
theorem iblk11_apply (t : Fin cfg0.N) (k : Fin 128) (q : Fin 384) :
    (iblk m c 11 t : Vec Ideal S128x384 .bf16) (ix2 k q) = if h : k.val < 16 then a13 m c (ix2 ⟨k.val, h⟩ q) else 0 := by
  unfold iblk
  rw [View.read_apply, ← V35_apply]
  show V m c main_v35 _ = V m c main_v35 _
  refine congrArg _ (funext fun a => Fin.ext ?_)
  match a with
  | ⟨0, _⟩ => show win0_11.index t 0 * 128 + 1 * k.val = k.val; rw [(idxW t).2.2.2.1]; omega
  | ⟨1, _⟩ => show win0_11.index t 1 * 384 + 1 * q.val = q.val; rw [(idxW t).2.2.2.2]; omega

/-- The row before, block by block. -/
theorem before_eq (X : ℕ → EReal) (t : Fin cfg0.N) (r : Fin 256) :
    (if r.val = 0 then (if ((grid0.coords t) 1).val = 0 then 0 else X (256 * (prev t).val + 255)) else X (256 * t.val + (r.val - 1))) = before X (256 * t.val + r.val) := by
  have hp : (prev t).val = t.val - 1 := rfl
  rw [coord1, hp]
  unfold before
  by_cases h : r.val = 0
  · rw [if_pos h]
    by_cases h' : t.val % 8 = 0
    · rw [if_pos h', if_pos (by omega)]
    · rw [if_neg h', if_neg (by omega)]; congr 1; omega
  · rw [if_neg h, if_neg (by omega)]; congr 1; omega

/-- The mixed wide streams at a point. -/
theorem wide_apply (t : Fin cfg0.N) (r : Fin 256) (p : Fin 1152) :
    wide m c t (ix2 r p) = mix (col (a0 m c) p) (a3 m c (ix1 ⟨p.val, by omega⟩)) (256 * t.val + r.val) := by
  unfold wide last0 mix
  rw [shift0_apply, bottom0_apply, iblk0_apply, iblk0_apply, iblk0_apply, iblk3_apply]
  exact congrArg (fun y => _ + (y - _) * _) (before_eq (col (a0 m c) p) t r)

/-- The last sixteen streams, mixed, at a point. -/
theorem xl_at (t : Fin cfg0.N) (r : Fin 256) (k : Fin 16) :
    xl (iblk m c 1 t) (iblk m c 4 t) (narrow m c t) (ix2 r ⟨128 + k.val, by omega⟩) = mix (col (a1 m c) ⟨128 + k.val, by omega⟩) (a4 m c (ix1 k)) (256 * t.val + r.val) := by
  unfold narrow last1 mix
  rw [xl_apply, shift1_apply, bottom1_apply, iblk1_apply, iblk1_apply, iblk1_apply, iblk4_apply]
  exact congrArg (fun y => _ + (y - _) * _) (before_eq (col (a1 m c) ⟨128 + k.val, by omega⟩) t r)

/-- A product over 128 columns of which only 16 are not padding. -/
theorem sum16 (f : Fin 128 → EReal) (hf : ∀ k, 16 ≤ k.val → f k = 0) : ∑ k : Fin 128, f k = ∑ k : Fin 16, f ⟨k.val, by omega⟩ := by
  refine (Fin.sum_univ_add (a := 16) (b := 112) f).trans ?_
  rw [Finset.sum_eq_zero (s := (Finset.univ : Finset (Fin 112))) fun k _ => hf _ (by show 16 ≤ 16 + k.val; omega), add_zero]
  rfl

/-- The block of v at a point. -/
theorem out15_apply (t : Fin cfg0.N) (r : Fin 256) (q : Fin 384) (i : Fin 16384) (hi : 256 * t.val + r.val = i.val) :
    (dats m 0 c).after 15 t (ix2 r q) =
      mix (col (a0 m c) ⟨768 + q.val, by omega⟩) (a3 m c (ix1 ⟨768 + q.val, by omega⟩)) i.val
        + (a2 m c (ix2 i q) - mix (col (a0 m c) ⟨768 + q.val, by omega⟩) (a3 m c (ix1 ⟨768 + q.val, by omega⟩)) i.val)
          * logi (a12 m c (ix1 q) + ∑ k : Fin 16, mix (col (a1 m c) ⟨128 + k.val, by omega⟩) (a4 m c (ix1 k)) i.val * a13 m c (ix2 k q)) := by
  refine (congrFun (after15 m c t) _).trans ((out15_at _ _ _ _ _ _ _ _ _ _ _ _ _ _ r q).trans ?_)
  rw [wide_apply, iblk2_apply m c t r q i hi, iblk10_apply, hi, zero_sub, sum16 _ fun k hk => by
    rw [iblk11_apply, dif_neg (by omega), mul_zero]]
  refine congrArg (HAdd.hAdd _) (congrArg (HMul.hMul _) (congrArg logi (congrArg (HAdd.hAdd _) (Finset.sum_congr rfl fun k _ => ?_))))
  rw [xl_at, iblk11_apply, dif_pos k.isLt, hi]

/-- The block of r at a point. -/
theorem out13_apply (t : Fin cfg0.N) (r : Fin 256) (q : Fin 384) (i : Fin 16384) (hi : 256 * t.val + r.val = i.val) :
    (dats m 0 c).after 13 t (ix2 r q) = mix (col (a0 m c) ⟨q.val, by omega⟩) (a3 m c (ix1 ⟨q.val, by omega⟩)) i.val := by
  refine (congrFun (after13 m c t) _).trans ((pay9_apply _ r q).trans ?_)
  rw [wide_apply, hi]

/-- The array r at an entry. -/
theorem arr13_apply (i : Fin 16384) (q : Fin 384) :
    ((dats m 0 c).arrAt 13 cfg0.N : Vec Ideal S16384x384 .f32) (ix2 i q) = mix (col (a0 m c) ⟨q.val, by omega⟩) (a3 m c (ix1 ⟨q.val, by omega⟩)) i.val := by
  have hN : cfg0.N = 64 := N_0
  obtain ⟨t, htv⟩ : ∃ t : Fin cfg0.N, t.val = i.val / 256 := ⟨⟨i.val / 256, by omega⟩, rfl⟩
  have hd : ∀ t t' : Fin cfg0.N, (cfg0.win 13).flush t = true → (cfg0.win 13).flush t' = true → t ≠ t' →
      Disjoint ((cfg0.win 13).blk t).view.set ((cfg0.win 13).blk t').view.set := fun t t' _ _ hne => (cfg0.win 13).disjoint_blk fun h =>
    hne (Fin.ext ((idxO t).1.1.symm.trans ((congrFun h 0).trans (idxO t').1.1)))
  have h := congrFun ((dats m 0 c).read_blk_arrAt_eq_flushed 13 hd cfg0.N t t.isLt (idxO t).1.2.2) (ix2 ⟨i.val % 256, by omega⟩ q)
  rw [View.read_apply] at h
  refine Eq.trans (congrArg ((dats m 0 c).arrAt 13 cfg0.N) ?_) (h.trans (out13_apply m c t ⟨i.val % 256, by omega⟩ q i (by show 256 * t.val + i.val % 256 = i.val; omega)))
  funext a
  apply Fin.ext
  match a with
  | ⟨0, _⟩ => show i.val = win0_13.index t 0 * 256 + 1 * (i.val % 256); rw [(idxO t).1.1]; omega
  | ⟨1, _⟩ => show q.val = win0_13.index t 1 * 384 + 1 * q.val; rw [(idxO t).1.2.1]; omega

/-- The array v at an entry. -/
theorem arr15_apply (i : Fin 16384) (q : Fin 384) :
    ((dats m 0 c).arrAt 15 cfg0.N : Vec Ideal S16384x384 .f32) (ix2 i q) =
      mix (col (a0 m c) ⟨768 + q.val, by omega⟩) (a3 m c (ix1 ⟨768 + q.val, by omega⟩)) i.val
        + (a2 m c (ix2 i q) - mix (col (a0 m c) ⟨768 + q.val, by omega⟩) (a3 m c (ix1 ⟨768 + q.val, by omega⟩)) i.val)
          * logi (a12 m c (ix1 q) + ∑ k : Fin 16, mix (col (a1 m c) ⟨128 + k.val, by omega⟩) (a4 m c (ix1 k)) i.val * a13 m c (ix2 k q)) := by
  have hN : cfg0.N = 64 := N_0
  obtain ⟨t, htv⟩ : ∃ t : Fin cfg0.N, t.val = i.val / 256 := ⟨⟨i.val / 256, by omega⟩, rfl⟩
  have hd : ∀ t t' : Fin cfg0.N, (cfg0.win 15).flush t = true → (cfg0.win 15).flush t' = true → t ≠ t' →
      Disjoint ((cfg0.win 15).blk t).view.set ((cfg0.win 15).blk t').view.set := fun t t' _ _ hne => (cfg0.win 15).disjoint_blk fun h =>
    hne (Fin.ext ((idxO t).2.1.symm.trans ((congrFun h 0).trans (idxO t').2.1)))
  have h := congrFun ((dats m 0 c).read_blk_arrAt_eq_flushed 15 hd cfg0.N t t.isLt (idxO t).2.2.2) (ix2 ⟨i.val % 256, by omega⟩ q)
  rw [View.read_apply] at h
  refine Eq.trans (congrArg ((dats m 0 c).arrAt 15 cfg0.N) ?_) (h.trans (out15_apply m c t ⟨i.val % 256, by omega⟩ q i (by show 256 * t.val + i.val % 256 = i.val; omega)))
  funext a
  apply Fin.ext
  match a with
  | ⟨0, _⟩ => show i.val = win0_15.index t 0 * 256 + 1 * (i.val % 256); rw [(idxO t).2.1]; omega
  | ⟨1, _⟩ => show q.val = win0_15.index t 1 * 384 + 1 * q.val; rw [(idxO t).2.2.1]; omega

end Cert.Kernel6Ideal.Prep

end
-- ==== Proof.PrepRefOut.lean ====
/-
  The preparation of the recurrence: the reference's two results at an entry.
-/
module

public import proofs.«01_k».proof.Proof.PrepRef
public import Idealize.ShloMosaic.Lib.Tactic
public import Idealize.ShloMosaic.Lib.Pointwise

@[expose] public section

set_option maxRecDepth 16384

noncomputable section

namespace Cert.Reference6Ideal.Prep

open Cert.Reference6Ideal Cert.Reference6Ideal.Read Idealize.ShloMosaic Idealize.ShloMosaic.TcCoe Cert.PrepMath

variable (x0 : (⟨S16384x1152, .f32⟩ : BufTy).Contents (Elt Ideal)) (x1 : (⟨S16384x256, .f32⟩ : BufTy).Contents (Elt Ideal))
  (x2 : (⟨S16384x384, .f32⟩ : BufTy).Contents (Elt Ideal)) (x3 : (⟨S1280, .f32⟩ : BufTy).Contents (Elt Ideal))
  (x4 : (⟨S16, .f32⟩ : BufTy).Contents (Elt Ideal)) (x12 : (⟨S384, .f32⟩ : BufTy).Contents (Elt Ideal)) (x13 : (⟨S16x384, .f32⟩ : BufTy).Contents (Elt Ideal))

/-- The index of a row and column in the batched array. -/
theorem idx_eq (R : Fin 16384) (q : Fin 384) : idx_main_v39 (ix2 R q) = ix3 ⟨R.val / 2048, by omega⟩ ⟨R.val % 2048, by omega⟩ q := by
  funext k
  apply Fin.ext
  match k with
  | ⟨0, _⟩ => show (R.val * 384 + q.val) / 786432 = R.val / 2048; omega
  | ⟨1, _⟩ => show (R.val * 384 + q.val) / 384 % 2048 = R.val % 2048; omega
  | ⟨2, _⟩ => show (R.val * 384 + q.val) % 384 = q.val; omega

/-- The reference's first result at an entry. -/
theorem r_apply (R : Fin 16384) (q : Fin 384) :
    val_main_v39 (F := Ideal) x0 x1 x3 (ix2 R q) = mix (col x0 ⟨q.val, by omega⟩) (x3 (ix1 ⟨q.val, by omega⟩)) R.val := by
  have hi : idx_main_v12 (ix3 ⟨R.val / 2048, by omega⟩ ⟨R.val % 2048, by omega⟩ q) = ix3 ⟨R.val / 2048, by omega⟩ ⟨R.val % 2048, by omega⟩ ⟨q.val, by omega⟩ := funext fun k => match k with
    | ⟨0, _⟩ => rfl
    | ⟨1, _⟩ => rfl
    | ⟨2, _⟩ => rfl
  rw [val_main_v39_apply, idx_eq, val_main_v12_apply, hi]
  refine (v11_apply x0 x1 x3 ⟨R.val / 2048, by omega⟩ ⟨R.val % 2048, by omega⟩ ⟨q.val, by omega⟩ (by show q.val < 1152; omega)).trans ?_
  congr 1
  show 2048 * (R.val / 2048) + R.val % 2048 = R.val
  omega

/-- The reference's second result at an entry. -/
theorem v_apply (R : Fin 16384) (q : Fin 384) :
    val_main_v40 (F := Ideal) x0 x1 x2 x3 x4 x12 x13 (ix2 R q) =
      mix (col x0 ⟨768 + q.val, by omega⟩) (x3 (ix1 ⟨768 + q.val, by omega⟩)) R.val
        + (x2 (ix2 R q) - mix (col x0 ⟨768 + q.val, by omega⟩) (x3 (ix1 ⟨768 + q.val, by omega⟩)) R.val)
          * logi (x12 (ix1 q) + ∑ k : Fin 16, mix (col x1 ⟨128 + k.val, by omega⟩) (x4 (ix1 k)) R.val * x13 (ix2 k q)) := by
  have hR : 2048 * (R.val / 2048) + R.val % 2048 = R.val := by omega
  have h14 : val_main_v14 (F := Ideal) x0 x1 x3 (ix3 ⟨R.val / 2048, by omega⟩ ⟨R.val % 2048, by omega⟩ q) = mix (col x0 ⟨768 + q.val, by omega⟩) (x3 (ix1 ⟨768 + q.val, by omega⟩)) R.val := by
    have hi : idx_main_v14 (ix3 ⟨R.val / 2048, by omega⟩ ⟨R.val % 2048, by omega⟩ q) = ix3 ⟨R.val / 2048, by omega⟩ ⟨R.val % 2048, by omega⟩ ⟨768 + q.val, by omega⟩ := funext fun k => match k with
      | ⟨0, _⟩ => rfl
      | ⟨1, _⟩ => rfl
      | ⟨2, _⟩ => rfl
    rw [val_main_v14_apply, hi]
    refine (v11_apply x0 x1 x3 ⟨R.val / 2048, by omega⟩ ⟨R.val % 2048, by omega⟩ ⟨768 + q.val, by omega⟩ (by show 768 + q.val < 1152; omega)).trans ?_
    exact congrArg _ hR
  have h25 : val_main_v25 (F := Ideal) x2 (ix3 ⟨R.val / 2048, by omega⟩ ⟨R.val % 2048, by omega⟩ q) = x2 (ix2 R q) := by
    rw [val_main_v25_apply]
    refine congrArg x2 (funext fun k => Fin.ext ?_)
    match k with
    | ⟨0, _⟩ => show (((R.val / 2048) * 2048 + R.val % 2048) * 384 + q.val) / 384 = R.val; omega
    | ⟨1, _⟩ => show (((R.val / 2048) * 2048 + R.val % 2048) * 384 + q.val) % 384 = q.val; omega
  have h24 : ∀ k, val_main_v24 (F := Ideal) x1 x4 (ix3 ⟨R.val / 2048, by omega⟩ ⟨R.val % 2048, by omega⟩ k) = mix (col x1 ⟨128 + k.val, by omega⟩) (x4 (ix1 k)) R.val := fun k =>
    (v24_apply x1 x4 _ _ k).trans (congrArg _ hR)
  rw [val_main_v40_apply, show idx_main_v40 (ix2 R q) = _ from idx_eq R q, ← h14, ← h25]
  simp only [← h24]
  generalize (⟨R.val / 2048, _⟩ : Fin 8) = b
  generalize (⟨R.val % 2048, _⟩ : Fin 2048) = t
  unfold logi
  pointwise [val_main_v38, val_main_v37, val_main_v36, val_main_v35, val_main_v34, val_main_v33, val_main_v32, val_main_v31, val_main_v30, val_main_v29, val_main_v28, val_main_v27, val_main_v26, val_main_cst, val_main_cst_1]

end Cert.Reference6Ideal.Prep

end
-- ==== Proof.Prep.lean ====
/-
  The preparation of the recurrence: its results r and v are the reference's.
-/
module

public import proofs.«01_k».proof.Defs
public import proofs.«01_k».proof.Proof.PrepArr
public import proofs.«01_k».proof.Proof.PrepRefOut
public import proofs.«01_k».proof.Proof.Gen.Reference6Ideal.Run

@[expose] public section

set_option maxRecDepth 16384

noncomputable section

namespace Cert.Prep

open Idealize.ShloMosaic Idealize.ShloMosaic.TcCoe Idealize.SL.Sem

/-- Two arrays of 16384 rows and 384 columns with the same entries are the same. -/
theorem ext2 {x y : (Shape.mk 2 ![16384, 384]).Idx → EReal} (h : ∀ i q, x (ix2 i q) = y (ix2 i q)) : x = y := funext fun j => by
  obtain ⟨a, b, rfl⟩ : ∃ (a : Fin 16384) (b : Fin 384), j = ix2 a b := ⟨j 0, j 1, by
    funext k
    match k with
    | ⟨0, _⟩ => rfl
    | ⟨1, _⟩ => rfl⟩
  exact h a b

/-- The preparation of the recurrence computes its reference's r and v over the extended reals. -/
theorem algebraic : Cert.algebraic_Kernel6Ideal_Reference6Ideal := by
  intro m ρ m' ρ' _ hagree
  refine ⟨fun c => (Cert.Kernel6Ideal.Prep.dats m 0 c).arrAt 13 Cert.Kernel6Ideal.cfg0.N, fun c => (Cert.Kernel6Ideal.Prep.dats m 0 c).arrAt 15 Cert.Kernel6Ideal.cfg0.N,
    (θ_run Cert.Kernel6Ideal.defs _ _).mono (fun _ h c => ⟨(h.1 c).1 13, (h.1 c).1 15, h.2.1 c⟩)
      (θ_run_and (Cert.Kernel6Ideal.Prep.run_main (F := Ideal) m ρ) (Cert.Kernel6Ideal.Prep.frame (F := Ideal) m ρ)), ?_⟩
  refine (θ_run Cert.Reference6Ideal.defs _ _).mono (fun _ h c => ?_) (Cert.Reference6Ideal.Value.run (F := Ideal) m' ρ')
  obtain ⟨h0, h1, h2, h3, h4, _, _, _, _, _, _, _, h12, h13⟩ := hagree c
  obtain ⟨r0, r1, rest⟩ := h c
  refine ⟨r0.trans ?_, r1.trans ?_, rest⟩
  · rw [Cert.Reference6Ideal.Read.val_main_v39_eq, h0, h1, h3]
    exact ext2 fun i q => (Cert.Reference6Ideal.Prep.r_apply _ _ _ i q).trans (Cert.Kernel6Ideal.Prep.arr13_apply m c i q).symm
  · rw [Cert.Reference6Ideal.Read.val_main_v40_eq, h0, h1, h2, h3, h4, h12, h13]
    exact ext2 fun i q => (Cert.Reference6Ideal.Prep.v_apply _ _ _ _ _ _ _ i q).trans (Cert.Kernel6Ideal.Prep.arr15_apply m c i q).symm

end Cert.Prep

end
-- ==== Proof.lean ====
/-
  The claims together: each frame is the call's own run, each reference's frame comes from its run, the
  idealizations rewrote no operation, and each equation is proved in the module of its call.
-/
module

public import proofs.«01_k».proof.Defs
public import proofs.«01_k».proof.Proof.Retention
public import proofs.«01_k».proof.Proof.Ffn2Final
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Ffn1
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Ffn2
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.MixIn
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.PrepFrameBits
public import proofs.«01_k».proof.Proof.Prep
public import Idealize.ShloMosaic.Adequacy
public import Idealize.ShloMosaic.Init

@[expose] public section

noncomputable section

namespace Cert.Proof

open Idealize.ShloMosaic Idealize.SL.Sem

/-- Reference 2 runs and leaves its arguments and every semaphore as they were. -/
theorem reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- Reference 3 runs and leaves its arguments and every semaphore as they were. -/
theorem reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- Reference 4 runs and leaves its arguments and every semaphore as they were. -/
theorem reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- Reference 5 runs and leaves its arguments and every semaphore as they were. -/
theorem reference5 : Cert.quiescent_Reference5Ideal := fun m ρ _ =>
  (θ_run Cert.Reference5Ideal.defs _ _).mono (fun r h => ⟨fun c => (h c).2.2.2.2.2.2, sem_eq_zero_of_no_sems (by decide) r.2⟩)
    (Cert.Reference5Ideal.Value.run (F := Ideal) m ρ)

/-- Reference 6 runs and leaves its arguments and every semaphore as they were. -/
theorem reference6 : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run (F := Ideal) m ρ)

/-- Every claim of the certificate. -/
theorem claim : Cert.Claim := ⟨
  Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Pre_finite.Gen.facts,
  Cert.Retention.kernel,
  Cert.Retention.kernelIdeal,
  fun m ρ _ => Cert.Retention.kernelIdeal m ρ trivial,
  Cert.Retention.reference,
  fun m ρ _ => Cert.Retention.reference m ρ trivial,
  fun m ρ _ => Cert.Kernel2.Gen.frame m ρ,
  fun m ρ _ => Cert.Kernel2Ideal.Gen.frame m ρ,
  reference2,
  fun m ρ _ => Cert.Kernel3.Gen.frame m ρ,
  fun m ρ _ => Cert.Kernel3Ideal.Gen.frame m ρ,
  reference3,
  fun m ρ _ => Cert.Kernel4.Gen.frame m ρ,
  fun m ρ _ => Cert.Kernel4Ideal.Gen.frame m ρ,
  reference4,
  fun m ρ _ => Cert.Kernel5.Gen.frame m ρ,
  fun m ρ _ => Cert.Kernel5Ideal.Gen.frame m ρ,
  reference5,
  fun m ρ _ => Cert.Kernel6.Prep.frame m ρ,
  fun m ρ _ => Cert.Kernel6Ideal.Prep.frame m ρ,
  reference6,
  trivial,
  Cert.Retention.algebraic,
  trivial,
  Cert.Ffn2Final.algebraic,
  trivial,
  Cert.Ffn1.algebraic,
  trivial,
  Cert.Ffn2.algebraic,
  trivial,
  Cert.MixIn.algebraic,
  trivial,
  Cert.Prep.algebraic⟩

end Cert.Proof

end
